-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.2 = (fun _ => 1#1)

def Pre_Reference (m : (ℓ : Loc Cert.Reference.nD Cert.Reference.τ Cert.Reference.sig) → Buf (Elt Bits) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpReferenceIdeal (m : (ℓ : Loc Cert.UpReferenceIdeal.nD Cert.UpReferenceIdeal.τ Cert.UpReferenceIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownReferenceIdeal (m : (ℓ : Loc Cert.DownReferenceIdeal.nD Cert.DownReferenceIdeal.τ Cert.DownReferenceIdeal.sig) → Buf (Elt Ideal) ℓ) : Prop :=
  True

def Pre_In (m : (ℓ : Loc Cert.In.nD Cert.In.τ Cert.In.sig) → Buf (Elt Bits) ℓ) : Prop :=
  True

def Pre_InIdeal (m : (ℓ : Loc Cert.InIdeal.nD Cert.InIdeal.τ Cert.InIdeal.sig) → Buf (Elt Ideal) ℓ) : Prop :=
  True

def Pre_InReferenceIdeal (m : (ℓ : Loc Cert.InReferenceIdeal.nD Cert.InReferenceIdeal.τ Cert.InReferenceIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutReferenceIdeal (m : (ℓ : Loc Cert.OutReferenceIdeal.nD Cert.OutReferenceIdeal.τ Cert.OutReferenceIdeal.sig) → Buf (Elt Ideal) ℓ) : Prop :=
  True

def Pre_FwdIn (m : (ℓ : Loc Cert.FwdIn.nD Cert.FwdIn.τ Cert.FwdIn.sig) → Buf (Elt Bits) ℓ) : Prop :=
  True

def Pre_FwdInIdeal (m : (ℓ : Loc Cert.FwdInIdeal.nD Cert.FwdInIdeal.τ Cert.FwdInIdeal.sig) → Buf (Elt Ideal) ℓ) : Prop :=
  True

def Pre_FwdInReferenceIdeal (m : (ℓ : Loc Cert.FwdInReferenceIdeal.nD Cert.FwdInReferenceIdeal.τ Cert.FwdInReferenceIdeal.sig) → Buf (Elt Ideal) ℓ) : Prop :=
  True

def Pre_FwdOut (m : (ℓ : Loc Cert.FwdOut.nD Cert.FwdOut.τ Cert.FwdOut.sig) → Buf (Elt Bits) ℓ) : Prop :=
  True

def Pre_FwdOutIdeal (m : (ℓ : Loc Cert.FwdOutIdeal.nD Cert.FwdOutIdeal.τ Cert.FwdOutIdeal.sig) → Buf (Elt Ideal) ℓ) : Prop :=
  True

def Pre_FwdOutReferenceIdeal (m : (ℓ : Loc Cert.FwdOutReferenceIdeal.nD Cert.FwdOutReferenceIdeal.τ Cert.FwdOutReferenceIdeal.sig) → Buf (Elt Ideal) ℓ) : Prop :=
  True

def Pre_BwdIn (m : (ℓ : Loc Cert.BwdIn.nD Cert.BwdIn.τ Cert.BwdIn.sig) → Buf (Elt Bits) ℓ) : Prop :=
  True

def Pre_BwdInIdeal (m : (ℓ : Loc Cert.BwdInIdeal.nD Cert.BwdInIdeal.τ Cert.BwdInIdeal.sig) → Buf (Elt Ideal) ℓ) : Prop :=
  True

def Pre_BwdInIdeal_finite_bwd_in [hPre_finite_bwd_in : Cert.Pre_finite_bwd_in.Facts] (m : (ℓ : Loc Cert.BwdInIdeal.nD Cert.BwdInIdeal.τ Cert.BwdInIdeal.sig) → Buf (Elt Ideal) ℓ) : Prop :=
  ∀ c : Dev Cert.BwdInIdeal.nD,
    (Cert.Pre_finite_bwd_in.fn (F := Ideal) (m ((c.tc : Thread Cert.BwdInIdeal.nD Cert.BwdInIdeal.τ).loc Cert.BwdInIdeal.main_arg0)) (m ((c.tc : Thread Cert.BwdInIdeal.nD Cert.BwdInIdeal.τ).loc Cert.BwdInIdeal.main_arg1)) (m ((c.tc : Thread Cert.BwdInIdeal.nD Cert.BwdInIdeal.τ).loc Cert.BwdInIdeal.main_arg2)) (m ((c.tc : Thread Cert.BwdInIdeal.nD Cert.BwdInIdeal.τ).loc Cert.BwdInIdeal.main_arg3)) (m ((c.tc : Thread Cert.BwdInIdeal.nD Cert.BwdInIdeal.τ).loc Cert.BwdInIdeal.main_arg4))).1 = (fun _ => 1#1)
    ∧ (Cert.Pre_finite_bwd_in.fn (F := Ideal) (m ((c.tc : Thread Cert.BwdInIdeal.nD Cert.BwdInIdeal.τ).loc Cert.BwdInIdeal.main_arg0)) (m ((c.tc : Thread Cert.BwdInIdeal.nD Cert.BwdInIdeal.τ).loc Cert.BwdInIdeal.main_arg1)) (m ((c.tc : Thread Cert.BwdInIdeal.nD Cert.BwdInIdeal.τ).loc Cert.BwdInIdeal.main_arg2)) (m ((c.tc : Thread Cert.BwdInIdeal.nD Cert.BwdInIdeal.τ).loc Cert.BwdInIdeal.main_arg3)) (m ((c.tc : Thread Cert.BwdInIdeal.nD Cert.BwdInIdeal.τ).loc Cert.BwdInIdeal.main_arg4))).2.1 = (fun _ => 1#1)
    ∧ (Cert.Pre_finite_bwd_in.fn (F := Ideal) (m ((c.tc : Thread Cert.BwdInIdeal.nD Cert.BwdInIdeal.τ).loc Cert.BwdInIdeal.main_arg0)) (m ((c.tc : Thread Cert.BwdInIdeal.nD Cert.BwdInIdeal.τ).loc Cert.BwdInIdeal.main_arg1)) (m ((c.tc : Thread Cert.BwdInIdeal.nD Cert.BwdInIdeal.τ).loc Cert.BwdInIdeal.main_arg2)) (m ((c.tc : Thread Cert.BwdInIdeal.nD Cert.BwdInIdeal.τ).loc Cert.BwdInIdeal.main_arg3)) (m ((c.tc : Thread Cert.BwdInIdeal.nD Cert.BwdInIdeal.τ).loc Cert.BwdInIdeal.main_arg4))).2.2.1 = (fun _ => 1#1)
    ∧ (Cert.Pre_finite_bwd_in.fn (F := Ideal) (m ((c.tc : Thread Cert.BwdInIdeal.nD Cert.BwdInIdeal.τ).loc Cert.BwdInIdeal.main_arg0)) (m ((c.tc : Thread Cert.BwdInIdeal.nD Cert.BwdInIdeal.τ).loc Cert.BwdInIdeal.main_arg1)) (m ((c.tc : Thread Cert.BwdInIdeal.nD Cert.BwdInIdeal.τ).loc Cert.BwdInIdeal.main_arg2)) (m ((c.tc : Thread Cert.BwdInIdeal.nD Cert.BwdInIdeal.τ).loc Cert.BwdInIdeal.main_arg3)) (m ((c.tc : Thread Cert.BwdInIdeal.nD Cert.BwdInIdeal.τ).loc Cert.BwdInIdeal.main_arg4))).2.2.2 = (fun _ => 1#1)

def Pre_BwdInReferenceIdeal (m : (ℓ : Loc Cert.BwdInReferenceIdeal.nD Cert.BwdInReferenceIdeal.τ Cert.BwdInReferenceIdeal.sig) → Buf (Elt Ideal) ℓ) : Prop :=
  True

def Pre_BwdInReferenceIdeal_finite_bwd_in [hPre_finite_bwd_in : Cert.Pre_finite_bwd_in.Facts] (m : (ℓ : Loc Cert.BwdInReferenceIdeal.nD Cert.BwdInReferenceIdeal.τ Cert.BwdInReferenceIdeal.sig) → Buf (Elt Ideal) ℓ) : Prop :=
  ∀ c : Dev Cert.BwdInReferenceIdeal.nD,
    (Cert.Pre_finite_bwd_in.fn (F := Ideal) (m ((c.tc : Thread Cert.BwdInReferenceIdeal.nD Cert.BwdInReferenceIdeal.τ).loc Cert.BwdInReferenceIdeal.main_arg0)) (m ((c.tc : Thread Cert.BwdInReferenceIdeal.nD Cert.BwdInReferenceIdeal.τ).loc Cert.BwdInReferenceIdeal.main_arg1)) (m ((c.tc : Thread Cert.BwdInReferenceIdeal.nD Cert.BwdInReferenceIdeal.τ).loc Cert.BwdInReferenceIdeal.main_arg2)) (m ((c.tc : Thread Cert.BwdInReferenceIdeal.nD Cert.BwdInReferenceIdeal.τ).loc Cert.BwdInReferenceIdeal.main_arg3)) (m ((c.tc : Thread Cert.BwdInReferenceIdeal.nD Cert.BwdInReferenceIdeal.τ).loc Cert.BwdInReferenceIdeal.main_arg4))).1 = (fun _ => 1#1)
    ∧ (Cert.Pre_finite_bwd_in.fn (F := Ideal) (m ((c.tc : Thread Cert.BwdInReferenceIdeal.nD Cert.BwdInReferenceIdeal.τ).loc Cert.BwdInReferenceIdeal.main_arg0)) (m ((c.tc : Thread Cert.BwdInReferenceIdeal.nD Cert.BwdInReferenceIdeal.τ).loc Cert.BwdInReferenceIdeal.main_arg1)) (m ((c.tc : Thread Cert.BwdInReferenceIdeal.nD Cert.BwdInReferenceIdeal.τ).loc Cert.BwdInReferenceIdeal.main_arg2)) (m ((c.tc : Thread Cert.BwdInReferenceIdeal.nD Cert.BwdInReferenceIdeal.τ).loc Cert.BwdInReferenceIdeal.main_arg3)) (m ((c.tc : Thread Cert.BwdInReferenceIdeal.nD Cert.BwdInReferenceIdeal.τ).loc Cert.BwdInReferenceIdeal.main_arg4))).2.1 = (fun _ => 1#1)
    ∧ (Cert.Pre_finite_bwd_in.fn (F := Ideal) (m ((c.tc : Thread Cert.BwdInReferenceIdeal.nD Cert.BwdInReferenceIdeal.τ).loc Cert.BwdInReferenceIdeal.main_arg0)) (m ((c.tc : Thread Cert.BwdInReferenceIdeal.nD Cert.BwdInReferenceIdeal.τ).loc Cert.BwdInReferenceIdeal.main_arg1)) (m ((c.tc : Thread Cert.BwdInReferenceIdeal.nD Cert.BwdInReferenceIdeal.τ).loc Cert.BwdInReferenceIdeal.main_arg2)) (m ((c.tc : Thread Cert.BwdInReferenceIdeal.nD Cert.BwdInReferenceIdeal.τ).loc Cert.BwdInReferenceIdeal.main_arg3)) (m ((c.tc : Thread Cert.BwdInReferenceIdeal.nD Cert.BwdInReferenceIdeal.τ).loc Cert.BwdInReferenceIdeal.main_arg4))).2.2.1 = (fun _ => 1#1)
    ∧ (Cert.Pre_finite_bwd_in.fn (F := Ideal) (m ((c.tc : Thread Cert.BwdInReferenceIdeal.nD Cert.BwdInReferenceIdeal.τ).loc Cert.BwdInReferenceIdeal.main_arg0)) (m ((c.tc : Thread Cert.BwdInReferenceIdeal.nD Cert.BwdInReferenceIdeal.τ).loc Cert.BwdInReferenceIdeal.main_arg1)) (m ((c.tc : Thread Cert.BwdInReferenceIdeal.nD Cert.BwdInReferenceIdeal.τ).loc Cert.BwdInReferenceIdeal.main_arg2)) (m ((c.tc : Thread Cert.BwdInReferenceIdeal.nD Cert.BwdInReferenceIdeal.τ).loc Cert.BwdInReferenceIdeal.main_arg3)) (m ((c.tc : Thread Cert.BwdInReferenceIdeal.nD Cert.BwdInReferenceIdeal.τ).loc Cert.BwdInReferenceIdeal.main_arg4))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2)
      ∧ r.2.mem ((c.tc : Thread Cert.Reference.nD Cert.Reference.τ).loc Cert.Reference.main_arg3) = m ((c.tc : Thread Cert.Reference.nD Cert.Reference.τ).loc Cert.Reference.main_arg3)
      ∧ r.2.mem ((c.tc : Thread Cert.Reference.nD Cert.Reference.τ).loc Cert.Reference.main_arg4) = m ((c.tc : Thread Cert.Reference.nD Cert.Reference.τ).loc Cert.Reference.main_arg4)
      ∧ r.2.mem ((c.tc : Thread Cert.Reference.nD Cert.Reference.τ).loc Cert.Reference.main_arg5) = m ((c.tc : Thread Cert.Reference.nD Cert.Reference.τ).loc Cert.Reference.main_arg5))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ r.2.sem = fun _ => 0)

def quiescent_UpReferenceIdeal [hUpReferenceIdeal : Cert.UpReferenceIdeal.Facts] : Prop :=
  ∀ (m : (ℓ : Loc Cert.UpReferenceIdeal.nD Cert.UpReferenceIdeal.τ Cert.UpReferenceIdeal.sig) → Buf (Elt Ideal) ℓ) (g : Dev Cert.UpReferenceIdeal.nD → PrngReg), Pre_UpReferenceIdeal m →
    θ_run (Cert.UpReferenceIdeal.defs (F := Ideal)) (onTc (τ := Cert.UpReferenceIdeal.τ) (Cert.UpReferenceIdeal.main (F := Ideal))) ⟨m, fun _ => 0, g⟩ (fun r => (∀ c : Dev Cert.UpReferenceIdeal.nD,
      r.2.mem ((c.tc : Thread Cert.UpReferenceIdeal.nD Cert.UpReferenceIdeal.τ).loc Cert.UpReferenceIdeal.main_arg0) = m ((c.tc : Thread Cert.UpReferenceIdeal.nD Cert.UpReferenceIdeal.τ).loc Cert.UpReferenceIdeal.main_arg0)
      ∧ r.2.mem ((c.tc : Thread Cert.UpReferenceIdeal.nD Cert.UpReferenceIdeal.τ).loc Cert.UpReferenceIdeal.main_arg1) = m ((c.tc : Thread Cert.UpReferenceIdeal.nD Cert.UpReferenceIdeal.τ).loc Cert.UpReferenceIdeal.main_arg1))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ r.2.sem = fun _ => 0)

def quiescent_DownReferenceIdeal [hDownReferenceIdeal : Cert.DownReferenceIdeal.Facts] : Prop :=
  ∀ (m : (ℓ : Loc Cert.DownReferenceIdeal.nD Cert.DownReferenceIdeal.τ Cert.DownReferenceIdeal.sig) → Buf (Elt Ideal) ℓ) (g : Dev Cert.DownReferenceIdeal.nD → PrngReg), Pre_DownReferenceIdeal m →
    θ_run (Cert.DownReferenceIdeal.defs (F := Ideal)) (onTc (τ := Cert.DownReferenceIdeal.τ) (Cert.DownReferenceIdeal.main (F := Ideal))) ⟨m, fun _ => 0, g⟩ (fun r => (∀ c : Dev Cert.DownReferenceIdeal.nD,
      r.2.mem ((c.tc : Thread Cert.DownReferenceIdeal.nD Cert.DownReferenceIdeal.τ).loc Cert.DownReferenceIdeal.main_arg0) = m ((c.tc : Thread Cert.DownReferenceIdeal.nD Cert.DownReferenceIdeal.τ).loc Cert.DownReferenceIdeal.main_arg0)
      ∧ r.2.mem ((c.tc : Thread Cert.DownReferenceIdeal.nD Cert.DownReferenceIdeal.τ).loc Cert.DownReferenceIdeal.main_arg1) = m ((c.tc : Thread Cert.DownReferenceIdeal.nD Cert.DownReferenceIdeal.τ).loc Cert.DownReferenceIdeal.main_arg1))
      ∧ r.2.sem = fun _ => 0)

def quiescent_In [hIn : Cert.In.Facts] : Prop :=
  ∀ (m : (ℓ : Loc Cert.In.nD Cert.In.τ Cert.In.sig) → Buf (Elt Bits) ℓ) (g : Dev Cert.In.nD → PrngReg), Pre_In m →
    θ_run (Cert.In.defs (F := Bits)) (onTc (τ := Cert.In.τ) (Cert.In.main (F := Bits))) ⟨m, fun _ => 0, g⟩ (fun r => (∀ c : Dev Cert.In.nD,
      r.2.mem ((c.tc : Thread Cert.In.nD Cert.In.τ).loc Cert.In.main_arg0) = m ((c.tc : Thread Cert.In.nD Cert.In.τ).loc Cert.In.main_arg0)
      ∧ r.2.mem ((c.tc : Thread Cert.In.nD Cert.In.τ).loc Cert.In.main_arg1) = m ((c.tc : Thread Cert.In.nD Cert.In.τ).loc Cert.In.main_arg1))
      ∧ r.2.sem = fun _ => 0)

def quiescent_InIdeal [hInIdeal : Cert.InIdeal.Facts] : Prop :=
  ∀ (m : (ℓ : Loc Cert.InIdeal.nD Cert.InIdeal.τ Cert.InIdeal.sig) → Buf (Elt Ideal) ℓ) (g : Dev Cert.InIdeal.nD → PrngReg), Pre_InIdeal m →
    θ_run (Cert.InIdeal.defs (F := Ideal)) (onTc (τ := Cert.InIdeal.τ) (Cert.InIdeal.main (F := Ideal))) ⟨m, fun _ => 0, g⟩ (fun r => (∀ c : Dev Cert.InIdeal.nD,
      r.2.mem ((c.tc : Thread Cert.InIdeal.nD Cert.InIdeal.τ).loc Cert.InIdeal.main_arg0) = m ((c.tc : Thread Cert.InIdeal.nD Cert.InIdeal.τ).loc Cert.InIdeal.main_arg0)
      ∧ r.2.mem ((c.tc : Thread Cert.InIdeal.nD Cert.InIdeal.τ).loc Cert.InIdeal.main_arg1) = m ((c.tc : Thread Cert.InIdeal.nD Cert.InIdeal.τ).loc Cert.InIdeal.main_arg1))
      ∧ r.2.sem = fun _ => 0)

def quiescent_InReferenceIdeal [hInReferenceIdeal : Cert.InReferenceIdeal.Facts] : Prop :=
  ∀ (m : (ℓ : Loc Cert.InReferenceIdeal.nD Cert.InReferenceIdeal.τ Cert.InReferenceIdeal.sig) → Buf (Elt Ideal) ℓ) (g : Dev Cert.InReferenceIdeal.nD → PrngReg), Pre_InReferenceIdeal m →
    θ_run (Cert.InReferenceIdeal.defs (F := Ideal)) (onTc (τ := Cert.InReferenceIdeal.τ) (Cert.InReferenceIdeal.main (F := Ideal))) ⟨m, fun _ => 0, g⟩ (fun r => (∀ c : Dev Cert.InReferenceIdeal.nD,
      r.2.mem ((c.tc : Thread Cert.InReferenceIdeal.nD Cert.InReferenceIdeal.τ).loc Cert.InReferenceIdeal.main_arg0) = m ((c.tc : Thread Cert.InReferenceIdeal.nD Cert.InReferenceIdeal.τ).loc Cert.InReferenceIdeal.main_arg0)
      ∧ r.2.mem ((c.tc : Thread Cert.InReferenceIdeal.nD Cert.InReferenceIdeal.τ).loc Cert.InReferenceIdeal.main_arg1) = m ((c.tc : Thread Cert.InReferenceIdeal.nD Cert.InReferenceIdeal.τ).loc Cert.InReferenceIdeal.main_arg1))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2))
      ∧ r.2.sem = fun _ => 0)

def quiescent_OutReferenceIdeal [hOutReferenceIdeal : Cert.OutReferenceIdeal.Facts] : Prop :=
  ∀ (m : (ℓ : Loc Cert.OutReferenceIdeal.nD Cert.OutReferenceIdeal.τ Cert.OutReferenceIdeal.sig) → Buf (Elt Ideal) ℓ) (g : Dev Cert.OutReferenceIdeal.nD → PrngReg), Pre_OutReferenceIdeal m →
    θ_run (Cert.OutReferenceIdeal.defs (F := Ideal)) (onTc (τ := Cert.OutReferenceIdeal.τ) (Cert.OutReferenceIdeal.main (F := Ideal))) ⟨m, fun _ => 0, g⟩ (fun r => (∀ c : Dev Cert.OutReferenceIdeal.nD,
      r.2.mem ((c.tc : Thread Cert.OutReferenceIdeal.nD Cert.OutReferenceIdeal.τ).loc Cert.OutReferenceIdeal.main_arg0) = m ((c.tc : Thread Cert.OutReferenceIdeal.nD Cert.OutReferenceIdeal.τ).loc Cert.OutReferenceIdeal.main_arg0)
      ∧ r.2.mem ((c.tc : Thread Cert.OutReferenceIdeal.nD Cert.OutReferenceIdeal.τ).loc Cert.OutReferenceIdeal.main_arg1) = m ((c.tc : Thread Cert.OutReferenceIdeal.nD Cert.OutReferenceIdeal.τ).loc Cert.OutReferenceIdeal.main_arg1)
      ∧ r.2.mem ((c.tc : Thread Cert.OutReferenceIdeal.nD Cert.OutReferenceIdeal.τ).loc Cert.OutReferenceIdeal.main_arg2) = m ((c.tc : Thread Cert.OutReferenceIdeal.nD Cert.OutReferenceIdeal.τ).loc Cert.OutReferenceIdeal.main_arg2))
      ∧ r.2.sem = fun _ => 0)

def quiescent_FwdIn [hFwdIn : Cert.FwdIn.Facts] : Prop :=
  ∀ (m : (ℓ : Loc Cert.FwdIn.nD Cert.FwdIn.τ Cert.FwdIn.sig) → Buf (Elt Bits) ℓ) (g : Dev Cert.FwdIn.nD → PrngReg), Pre_FwdIn m →
    θ_run (Cert.FwdIn.defs (F := Bits)) (onTc (τ := Cert.FwdIn.τ) (Cert.FwdIn.main (F := Bits))) ⟨m, fun _ => 0, g⟩ (fun r => (∀ c : Dev Cert.FwdIn.nD,
      r.2.mem ((c.tc : Thread Cert.FwdIn.nD Cert.FwdIn.τ).loc Cert.FwdIn.main_arg0) = m ((c.tc : Thread Cert.FwdIn.nD Cert.FwdIn.τ).loc Cert.FwdIn.main_arg0)
      ∧ r.2.mem ((c.tc : Thread Cert.FwdIn.nD Cert.FwdIn.τ).loc Cert.FwdIn.main_arg1) = m ((c.tc : Thread Cert.FwdIn.nD Cert.FwdIn.τ).loc Cert.FwdIn.main_arg1)
      ∧ r.2.mem ((c.tc : Thread Cert.FwdIn.nD Cert.FwdIn.τ).loc Cert.FwdIn.main_arg2) = m ((c.tc : Thread Cert.FwdIn.nD Cert.FwdIn.τ).loc Cert.FwdIn.main_arg2))
      ∧ r.2.sem = fun _ => 0)

def quiescent_FwdInIdeal [hFwdInIdeal : Cert.FwdInIdeal.Facts] : Prop :=
  ∀ (m : (ℓ : Loc Cert.FwdInIdeal.nD Cert.FwdInIdeal.τ Cert.FwdInIdeal.sig) → Buf (Elt Ideal) ℓ) (g : Dev Cert.FwdInIdeal.nD → PrngReg), Pre_FwdInIdeal m →
    θ_run (Cert.FwdInIdeal.defs (F := Ideal)) (onTc (τ := Cert.FwdInIdeal.τ) (Cert.FwdInIdeal.main (F := Ideal))) ⟨m, fun _ => 0, g⟩ (fun r => (∀ c : Dev Cert.FwdInIdeal.nD,
      r.2.mem ((c.tc : Thread Cert.FwdInIdeal.nD Cert.FwdInIdeal.τ).loc Cert.FwdInIdeal.main_arg0) = m ((c.tc : Thread Cert.FwdInIdeal.nD Cert.FwdInIdeal.τ).loc Cert.FwdInIdeal.main_arg0)
      ∧ r.2.mem ((c.tc : Thread Cert.FwdInIdeal.nD Cert.FwdInIdeal.τ).loc Cert.FwdInIdeal.main_arg1) = m ((c.tc : Thread Cert.FwdInIdeal.nD Cert.FwdInIdeal.τ).loc Cert.FwdInIdeal.main_arg1)
      ∧ r.2.mem ((c.tc : Thread Cert.FwdInIdeal.nD Cert.FwdInIdeal.τ).loc Cert.FwdInIdeal.main_arg2) = m ((c.tc : Thread Cert.FwdInIdeal.nD Cert.FwdInIdeal.τ).loc Cert.FwdInIdeal.main_arg2))
      ∧ r.2.sem = fun _ => 0)

def quiescent_FwdInReferenceIdeal [hFwdInReferenceIdeal : Cert.FwdInReferenceIdeal.Facts] : Prop :=
  ∀ (m : (ℓ : Loc Cert.FwdInReferenceIdeal.nD Cert.FwdInReferenceIdeal.τ Cert.FwdInReferenceIdeal.sig) → Buf (Elt Ideal) ℓ) (g : Dev Cert.FwdInReferenceIdeal.nD → PrngReg), Pre_FwdInReferenceIdeal m →
    θ_run (Cert.FwdInReferenceIdeal.defs (F := Ideal)) (onTc (τ := Cert.FwdInReferenceIdeal.τ) (Cert.FwdInReferenceIdeal.main (F := Ideal))) ⟨m, fun _ => 0, g⟩ (fun r => (∀ c : Dev Cert.FwdInReferenceIdeal.nD,
      r.2.mem ((c.tc : Thread Cert.FwdInReferenceIdeal.nD Cert.FwdInReferenceIdeal.τ).loc Cert.FwdInReferenceIdeal.main_arg0) = m ((c.tc : Thread Cert.FwdInReferenceIdeal.nD Cert.FwdInReferenceIdeal.τ).loc Cert.FwdInReferenceIdeal.main_arg0)
      ∧ r.2.mem ((c.tc : Thread Cert.FwdInReferenceIdeal.nD Cert.FwdInReferenceIdeal.τ).loc Cert.FwdInReferenceIdeal.main_arg1) = m ((c.tc : Thread Cert.FwdInReferenceIdeal.nD Cert.FwdInReferenceIdeal.τ).loc Cert.FwdInReferenceIdeal.main_arg1)
      ∧ r.2.mem ((c.tc : Thread Cert.FwdInReferenceIdeal.nD Cert.FwdInReferenceIdeal.τ).loc Cert.FwdInReferenceIdeal.main_arg2) = m ((c.tc : Thread Cert.FwdInReferenceIdeal.nD Cert.FwdInReferenceIdeal.τ).loc Cert.FwdInReferenceIdeal.main_arg2))
      ∧ r.2.sem = fun _ => 0)

def quiescent_FwdOut [hFwdOut : Cert.FwdOut.Facts] : Prop :=
  ∀ (m : (ℓ : Loc Cert.FwdOut.nD Cert.FwdOut.τ Cert.FwdOut.sig) → Buf (Elt Bits) ℓ) (g : Dev Cert.FwdOut.nD → PrngReg), Pre_FwdOut m →
    θ_run (Cert.FwdOut.defs (F := Bits)) (onTc (τ := Cert.FwdOut.τ) (Cert.FwdOut.main (F := Bits))) ⟨m, fun _ => 0, g⟩ (fun r => (∀ c : Dev Cert.FwdOut.nD,
      r.2.mem ((c.tc : Thread Cert.FwdOut.nD Cert.FwdOut.τ).loc Cert.FwdOut.main_arg0) = m ((c.tc : Thread Cert.FwdOut.nD Cert.FwdOut.τ).loc Cert.FwdOut.main_arg0)
      ∧ r.2.mem ((c.tc : Thread Cert.FwdOut.nD Cert.FwdOut.τ).loc Cert.FwdOut.main_arg1) = m ((c.tc : Thread Cert.FwdOut.nD Cert.FwdOut.τ).loc Cert.FwdOut.main_arg1)
      ∧ r.2.mem ((c.tc : Thread Cert.FwdOut.nD Cert.FwdOut.τ).loc Cert.FwdOut.main_arg2) = m ((c.tc : Thread Cert.FwdOut.nD Cert.FwdOut.τ).loc Cert.FwdOut.main_arg2)
      ∧ r.2.mem ((c.tc : Thread Cert.FwdOut.nD Cert.FwdOut.τ).loc Cert.FwdOut.main_arg3) = m ((c.tc : Thread Cert.FwdOut.nD Cert.FwdOut.τ).loc Cert.FwdOut.main_arg3)
      ∧ r.2.mem ((c.tc : Thread Cert.FwdOut.nD Cert.FwdOut.τ).loc Cert.FwdOut.main_arg4) = m ((c.tc : Thread Cert.FwdOut.nD Cert.FwdOut.τ).loc Cert.FwdOut.main_arg4)
      ∧ r.2.mem ((c.tc : Thread Cert.FwdOut.nD Cert.FwdOut.τ).loc Cert.FwdOut.main_arg5) = m ((c.tc : Thread Cert.FwdOut.nD Cert.FwdOut.τ).loc Cert.FwdOut.main_arg5))
      ∧ r.2.sem = fun _ => 0)

def quiescent_FwdOutIdeal [hFwdOutIdeal : Cert.FwdOutIdeal.Facts] : Prop :=
  ∀ (m : (ℓ : Loc Cert.FwdOutIdeal.nD Cert.FwdOutIdeal.τ Cert.FwdOutIdeal.sig) → Buf (Elt Ideal) ℓ) (g : Dev Cert.FwdOutIdeal.nD → PrngReg), Pre_FwdOutIdeal m →
    θ_run (Cert.FwdOutIdeal.defs (F := Ideal)) (onTc (τ := Cert.FwdOutIdeal.τ) (Cert.FwdOutIdeal.main (F := Ideal))) ⟨m, fun _ => 0, g⟩ (fun r => (∀ c : Dev Cert.FwdOutIdeal.nD,
      r.2.mem ((c.tc : Thread Cert.FwdOutIdeal.nD Cert.FwdOutIdeal.τ).loc Cert.FwdOutIdeal.main_arg0) = m ((c.tc : Thread Cert.FwdOutIdeal.nD Cert.FwdOutIdeal.τ).loc Cert.FwdOutIdeal.main_arg0)
      ∧ r.2.mem ((c.tc : Thread Cert.FwdOutIdeal.nD Cert.FwdOutIdeal.τ).loc Cert.FwdOutIdeal.main_arg1) = m ((c.tc : Thread Cert.FwdOutIdeal.nD Cert.FwdOutIdeal.τ).loc Cert.FwdOutIdeal.main_arg1)
      ∧ r.2.mem ((c.tc : Thread Cert.FwdOutIdeal.nD Cert.FwdOutIdeal.τ).loc Cert.FwdOutIdeal.main_arg2) = m ((c.tc : Thread Cert.FwdOutIdeal.nD Cert.FwdOutIdeal.τ).loc Cert.FwdOutIdeal.main_arg2)
      ∧ r.2.mem ((c.tc : Thread Cert.FwdOutIdeal.nD Cert.FwdOutIdeal.τ).loc Cert.FwdOutIdeal.main_arg3) = m ((c.tc : Thread Cert.FwdOutIdeal.nD Cert.FwdOutIdeal.τ).loc Cert.FwdOutIdeal.main_arg3)
      ∧ r.2.mem ((c.tc : Thread Cert.FwdOutIdeal.nD Cert.FwdOutIdeal.τ).loc Cert.FwdOutIdeal.main_arg4) = m ((c.tc : Thread Cert.FwdOutIdeal.nD Cert.FwdOutIdeal.τ).loc Cert.FwdOutIdeal.main_arg4)
      ∧ r.2.mem ((c.tc : Thread Cert.FwdOutIdeal.nD Cert.FwdOutIdeal.τ).loc Cert.FwdOutIdeal.main_arg5) = m ((c.tc : Thread Cert.FwdOutIdeal.nD Cert.FwdOutIdeal.τ).loc Cert.FwdOutIdeal.main_arg5))
      ∧ r.2.sem = fun _ => 0)

def quiescent_FwdOutReferenceIdeal [hFwdOutReferenceIdeal : Cert.FwdOutReferenceIdeal.Facts] : Prop :=
  ∀ (m : (ℓ : Loc Cert.FwdOutReferenceIdeal.nD Cert.FwdOutReferenceIdeal.τ Cert.FwdOutReferenceIdeal.sig) → Buf (Elt Ideal) ℓ) (g : Dev Cert.FwdOutReferenceIdeal.nD → PrngReg), Pre_FwdOutReferenceIdeal m →
    θ_run (Cert.FwdOutReferenceIdeal.defs (F := Ideal)) (onTc (τ := Cert.FwdOutReferenceIdeal.τ) (Cert.FwdOutReferenceIdeal.main (F := Ideal))) ⟨m, fun _ => 0, g⟩ (fun r => (∀ c : Dev Cert.FwdOutReferenceIdeal.nD,
      r.2.mem ((c.tc : Thread Cert.FwdOutReferenceIdeal.nD Cert.FwdOutReferenceIdeal.τ).loc Cert.FwdOutReferenceIdeal.main_arg0) = m ((c.tc : Thread Cert.FwdOutReferenceIdeal.nD Cert.FwdOutReferenceIdeal.τ).loc Cert.FwdOutReferenceIdeal.main_arg0)
      ∧ r.2.mem ((c.tc : Thread Cert.FwdOutReferenceIdeal.nD Cert.FwdOutReferenceIdeal.τ).loc Cert.FwdOutReferenceIdeal.main_arg1) = m ((c.tc : Thread Cert.FwdOutReferenceIdeal.nD Cert.FwdOutReferenceIdeal.τ).loc Cert.FwdOutReferenceIdeal.main_arg1)
      ∧ r.2.mem ((c.tc : Thread Cert.FwdOutReferenceIdeal.nD Cert.FwdOutReferenceIdeal.τ).loc Cert.FwdOutReferenceIdeal.main_arg2) = m ((c.tc : Thread Cert.FwdOutReferenceIdeal.nD Cert.FwdOutReferenceIdeal.τ).loc Cert.FwdOutReferenceIdeal.main_arg2)
      ∧ r.2.mem ((c.tc : Thread Cert.FwdOutReferenceIdeal.nD Cert.FwdOutReferenceIdeal.τ).loc Cert.FwdOutReferenceIdeal.main_arg3) = m ((c.tc : Thread Cert.FwdOutReferenceIdeal.nD Cert.FwdOutReferenceIdeal.τ).loc Cert.FwdOutReferenceIdeal.main_arg3)
      ∧ r.2.mem ((c.tc : Thread Cert.FwdOutReferenceIdeal.nD Cert.FwdOutReferenceIdeal.τ).loc Cert.FwdOutReferenceIdeal.main_arg4) = m ((c.tc : Thread Cert.FwdOutReferenceIdeal.nD Cert.FwdOutReferenceIdeal.τ).loc Cert.FwdOutReferenceIdeal.main_arg4)
      ∧ r.2.mem ((c.tc : Thread Cert.FwdOutReferenceIdeal.nD Cert.FwdOutReferenceIdeal.τ).loc Cert.FwdOutReferenceIdeal.main_arg5) = m ((c.tc : Thread Cert.FwdOutReferenceIdeal.nD Cert.FwdOutReferenceIdeal.τ).loc Cert.FwdOutReferenceIdeal.main_arg5))
      ∧ r.2.sem = fun _ => 0)

def quiescent_BwdIn [hBwdIn : Cert.BwdIn.Facts] : Prop :=
  ∀ (m : (ℓ : Loc Cert.BwdIn.nD Cert.BwdIn.τ Cert.BwdIn.sig) → Buf (Elt Bits) ℓ) (g : Dev Cert.BwdIn.nD → PrngReg), Pre_BwdIn m →
    θ_run (Cert.BwdIn.defs (F := Bits)) (onTc (τ := Cert.BwdIn.τ) (Cert.BwdIn.main (F := Bits))) ⟨m, fun _ => 0, g⟩ (fun r => (∀ c : Dev Cert.BwdIn.nD,
      r.2.mem ((c.tc : Thread Cert.BwdIn.nD Cert.BwdIn.τ).loc Cert.BwdIn.main_arg0) = m ((c.tc : Thread Cert.BwdIn.nD Cert.BwdIn.τ).loc Cert.BwdIn.main_arg0)
      ∧ r.2.mem ((c.tc : Thread Cert.BwdIn.nD Cert.BwdIn.τ).loc Cert.BwdIn.main_arg1) = m ((c.tc : Thread Cert.BwdIn.nD Cert.BwdIn.τ).loc Cert.BwdIn.main_arg1)
      ∧ r.2.mem ((c.tc : Thread Cert.BwdIn.nD Cert.BwdIn.τ).loc Cert.BwdIn.main_arg2) = m ((c.tc : Thread Cert.BwdIn.nD Cert.BwdIn.τ).loc Cert.BwdIn.main_arg2)
      ∧ r.2.mem ((c.tc : Thread Cert.BwdIn.nD Cert.BwdIn.τ).loc Cert.BwdIn.main_arg3) = m ((c.tc : Thread Cert.BwdIn.nD Cert.BwdIn.τ).loc Cert.BwdIn.main_arg3)
      ∧ r.2.mem ((c.tc : Thread Cert.BwdIn.nD Cert.BwdIn.τ).loc Cert.BwdIn.main_arg4) = m ((c.tc : Thread Cert.BwdIn.nD Cert.BwdIn.τ).loc Cert.BwdIn.main_arg4))
      ∧ r.2.sem = fun _ => 0)

def quiescent_BwdInIdeal [hBwdInIdeal : Cert.BwdInIdeal.Facts] : Prop :=
  ∀ (m : (ℓ : Loc Cert.BwdInIdeal.nD Cert.BwdInIdeal.τ Cert.BwdInIdeal.sig) → Buf (Elt Ideal) ℓ) (g : Dev Cert.BwdInIdeal.nD → PrngReg), Pre_BwdInIdeal m →
    θ_run (Cert.BwdInIdeal.defs (F := Ideal)) (onTc (τ := Cert.BwdInIdeal.τ) (Cert.BwdInIdeal.main (F := Ideal))) ⟨m, fun _ => 0, g⟩ (fun r => (∀ c : Dev Cert.BwdInIdeal.nD,
      r.2.mem ((c.tc : Thread Cert.BwdInIdeal.nD Cert.BwdInIdeal.τ).loc Cert.BwdInIdeal.main_arg0) = m ((c.tc : Thread Cert.BwdInIdeal.nD Cert.BwdInIdeal.τ).loc Cert.BwdInIdeal.main_arg0)
      ∧ r.2.mem ((c.tc : Thread Cert.BwdInIdeal.nD Cert.BwdInIdeal.τ).loc Cert.BwdInIdeal.main_arg1) = m ((c.tc : Thread Cert.BwdInIdeal.nD Cert.BwdInIdeal.τ).loc Cert.BwdInIdeal.main_arg1)
      ∧ r.2.mem ((c.tc : Thread Cert.BwdInIdeal.nD Cert.BwdInIdeal.τ).loc Cert.BwdInIdeal.main_arg2) = m ((c.tc : Thread Cert.BwdInIdeal.nD Cert.BwdInIdeal.τ).loc Cert.BwdInIdeal.main_arg2)
      ∧ r.2.mem ((c.tc : Thread Cert.BwdInIdeal.nD Cert.BwdInIdeal.τ).loc Cert.BwdInIdeal.main_arg3) = m ((c.tc : Thread Cert.BwdInIdeal.nD Cert.BwdInIdeal.τ).loc Cert.BwdInIdeal.main_arg3)
      ∧ r.2.mem ((c.tc : Thread Cert.BwdInIdeal.nD Cert.BwdInIdeal.τ).loc Cert.BwdInIdeal.main_arg4) = m ((c.tc : Thread Cert.BwdInIdeal.nD Cert.BwdInIdeal.τ).loc Cert.BwdInIdeal.main_arg4))
      ∧ r.2.sem = fun _ => 0)

def quiescent_BwdInIdeal_pre_finite_bwd_in [hBwdInIdeal : Cert.BwdInIdeal.Facts] [hPre_finite_bwd_in : Cert.Pre_finite_bwd_in.Facts] : Prop :=
  ∀ (m : (ℓ : Loc Cert.BwdInIdeal.nD Cert.BwdInIdeal.τ Cert.BwdInIdeal.sig) → Buf (Elt Ideal) ℓ) (g : Dev Cert.BwdInIdeal.nD → PrngReg), Pre_BwdInIdeal_finite_bwd_in m →
    θ_run (Cert.BwdInIdeal.defs (F := Ideal)) (onTc (τ := Cert.BwdInIdeal.τ) (Cert.BwdInIdeal.main (F := Ideal))) ⟨m, fun _ => 0, g⟩ (fun r => (∀ c : Dev Cert.BwdInIdeal.nD,
      r.2.mem ((c.tc : Thread Cert.BwdInIdeal.nD Cert.BwdInIdeal.τ).loc Cert.BwdInIdeal.main_arg0) = m ((c.tc : Thread Cert.BwdInIdeal.nD Cert.BwdInIdeal.τ).loc Cert.BwdInIdeal.main_arg0)
      ∧ r.2.mem ((c.tc : Thread Cert.BwdInIdeal.nD Cert.BwdInIdeal.τ).loc Cert.BwdInIdeal.main_arg1) = m ((c.tc : Thread Cert.BwdInIdeal.nD Cert.BwdInIdeal.τ).loc Cert.BwdInIdeal.main_arg1)
      ∧ r.2.mem ((c.tc : Thread Cert.BwdInIdeal.nD Cert.BwdInIdeal.τ).loc Cert.BwdInIdeal.main_arg2) = m ((c.tc : Thread Cert.BwdInIdeal.nD Cert.BwdInIdeal.τ).loc Cert.BwdInIdeal.main_arg2)
      ∧ r.2.mem ((c.tc : Thread Cert.BwdInIdeal.nD Cert.BwdInIdeal.τ).loc Cert.BwdInIdeal.main_arg3) = m ((c.tc : Thread Cert.BwdInIdeal.nD Cert.BwdInIdeal.τ).loc Cert.BwdInIdeal.main_arg3)
      ∧ r.2.mem ((c.tc : Thread Cert.BwdInIdeal.nD Cert.BwdInIdeal.τ).loc Cert.BwdInIdeal.main_arg4) = m ((c.tc : Thread Cert.BwdInIdeal.nD Cert.BwdInIdeal.τ).loc Cert.BwdInIdeal.main_arg4))
      ∧ r.2.sem = fun _ => 0)

def quiescent_BwdInReferenceIdeal [hBwdInReferenceIdeal : Cert.BwdInReferenceIdeal.Facts] : Prop :=
  ∀ (m : (ℓ : Loc Cert.BwdInReferenceIdeal.nD Cert.BwdInReferenceIdeal.τ Cert.BwdInReferenceIdeal.sig) → Buf (Elt Ideal) ℓ) (g : Dev Cert.BwdInReferenceIdeal.nD → PrngReg), Pre_BwdInReferenceIdeal m →
    θ_run (Cert.BwdInReferenceIdeal.defs (F := Ideal)) (onTc (τ := Cert.BwdInReferenceIdeal.τ) (Cert.BwdInReferenceIdeal.main (F := Ideal))) ⟨m, fun _ => 0, g⟩ (fun r => (∀ c : Dev Cert.BwdInReferenceIdeal.nD,
      r.2.mem ((c.tc : Thread Cert.BwdInReferenceIdeal.nD Cert.BwdInReferenceIdeal.τ).loc Cert.BwdInReferenceIdeal.main_arg0) = m ((c.tc : Thread Cert.BwdInReferenceIdeal.nD Cert.BwdInReferenceIdeal.τ).loc Cert.BwdInReferenceIdeal.main_arg0)
      ∧ r.2.mem ((c.tc : Thread Cert.BwdInReferenceIdeal.nD Cert.BwdInReferenceIdeal.τ).loc Cert.BwdInReferenceIdeal.main_arg1) = m ((c.tc : Thread Cert.BwdInReferenceIdeal.nD Cert.BwdInReferenceIdeal.τ).loc Cert.BwdInReferenceIdeal.main_arg1)
      ∧ r.2.mem ((c.tc : Thread Cert.BwdInReferenceIdeal.nD Cert.BwdInReferenceIdeal.τ).loc Cert.BwdInReferenceIdeal.main_arg2) = m ((c.tc : Thread Cert.BwdInReferenceIdeal.nD Cert.BwdInReferenceIdeal.τ).loc Cert.BwdInReferenceIdeal.main_arg2)
      ∧ r.2.mem ((c.tc : Thread Cert.BwdInReferenceIdeal.nD Cert.BwdInReferenceIdeal.τ).loc Cert.BwdInReferenceIdeal.main_arg3) = m ((c.tc : Thread Cert.BwdInReferenceIdeal.nD Cert.BwdInReferenceIdeal.τ).loc Cert.BwdInReferenceIdeal.main_arg3)
      ∧ r.2.mem ((c.tc : Thread Cert.BwdInReferenceIdeal.nD Cert.BwdInReferenceIdeal.τ).loc Cert.BwdInReferenceIdeal.main_arg4) = m ((c.tc : Thread Cert.BwdInReferenceIdeal.nD Cert.BwdInReferenceIdeal.τ).loc Cert.BwdInReferenceIdeal.main_arg4))
      ∧ r.2.sem = fun _ => 0)

def quiescent_BwdInReferenceIdeal_pre_finite_bwd_in [hBwdInReferenceIdeal : Cert.BwdInReferenceIdeal.Facts] [hPre_finite_bwd_in : Cert.Pre_finite_bwd_in.Facts] : Prop :=
  ∀ (m : (ℓ : Loc Cert.BwdInReferenceIdeal.nD Cert.BwdInReferenceIdeal.τ Cert.BwdInReferenceIdeal.sig) → Buf (Elt Ideal) ℓ) (g : Dev Cert.BwdInReferenceIdeal.nD → PrngReg), Pre_BwdInReferenceIdeal_finite_bwd_in m →
    θ_run (Cert.BwdInReferenceIdeal.defs (F := Ideal)) (onTc (τ := Cert.BwdInReferenceIdeal.τ) (Cert.BwdInReferenceIdeal.main (F := Ideal))) ⟨m, fun _ => 0, g⟩ (fun r => (∀ c : Dev Cert.BwdInReferenceIdeal.nD,
      r.2.mem ((c.tc : Thread Cert.BwdInReferenceIdeal.nD Cert.BwdInReferenceIdeal.τ).loc Cert.BwdInReferenceIdeal.main_arg0) = m ((c.tc : Thread Cert.BwdInReferenceIdeal.nD Cert.BwdInReferenceIdeal.τ).loc Cert.BwdInReferenceIdeal.main_arg0)
      ∧ r.2.mem ((c.tc : Thread Cert.BwdInReferenceIdeal.nD Cert.BwdInReferenceIdeal.τ).loc Cert.BwdInReferenceIdeal.main_arg1) = m ((c.tc : Thread Cert.BwdInReferenceIdeal.nD Cert.BwdInReferenceIdeal.τ).loc Cert.BwdInReferenceIdeal.main_arg1)
      ∧ r.2.mem ((c.tc : Thread Cert.BwdInReferenceIdeal.nD Cert.BwdInReferenceIdeal.τ).loc Cert.BwdInReferenceIdeal.main_arg2) = m ((c.tc : Thread Cert.BwdInReferenceIdeal.nD Cert.BwdInReferenceIdeal.τ).loc Cert.BwdInReferenceIdeal.main_arg2)
      ∧ r.2.mem ((c.tc : Thread Cert.BwdInReferenceIdeal.nD Cert.BwdInReferenceIdeal.τ).loc Cert.BwdInReferenceIdeal.main_arg3) = m ((c.tc : Thread Cert.BwdInReferenceIdeal.nD Cert.BwdInReferenceIdeal.τ).loc Cert.BwdInReferenceIdeal.main_arg3)
      ∧ r.2.mem ((c.tc : Thread Cert.BwdInReferenceIdeal.nD Cert.BwdInReferenceIdeal.τ).loc Cert.BwdInReferenceIdeal.main_arg4) = m ((c.tc : Thread Cert.BwdInReferenceIdeal.nD Cert.BwdInReferenceIdeal.τ).loc Cert.BwdInReferenceIdeal.main_arg4))
      ∧ r.2.sem = fun _ => 0)

def preserves_Kernel_KernelIdeal : Prop :=
  IdealRules.named_const.Statement Cert.KernelIdeal.κ "ca" .f32 0x3D122279#32 ((80338380498831 / 2251799813685248 : ℝ) : EReal)
  ∧ IdealRules.named_const.Statement Cert.KernelIdeal.κ "ca3" .f32 0x3DDB33B6#32 ((241015141496493 / 2251799813685248 : ℝ) : EReal)

def preserves_Reference_ReferenceIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v59_0)) (v1 : (c : Dev Cert.KernelIdeal.nD) → Buf (Elt Ideal) ((c.tc : Thread Cert.KernelIdeal.nD Cert.KernelIdeal.τ).loc Cert.KernelIdeal.main_v59_1)) (v2 : (c : Dev Cert.KernelIdeal.nD) → Buf (Elt Ideal) ((c.tc : Thread Cert.KernelIdeal.nD Cert.KernelIdeal.τ).loc Cert.KernelIdeal.main_v59_2)) (v3 : (c : Dev Cert.KernelIdeal.nD) → Buf (Elt Ideal) ((c.tc : Thread Cert.KernelIdeal.nD Cert.KernelIdeal.τ).loc Cert.KernelIdeal.main_v59_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v59_0) = v0 c
          ∧ r.2.mem ((c.tc : Thread Cert.KernelIdeal.nD Cert.KernelIdeal.τ).loc Cert.KernelIdeal.main_v59_1) = v1 c
          ∧ r.2.mem ((c.tc : Thread Cert.KernelIdeal.nD Cert.KernelIdeal.τ).loc Cert.KernelIdeal.main_v59_2) = v2 c
          ∧ r.2.mem ((c.tc : Thread Cert.KernelIdeal.nD Cert.KernelIdeal.τ).loc Cert.KernelIdeal.main_v59_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v116) = v0 c
          ∧ r.2.mem ((c.tc : Thread Cert.ReferenceIdeal.nD Cert.ReferenceIdeal.τ).loc Cert.ReferenceIdeal.main_v122) = v1 c
          ∧ r.2.mem ((c.tc : Thread Cert.ReferenceIdeal.nD Cert.ReferenceIdeal.τ).loc Cert.ReferenceIdeal.main_v124) = v2 c
          ∧ r.2.mem ((c.tc : Thread Cert.ReferenceIdeal.nD Cert.ReferenceIdeal.τ).loc Cert.ReferenceIdeal.main_v126) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Up_UpIdeal : Prop :=
  True

def algebraic_UpIdeal_UpReferenceIdeal [hUpIdeal : Cert.UpIdeal.Facts] [hUpReferenceIdeal : Cert.UpReferenceIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpReferenceIdeal.nD Cert.UpReferenceIdeal.τ Cert.UpReferenceIdeal.sig) → Buf (Elt Ideal) ℓ) (g' : Dev Cert.UpReferenceIdeal.nD → PrngReg), Pre_UpIdeal m →
    (∀ c : Dev Cert.UpIdeal.nD,
      m' ((c.tc : Thread Cert.UpReferenceIdeal.nD Cert.UpReferenceIdeal.τ).loc Cert.UpReferenceIdeal.main_arg0) = m ((c.tc : Thread Cert.UpIdeal.nD Cert.UpIdeal.τ).loc Cert.UpIdeal.main_arg0)
      ∧ m' ((c.tc : Thread Cert.UpReferenceIdeal.nD Cert.UpReferenceIdeal.τ).loc Cert.UpReferenceIdeal.main_arg1) = m ((c.tc : Thread Cert.UpIdeal.nD Cert.UpIdeal.τ).loc Cert.UpIdeal.main_arg1)) →
    ∃ (v0 : (c : Dev Cert.UpIdeal.nD) → Buf (Elt Ideal) ((c.tc : Thread Cert.UpIdeal.nD Cert.UpIdeal.τ).loc Cert.UpIdeal.main_v0)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v0) = v0 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ θ_run (Cert.UpReferenceIdeal.defs (F := Ideal)) (onTc (τ := Cert.UpReferenceIdeal.τ) (Cert.UpReferenceIdeal.main (F := Ideal))) ⟨m', fun _ => 0, g'⟩ (fun r => ∀ c : Dev Cert.UpReferenceIdeal.nD,
          r.2.mem ((c.tc : Thread Cert.UpReferenceIdeal.nD Cert.UpReferenceIdeal.τ).loc Cert.UpReferenceIdeal.main_v14) = v0 c
          ∧ r.2.mem ((c.tc : Thread Cert.UpReferenceIdeal.nD Cert.UpReferenceIdeal.τ).loc Cert.UpReferenceIdeal.main_arg0) = m' ((c.tc : Thread Cert.UpReferenceIdeal.nD Cert.UpReferenceIdeal.τ).loc Cert.UpReferenceIdeal.main_arg0)
          ∧ r.2.mem ((c.tc : Thread Cert.UpReferenceIdeal.nD Cert.UpReferenceIdeal.τ).loc Cert.UpReferenceIdeal.main_arg1) = m' ((c.tc : Thread Cert.UpReferenceIdeal.nD Cert.UpReferenceIdeal.τ).loc Cert.UpReferenceIdeal.main_arg1))

def preserves_Down_DownIdeal : Prop :=
  True

def algebraic_DownIdeal_DownReferenceIdeal [hDownIdeal : Cert.DownIdeal.Facts] [hDownReferenceIdeal : Cert.DownReferenceIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownReferenceIdeal.nD Cert.DownReferenceIdeal.τ Cert.DownReferenceIdeal.sig) → Buf (Elt Ideal) ℓ) (g' : Dev Cert.DownReferenceIdeal.nD → PrngReg), Pre_DownIdeal m →
    (∀ c : Dev Cert.DownIdeal.nD,
      m' ((c.tc : Thread Cert.DownReferenceIdeal.nD Cert.DownReferenceIdeal.τ).loc Cert.DownReferenceIdeal.main_arg0) = m ((c.tc : Thread Cert.DownIdeal.nD Cert.DownIdeal.τ).loc Cert.DownIdeal.main_arg0)
      ∧ m' ((c.tc : Thread Cert.DownReferenceIdeal.nD Cert.DownReferenceIdeal.τ).loc Cert.DownReferenceIdeal.main_arg1) = m ((c.tc : Thread Cert.DownIdeal.nD Cert.DownIdeal.τ).loc Cert.DownIdeal.main_arg1)) →
    ∃ (v0 : (c : Dev Cert.DownIdeal.nD) → Buf (Elt Ideal) ((c.tc : Thread Cert.DownIdeal.nD Cert.DownIdeal.τ).loc Cert.DownIdeal.main_v0)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ θ_run (Cert.DownReferenceIdeal.defs (F := Ideal)) (onTc (τ := Cert.DownReferenceIdeal.τ) (Cert.DownReferenceIdeal.main (F := Ideal))) ⟨m', fun _ => 0, g'⟩ (fun r => ∀ c : Dev Cert.DownReferenceIdeal.nD,
          r.2.mem ((c.tc : Thread Cert.DownReferenceIdeal.nD Cert.DownReferenceIdeal.τ).loc Cert.DownReferenceIdeal.main_v5) = v0 c
          ∧ r.2.mem ((c.tc : Thread Cert.DownReferenceIdeal.nD Cert.DownReferenceIdeal.τ).loc Cert.DownReferenceIdeal.main_arg0) = m' ((c.tc : Thread Cert.DownReferenceIdeal.nD Cert.DownReferenceIdeal.τ).loc Cert.DownReferenceIdeal.main_arg0)
          ∧ r.2.mem ((c.tc : Thread Cert.DownReferenceIdeal.nD Cert.DownReferenceIdeal.τ).loc Cert.DownReferenceIdeal.main_arg1) = m' ((c.tc : Thread Cert.DownReferenceIdeal.nD Cert.DownReferenceIdeal.τ).loc Cert.DownReferenceIdeal.main_arg1))

def preserves_In_InIdeal : Prop :=
  True

def algebraic_InIdeal_InReferenceIdeal [hInIdeal : Cert.InIdeal.Facts] [hInReferenceIdeal : Cert.InReferenceIdeal.Facts] : Prop :=
  ∀ (m : (ℓ : Loc Cert.InIdeal.nD Cert.InIdeal.τ Cert.InIdeal.sig) → Buf (Elt Ideal) ℓ) (g : Dev Cert.InIdeal.nD → PrngReg)
    (m' : (ℓ : Loc Cert.InReferenceIdeal.nD Cert.InReferenceIdeal.τ Cert.InReferenceIdeal.sig) → Buf (Elt Ideal) ℓ) (g' : Dev Cert.InReferenceIdeal.nD → PrngReg), Pre_InIdeal m →
    (∀ c : Dev Cert.InIdeal.nD,
      m' ((c.tc : Thread Cert.InReferenceIdeal.nD Cert.InReferenceIdeal.τ).loc Cert.InReferenceIdeal.main_arg0) = m ((c.tc : Thread Cert.InIdeal.nD Cert.InIdeal.τ).loc Cert.InIdeal.main_arg0)
      ∧ m' ((c.tc : Thread Cert.InReferenceIdeal.nD Cert.InReferenceIdeal.τ).loc Cert.InReferenceIdeal.main_arg1) = m ((c.tc : Thread Cert.InIdeal.nD Cert.InIdeal.τ).loc Cert.InIdeal.main_arg1)) →
    ∃ (v0 : (c : Dev Cert.InIdeal.nD) → Buf (Elt Ideal) ((c.tc : Thread Cert.InIdeal.nD Cert.InIdeal.τ).loc Cert.InIdeal.main_v0)),
      θ_run (Cert.InIdeal.defs (F := Ideal)) (onTc (τ := Cert.InIdeal.τ) (Cert.InIdeal.main (F := Ideal))) ⟨m, fun _ => 0, g⟩ (fun r => ∀ c : Dev Cert.InIdeal.nD,
          r.2.mem ((c.tc : Thread Cert.InIdeal.nD Cert.InIdeal.τ).loc Cert.InIdeal.main_v0) = v0 c
          ∧ r.2.mem ((c.tc : Thread Cert.InIdeal.nD Cert.InIdeal.τ).loc Cert.InIdeal.main_arg0) = m ((c.tc : Thread Cert.InIdeal.nD Cert.InIdeal.τ).loc Cert.InIdeal.main_arg0)
          ∧ r.2.mem ((c.tc : Thread Cert.InIdeal.nD Cert.InIdeal.τ).loc Cert.InIdeal.main_arg1) = m ((c.tc : Thread Cert.InIdeal.nD Cert.InIdeal.τ).loc Cert.InIdeal.main_arg1))
      ∧ θ_run (Cert.InReferenceIdeal.defs (F := Ideal)) (onTc (τ := Cert.InReferenceIdeal.τ) (Cert.InReferenceIdeal.main (F := Ideal))) ⟨m', fun _ => 0, g'⟩ (fun r => ∀ c : Dev Cert.InReferenceIdeal.nD,
          r.2.mem ((c.tc : Thread Cert.InReferenceIdeal.nD Cert.InReferenceIdeal.τ).loc Cert.InReferenceIdeal.main_v8) = v0 c
          ∧ r.2.mem ((c.tc : Thread Cert.InReferenceIdeal.nD Cert.InReferenceIdeal.τ).loc Cert.InReferenceIdeal.main_arg0) = m' ((c.tc : Thread Cert.InReferenceIdeal.nD Cert.InReferenceIdeal.τ).loc Cert.InReferenceIdeal.main_arg0)
          ∧ r.2.mem ((c.tc : Thread Cert.InReferenceIdeal.nD Cert.InReferenceIdeal.τ).loc Cert.InReferenceIdeal.main_arg1) = m' ((c.tc : Thread Cert.InReferenceIdeal.nD Cert.InReferenceIdeal.τ).loc Cert.InReferenceIdeal.main_arg1))

def preserves_Out_OutIdeal : Prop :=
  True

def algebraic_OutIdeal_OutReferenceIdeal [hOutIdeal : Cert.OutIdeal.Facts] [hOutReferenceIdeal : Cert.OutReferenceIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutReferenceIdeal.nD Cert.OutReferenceIdeal.τ Cert.OutReferenceIdeal.sig) → Buf (Elt Ideal) ℓ) (g' : Dev Cert.OutReferenceIdeal.nD → PrngReg), Pre_OutIdeal m →
    (∀ c : Dev Cert.OutIdeal.nD,
      m' ((c.tc : Thread Cert.OutReferenceIdeal.nD Cert.OutReferenceIdeal.τ).loc Cert.OutReferenceIdeal.main_arg0) = m ((c.tc : Thread Cert.OutIdeal.nD Cert.OutIdeal.τ).loc Cert.OutIdeal.main_arg0)
      ∧ m' ((c.tc : Thread Cert.OutReferenceIdeal.nD Cert.OutReferenceIdeal.τ).loc Cert.OutReferenceIdeal.main_arg1) = m ((c.tc : Thread Cert.OutIdeal.nD Cert.OutIdeal.τ).loc Cert.OutIdeal.main_arg1)
      ∧ m' ((c.tc : Thread Cert.OutReferenceIdeal.nD Cert.OutReferenceIdeal.τ).loc Cert.OutReferenceIdeal.main_arg2) = m ((c.tc : Thread Cert.OutIdeal.nD Cert.OutIdeal.τ).loc Cert.OutIdeal.main_arg2)) →
    ∃ (v0 : (c : Dev Cert.OutIdeal.nD) → Buf (Elt Ideal) ((c.tc : Thread Cert.OutIdeal.nD Cert.OutIdeal.τ).loc Cert.OutIdeal.main_v0)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v0) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2))
      ∧ θ_run (Cert.OutReferenceIdeal.defs (F := Ideal)) (onTc (τ := Cert.OutReferenceIdeal.τ) (Cert.OutReferenceIdeal.main (F := Ideal))) ⟨m', fun _ => 0, g'⟩ (fun r => ∀ c : Dev Cert.OutReferenceIdeal.nD,
          r.2.mem ((c.tc : Thread Cert.OutReferenceIdeal.nD Cert.OutReferenceIdeal.τ).loc Cert.OutReferenceIdeal.main_v7) = v0 c
          ∧ r.2.mem ((c.tc : Thread Cert.OutReferenceIdeal.nD Cert.OutReferenceIdeal.τ).loc Cert.OutReferenceIdeal.main_arg0) = m' ((c.tc : Thread Cert.OutReferenceIdeal.nD Cert.OutReferenceIdeal.τ).loc Cert.OutReferenceIdeal.main_arg0)
          ∧ r.2.mem ((c.tc : Thread Cert.OutReferenceIdeal.nD Cert.OutReferenceIdeal.τ).loc Cert.OutReferenceIdeal.main_arg1) = m' ((c.tc : Thread Cert.OutReferenceIdeal.nD Cert.OutReferenceIdeal.τ).loc Cert.OutReferenceIdeal.main_arg1)
          ∧ r.2.mem ((c.tc : Thread Cert.OutReferenceIdeal.nD Cert.OutReferenceIdeal.τ).loc Cert.OutReferenceIdeal.main_arg2) = m' ((c.tc : Thread Cert.OutReferenceIdeal.nD Cert.OutReferenceIdeal.τ).loc Cert.OutReferenceIdeal.main_arg2))

def preserves_FwdIn_FwdInIdeal : Prop :=
  True

def algebraic_FwdInIdeal_FwdInReferenceIdeal [hFwdInIdeal : Cert.FwdInIdeal.Facts] [hFwdInReferenceIdeal : Cert.FwdInReferenceIdeal.Facts] : Prop :=
  ∀ (m : (ℓ : Loc Cert.FwdInIdeal.nD Cert.FwdInIdeal.τ Cert.FwdInIdeal.sig) → Buf (Elt Ideal) ℓ) (g : Dev Cert.FwdInIdeal.nD → PrngReg)
    (m' : (ℓ : Loc Cert.FwdInReferenceIdeal.nD Cert.FwdInReferenceIdeal.τ Cert.FwdInReferenceIdeal.sig) → Buf (Elt Ideal) ℓ) (g' : Dev Cert.FwdInReferenceIdeal.nD → PrngReg), Pre_FwdInIdeal m →
    (∀ c : Dev Cert.FwdInIdeal.nD,
      m' ((c.tc : Thread Cert.FwdInReferenceIdeal.nD Cert.FwdInReferenceIdeal.τ).loc Cert.FwdInReferenceIdeal.main_arg0) = m ((c.tc : Thread Cert.FwdInIdeal.nD Cert.FwdInIdeal.τ).loc Cert.FwdInIdeal.main_arg0)
      ∧ m' ((c.tc : Thread Cert.FwdInReferenceIdeal.nD Cert.FwdInReferenceIdeal.τ).loc Cert.FwdInReferenceIdeal.main_arg1) = m ((c.tc : Thread Cert.FwdInIdeal.nD Cert.FwdInIdeal.τ).loc Cert.FwdInIdeal.main_arg1)
      ∧ m' ((c.tc : Thread Cert.FwdInReferenceIdeal.nD Cert.FwdInReferenceIdeal.τ).loc Cert.FwdInReferenceIdeal.main_arg2) = m ((c.tc : Thread Cert.FwdInIdeal.nD Cert.FwdInIdeal.τ).loc Cert.FwdInIdeal.main_arg2)) →
    ∃ (v0 : (c : Dev Cert.FwdInIdeal.nD) → Buf (Elt Ideal) ((c.tc : Thread Cert.FwdInIdeal.nD Cert.FwdInIdeal.τ).loc Cert.FwdInIdeal.main_v0_0)) (v1 : (c : Dev Cert.FwdInIdeal.nD) → Buf (Elt Ideal) ((c.tc : Thread Cert.FwdInIdeal.nD Cert.FwdInIdeal.τ).loc Cert.FwdInIdeal.main_v0_1)) (v2 : (c : Dev Cert.FwdInIdeal.nD) → Buf (Elt Ideal) ((c.tc : Thread Cert.FwdInIdeal.nD Cert.FwdInIdeal.τ).loc Cert.FwdInIdeal.main_v0_2)),
      θ_run (Cert.FwdInIdeal.defs (F := Ideal)) (onTc (τ := Cert.FwdInIdeal.τ) (Cert.FwdInIdeal.main (F := Ideal))) ⟨m, fun _ => 0, g⟩ (fun r => ∀ c : Dev Cert.FwdInIdeal.nD,
          r.2.mem ((c.tc : Thread Cert.FwdInIdeal.nD Cert.FwdInIdeal.τ).loc Cert.FwdInIdeal.main_v0_0) = v0 c
          ∧ r.2.mem ((c.tc : Thread Cert.FwdInIdeal.nD Cert.FwdInIdeal.τ).loc Cert.FwdInIdeal.main_v0_1) = v1 c
          ∧ r.2.mem ((c.tc : Thread Cert.FwdInIdeal.nD Cert.FwdInIdeal.τ).loc Cert.FwdInIdeal.main_v0_2) = v2 c
          ∧ r.2.mem ((c.tc : Thread Cert.FwdInIdeal.nD Cert.FwdInIdeal.τ).loc Cert.FwdInIdeal.main_arg0) = m ((c.tc : Thread Cert.FwdInIdeal.nD Cert.FwdInIdeal.τ).loc Cert.FwdInIdeal.main_arg0)
          ∧ r.2.mem ((c.tc : Thread Cert.FwdInIdeal.nD Cert.FwdInIdeal.τ).loc Cert.FwdInIdeal.main_arg1) = m ((c.tc : Thread Cert.FwdInIdeal.nD Cert.FwdInIdeal.τ).loc Cert.FwdInIdeal.main_arg1)
          ∧ r.2.mem ((c.tc : Thread Cert.FwdInIdeal.nD Cert.FwdInIdeal.τ).loc Cert.FwdInIdeal.main_arg2) = m ((c.tc : Thread Cert.FwdInIdeal.nD Cert.FwdInIdeal.τ).loc Cert.FwdInIdeal.main_arg2))
      ∧ θ_run (Cert.FwdInReferenceIdeal.defs (F := Ideal)) (onTc (τ := Cert.FwdInReferenceIdeal.τ) (Cert.FwdInReferenceIdeal.main (F := Ideal))) ⟨m', fun _ => 0, g'⟩ (fun r => ∀ c : Dev Cert.FwdInReferenceIdeal.nD,
          r.2.mem ((c.tc : Thread Cert.FwdInReferenceIdeal.nD Cert.FwdInReferenceIdeal.τ).loc Cert.FwdInReferenceIdeal.main_v16) = v0 c
          ∧ r.2.mem ((c.tc : Thread Cert.FwdInReferenceIdeal.nD Cert.FwdInReferenceIdeal.τ).loc Cert.FwdInReferenceIdeal.main_v17) = v1 c
          ∧ r.2.mem ((c.tc : Thread Cert.FwdInReferenceIdeal.nD Cert.FwdInReferenceIdeal.τ).loc Cert.FwdInReferenceIdeal.main_v19) = v2 c
          ∧ r.2.mem ((c.tc : Thread Cert.FwdInReferenceIdeal.nD Cert.FwdInReferenceIdeal.τ).loc Cert.FwdInReferenceIdeal.main_arg0) = m' ((c.tc : Thread Cert.FwdInReferenceIdeal.nD Cert.FwdInReferenceIdeal.τ).loc Cert.FwdInReferenceIdeal.main_arg0)
          ∧ r.2.mem ((c.tc : Thread Cert.FwdInReferenceIdeal.nD Cert.FwdInReferenceIdeal.τ).loc Cert.FwdInReferenceIdeal.main_arg1) = m' ((c.tc : Thread Cert.FwdInReferenceIdeal.nD Cert.FwdInReferenceIdeal.τ).loc Cert.FwdInReferenceIdeal.main_arg1)
          ∧ r.2.mem ((c.tc : Thread Cert.FwdInReferenceIdeal.nD Cert.FwdInReferenceIdeal.τ).loc Cert.FwdInReferenceIdeal.main_arg2) = m' ((c.tc : Thread Cert.FwdInReferenceIdeal.nD Cert.FwdInReferenceIdeal.τ).loc Cert.FwdInReferenceIdeal.main_arg2))

def preserves_FwdOut_FwdOutIdeal : Prop :=
  True

def algebraic_FwdOutIdeal_FwdOutReferenceIdeal [hFwdOutIdeal : Cert.FwdOutIdeal.Facts] [hFwdOutReferenceIdeal : Cert.FwdOutReferenceIdeal.Facts] : Prop :=
  ∀ (m : (ℓ : Loc Cert.FwdOutIdeal.nD Cert.FwdOutIdeal.τ Cert.FwdOutIdeal.sig) → Buf (Elt Ideal) ℓ) (g : Dev Cert.FwdOutIdeal.nD → PrngReg)
    (m' : (ℓ : Loc Cert.FwdOutReferenceIdeal.nD Cert.FwdOutReferenceIdeal.τ Cert.FwdOutReferenceIdeal.sig) → Buf (Elt Ideal) ℓ) (g' : Dev Cert.FwdOutReferenceIdeal.nD → PrngReg), Pre_FwdOutIdeal m →
    (∀ c : Dev Cert.FwdOutIdeal.nD,
      m' ((c.tc : Thread Cert.FwdOutReferenceIdeal.nD Cert.FwdOutReferenceIdeal.τ).loc Cert.FwdOutReferenceIdeal.main_arg0) = m ((c.tc : Thread Cert.FwdOutIdeal.nD Cert.FwdOutIdeal.τ).loc Cert.FwdOutIdeal.main_arg0)
      ∧ m' ((c.tc : Thread Cert.FwdOutReferenceIdeal.nD Cert.FwdOutReferenceIdeal.τ).loc Cert.FwdOutReferenceIdeal.main_arg1) = m ((c.tc : Thread Cert.FwdOutIdeal.nD Cert.FwdOutIdeal.τ).loc Cert.FwdOutIdeal.main_arg1)
      ∧ m' ((c.tc : Thread Cert.FwdOutReferenceIdeal.nD Cert.FwdOutReferenceIdeal.τ).loc Cert.FwdOutReferenceIdeal.main_arg2) = m ((c.tc : Thread Cert.FwdOutIdeal.nD Cert.FwdOutIdeal.τ).loc Cert.FwdOutIdeal.main_arg2)
      ∧ m' ((c.tc : Thread Cert.FwdOutReferenceIdeal.nD Cert.FwdOutReferenceIdeal.τ).loc Cert.FwdOutReferenceIdeal.main_arg3) = m ((c.tc : Thread Cert.FwdOutIdeal.nD Cert.FwdOutIdeal.τ).loc Cert.FwdOutIdeal.main_arg3)
      ∧ m' ((c.tc : Thread Cert.FwdOutReferenceIdeal.nD Cert.FwdOutReferenceIdeal.τ).loc Cert.FwdOutReferenceIdeal.main_arg4) = m ((c.tc : Thread Cert.FwdOutIdeal.nD Cert.FwdOutIdeal.τ).loc Cert.FwdOutIdeal.main_arg4)
      ∧ m' ((c.tc : Thread Cert.FwdOutReferenceIdeal.nD Cert.FwdOutReferenceIdeal.τ).loc Cert.FwdOutReferenceIdeal.main_arg5) = m ((c.tc : Thread Cert.FwdOutIdeal.nD Cert.FwdOutIdeal.τ).loc Cert.FwdOutIdeal.main_arg5)) →
    ∃ (v0 : (c : Dev Cert.FwdOutIdeal.nD) → Buf (Elt Ideal) ((c.tc : Thread Cert.FwdOutIdeal.nD Cert.FwdOutIdeal.τ).loc Cert.FwdOutIdeal.main_v0_0)) (v1 : (c : Dev Cert.FwdOutIdeal.nD) → Buf (Elt Ideal) ((c.tc : Thread Cert.FwdOutIdeal.nD Cert.FwdOutIdeal.τ).loc Cert.FwdOutIdeal.main_v0_1)) (v2 : (c : Dev Cert.FwdOutIdeal.nD) → Buf (Elt Ideal) ((c.tc : Thread Cert.FwdOutIdeal.nD Cert.FwdOutIdeal.τ).loc Cert.FwdOutIdeal.main_v0_2)),
      θ_run (Cert.FwdOutIdeal.defs (F := Ideal)) (onTc (τ := Cert.FwdOutIdeal.τ) (Cert.FwdOutIdeal.main (F := Ideal))) ⟨m, fun _ => 0, g⟩ (fun r => ∀ c : Dev Cert.FwdOutIdeal.nD,
          r.2.mem ((c.tc : Thread Cert.FwdOutIdeal.nD Cert.FwdOutIdeal.τ).loc Cert.FwdOutIdeal.main_v0_0) = v0 c
          ∧ r.2.mem ((c.tc : Thread Cert.FwdOutIdeal.nD Cert.FwdOutIdeal.τ).loc Cert.FwdOutIdeal.main_v0_1) = v1 c
          ∧ r.2.mem ((c.tc : Thread Cert.FwdOutIdeal.nD Cert.FwdOutIdeal.τ).loc Cert.FwdOutIdeal.main_v0_2) = v2 c
          ∧ r.2.mem ((c.tc : Thread Cert.FwdOutIdeal.nD Cert.FwdOutIdeal.τ).loc Cert.FwdOutIdeal.main_arg0) = m ((c.tc : Thread Cert.FwdOutIdeal.nD Cert.FwdOutIdeal.τ).loc Cert.FwdOutIdeal.main_arg0)
          ∧ r.2.mem ((c.tc : Thread Cert.FwdOutIdeal.nD Cert.FwdOutIdeal.τ).loc Cert.FwdOutIdeal.main_arg1) = m ((c.tc : Thread Cert.FwdOutIdeal.nD Cert.FwdOutIdeal.τ).loc Cert.FwdOutIdeal.main_arg1)
          ∧ r.2.mem ((c.tc : Thread Cert.FwdOutIdeal.nD Cert.FwdOutIdeal.τ).loc Cert.FwdOutIdeal.main_arg2) = m ((c.tc : Thread Cert.FwdOutIdeal.nD Cert.FwdOutIdeal.τ).loc Cert.FwdOutIdeal.main_arg2)
          ∧ r.2.mem ((c.tc : Thread Cert.FwdOutIdeal.nD Cert.FwdOutIdeal.τ).loc Cert.FwdOutIdeal.main_arg3) = m ((c.tc : Thread Cert.FwdOutIdeal.nD Cert.FwdOutIdeal.τ).loc Cert.FwdOutIdeal.main_arg3)
          ∧ r.2.mem ((c.tc : Thread Cert.FwdOutIdeal.nD Cert.FwdOutIdeal.τ).loc Cert.FwdOutIdeal.main_arg4) = m ((c.tc : Thread Cert.FwdOutIdeal.nD Cert.FwdOutIdeal.τ).loc Cert.FwdOutIdeal.main_arg4)
          ∧ r.2.mem ((c.tc : Thread Cert.FwdOutIdeal.nD Cert.FwdOutIdeal.τ).loc Cert.FwdOutIdeal.main_arg5) = m ((c.tc : Thread Cert.FwdOutIdeal.nD Cert.FwdOutIdeal.τ).loc Cert.FwdOutIdeal.main_arg5))
      ∧ θ_run (Cert.FwdOutReferenceIdeal.defs (F := Ideal)) (onTc (τ := Cert.FwdOutReferenceIdeal.τ) (Cert.FwdOutReferenceIdeal.main (F := Ideal))) ⟨m', fun _ => 0, g'⟩ (fun r => ∀ c : Dev Cert.FwdOutReferenceIdeal.nD,
          r.2.mem ((c.tc : Thread Cert.FwdOutReferenceIdeal.nD Cert.FwdOutReferenceIdeal.τ).loc Cert.FwdOutReferenceIdeal.main_v20) = v0 c
          ∧ r.2.mem ((c.tc : Thread Cert.FwdOutReferenceIdeal.nD Cert.FwdOutReferenceIdeal.τ).loc Cert.FwdOutReferenceIdeal.main_v19) = v1 c
          ∧ r.2.mem ((c.tc : Thread Cert.FwdOutReferenceIdeal.nD Cert.FwdOutReferenceIdeal.τ).loc Cert.FwdOutReferenceIdeal.main_v35) = v2 c
          ∧ r.2.mem ((c.tc : Thread Cert.FwdOutReferenceIdeal.nD Cert.FwdOutReferenceIdeal.τ).loc Cert.FwdOutReferenceIdeal.main_arg0) = m' ((c.tc : Thread Cert.FwdOutReferenceIdeal.nD Cert.FwdOutReferenceIdeal.τ).loc Cert.FwdOutReferenceIdeal.main_arg0)
          ∧ r.2.mem ((c.tc : Thread Cert.FwdOutReferenceIdeal.nD Cert.FwdOutReferenceIdeal.τ).loc Cert.FwdOutReferenceIdeal.main_arg1) = m' ((c.tc : Thread Cert.FwdOutReferenceIdeal.nD Cert.FwdOutReferenceIdeal.τ).loc Cert.FwdOutReferenceIdeal.main_arg1)
          ∧ r.2.mem ((c.tc : Thread Cert.FwdOutReferenceIdeal.nD Cert.FwdOutReferenceIdeal.τ).loc Cert.FwdOutReferenceIdeal.main_arg2) = m' ((c.tc : Thread Cert.FwdOutReferenceIdeal.nD Cert.FwdOutReferenceIdeal.τ).loc Cert.FwdOutReferenceIdeal.main_arg2)
          ∧ r.2.mem ((c.tc : Thread Cert.FwdOutReferenceIdeal.nD Cert.FwdOutReferenceIdeal.τ).loc Cert.FwdOutReferenceIdeal.main_arg3) = m' ((c.tc : Thread Cert.FwdOutReferenceIdeal.nD Cert.FwdOutReferenceIdeal.τ).loc Cert.FwdOutReferenceIdeal.main_arg3)
          ∧ r.2.mem ((c.tc : Thread Cert.FwdOutReferenceIdeal.nD Cert.FwdOutReferenceIdeal.τ).loc Cert.FwdOutReferenceIdeal.main_arg4) = m' ((c.tc : Thread Cert.FwdOutReferenceIdeal.nD Cert.FwdOutReferenceIdeal.τ).loc Cert.FwdOutReferenceIdeal.main_arg4)
          ∧ r.2.mem ((c.tc : Thread Cert.FwdOutReferenceIdeal.nD Cert.FwdOutReferenceIdeal.τ).loc Cert.FwdOutReferenceIdeal.main_arg5) = m' ((c.tc : Thread Cert.FwdOutReferenceIdeal.nD Cert.FwdOutReferenceIdeal.τ).loc Cert.FwdOutReferenceIdeal.main_arg5))

def preserves_BwdIn_BwdInIdeal : Prop :=
  True

def algebraic_BwdInIdeal_BwdInReferenceIdeal_pre_finite_bwd_in [hBwdInIdeal : Cert.BwdInIdeal.Facts] [hBwdInReferenceIdeal : Cert.BwdInReferenceIdeal.Facts] [hPre_finite_bwd_in : Cert.Pre_finite_bwd_in.Facts] : Prop :=
  ∀ (m : (ℓ : Loc Cert.BwdInIdeal.nD Cert.BwdInIdeal.τ Cert.BwdInIdeal.sig) → Buf (Elt Ideal) ℓ) (g : Dev Cert.BwdInIdeal.nD → PrngReg)
    (m' : (ℓ : Loc Cert.BwdInReferenceIdeal.nD Cert.BwdInReferenceIdeal.τ Cert.BwdInReferenceIdeal.sig) → Buf (Elt Ideal) ℓ) (g' : Dev Cert.BwdInReferenceIdeal.nD → PrngReg), Pre_BwdInIdeal_finite_bwd_in m →
    (∀ c : Dev Cert.BwdInIdeal.nD,
      m' ((c.tc : Thread Cert.BwdInReferenceIdeal.nD Cert.BwdInReferenceIdeal.τ).loc Cert.BwdInReferenceIdeal.main_arg0) = m ((c.tc : Thread Cert.BwdInIdeal.nD Cert.BwdInIdeal.τ).loc Cert.BwdInIdeal.main_arg0)
      ∧ m' ((c.tc : Thread Cert.BwdInReferenceIdeal.nD Cert.BwdInReferenceIdeal.τ).loc Cert.BwdInReferenceIdeal.main_arg1) = m ((c.tc : Thread Cert.BwdInIdeal.nD Cert.BwdInIdeal.τ).loc Cert.BwdInIdeal.main_arg1)
      ∧ m' ((c.tc : Thread Cert.BwdInReferenceIdeal.nD Cert.BwdInReferenceIdeal.τ).loc Cert.BwdInReferenceIdeal.main_arg2) = m ((c.tc : Thread Cert.BwdInIdeal.nD Cert.BwdInIdeal.τ).loc Cert.BwdInIdeal.main_arg2)
      ∧ m' ((c.tc : Thread Cert.BwdInReferenceIdeal.nD Cert.BwdInReferenceIdeal.τ).loc Cert.BwdInReferenceIdeal.main_arg3) = m ((c.tc : Thread Cert.BwdInIdeal.nD Cert.BwdInIdeal.τ).loc Cert.BwdInIdeal.main_arg3)
      ∧ m' ((c.tc : Thread Cert.BwdInReferenceIdeal.nD Cert.BwdInReferenceIdeal.τ).loc Cert.BwdInReferenceIdeal.main_arg4) = m ((c.tc : Thread Cert.BwdInIdeal.nD Cert.BwdInIdeal.τ).loc Cert.BwdInIdeal.main_arg4)) →
    ∃ (v0 : (c : Dev Cert.BwdInIdeal.nD) → Buf (Elt Ideal) ((c.tc : Thread Cert.BwdInIdeal.nD Cert.BwdInIdeal.τ).loc Cert.BwdInIdeal.main_v0_0)) (v1 : (c : Dev Cert.BwdInIdeal.nD) → Buf (Elt Ideal) ((c.tc : Thread Cert.BwdInIdeal.nD Cert.BwdInIdeal.τ).loc Cert.BwdInIdeal.main_v0_1)),
      θ_run (Cert.BwdInIdeal.defs (F := Ideal)) (onTc (τ := Cert.BwdInIdeal.τ) (Cert.BwdInIdeal.main (F := Ideal))) ⟨m, fun _ => 0, g⟩ (fun r => ∀ c : Dev Cert.BwdInIdeal.nD,
          r.2.mem ((c.tc : Thread Cert.BwdInIdeal.nD Cert.BwdInIdeal.τ).loc Cert.BwdInIdeal.main_v0_0) = v0 c
          ∧ r.2.mem ((c.tc : Thread Cert.BwdInIdeal.nD Cert.BwdInIdeal.τ).loc Cert.BwdInIdeal.main_v0_1) = v1 c
          ∧ r.2.mem ((c.tc : Thread Cert.BwdInIdeal.nD Cert.BwdInIdeal.τ).loc Cert.BwdInIdeal.main_arg0) = m ((c.tc : Thread Cert.BwdInIdeal.nD Cert.BwdInIdeal.τ).loc Cert.BwdInIdeal.main_arg0)
          ∧ r.2.mem ((c.tc : Thread Cert.BwdInIdeal.nD Cert.BwdInIdeal.τ).loc Cert.BwdInIdeal.main_arg1) = m ((c.tc : Thread Cert.BwdInIdeal.nD Cert.BwdInIdeal.τ).loc Cert.BwdInIdeal.main_arg1)
          ∧ r.2.mem ((c.tc : Thread Cert.BwdInIdeal.nD Cert.BwdInIdeal.τ).loc Cert.BwdInIdeal.main_arg2) = m ((c.tc : Thread Cert.BwdInIdeal.nD Cert.BwdInIdeal.τ).loc Cert.BwdInIdeal.main_arg2)
          ∧ r.2.mem ((c.tc : Thread Cert.BwdInIdeal.nD Cert.BwdInIdeal.τ).loc Cert.BwdInIdeal.main_arg3) = m ((c.tc : Thread Cert.BwdInIdeal.nD Cert.BwdInIdeal.τ).loc Cert.BwdInIdeal.main_arg3)
          ∧ r.2.mem ((c.tc : Thread Cert.BwdInIdeal.nD Cert.BwdInIdeal.τ).loc Cert.BwdInIdeal.main_arg4) = m ((c.tc : Thread Cert.BwdInIdeal.nD Cert.BwdInIdeal.τ).loc Cert.BwdInIdeal.main_arg4))
      ∧ θ_run (Cert.BwdInReferenceIdeal.defs (F := Ideal)) (onTc (τ := Cert.BwdInReferenceIdeal.τ) (Cert.BwdInReferenceIdeal.main (F := Ideal))) ⟨m', fun _ => 0, g'⟩ (fun r => ∀ c : Dev Cert.BwdInReferenceIdeal.nD,
          r.2.mem ((c.tc : Thread Cert.BwdInReferenceIdeal.nD Cert.BwdInReferenceIdeal.τ).loc Cert.BwdInReferenceIdeal.main_v41) = v0 c
          ∧ r.2.mem ((c.tc : Thread Cert.BwdInReferenceIdeal.nD Cert.BwdInReferenceIdeal.τ).loc Cert.BwdInReferenceIdeal.main_v42) = v1 c
          ∧ r.2.mem ((c.tc : Thread Cert.BwdInReferenceIdeal.nD Cert.BwdInReferenceIdeal.τ).loc Cert.BwdInReferenceIdeal.main_arg0) = m' ((c.tc : Thread Cert.BwdInReferenceIdeal.nD Cert.BwdInReferenceIdeal.τ).loc Cert.BwdInReferenceIdeal.main_arg0)
          ∧ r.2.mem ((c.tc : Thread Cert.BwdInReferenceIdeal.nD Cert.BwdInReferenceIdeal.τ).loc Cert.BwdInReferenceIdeal.main_arg1) = m' ((c.tc : Thread Cert.BwdInReferenceIdeal.nD Cert.BwdInReferenceIdeal.τ).loc Cert.BwdInReferenceIdeal.main_arg1)
          ∧ r.2.mem ((c.tc : Thread Cert.BwdInReferenceIdeal.nD Cert.BwdInReferenceIdeal.τ).loc Cert.BwdInReferenceIdeal.main_arg2) = m' ((c.tc : Thread Cert.BwdInReferenceIdeal.nD Cert.BwdInReferenceIdeal.τ).loc Cert.BwdInReferenceIdeal.main_arg2)
          ∧ r.2.mem ((c.tc : Thread Cert.BwdInReferenceIdeal.nD Cert.BwdInReferenceIdeal.τ).loc Cert.BwdInReferenceIdeal.main_arg3) = m' ((c.tc : Thread Cert.BwdInReferenceIdeal.nD Cert.BwdInReferenceIdeal.τ).loc Cert.BwdInReferenceIdeal.main_arg3)
          ∧ r.2.mem ((c.tc : Thread Cert.BwdInReferenceIdeal.nD Cert.BwdInReferenceIdeal.τ).loc Cert.BwdInReferenceIdeal.main_arg4) = m' ((c.tc : Thread Cert.BwdInReferenceIdeal.nD Cert.BwdInReferenceIdeal.τ).loc Cert.BwdInReferenceIdeal.main_arg4))

def Claim : Prop :=
  ∃ (hKernel : Cert.Kernel.Facts) (hKernelIdeal : Cert.KernelIdeal.Facts) (hReferenceIdeal : Cert.ReferenceIdeal.Facts) (hReference : Cert.Reference.Facts) (hUp : Cert.Up.Facts) (hUpIdeal : Cert.UpIdeal.Facts) (hUpReferenceIdeal : Cert.UpReferenceIdeal.Facts) (hDown : Cert.Down.Facts) (hDownIdeal : Cert.DownIdeal.Facts) (hDownReferenceIdeal : Cert.DownReferenceIdeal.Facts) (hIn : Cert.In.Facts) (hInIdeal : Cert.InIdeal.Facts) (hInReferenceIdeal : Cert.InReferenceIdeal.Facts) (hOut : Cert.Out.Facts) (hOutIdeal : Cert.OutIdeal.Facts) (hOutReferenceIdeal : Cert.OutReferenceIdeal.Facts) (hFwdIn : Cert.FwdIn.Facts) (hFwdInIdeal : Cert.FwdInIdeal.Facts) (hFwdInReferenceIdeal : Cert.FwdInReferenceIdeal.Facts) (hFwdOut : Cert.FwdOut.Facts) (hFwdOutIdeal : Cert.FwdOutIdeal.Facts) (hFwdOutReferenceIdeal : Cert.FwdOutReferenceIdeal.Facts) (hBwdIn : Cert.BwdIn.Facts) (hBwdInIdeal : Cert.BwdInIdeal.Facts) (hBwdInReferenceIdeal : Cert.BwdInReferenceIdeal.Facts) (hPre_finite : Cert.Pre_finite.Facts) (hPre_finite_bwd_in : Cert.Pre_finite_bwd_in.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Reference (hReference := hReference)
    ∧ quiescent_Up (hUp := hUp)
    ∧ quiescent_UpIdeal (hUpIdeal := hUpIdeal)
    ∧ quiescent_UpReferenceIdeal (hUpReferenceIdeal := hUpReferenceIdeal)
    ∧ quiescent_Down (hDown := hDown)
    ∧ quiescent_DownIdeal (hDownIdeal := hDownIdeal)
    ∧ quiescent_DownReferenceIdeal (hDownReferenceIdeal := hDownReferenceIdeal)
    ∧ quiescent_In (hIn := hIn)
    ∧ quiescent_InIdeal (hInIdeal := hInIdeal)
    ∧ quiescent_InReferenceIdeal (hInReferenceIdeal := hInReferenceIdeal)
    ∧ quiescent_Out (hOut := hOut)
    ∧ quiescent_OutIdeal (hOutIdeal := hOutIdeal)
    ∧ quiescent_OutReferenceIdeal (hOutReferenceIdeal := hOutReferenceIdeal)
    ∧ quiescent_FwdIn (hFwdIn := hFwdIn)
    ∧ quiescent_FwdInIdeal (hFwdInIdeal := hFwdInIdeal)
    ∧ quiescent_FwdInReferenceIdeal (hFwdInReferenceIdeal := hFwdInReferenceIdeal)
    ∧ quiescent_FwdOut (hFwdOut := hFwdOut)
    ∧ quiescent_FwdOutIdeal (hFwdOutIdeal := hFwdOutIdeal)
    ∧ quiescent_FwdOutReferenceIdeal (hFwdOutReferenceIdeal := hFwdOutReferenceIdeal)
    ∧ quiescent_BwdIn (hBwdIn := hBwdIn)
    ∧ quiescent_BwdInIdeal (hBwdInIdeal := hBwdInIdeal)
    ∧ quiescent_BwdInIdeal_pre_finite_bwd_in (hBwdInIdeal := hBwdInIdeal) (hPre_finite_bwd_in := hPre_finite_bwd_in)
    ∧ quiescent_BwdInReferenceIdeal (hBwdInReferenceIdeal := hBwdInReferenceIdeal)
    ∧ quiescent_BwdInReferenceIdeal_pre_finite_bwd_in (hBwdInReferenceIdeal := hBwdInReferenceIdeal) (hPre_finite_bwd_in := hPre_finite_bwd_in)
    ∧ preserves_Kernel_KernelIdeal
    ∧ preserves_Reference_ReferenceIdeal
    ∧ algebraic_KernelIdeal_ReferenceIdeal_pre_finite (hKernelIdeal := hKernelIdeal) (hReferenceIdeal := hReferenceIdeal) (hPre_finite := hPre_finite)
    ∧ preserves_Up_UpIdeal
    ∧ algebraic_UpIdeal_UpReferenceIdeal (hUpIdeal := hUpIdeal) (hUpReferenceIdeal := hUpReferenceIdeal)
    ∧ preserves_Down_DownIdeal
    ∧ algebraic_DownIdeal_DownReferenceIdeal (hDownIdeal := hDownIdeal) (hDownReferenceIdeal := hDownReferenceIdeal)
    ∧ preserves_In_InIdeal
    ∧ algebraic_InIdeal_InReferenceIdeal (hInIdeal := hInIdeal) (hInReferenceIdeal := hInReferenceIdeal)
    ∧ preserves_Out_OutIdeal
    ∧ algebraic_OutIdeal_OutReferenceIdeal (hOutIdeal := hOutIdeal) (hOutReferenceIdeal := hOutReferenceIdeal)
    ∧ preserves_FwdIn_FwdInIdeal
    ∧ algebraic_FwdInIdeal_FwdInReferenceIdeal (hFwdInIdeal := hFwdInIdeal) (hFwdInReferenceIdeal := hFwdInReferenceIdeal)
    ∧ preserves_FwdOut_FwdOutIdeal
    ∧ algebraic_FwdOutIdeal_FwdOutReferenceIdeal (hFwdOutIdeal := hFwdOutIdeal) (hFwdOutReferenceIdeal := hFwdOutReferenceIdeal)
    ∧ preserves_BwdIn_BwdInIdeal
    ∧ algebraic_BwdInIdeal_BwdInReferenceIdeal_pre_finite_bwd_in (hBwdInIdeal := hBwdInIdeal) (hBwdInReferenceIdeal := hBwdInReferenceIdeal) (hPre_finite_bwd_in := hPre_finite_bwd_in)
-- ==== Pre_finite.lean ====
abbrev S8192x1024 : Shape := ⟨2, ![8192, 1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S_ : Shape := ⟨0, ![]⟩

class Facts : Prop where
  bitsLt_bf16_f32 : FTy.bits .bf16 < FTy.bits .f32
  bcast_S_S8192x1024 : S_.BroadcastsInDim S8192x1024 (![] : Fin 0 → Fin S8192x1024.rank)
  bcast_S_S1024x5632 : S_.BroadcastsInDim S1024x5632 (![] : Fin 0 → Fin S1024x5632.rank)
  bcast_S_S3x5632 : S_.BroadcastsInDim S3x5632 (![] : Fin 0 → Fin S3x5632.rank)
  bcast_S_S5632 : S_.BroadcastsInDim S5632 (![] : Fin 0 → Fin S5632.rank)
  bcast_S_S2816x1024 : S_.BroadcastsInDim S2816x1024 (![] : Fin 0 → Fin S2816x1024.rank)

variable [Facts]

def fn_part1 {F : FTy → Type} [FloatOps F] (main_v3 : IVec S8192x1024 1) (main_v6 : IVec S1024x5632 1) (main_v9 : IVec S3x5632 1) (main_v12 : IVec S5632 1) (main_v15 : IVec S2816x1024 1) (main_v17 : FVec F S8192x1024 .f32) (main_cst_4 : FVec F S_ .f32) : IVec S8192x1024 1 × IVec S1024x5632 1 × IVec S3x5632 1 × IVec S5632 1 × IVec S2816x1024 1 × IVec S8192x1024 1 :=
  let main_v18 : FVec F S8192x1024 .f32 := broadcastInDim S8192x1024 ![] bcast_S_S8192x1024 main_cst_4
  let main_v19 : IVec S8192x1024 1 := cmpf .olt main_v17 main_v18
  (main_v3, main_v6, main_v9, main_v12, main_v15, main_v19)

def fn {F : FTy → Type} [FloatOps F] (main_arg0 : FVec F S8192x1024 .bf16) (main_arg1 : FVec F S1024x5632 .f32) (main_arg2 : FVec F S3x5632 .f32) (main_arg3 : FVec F S5632 .f32) (main_arg4 : FVec F S2816x1024 .f32) (main_arg5 : FVec F S8192x1024 .bf16) : IVec S8192x1024 1 × IVec S1024x5632 1 × IVec S3x5632 1 × IVec S5632 1 × IVec S2816x1024 1 × IVec S8192x1024 1 :=
  let main_v0 : FVec F S8192x1024 .f32 := (extf .f32 · bitsLt_bf16_f32) main_arg0
  let main_v1 : FVec F S8192x1024 .f32 := Host.absf main_v0
  let main_cst : FVec F S_ .f32 := constant S_ .f32 0x7F800000#32
  let main_v2 : FVec F S8192x1024 .f32 := broadcastInDim S8192x1024 ![] bcast_S_S8192x1024 main_cst
  let main_v3 : IVec S8192x1024 1 := cmpf .olt main_v1 main_v2
  let main_v4 : FVec F S1024x5632 .f32 := Host.absf main_arg1
  let main_cst_0 : FVec F S_ .f32 := constant S_ .f32 0x7F800000#32
  let main_v5 : FVec F S1024x5632 .f32 := broadcastInDim S1024x5632 ![] bcast_S_S1024x5632 main_cst_0
  let main_v6 : IVec S1024x5632 1 := cmpf .olt main_v4 main_v5
  let main_v7 : FVec F S3x5632 .f32 := Host.absf main_arg2
  let main_cst_1 : FVec F S_ .f32 := constant S_ .f32 0x7F800000#32
  let main_v8 : FVec F S3x5632 .f32 := broadcastInDim S3x5632 ![] bcast_S_S3x5632 main_cst_1
  let main_v9 : IVec S3x5632 1 := cmpf .olt main_v7 main_v8
  let main_v10 : FVec F S5632 .f32 := Host.absf main_arg3
  let main_cst_2 : FVec F S_ .f32 := constant S_ .f32 0x7F800000#32
  let main_v11 : FVec F S5632 .f32 := broadcastInDim S5632 ![] bcast_S_S5632 main_cst_2
  let main_v12 : IVec S5632 1 := cmpf .olt main_v10 main_v11
  let main_v13 : FVec F S2816x1024 .f32 := Host.absf main_arg4
  let main_cst_3 : FVec F S_ .f32 := constant S_ .f32 0x7F800000#32
  let main_v14 : FVec F S2816x1024 .f32 := broadcastInDim S2816x1024 ![] bcast_S_S2816x1024 main_cst_3
  let main_v15 : IVec S2816x1024 1 := cmpf .olt main_v13 main_v14
  let main_v16 : FVec F S8192x1024 .f32 := (extf .f32 · bitsLt_bf16_f32) main_arg5
  let main_v17 : FVec F S8192x1024 .f32 := Host.absf main_v16
  let main_cst_4 : FVec F S_ .f32 := constant S_ .f32 0x7F800000#32
  fn_part1 (F := F) main_v3 main_v6 main_v9 main_v12 main_v15 main_v17 main_cst_4
-- ==== Pre_finite_bwd_in.lean ====
abbrev S8192x2560 : Shape := ⟨2, ![8192, 2560]⟩
abbrev S1024x2560 : Shape := ⟨2, ![1024, 2560]⟩
abbrev S8192x1024 : Shape := ⟨2, ![8192, 1024]⟩
abbrev S1x1024 : Shape := ⟨2, ![1, 1024]⟩
abbrev S_ : Shape := ⟨0, ![]⟩

class Facts : Prop where
  bitsLt_bf16_f32 : FTy.bits .bf16 < FTy.bits .f32
  bcast_S_S8192x2560 : S_.BroadcastsInDim S8192x2560 (![] : Fin 0 → Fin S8192x2560.rank)
  bcast_S_S1024x2560 : S_.BroadcastsInDim S1024x2560 (![] : Fin 0 → Fin S1024x2560.rank)
  bcast_S_S8192x1024 : S_.BroadcastsInDim S8192x1024 (![] : Fin 0 → Fin S8192x1024.rank)
  bcast_S_S1x1024 : S_.BroadcastsInDim S1x1024 (![] : Fin 0 → Fin S1x1024.rank)

variable [Facts]

def fn {F : FTy → Type} [FloatOps F] (main_arg0 : FVec F S8192x2560 .bf16) (main_arg1 : FVec F S1024x2560 .bf16) (main_arg2 : FVec F S8192x1024 .f32) (main_arg3 : FVec F S8192x1024 .f32) (main_arg4 : FVec F S1x1024 .f32) : IVec S8192x2560 1 × IVec S1024x2560 1 × IVec S8192x1024 1 × IVec S1x1024 1 :=
  let main_v0 : FVec F S8192x2560 .f32 := (extf .f32 · bitsLt_bf16_f32) main_arg0
  let main_v1 : FVec F S8192x2560 .f32 := Host.absf main_v0
  let main_cst : FVec F S_ .f32 := constant S_ .f32 0x7F800000#32
  let main_v2 : FVec F S8192x2560 .f32 := broadcastInDim S8192x2560 ![] bcast_S_S8192x2560 main_cst
  let main_v3 : IVec S8192x2560 1 := cmpf .olt main_v1 main_v2
  let main_v4 : FVec F S1024x2560 .f32 := (extf .f32 · bitsLt_bf16_f32) main_arg1
  let main_v5 : FVec F S1024x2560 .f32 := Host.absf main_v4
  let main_cst_0 : FVec F S_ .f32 := constant S_ .f32 0x7F800000#32
  let main_v6 : FVec F S1024x2560 .f32 := broadcastInDim S1024x2560 ![] bcast_S_S1024x2560 main_cst_0
  let main_v7 : IVec S1024x2560 1 := cmpf .olt main_v5 main_v6
  let main_v8 : FVec F S8192x1024 .f32 := Host.absf main_arg2
  let main_cst_1 : FVec F S_ .f32 := constant S_ .f32 0x7F800000#32
  let main_v9 : FVec F S8192x1024 .f32 := broadcastInDim S8192x1024 ![] bcast_S_S8192x1024 main_cst_1
  let main_v10 : IVec S8192x1024 1 := cmpf .olt main_v8 main_v9
  let main_v11 : FVec F S1x1024 .f32 := Host.absf main_arg4
  let main_cst_2 : FVec F S_ .f32 := constant S_ .f32 0x7F800000#32
  let main_v12 : FVec F S1x1024 .f32 := broadcastInDim S1x1024 ![] bcast_S_S1x1024 main_cst_2
  let main_v13 : IVec S1x1024 1 := cmpf .olt main_v11 main_v12
  (main_v3, main_v7, main_v10, main_v13)
-- ==== Kernel.lean ====
abbrev S8192x1024 : Shape := ⟨2, ![8192, 1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S8192x5632 : Shape := ⟨2, ![8192, 5632]⟩
abbrev S_ : Shape := ⟨0, ![]⟩
abbrev S2x5632 : Shape := ⟨2, ![2, 5632]⟩
abbrev S8194x5632 : Shape := ⟨2, ![8194, 5632]⟩
abbrev S1x5632 : Shape := ⟨2, ![1, 5632]⟩
abbrev S8192x2816 : Shape := ⟨2, ![8192, 2816]⟩
abbrev S1x8192x2816 : Shape := ⟨3, ![1, 8192, 2816]⟩
abbrev S2x8192x2816 : Shape := ⟨3, ![2, 8192, 2816]⟩
abbrev S1024x4x1408 : Shape := ⟨3, ![1024, 4, 1408]⟩
abbrev S4x1024x1408 : Shape := ⟨3, ![4, 1024, 1408]⟩
abbrev S2x1024x256 : Shape := ⟨3, ![2, 1024, 256]⟩
abbrev S2x1024x128 : Shape := ⟨3, ![2, 1024, 128]⟩
abbrev S2x1024x2816 : Shape := ⟨3, ![2, 1024, 2816]⟩
abbrev S3x4x1408 : Shape := ⟨3, ![3, 4, 1408]⟩
abbrev S4x3x1408 : Shape := ⟨3, ![4, 3, 1408]⟩
abbrev S4x16x1408 : Shape := ⟨3, ![4, 16, 1408]⟩
abbrev S2x16x1408 : Shape := ⟨3, ![2, 16, 1408]⟩
abbrev S256x1024 : Shape := ⟨2, ![256, 1024]⟩
abbrev S2x256x2816 : Shape := ⟨3, ![2, 256, 2816]⟩
abbrev S8x2816 : Shape := ⟨2, ![8, 2816]⟩
abbrev S256x256 : Shape := ⟨2, ![256, 256]⟩
abbrev S1x256x256 : Shape := ⟨3, ![1, 256, 256]⟩
abbrev S8x256 : Shape := ⟨2, ![8, 256]⟩
abbrev S264x256 : Shape := ⟨2, ![264, 256]⟩
abbrev S1x1x256 : Shape := ⟨3, ![1, 1, 256]⟩
abbrev S1x256 : Shape := ⟨2, ![1, 256]⟩
abbrev S256 : Shape := ⟨1, ![256]⟩
abbrev S256x512 : Shape := ⟨2, ![256, 512]⟩
abbrev S1x1024x512 : Shape := ⟨3, ![1, 1024, 512]⟩
abbrev S1024x512 : Shape := ⟨2, ![1024, 512]⟩
abbrev S128x1024 : Shape := ⟨2, ![128, 1024]⟩
abbrev S256x128 : Shape := ⟨2, ![256, 128]⟩
abbrev S1x256x128 : Shape := ⟨3, ![1, 256, 128]⟩
abbrev S8x128 : Shape := ⟨2, ![8, 128]⟩
abbrev S264x128 : Shape := ⟨2, ![264, 128]⟩
abbrev S1x1x128 : Shape := ⟨3, ![1, 1, 128]⟩
abbrev S1x128 : Shape := ⟨2, ![1, 128]⟩
abbrev S128 : Shape := ⟨1, ![128]⟩
abbrev S1x1024x256 : Shape := ⟨3, ![1, 1024, 256]⟩
abbrev S1024x256 : Shape := ⟨2, ![1024, 256]⟩

abbrev nBuf : Space → Nat
  | .hbm => 72
  | .vmem => 17
  | .smem => 0
  | _ => 0

abbrev bufTy : (tb : Table) → Fin (tcTables nBuf tb) → BufTy
  | .hbm, ⟨0, _⟩ => ⟨S8192x1024, .bf16⟩
  | .hbm, ⟨1, _⟩ => ⟨S1024x5632, .f32⟩
  | .hbm, ⟨2, _⟩ => ⟨S3x5632, .f32⟩
  | .hbm, ⟨3, _⟩ => ⟨S5632, .f32⟩
  | .hbm, ⟨4, _⟩ => ⟨S2816x1024, .f32⟩
  | .hbm, ⟨5, _⟩ => ⟨S8192x1024, .bf16⟩
  | .hbm, ⟨6, _⟩ => ⟨S8192x1024, .f32⟩
  | .hbm, ⟨7, _⟩ => ⟨S8192x5632, .f32⟩
  | .hbm, ⟨8, _⟩ => ⟨S_, .f32⟩
  | .hbm, ⟨9, _⟩ => ⟨S2x5632, .f32⟩
  | .hbm, ⟨10, _⟩ => ⟨S8194x5632, .f32⟩
  | .hbm, ⟨11, _⟩ => ⟨S1x5632, .f32⟩
  | .hbm, ⟨12, _⟩ => ⟨S5632, .f32⟩
  | .hbm, ⟨13, _⟩ => ⟨S8192x5632, .f32⟩
  | .hbm, ⟨14, _⟩ => ⟨S1x5632, .f32⟩
  | .hbm, ⟨15, _⟩ => ⟨S8192x5632, .f32⟩
  | .hbm, ⟨16, _⟩ => ⟨S8192x5632, .f32⟩
  | .hbm, ⟨17, _⟩ => ⟨S1x5632, .f32⟩
  | .hbm, ⟨18, _⟩ => ⟨S5632, .f32⟩
  | .hbm, ⟨19, _⟩ => ⟨S8192x5632, .f32⟩
  | .hbm, ⟨20, _⟩ => ⟨S1x5632, .f32⟩
  | .hbm, ⟨21, _⟩ => ⟨S8192x5632, .f32⟩
  | .hbm, ⟨22, _⟩ => ⟨S8192x5632, .f32⟩
  | .hbm, ⟨23, _⟩ => ⟨S8192x5632, .f32⟩
  | .hbm, ⟨24, _⟩ => ⟨S1x5632, .f32⟩
  | .hbm, ⟨25, _⟩ => ⟨S5632, .f32⟩
  | .hbm, ⟨26, _⟩ => ⟨S8192x5632, .f32⟩
  | .hbm, ⟨27, _⟩ => ⟨S1x5632, .f32⟩
  | .hbm, ⟨28, _⟩ => ⟨S8192x5632, .f32⟩
  | .hbm, ⟨29, _⟩ => ⟨S8192x5632, .f32⟩
  | .hbm, ⟨30, _⟩ => ⟨S8192x5632, .f32⟩
  | .hbm, ⟨31, _⟩ => ⟨S1x5632, .f32⟩
  | .hbm, ⟨32, _⟩ => ⟨S8192x5632, .f32⟩
  | .hbm, ⟨33, _⟩ => ⟨S8192x5632, .f32⟩
  | .hbm, ⟨34, _⟩ => ⟨S8192x2816, .f32⟩
  | .hbm, ⟨35, _⟩ => ⟨S8192x2816, .f32⟩
  | .hbm, ⟨36, _⟩ => ⟨S1x8192x2816, .f32⟩
  | .hbm, ⟨37, _⟩ => ⟨S1x8192x2816, .f32⟩
  | .hbm, ⟨38, _⟩ => ⟨S2x8192x2816, .f32⟩
  | .hbm, ⟨39, _⟩ => ⟨S2x8192x2816, .bf16⟩
  | .hbm, ⟨40, _⟩ => ⟨S8192x2816, .f32⟩
  | .hbm, ⟨41, _⟩ => ⟨S8192x2816, .f32⟩
  | .hbm, ⟨42, _⟩ => ⟨S1x8192x2816, .f32⟩
  | .hbm, ⟨43, _⟩ => ⟨S1x8192x2816, .f32⟩
  | .hbm, ⟨44, _⟩ => ⟨S2x8192x2816, .f32⟩
  | .hbm, ⟨45, _⟩ => ⟨S2x8192x2816, .bf16⟩
  | .hbm, ⟨46, _⟩ => ⟨S1024x4x1408, .f32⟩
  | .hbm, ⟨47, _⟩ => ⟨S4x1024x1408, .f32⟩
  | .hbm, ⟨48, _⟩ => ⟨S4x1024x1408, .bf16⟩
  | .hbm, ⟨49, _⟩ => ⟨S2x1024x256, .bf16⟩
  | .hbm, ⟨50, _⟩ => ⟨S2x1024x256, .bf16⟩
  | .hbm, ⟨51, _⟩ => ⟨S2x1024x256, .bf16⟩
  | .hbm, ⟨52, _⟩ => ⟨S2x1024x256, .bf16⟩
  | .hbm, ⟨53, _⟩ => ⟨S2x1024x256, .bf16⟩
  | .hbm, ⟨54, _⟩ => ⟨S2x1024x256, .bf16⟩
  | .hbm, ⟨55, _⟩ => ⟨S2x1024x256, .bf16⟩
  | .hbm, ⟨56, _⟩ => ⟨S2x1024x256, .bf16⟩
  | .hbm, ⟨57, _⟩ => ⟨S2x1024x256, .bf16⟩
  | .hbm, ⟨58, _⟩ => ⟨S2x1024x256, .bf16⟩
  | .hbm, ⟨59, _⟩ => ⟨S2x1024x128, .bf16⟩
  | .hbm, ⟨60, _⟩ => ⟨S2x1024x128, .bf16⟩
  | .hbm, ⟨61, _⟩ => ⟨S2x1024x2816, .bf16⟩
  | .hbm, ⟨62, _⟩ => ⟨S3x4x1408, .f32⟩
  | .hbm, ⟨63, _⟩ => ⟨S4x3x1408, .f32⟩
  | .hbm, ⟨64, _⟩ => ⟨S_, .i32⟩
  | .hbm, ⟨65, _⟩ => ⟨S_, .f32⟩
  | .hbm, ⟨66, _⟩ => ⟨S4x16x1408, .f32⟩
  | .hbm, ⟨67, _⟩ => ⟨S2816x1024, .bf16⟩
  | .hbm, ⟨68, _⟩ => ⟨S8192x1024, .bf16⟩
  | .hbm, ⟨69, _⟩ => ⟨S2x8192x2816, .bf16⟩
  | .hbm, ⟨70, _⟩ => ⟨S2x16x1408, .f32⟩
  | .hbm, ⟨71, _⟩ => ⟨S2x16x1408, .f32⟩
  | .local _ .vmem, ⟨0, _⟩ => ⟨S256x1024, .bf16⟩
  | .local _ .vmem, ⟨1, _⟩ => ⟨S256x1024, .bf16⟩
  | .local _ .vmem, ⟨2, _⟩ => ⟨S2x256x2816, .bf16⟩
  | .local _ .vmem, ⟨3, _⟩ => ⟨S2x256x2816, .bf16⟩
  | .local _ .vmem, ⟨4, _⟩ => ⟨S2x256x2816, .bf16⟩
  | .local _ .vmem, ⟨5, _⟩ => ⟨S2x256x2816, .bf16⟩
  | .local _ .vmem, ⟨6, _⟩ => ⟨S2816x1024, .bf16⟩
  | .local _ .vmem, ⟨7, _⟩ => ⟨S2x1024x2816, .bf16⟩
  | .local _ .vmem, ⟨8, _⟩ => ⟨S4x16x1408, .f32⟩
  | .local _ .vmem, ⟨9, _⟩ => ⟨S256x1024, .bf16⟩
  | .local _ .vmem, ⟨10, _⟩ => ⟨S256x1024, .bf16⟩
  | .local _ .vmem, ⟨11, _⟩ => ⟨S2x256x2816, .bf16⟩
  | .local _ .vmem, ⟨12, _⟩ => ⟨S2x256x2816, .bf16⟩
  | .local _ .vmem, ⟨13, _⟩ => ⟨S2x16x1408, .f32⟩
  | .local _ .vmem, ⟨14, _⟩ => ⟨S2x16x1408, .f32⟩
  | .local _ .vmem, ⟨15, _⟩ => ⟨S8x2816, .f32⟩
  | .local _ .vmem, ⟨16, _⟩ => ⟨S8x2816, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_c : Ref sig .tc := ⟨.hbm, 64, rfl⟩
abbrev main_call0_v0 : Ref sig .tc := ⟨.hbm, 65, rfl⟩
abbrev main_v57 : Ref sig .tc := ⟨.hbm, 66, rfl⟩
abbrev main_v58 : Ref sig .tc := ⟨.hbm, 67, rfl⟩
abbrev main_v59_0 : Ref sig .tc := ⟨.hbm, 68, rfl⟩
abbrev main_v59_1 : Ref sig .tc := ⟨.hbm, 69, rfl⟩
abbrev main_v59_2 : Ref sig .tc := ⟨.hbm, 70, rfl⟩
abbrev main_v59_3 : Ref sig .tc := ⟨.hbm, 71, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_scratch0 : Ref sig .tc := ⟨.vmem, 15, rfl⟩
abbrev cc0_scratch1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_1 (i : grid0.Coords) : Fin 3 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  let c0_i32_1 : BitVec 32 := 0#32
  ![c0_i32.toNat, v0.toNat, c0_i32_0.toNat]

def cc0_transform_2 (i : grid0.Coords) : Fin 3 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  let c0_i32_1 : BitVec 32 := 0#32
  ![c0_i32.toNat, v0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_7 (i : grid0.Coords) : Fin 3 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  let c0_i32_1 : BitVec 32 := 0#32
  ![c0_i32.toNat, v0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x256x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x256x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2x1024x2816 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x16x1408 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2x256x2816 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S2x16x1408 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2x16x1408 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== KernelIdeal.lean ====
variable {F : FTy → Type} [FloatOps F] [Named F]
def κ : String → Option EReal := fun
  | "ca" => some ((80338380498831 / 2251799813685248 : ℝ) : EReal)
  | "ca3" => some ((241015141496493 / 2251799813685248 : ℝ) : EReal)
  | _ => none
-- ==== Reference.lean ====
abbrev S8192x1024 : Shape := ⟨2, ![8192, 1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S8192x5632 : Shape := ⟨2, ![8192, 5632]⟩
abbrev S_ : Shape := ⟨0, ![]⟩
abbrev S2x5632 : Shape := ⟨2, ![2, 5632]⟩
abbrev S8194x5632 : Shape := ⟨2, ![8194, 5632]⟩
abbrev S1x5632 : Shape := ⟨2, ![1, 5632]⟩
abbrev S8192x2816 : Shape := ⟨2, ![8192, 2816]⟩
abbrev S1024x2816 : Shape := ⟨2, ![1024, 2816]⟩
abbrev S5632x1024 : Shape := ⟨2, ![5632, 1024]⟩
abbrev S12x5632 : Shape := ⟨2, ![12, 5632]⟩
abbrev S16x5632 : Shape := ⟨2, ![16, 5632]⟩
abbrev S16x2x2x1408 : Shape := ⟨4, ![16, 2, 2, 1408]⟩
abbrev S2x2x16x1408 : Shape := ⟨4, ![2, 2, 16, 1408]⟩
abbrev S1x8192x2816 : Shape := ⟨3, ![1, 8192, 2816]⟩
abbrev S2x8192x2816 : Shape := ⟨3, ![2, 8192, 2816]⟩
abbrev S1x2x16x1408 : Shape := ⟨4, ![1, 2, 16, 1408]⟩
abbrev S2x16x1408 : Shape := ⟨3, ![2, 16, 1408]⟩

abbrev nBuf : Space → Nat
  | .hbm => 160
  | .vmem => 0
  | .smem => 0
  | _ => 0

abbrev hbmTy0_0 (i : Nat) : BufTy := match i % 128 with
  | 0 => ⟨S8192x1024, .bf16⟩
  | 1 => ⟨S1024x5632, .f32⟩
  | 2 => ⟨S3x5632, .f32⟩
  | 3 => ⟨S5632, .f32⟩
  | 4 => ⟨S2816x1024, .f32⟩
  | 5 => ⟨S8192x1024, .bf16⟩
  | 6 => ⟨S8192x1024, .f32⟩
  | 7 => ⟨S8192x5632, .f32⟩
  | 8 => ⟨S_, .f32⟩
  | 9 => ⟨S2x5632, .f32⟩
  | 10 => ⟨S8194x5632, .f32⟩
  | 11 => ⟨S_, .f32⟩
  | 12 => ⟨S2x5632, .f32⟩
  | 13 => ⟨S1x5632, .f32⟩
  | 14 => ⟨S5632, .f32⟩
  | 15 => ⟨S8192x5632, .f32⟩
  | 16 => ⟨S1x5632, .f32⟩
  | 17 => ⟨S8192x5632, .f32⟩
  | 18 => ⟨S8192x5632, .f32⟩
  | 19 => ⟨S1x5632, .f32⟩
  | 20 => ⟨S5632, .f32⟩
  | 21 => ⟨S8192x5632, .f32⟩
  | 22 => ⟨S1x5632, .f32⟩
  | 23 => ⟨S8192x5632, .f32⟩
  | 24 => ⟨S8192x5632, .f32⟩
  | 25 => ⟨S8192x5632, .f32⟩
  | 26 => ⟨S1x5632, .f32⟩
  | 27 => ⟨S5632, .f32⟩
  | 28 => ⟨S8192x5632, .f32⟩
  | 29 => ⟨S1x5632, .f32⟩
  | 30 => ⟨S8192x5632, .f32⟩
  | 31 => ⟨S8192x5632, .f32⟩
  | 32 => ⟨S8192x5632, .f32⟩
  | 33 => ⟨S1x5632, .f32⟩
  | 34 => ⟨S8192x5632, .f32⟩
  | 35 => ⟨S8192x5632, .f32⟩
  | 36 => ⟨S8192x2816, .f32⟩
  | 37 => ⟨S8192x2816, .f32⟩
  | 38 => ⟨S8192x2816, .f32⟩
  | 39 => ⟨S8192x2816, .f32⟩
  | 40 => ⟨S8192x2816, .f32⟩
  | 41 => ⟨S_, .f32⟩
  | 42 => ⟨S8192x2816, .f32⟩
  | 43 => ⟨S8192x2816, .f32⟩
  | 44 => ⟨S_, .f32⟩
  | 45 => ⟨S8192x2816, .f32⟩
  | 46 => ⟨S8192x2816, .f32⟩
  | 47 => ⟨S8192x2816, .f32⟩
  | 48 => ⟨S_, .f32⟩
  | 49 => ⟨S8192x2816, .f32⟩
  | 50 => ⟨S8192x2816, .f32⟩
  | 51 => ⟨S8192x2816, .f32⟩
  | 52 => ⟨S_, .f32⟩
  | 53 => ⟨S8192x2816, .f32⟩
  | 54 => ⟨S8192x2816, .f32⟩
  | 55 => ⟨S_, .f32⟩
  | 56 => ⟨S8192x2816, .f32⟩
  | 57 => ⟨S8192x2816, .f32⟩
  | 58 => ⟨S8192x2816, .f32⟩
  | 59 => ⟨S_, .f32⟩
  | 60 => ⟨S8192x2816, .f32⟩
  | 61 => ⟨S8192x2816, .f32⟩
  | 62 => ⟨S_, .f32⟩
  | 63 => ⟨S8192x2816, .f32⟩
  | 64 => ⟨S8192x2816, .f32⟩
  | 65 => ⟨S8192x2816, .f32⟩
  | 66 => ⟨S8192x2816, .f32⟩
  | 67 => ⟨S8192x1024, .f32⟩
  | 68 => ⟨S8192x1024, .f32⟩
  | 69 => ⟨S1024x2816, .f32⟩
  | 70 => ⟨S2816x1024, .f32⟩
  | 71 => ⟨S8192x2816, .f32⟩
  | 72 => ⟨S8192x2816, .f32⟩
  | 73 => ⟨S8192x2816, .f32⟩
  | 74 => ⟨S8192x2816, .f32⟩
  | 75 => ⟨S8192x2816, .f32⟩
  | 76 => ⟨S_, .f32⟩
  | 77 => ⟨S8192x2816, .f32⟩
  | 78 => ⟨S8192x2816, .f32⟩
  | 79 => ⟨S8192x2816, .f32⟩
  | 80 => ⟨S_, .f32⟩
  | 81 => ⟨S8192x2816, .f32⟩
  | 82 => ⟨S8192x2816, .f32⟩
  | 83 => ⟨S8192x2816, .f32⟩
  | 84 => ⟨S_, .f32⟩
  | 85 => ⟨S8192x2816, .f32⟩
  | 86 => ⟨S8192x2816, .f32⟩
  | 87 => ⟨S8192x2816, .f32⟩
  | 88 => ⟨S8192x2816, .f32⟩
  | 89 => ⟨S8192x5632, .f32⟩
  | 90 => ⟨S_, .f32⟩
  | 91 => ⟨S5632, .f32⟩
  | 92 => ⟨S1x5632, .f32⟩
  | 93 => ⟨S_, .f32⟩
  | 94 => ⟨S5632, .f32⟩
  | 95 => ⟨S8192x5632, .f32⟩
  | 96 => ⟨S8192x5632, .f32⟩
  | 97 => ⟨S8192x5632, .f32⟩
  | 98 => ⟨S_, .f32⟩
  | 99 => ⟨S5632, .f32⟩
  | 100 => ⟨S1x5632, .f32⟩
  | 101 => ⟨S_, .f32⟩
  | 102 => ⟨S5632, .f32⟩
  | 103 => ⟨S_, .f32⟩
  | 104 => ⟨S8194x5632, .f32⟩
  | 105 => ⟨S1x5632, .f32⟩
  | 106 => ⟨S_, .f32⟩
  | 107 => ⟨S3x5632, .f32⟩
  | 108 => ⟨S8192x5632, .f32⟩
  | 109 => ⟨S8192x5632, .f32⟩
  | 110 => ⟨S8192x5632, .f32⟩
  | 111 => ⟨S_, .f32⟩
  | 112 => ⟨S5632, .f32⟩
  | 113 => ⟨S1x5632, .f32⟩
  | 114 => ⟨S_, .f32⟩
  | 115 => ⟨S5632, .f32⟩
  | 116 => ⟨S_, .f32⟩
  | 117 => ⟨S8194x5632, .f32⟩
  | 118 => ⟨S8194x5632, .f32⟩
  | 119 => ⟨S1x5632, .f32⟩
  | 120 => ⟨S_, .f32⟩
  | 121 => ⟨S3x5632, .f32⟩
  | 122 => ⟨S3x5632, .f32⟩
  | 123 => ⟨S8192x5632, .f32⟩
  | 124 => ⟨S8192x5632, .f32⟩
  | 125 => ⟨S8192x5632, .f32⟩
  | 126 => ⟨S_, .f32⟩
  | 127 => ⟨S5632, .f32⟩
  | _ => ⟨S8192x1024, .bf16⟩

abbrev hbmTy0_1 (i : Nat) : BufTy := match i % 128 with
  | 0 => ⟨S1x5632, .f32⟩
  | 1 => ⟨S_, .f32⟩
  | 2 => ⟨S5632, .f32⟩
  | 3 => ⟨S_, .f32⟩
  | 4 => ⟨S8194x5632, .f32⟩
  | 5 => ⟨S8194x5632, .f32⟩
  | 6 => ⟨S1x5632, .f32⟩
  | 7 => ⟨S_, .f32⟩
  | 8 => ⟨S3x5632, .f32⟩
  | 9 => ⟨S3x5632, .f32⟩
  | 10 => ⟨S2x5632, .f32⟩
  | 11 => ⟨S8192x5632, .f32⟩
  | 12 => ⟨S5632x1024, .f32⟩
  | 13 => ⟨S1024x5632, .f32⟩
  | 14 => ⟨S8192x1024, .f32⟩
  | 15 => ⟨S1x5632, .f32⟩
  | 16 => ⟨S_, .f32⟩
  | 17 => ⟨S12x5632, .f32⟩
  | 18 => ⟨S16x5632, .f32⟩
  | 19 => ⟨S16x2x2x1408, .f32⟩
  | 20 => ⟨S2x2x16x1408, .f32⟩
  | 21 => ⟨S8192x1024, .bf16⟩
  | 22 => ⟨S8192x2816, .f32⟩
  | 23 => ⟨S8192x2816, .f32⟩
  | 24 => ⟨S1x8192x2816, .f32⟩
  | 25 => ⟨S1x8192x2816, .f32⟩
  | 26 => ⟨S2x8192x2816, .f32⟩
  | 27 => ⟨S2x8192x2816, .bf16⟩
  | 28 => ⟨S1x2x16x1408, .f32⟩
  | 29 => ⟨S2x16x1408, .f32⟩
  | 30 => ⟨S1x2x16x1408, .f32⟩
  | 31 => ⟨S2x16x1408, .f32⟩
  | _ => ⟨S8192x1024, .bf16⟩

abbrev hbmTy (i : Nat) : BufTy := match i / 128 with
  | 0 => hbmTy0_0 i
  | 1 => hbmTy0_1 i
  | _ => ⟨S8192x1024, .bf16⟩

abbrev bufTy : (tb : Table) → Fin (tcTables nBuf tb) → BufTy
  | .hbm, ⟨i, _⟩ => hbmTy i
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_cst_1 : Ref sig .tc := ⟨.hbm, 41, rfl⟩
abbrev main_v33 : Ref sig .tc := ⟨.hbm, 42, rfl⟩
abbrev main_v34 : Ref sig .tc := ⟨.hbm, 43, rfl⟩
abbrev main_cst_2 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_cst_3 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_cst_4 : Ref sig .tc := ⟨.hbm, 52, rfl⟩
abbrev main_v41 : Ref sig .tc := ⟨.hbm, 53, rfl⟩
abbrev main_v42 : Ref sig .tc := ⟨.hbm, 54, rfl⟩
abbrev main_cst_5 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_cst_6 : Ref sig .tc := ⟨.hbm, 59, rfl⟩
abbrev main_v46 : Ref sig .tc := ⟨.hbm, 60, rfl⟩
abbrev main_v47 : Ref sig .tc := ⟨.hbm, 61, rfl⟩
abbrev main_cst_7 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_cst_8 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_cst_9 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_cst_10 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_cst_11 : Ref sig .tc := ⟨.hbm, 90, rfl⟩
abbrev main_v72 : Ref sig .tc := ⟨.hbm, 91, rfl⟩
abbrev main_v73 : Ref sig .tc := ⟨.hbm, 92, rfl⟩
abbrev main_cst_12 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_cst_13 : Ref sig .tc := ⟨.hbm, 98, rfl⟩
abbrev main_v78 : Ref sig .tc := ⟨.hbm, 99, rfl⟩
abbrev main_v79 : Ref sig .tc := ⟨.hbm, 100, rfl⟩
abbrev main_cst_14 : Ref sig .tc := ⟨.hbm, 101, rfl⟩
abbrev main_v80 : Ref sig .tc := ⟨.hbm, 102, rfl⟩
abbrev main_cst_15 : Ref sig .tc := ⟨.hbm, 103, rfl⟩
abbrev main_v81 : Ref sig .tc := ⟨.hbm, 104, rfl⟩
abbrev main_v82 : Ref sig .tc := ⟨.hbm, 105, rfl⟩
abbrev main_cst_16 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_cst_17 : Ref sig .tc := ⟨.hbm, 111, rfl⟩
abbrev main_v87 : Ref sig .tc := ⟨.hbm, 112, rfl⟩
abbrev main_v88 : Ref sig .tc := ⟨.hbm, 113, rfl⟩
abbrev main_cst_18 : Ref sig .tc := ⟨.hbm, 114, rfl⟩
abbrev main_v89 : Ref sig .tc := ⟨.hbm, 115, rfl⟩
abbrev main_cst_19 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_cst_20 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_cst_21 : Ref sig .tc := ⟨.hbm, 126, rfl⟩
abbrev main_v98 : Ref sig .tc := ⟨.hbm, 127, rfl⟩
abbrev main_v99 : Ref sig .tc := ⟨.hbm, 128, rfl⟩
abbrev main_cst_22 : Ref sig .tc := ⟨.hbm, 129, rfl⟩
abbrev main_v100 : Ref sig .tc := ⟨.hbm, 130, rfl⟩
abbrev main_cst_23 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_cst_24 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_cst_25 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_v115 : Ref sig .tc := ⟨.hbm, 148, rfl⟩
abbrev main_v116 : Ref sig .tc := ⟨.hbm, 149, rfl⟩
abbrev main_v117 : Ref sig .tc := ⟨.hbm, 150, rfl⟩
abbrev main_v118 : Ref sig .tc := ⟨.hbm, 151, rfl⟩
abbrev main_v119 : Ref sig .tc := ⟨.hbm, 152, rfl⟩
abbrev main_v120 : Ref sig .tc := ⟨.hbm, 153, rfl⟩
abbrev main_v121 : Ref sig .tc := ⟨.hbm, 154, rfl⟩
abbrev main_v122 : Ref sig .tc := ⟨.hbm, 155, rfl⟩
abbrev main_v123 : Ref sig .tc := ⟨.hbm, 156, rfl⟩
abbrev main_v124 : Ref sig .tc := ⟨.hbm, 157, rfl⟩
abbrev main_v125 : Ref sig .tc := ⟨.hbm, 158, rfl⟩
abbrev main_v126 : Ref sig .tc := ⟨.hbm, 159, rfl⟩

abbrev nD : Nat := 1
abbrev τ : Topo := Topo.v7x

variable {F : FTy → Type} [FloatOps F]
-- ==== Up.lean ====
abbrev S8192x1024 : Shape := ⟨2, ![8192, 1024]⟩
abbrev S2x8192x2816 : Shape := ⟨3, ![2, 8192, 2816]⟩
abbrev S4x1024x1408 : Shape := ⟨3, ![4, 1024, 1408]⟩
abbrev S2048x1024 : Shape := ⟨2, ![2048, 1024]⟩
abbrev S1x2048x1408 : Shape := ⟨3, ![1, 2048, 1408]⟩
abbrev S1x1024x1408 : Shape := ⟨3, ![1, 1024, 1408]⟩
abbrev S2048x1408 : Shape := ⟨2, ![2048, 1408]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S2x8192x2816, .bf16⟩
  | .hbm, ⟨2, _⟩ => ⟨S4x1024x1408, .f32⟩
  | .local _ .vmem, ⟨0, _⟩ => ⟨S2048x1024, .bf16⟩
  | .local _ .vmem, ⟨1, _⟩ => ⟨S2048x1024, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1x1024x1408, .f32⟩
  | .local _ .vmem, ⟨5, _⟩ => ⟨S1x1024x1408, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg1.toNat, v26.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== UpReferenceIdeal.lean ====
abbrev S8192x1024 : Shape := ⟨2, ![8192, 1024]⟩
abbrev S2x8192x2816 : Shape := ⟨3, ![2, 8192, 2816]⟩
abbrev S1x8192x2816 : Shape := ⟨3, ![1, 8192, 2816]⟩
abbrev S8192x2816 : Shape := ⟨2, ![8192, 2816]⟩
abbrev S8192x5632 : Shape := ⟨2, ![8192, 5632]⟩
abbrev S_ : Shape := ⟨0, ![]⟩
abbrev S1024x5632 : Shape := ⟨2, ![1024, 5632]⟩
abbrev S5632x1024 : Shape := ⟨2, ![5632, 1024]⟩
abbrev S1024x4x1408 : Shape := ⟨3, ![1024, 4, 1408]⟩
abbrev S4x1024x1408 : Shape := ⟨3, ![4, 1024, 1408]⟩

abbrev nBuf : Space → Nat
  | .hbm => 18
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S2x8192x2816, .bf16⟩
  | .hbm, ⟨2, _⟩ => ⟨S1x8192x2816, .bf16⟩
  | .hbm, ⟨3, _⟩ => ⟨S8192x2816, .bf16⟩
  | .hbm, ⟨4, _⟩ => ⟨S8192x2816, .f32⟩
  | .hbm, ⟨5, _⟩ => ⟨S1x8192x2816, .bf16⟩
  | .hbm, ⟨6, _⟩ => ⟨S8192x2816, .bf16⟩
  | .hbm, ⟨7, _⟩ => ⟨S8192x2816, .f32⟩
  | .hbm, ⟨8, _⟩ => ⟨S8192x5632, .f32⟩
  | .hbm, ⟨9, _⟩ => ⟨S_, .f32⟩
  | .hbm, ⟨10, _⟩ => ⟨S1024x5632, .f32⟩
  | .hbm, ⟨11, _⟩ => ⟨S8192x1024, .f32⟩
  | .hbm, ⟨12, _⟩ => ⟨S8192x5632, .f32⟩
  | .hbm, ⟨13, _⟩ => ⟨S5632x1024, .f32⟩
  | .hbm, ⟨14, _⟩ => ⟨S1024x5632, .f32⟩
  | .hbm, ⟨15, _⟩ => ⟨S8192x1024, .f32⟩
  | .hbm, ⟨16, _⟩ => ⟨S1024x4x1408, .f32⟩
  | .hbm, ⟨17, _⟩ => ⟨S4x1024x1408, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩

abbrev nD : Nat := 1
abbrev τ : Topo := Topo.v7x

variable {F : FTy → Type} [FloatOps F]
-- ==== Down.lean ====
abbrev S8192x2816 : Shape := ⟨2, ![8192, 2816]⟩
abbrev S8192x1024 : Shape := ⟨2, ![8192, 1024]⟩
abbrev S2816x1024 : Shape := ⟨2, ![2816, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S2816x1024, .f32⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .f32⟩
  | .local _ .vmem, ⟨5, _⟩ => ⟨S1408x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== DownReferenceIdeal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 10
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S_, .f32⟩
  | .hbm, ⟨3, _⟩ => ⟨S2816x1024, .f32⟩
  | .hbm, ⟨4, _⟩ => ⟨S8192x2816, .f32⟩
  | .hbm, ⟨5, _⟩ => ⟨S8192x1024, .f32⟩
  | .hbm, ⟨6, _⟩ => ⟨S8192x1024, .f32⟩
  | .hbm, ⟨7, _⟩ => ⟨S1024x2816, .f32⟩
  | .hbm, ⟨8, _⟩ => ⟨S2816x1024, .f32⟩
  | .hbm, ⟨9, _⟩ => ⟨S8192x2816, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== In.lean ====
abbrev S8192x1024 : Shape := ⟨2, ![8192, 1024]⟩
abbrev S8192x2560 : Shape := ⟨2, ![8192, 2560]⟩
abbrev S4x1024x640 : Shape := ⟨3, ![4, 1024, 640]⟩
abbrev S2048x1024 : Shape := ⟨2, ![2048, 1024]⟩
abbrev S2048x640 : Shape := ⟨2, ![2048, 640]⟩
abbrev S1x1024x640 : Shape := ⟨3, ![1, 1024, 640]⟩
abbrev S1024x640 : Shape := ⟨2, ![1024, 640]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x2560, .bf16⟩
  | .hbm, ⟨2, _⟩ => ⟨S4x1024x640, .f32⟩
  | .local _ .vmem, ⟨0, _⟩ => ⟨S2048x1024, .bf16⟩
  | .local _ .vmem, ⟨1, _⟩ => ⟨S2048x1024, .bf16⟩
  | .local _ .vmem, ⟨2, _⟩ => ⟨S2048x640, .bf16⟩
  | .local _ .vmem, ⟨3, _⟩ => ⟨S2048x640, .bf16⟩
  | .local _ .vmem, ⟨4, _⟩ => ⟨S1x1024x640, .f32⟩
  | .local _ .vmem, ⟨5, _⟩ => ⟨S1x1024x640, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== InReferenceIdeal.lean ====
abbrev S8192x1024 : Shape := ⟨2, ![8192, 1024]⟩
abbrev S8192x2560 : Shape := ⟨2, ![8192, 2560]⟩
abbrev S_ : Shape := ⟨0, ![]⟩
abbrev S1024x2560 : Shape := ⟨2, ![1024, 2560]⟩
abbrev S2560x1024 : Shape := ⟨2, ![2560, 1024]⟩
abbrev S1024x4x640 : Shape := ⟨3, ![1024, 4, 640]⟩
abbrev S4x1024x640 : Shape := ⟨3, ![4, 1024, 640]⟩

abbrev nBuf : Space → Nat
  | .hbm => 12
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x2560, .bf16⟩
  | .hbm, ⟨2, _⟩ => ⟨S_, .f32⟩
  | .hbm, ⟨3, _⟩ => ⟨S1024x2560, .f32⟩
  | .hbm, ⟨4, _⟩ => ⟨S8192x1024, .f32⟩
  | .hbm, ⟨5, _⟩ => ⟨S8192x2560, .f32⟩
  | .hbm, ⟨6, _⟩ => ⟨S8192x2560, .f32⟩
  | .hbm, ⟨7, _⟩ => ⟨S2560x1024, .f32⟩
  | .hbm, ⟨8, _⟩ => ⟨S1024x2560, .f32⟩
  | .hbm, ⟨9, _⟩ => ⟨S8192x1024, .f32⟩
  | .hbm, ⟨10, _⟩ => ⟨S1024x4x640, .f32⟩
  | .hbm, ⟨11, _⟩ => ⟨S4x1024x640, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Out.lean ====
abbrev S8192x512 : Shape := ⟨2, ![8192, 512]⟩
abbrev S8192x1024 : Shape := ⟨2, ![8192, 1024]⟩
abbrev S1024x1024 : Shape := ⟨2, ![1024, 1024]⟩
abbrev S2048x512 : Shape := ⟨2, ![2048, 512]⟩
abbrev S2048x1024 : Shape := ⟨2, ![2048, 1024]⟩
abbrev S512x1024 : Shape := ⟨2, ![512, 1024]⟩

abbrev nBuf : Space → Nat
  | .hbm => 4
  | .vmem => 8
  | .smem => 0
  | _ => 0

abbrev bufTy : (tb : Table) → Fin (tcTables nBuf tb) → BufTy
  | .hbm, ⟨0, _⟩ => ⟨S8192x512, .bf16⟩
  | .hbm, ⟨1, _⟩ => ⟨S8192x512, .bf16⟩
  | .hbm, ⟨2, _⟩ => ⟨S8192x1024, .bf16⟩
  | .hbm, ⟨3, _⟩ => ⟨S1024x1024, .f32⟩
  | .local _ .vmem, ⟨0, _⟩ => ⟨S2048x512, .bf16⟩
  | .local _ .vmem, ⟨1, _⟩ => ⟨S2048x512, .bf16⟩
  | .local _ .vmem, ⟨2, _⟩ => ⟨S2048x512, .bf16⟩
  | .local _ .vmem, ⟨3, _⟩ => ⟨S2048x512, .bf16⟩
  | .local _ .vmem, ⟨4, _⟩ => ⟨S2048x1024, .bf16⟩
  | .local _ .vmem, ⟨5, _⟩ => ⟨S2048x1024, .bf16⟩
  | .local _ .vmem, ⟨6, _⟩ => ⟨S512x1024, .f32⟩
  | .local _ .vmem, ⟨7, _⟩ => ⟨S512x1024, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 4], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c0_i32_2 : BitVec 32 := 0#32
  let v4 : BitVec 1 := Scalar.cmpi .eq arg0 c0_i32_2
  let v5 : BitVec 32 := Scalar.extui v4
  let c0_i32_3 : BitVec 32 := 0#32
  let v6 : BitVec 1 := Scalar.cmpi .ne v5 c0_i32_3
  v6

def k0_cond3 (i : grid0.Coords) : BitVec 1 :=
  let arg0 : BitVec 32 := BitVec.ofNat 32 (i 0).val
  let c1_i32 : BitVec 32 := 1#32
  let v7 : BitVec 1 := Scalar.cmpi .eq arg0 c1_i32
  let v8 : BitVec 32 := Scalar.extui v7
  let c0_i32_4 : BitVec 32 := 0#32
  let v9 : BitVec 1 := Scalar.cmpi .ne v8 c0_i32_4
  v9

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== OutReferenceIdeal.lean ====
abbrev S8192x512 : Shape := ⟨2, ![8192, 512]⟩
abbrev S8192x1024 : Shape := ⟨2, ![8192, 1024]⟩
abbrev S_ : Shape := ⟨0, ![]⟩
abbrev S1024x1024 : Shape := ⟨2, ![1024, 1024]⟩

abbrev nBuf : Space → Nat
  | .hbm => 13
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S8192x512, .bf16⟩
  | .hbm, ⟨2, _⟩ => ⟨S8192x1024, .bf16⟩
  | .hbm, ⟨3, _⟩ => ⟨S8192x512, .f32⟩
  | .hbm, ⟨4, _⟩ => ⟨S8192x512, .f32⟩
  | .hbm, ⟨5, _⟩ => ⟨S8192x1024, .f32⟩
  | .hbm, ⟨6, _⟩ => ⟨S_, .f32⟩
  | .hbm, ⟨7, _⟩ => ⟨S1024x1024, .f32⟩
  | .hbm, ⟨8, _⟩ => ⟨S8192x1024, .f32⟩
  | .hbm, ⟨9, _⟩ => ⟨S8192x1024, .f32⟩
  | .hbm, ⟨10, _⟩ => ⟨S1024x1024, .f32⟩
  | .hbm, ⟨11, _⟩ => ⟨S1024x1024, .f32⟩
  | .hbm, ⟨12, _⟩ => ⟨S8192x1024, .f32⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== FwdIn.lean ====
abbrev S8192x1024 : Shape := ⟨2, ![8192, 1024]⟩
abbrev S1x1024 : Shape := ⟨2, ![1, 1024]⟩
abbrev S1024x2560 : Shape := ⟨2, ![1024, 2560]⟩
abbrev S8192x1536 : Shape := ⟨2, ![8192, 1536]⟩
abbrev S1024x1024 : Shape := ⟨2, ![1024, 1024]⟩
abbrev S1024x1536 : Shape := ⟨2, ![1024, 1536]⟩
abbrev S1024 : Shape := ⟨1, ![1024]⟩
abbrev S1024x1 : Shape := ⟨2, ![1024, 1]⟩

abbrev nBuf : Space → Nat
  | .hbm => 6
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x2560, .bf16⟩
  | .hbm, ⟨3, _⟩ => ⟨S8192x1024, .bf16⟩
  | .hbm, ⟨4, _⟩ => ⟨S8192x1024, .f32⟩
  | .hbm, ⟨5, _⟩ => ⟨S8192x1536, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x2560, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | .local _ .vmem, ⟨7, _⟩ => ⟨S1024x1024, .f32⟩
  | .local _ .vmem, ⟨8, _⟩ => ⟨S1024x1536, .bf16⟩
  | .local _ .vmem, ⟨9, _⟩ => ⟨S1024x1536, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2560 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1536 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== FwdInReferenceIdeal.lean ====
abbrev S8192x1024 : Shape := ⟨2, ![8192, 1024]⟩
abbrev S1x1024 : Shape := ⟨2, ![1, 1024]⟩
abbrev S1024x2560 : Shape := ⟨2, ![1024, 2560]⟩
abbrev S1024 : Shape := ⟨1, ![1024]⟩
abbrev S_ : Shape := ⟨0, ![]⟩
abbrev S8192 : Shape := ⟨1, ![8192]⟩
abbrev S8192x1 : Shape := ⟨2, ![8192, 1]⟩
abbrev S8192x2560 : Shape := ⟨2, ![8192, 2560]⟩
abbrev S8192x1536 : Shape := ⟨2, ![8192, 1536]⟩

abbrev nBuf : Space → Nat
  | .hbm => 26
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x2560, .bf16⟩
  | .hbm, ⟨3, _⟩ => ⟨S1024, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1024, .f32⟩
  | .hbm, ⟨16, _⟩ => ⟨S8192x1024, .f32⟩
  | .hbm, ⟨17, _⟩ => ⟨S1x1024, .f32⟩
  | .hbm, ⟨18, _⟩ => ⟨S8192x1024, .f32⟩
  | .hbm, ⟨19, _⟩ => ⟨S8192x1024, .f32⟩
  | .hbm, ⟨20, _⟩ => ⟨S1024x2560, .f32⟩
  | .hbm, ⟨21, _⟩ => ⟨S8192x2560, .f32⟩
  | .hbm, ⟨22, _⟩ => ⟨S8192x1024, .bf16⟩
  | .hbm, ⟨23, _⟩ => ⟨S8192x1024, .f32⟩
  | .hbm, ⟨24, _⟩ => ⟨S8192x1536, .f32⟩
  | .hbm, ⟨25, _⟩ => ⟨S8192x1536, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩

abbrev nD : Nat := 1
abbrev τ : Topo := Topo.v7x

variable {F : FTy → Type} [FloatOps F]
-- ==== FwdOut.lean ====
abbrev S8192x512 : Shape := ⟨2, ![8192, 512]⟩
abbrev S1024x1024 : Shape := ⟨2, ![1024, 1024]⟩
abbrev S8192x1024 : Shape := ⟨2, ![8192, 1024]⟩
abbrev S1x1024 : Shape := ⟨2, ![1, 1024]⟩
abbrev S1024x512 : Shape := ⟨2, ![1024, 512]⟩
abbrev S512x1024 : Shape := ⟨2, ![512, 1024]⟩
abbrev S1024 : Shape := ⟨1, ![1024]⟩
abbrev S1024x1 : Shape := ⟨2, ![1024, 1]⟩

abbrev nBuf : Space → Nat
  | .hbm => 9
  | .vmem => 15
  | .smem => 0
  | _ => 0

abbrev bufTy : (tb : Table) → Fin (tcTables nBuf tb) → BufTy
  | .hbm, ⟨0, _⟩ => ⟨S8192x512, .bf16⟩
  | .hbm, ⟨1, _⟩ => ⟨S8192x512, .bf16⟩
  | .hbm, ⟨2, _⟩ => ⟨S1024x1024, .bf16⟩
  | .hbm, ⟨3, _⟩ => ⟨S8192x1024, .f32⟩
  | .hbm, ⟨4, _⟩ => ⟨S1x1024, .f32⟩
  | .hbm, ⟨5, _⟩ => ⟨S1x1024, .f32⟩
  | .hbm, ⟨6, _⟩ => ⟨S8192x1024, .bf16⟩
  | .hbm, ⟨7, _⟩ => ⟨S8192x1024, .f32⟩
  | .hbm, ⟨8, _⟩ => ⟨S8192x1024, .bf16⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1024x1024, .bf16⟩
  | .local _ .vmem, ⟨5, _⟩ => ⟨S1024x1024, .f32⟩
  | .local _ .vmem, ⟨6, _⟩ => ⟨S1024x1024, .f32⟩
  | .local _ .vmem, ⟨7, _⟩ => ⟨S1x1024, .f32⟩
  | .local _ .vmem, ⟨8, _⟩ => ⟨S1x1024, .f32⟩
  | .local _ .vmem, ⟨9, _⟩ => ⟨S1024x1024, .bf16⟩
  | .local _ .vmem, ⟨10, _⟩ => ⟨S1024x1024, .bf16⟩
  | .local _ .vmem, ⟨11, _⟩ => ⟨S1024x1024, .f32⟩
  | .local _ .vmem, ⟨12, _⟩ => ⟨S1024x1024, .f32⟩
  | .local _ .vmem, ⟨13, _⟩ => ⟨S1024x1024, .bf16⟩
  | .local _ .vmem, ⟨14, _⟩ => ⟨S1024x1024, .bf16⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== FwdOutReferenceIdeal.lean ====
abbrev S8192x512 : Shape := ⟨2, ![8192, 512]⟩
abbrev S1024x1024 : Shape := ⟨2, ![1024, 1024]⟩
abbrev S8192x1024 : Shape := ⟨2, ![8192, 1024]⟩
abbrev S1x1024 : Shape := ⟨2, ![1, 1024]⟩
abbrev S1024 : Shape := ⟨1, ![1024]⟩
abbrev S_ : Shape := ⟨0, ![]⟩
abbrev S8192 : Shape := ⟨1, ![8192]⟩
abbrev S8192x1 : Shape := ⟨2, ![8192, 1]⟩

abbrev nBuf : Space → Nat
  | .hbm => 48
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S8192x512, .bf16⟩
  | .hbm, ⟨2, _⟩ => ⟨S1024x1024, .bf16⟩
  | .hbm, ⟨3, _⟩ => ⟨S8192x1024, .f32⟩
  | .hbm, ⟨4, _⟩ => ⟨S1x1024, .f32⟩
  | .hbm, ⟨5, _⟩ => ⟨S1x1024, .f32⟩
  | .hbm, ⟨6, _⟩ => ⟨S8192x512, .f32⟩
  | .hbm, ⟨7, _⟩ => ⟨S8192x512, .f32⟩
  | .hbm, ⟨8, _⟩ => ⟨S8192x1024, .f32⟩
  | .hbm, ⟨9, _⟩ => ⟨S1024x1024, .f32⟩
  | .hbm, ⟨10, _⟩ => ⟨S8192x1024, .f32⟩
  | .hbm, ⟨11, _⟩ => ⟨S1024, .f32⟩
  | .hbm, ⟨12, _⟩ => ⟨S8192x1024, .f32⟩
  | .hbm, ⟨13, _⟩ => ⟨S_, .f32⟩
  | .hbm, ⟨14, _⟩ => ⟨S8192, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1, .f32⟩
  | .hbm, ⟨23, _⟩ => ⟨S8192x1024, .f32⟩
  | .hbm, ⟨24, _⟩ => ⟨S8192x1024, .f32⟩
  | .hbm, ⟨25, _⟩ => ⟨S1x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1024, .bf16⟩
  | .hbm, ⟨30, _⟩ => ⟨S1024, .f32⟩
  | .hbm, ⟨31, _⟩ => ⟨S8192x1024, .f32⟩
  | .hbm, ⟨32, _⟩ => ⟨S_, .f32⟩
  | .hbm, ⟨33, _⟩ => ⟨S8192, .f32⟩
  | .hbm, ⟨34, _⟩ => ⟨S8192x1, .f32⟩
  | .hbm, ⟨35, _⟩ => ⟨S_, .f32⟩
  | .hbm, ⟨36, _⟩ => ⟨S8192x1, .f32⟩
  | .hbm, ⟨37, _⟩ => ⟨S8192x1, .f32⟩
  | .hbm, ⟨38, _⟩ => ⟨S_, .f32⟩
  | .hbm, ⟨39, _⟩ => ⟨S8192x1, .f32⟩
  | .hbm, ⟨40, _⟩ => ⟨S8192x1, .f32⟩
  | .hbm, ⟨41, _⟩ => ⟨S8192x1, .f32⟩
  | .hbm, ⟨42, _⟩ => ⟨S8192x1024, .f32⟩
  | .hbm, ⟨43, _⟩ => ⟨S8192x1024, .f32⟩
  | .hbm, ⟨44, _⟩ => ⟨S1x1024, .f32⟩
  | .hbm, ⟨45, _⟩ => ⟨S8192x1024, .f32⟩
  | .hbm, ⟨46, _⟩ => ⟨S8192x1024, .f32⟩
  | .hbm, ⟨47, _⟩ => ⟨S8192x1024, .bf16⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_2 : Ref sig .tc := ⟨.hbm, 32, rfl⟩
abbrev main_v23 : Ref sig .tc := ⟨.hbm, 33, rfl⟩
abbrev main_v24 : Ref sig .tc := ⟨.hbm, 34, rfl⟩
abbrev main_cst_3 : Ref sig .tc := ⟨.hbm, 35, rfl⟩
abbrev main_v25 : Ref sig .tc := ⟨.hbm, 36, rfl⟩
abbrev main_v26 : Ref sig .tc := ⟨.hbm, 37, rfl⟩
abbrev main_cst_4 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩

abbrev nD : Nat := 1
abbrev τ : Topo := Topo.v7x

variable {F : FTy → Type} [FloatOps F]
-- ==== BwdIn.lean ====
abbrev S8192x2560 : Shape := ⟨2, ![8192, 2560]⟩
abbrev S1024x2560 : Shape := ⟨2, ![1024, 2560]⟩
abbrev S8192x1024 : Shape := ⟨2, ![8192, 1024]⟩
abbrev S1x1024 : Shape := ⟨2, ![1, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 7
  | .vmem => 11
  | .smem => 0
  | _ => 0

abbrev bufTy : (tb : Table) → Fin (tcTables nBuf tb) → BufTy
  | .hbm, ⟨0, _⟩ => ⟨S8192x2560, .bf16⟩
  | .hbm, ⟨1, _⟩ => ⟨S1024x2560, .bf16⟩
  | .hbm, ⟨2, _⟩ => ⟨S8192x1024, .f32⟩
  | .hbm, ⟨3, _⟩ => ⟨S8192x1024, .f32⟩
  | .hbm, ⟨4, _⟩ => ⟨S1x1024, .f32⟩
  | .hbm, ⟨5, _⟩ => ⟨S8192x1024, .f32⟩
  | .hbm, ⟨6, _⟩ => ⟨S1x1024, .f32⟩
  | .local _ .vmem, ⟨0, _⟩ => ⟨S1024x2560, .bf16⟩
  | .local _ .vmem, ⟨1, _⟩ => ⟨S1024x2560, .bf16⟩
  | .local _ .vmem, ⟨2, _⟩ => ⟨S1024x2560, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1x1024, .f32⟩
  | .local _ .vmem, ⟨8, _⟩ => ⟨S1024x1024, .f32⟩
  | .local _ .vmem, ⟨9, _⟩ => ⟨S1024x1024, .f32⟩
  | .local _ .vmem, ⟨10, _⟩ => ⟨S1x1024, .f32⟩
  | _, _ => ⟨S8192x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v35 : BitVec 1 := Scalar.cmpi .eq arg0 c0_i32
  let v36 : BitVec 32 := Scalar.extui v35
  let c0_i32_17 : BitVec 32 := 0#32
  let v37 : BitVec 1 := Scalar.cmpi .ne v36 c0_i32_17
  v37

def k0_cond2 (i : grid0.Coords) : BitVec 1 :=
  let arg0 : BitVec 32 := BitVec.ofNat 32 (i 0).val
  let c0_i32_18 : BitVec 32 := 0#32
  let v38 : BitVec 1 := Scalar.cmpi .sgt arg0 c0_i32_18
  let v39 : BitVec 32 := Scalar.extui v38
  let c0_i32_19 : BitVec 32 := 0#32
  let v40 : BitVec 1 := Scalar.cmpi .ne v39 c0_i32_19
  v40

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x2560 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2560 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== BwdInReferenceIdeal.lean ====
abbrev S8192x2560 : Shape := ⟨2, ![8192, 2560]⟩
abbrev S1024x2560 : Shape := ⟨2, ![1024, 2560]⟩
abbrev S8192x1024 : Shape := ⟨2, ![8192, 1024]⟩
abbrev S1x1024 : Shape := ⟨2, ![1, 1024]⟩
abbrev S1024 : Shape := ⟨1, ![1024]⟩
abbrev S_ : Shape := ⟨0, ![]⟩
abbrev S8192 : Shape := ⟨1, ![8192]⟩
abbrev S8192x1 : Shape := ⟨2, ![8192, 1]⟩

abbrev nBuf : Space → Nat
  | .hbm => 57
  | .vmem => 0
  | .smem => 0
  | _ => 0

abbrev bufTy : (tb : Table) → Fin (tcTables nBuf tb) → BufTy
  | .hbm, ⟨0, _⟩ => ⟨S8192x2560, .bf16⟩
  | .hbm, ⟨1, _⟩ => ⟨S1024x2560, .bf16⟩
  | .hbm, ⟨2, _⟩ => ⟨S8192x1024, .f32⟩
  | .hbm, ⟨3, _⟩ => ⟨S8192x1024, .f32⟩
  | .hbm, ⟨4, _⟩ => ⟨S1x1024, .f32⟩
  | .hbm, ⟨5, _⟩ => ⟨S1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1024, .f32⟩
  | .hbm, ⟨22, _⟩ => ⟨S8192x1024, .f32⟩
  | .hbm, ⟨23, _⟩ => ⟨S1x1024, .f32⟩
  | .hbm, ⟨24, _⟩ => ⟨S8192x1024, .f32⟩
  | .hbm, ⟨25, _⟩ => ⟨S8192x1024, .f32⟩
  | .hbm, ⟨26, _⟩ => ⟨S1024x2560, .f32⟩
  | .hbm, ⟨27, _⟩ => ⟨S8192x2560, .f32⟩
  | .hbm, ⟨28, _⟩ => ⟨S8192x2560, .f32⟩
  | .hbm, ⟨29, _⟩ => ⟨S8192x1024, .f32⟩
  | .hbm, ⟨30, _⟩ => ⟨S8192x1024, .f32⟩
  | .hbm, ⟨31, _⟩ => ⟨S_, .f32⟩
  | .hbm, ⟨32, _⟩ => ⟨S1024, .f32⟩
  | .hbm, ⟨33, _⟩ => ⟨S1x1024, .f32⟩
  | .hbm, ⟨34, _⟩ => ⟨S8192x1024, .f32⟩
  | .hbm, ⟨35, _⟩ => ⟨S8192x1024, .f32⟩
  | .hbm, ⟨36, _⟩ => ⟨S_, .f32⟩
  | .hbm, ⟨37, _⟩ => ⟨S1024, .f32⟩
  | .hbm, ⟨38, _⟩ => ⟨S8192x1024, .f32⟩
  | .hbm, ⟨39, _⟩ => ⟨S_, .f32⟩
  | .hbm, ⟨40, _⟩ => ⟨S8192, .f32⟩
  | .hbm, ⟨41, _⟩ => ⟨S8192x1, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x1, .f32⟩
  | .hbm, ⟨46, _⟩ => ⟨S_, .f32⟩
  | .hbm, ⟨47, _⟩ => ⟨S8192x1, .f32⟩
  | .hbm, ⟨48, _⟩ => ⟨S8192x1, .f32⟩
  | .hbm, ⟨49, _⟩ => ⟨S_, .f32⟩
  | .hbm, ⟨50, _⟩ => ⟨S8192, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S1x1024, .f32⟩
  | _, _ => ⟨S8192x2560, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_cst_5 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_6 : Ref sig .tc := ⟨.hbm, 46, rfl⟩
abbrev main_v34 : Ref sig .tc := ⟨.hbm, 47, rfl⟩
abbrev main_v35 : Ref sig .tc := ⟨.hbm, 48, rfl⟩
abbrev main_cst_7 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩

abbrev nD : Nat := 1
abbrev τ : Topo := Topo.v7x

variable {F : FTy → Type} [FloatOps F]
-- ==== Proof.KernelFrame.lean ====
/- The frame of the kernel as it runs on machine words: what it writes is left unsaid, and its arguments end as they were. -/
module

public import proofs.«01_k».proof.Proof.Gen.Kernel.Skeleton
public import proofs.«01_k».proof.Proof.Gen.Kernel.Frame
public import Idealize.ShloMosaic.Lib.Claim
public import Idealize.ShloMosaic.Lib.Tactic

@[expose] public section

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What a run of the pipeline says of the arguments: each ends as it was. -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      (Pipeline.RDat.FramePost.arr_in h c 0 rfl).trans ((hA c 0).trans (V_main_arg5 m c))⟩) h

/-- The body's branch: is this the first step? -/
abbrev cond0_0 (i : grid0.Coords) : Prop := (Scalar.cmpi .ne (Scalar.extui (Scalar.cmpi .eq (BitVec.ofNat 32 (i 0).val) 0#32)) 0#32) = 1#1
/-- The branch is taken at step 0 only. -/
theorem hcond0_0 : ∀ t : Fin cfg0.N, cond0_0 (grid0.coords t) ↔ t.val % 32 = 0 :=
  (fun t => by
    have ht : t.val < 32 := Nat.lt_of_lt_of_eq t.isLt N_0
    have e0 : (grid0.coords t 0).val = t.val / 1 % 32 := Pipeline.Grid.coords_val t 0 (by decide) rfl
    simp only [cond0_0, e0]
    word_cmp
   : ∀ t : Fin grid0.N, cond0_0 (grid0.coords t) ↔ t.val % 32 = 0)

abbrev ms0_0 (t : Fin cfg0.N) : Memref sig .tc .vmem S256x1024 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2x256x2816 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2x256x2816 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2816x1024 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2x1024x2816 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S4x16x1408 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S256x1024 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S2x256x2816 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S2x16x1408 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S2x16x1408 .f32 := win0_9.stage (cfg0.slots t 9)
abbrev hs0_9 (t : Fin cfg0.N) : (ms0_9 t).IsWhole := hstage0_9 ((cfg0.slots t 9).cast nbuf0_9)
abbrev scM0_0 : Memref sig .tc .vmem S8x2816 .f32 := Memref.whole cc0_scratch0
abbrev scM0_1 : Memref sig .tc .vmem S8x2816 .f32 := Memref.whole cc0_scratch1

/-- What is kept between the steps: the two scratch arrays and the generator register, at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

set_option maxHeartbeats 3756000 in
/-- The body at the first step, nothing said of what it writes. -/
theorem kernelRun0_A (c : Dev nD) (i : grid0.Coords) (arg1 : Memref sig .tc .vmem S256x1024 .bf16) (harg1 : arg1.IsWhole) (arg2 : Memref sig .tc .vmem S2x256x2816 .bf16) (harg2 : arg2.IsWhole) (arg3 : Memref sig .tc .vmem S2x256x2816 .bf16) (harg3 : arg3.IsWhole) (arg4 : Memref sig .tc .vmem S2816x1024 .bf16) (harg4 : arg4.IsWhole) (arg5 : Memref sig .tc .vmem S2x1024x2816 .bf16) (harg5 : arg5.IsWhole) (arg6 : Memref sig .tc .vmem S4x16x1408 .f32) (harg6 : arg6.IsWhole) (arg7 : Memref sig .tc .vmem S256x1024 .bf16) (harg7 : arg7.IsWhole) (arg8 : Memref sig .tc .vmem S2x256x2816 .bf16) (harg8 : arg8.IsWhole) (arg9 : Memref sig .tc .vmem S2x16x1408 .f32) (harg9 : arg9.IsWhole) (arg10 : Memref sig .tc .vmem S2x16x1408 .f32) (harg10 : arg10.IsWhole) (arg11 : Memref sig .tc .vmem S8x2816 .f32) (harg11 : arg11.IsWhole) (arg12 : Memref sig .tc .vmem S8x2816 .f32) (harg12 : arg12.IsWhole) (hc0 : cond0_0 i)
    (x0 : Vec F S256x1024 .bf16) (x1 : Vec F S2x256x2816 .bf16) (x2 : Vec F S2x256x2816 .bf16) (x3 : Vec F S2816x1024 .bf16) (x4 : Vec F S2x1024x2816 .bf16) (x5 : Vec F S4x16x1408 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)) -∗ K ⟨⟩))
          ⊢ wp frame (wpE (defs₀ (F := F)) Variants.none c none) E (cc0_bwd_ffn i arg1 harg1 arg2 harg2 arg3 harg3 arg4 harg4 arg5 harg5 arg6 harg6 arg7 harg7 arg8 harg8 arg9 harg9 arg10 harg10 arg11 harg11 arg12 harg12) K := by
    intro E K
    simp only [cc0_bwd_ffn_eq_skeleton]; unfold cc0_bwd_ffn_skel
    simp only [k0_part61_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [HS0]
    · iexists _, _; isplitr; swap; · iexact HS0
      ipureintro; rfl
    iexists _, _; isplitr; swap; · iexact HS1
    ipureintro; rfl

set_option maxHeartbeats 3716000 in
/-- The body at a later step, nothing said of what it writes. -/
theorem kernelRun0_B (c : Dev nD) (i : grid0.Coords) (arg1 : Memref sig .tc .vmem S256x1024 .bf16) (harg1 : arg1.IsWhole) (arg2 : Memref sig .tc .vmem S2x256x2816 .bf16) (harg2 : arg2.IsWhole) (arg3 : Memref sig .tc .vmem S2x256x2816 .bf16) (harg3 : arg3.IsWhole) (arg4 : Memref sig .tc .vmem S2816x1024 .bf16) (harg4 : arg4.IsWhole) (arg5 : Memref sig .tc .vmem S2x1024x2816 .bf16) (harg5 : arg5.IsWhole) (arg6 : Memref sig .tc .vmem S4x16x1408 .f32) (harg6 : arg6.IsWhole) (arg7 : Memref sig .tc .vmem S256x1024 .bf16) (harg7 : arg7.IsWhole) (arg8 : Memref sig .tc .vmem S2x256x2816 .bf16) (harg8 : arg8.IsWhole) (arg9 : Memref sig .tc .vmem S2x16x1408 .f32) (harg9 : arg9.IsWhole) (arg10 : Memref sig .tc .vmem S2x16x1408 .f32) (harg10 : arg10.IsWhole) (arg11 : Memref sig .tc .vmem S8x2816 .f32) (harg11 : arg11.IsWhole) (arg12 : Memref sig .tc .vmem S8x2816 .f32) (harg12 : arg12.IsWhole) (hc0 : ¬cond0_0 i)
    (x0 : Vec F S256x1024 .bf16) (x1 : Vec F S2x256x2816 .bf16) (x2 : Vec F S2x256x2816 .bf16) (x3 : Vec F S2816x1024 .bf16) (x4 : Vec F S2x1024x2816 .bf16) (x5 : Vec F S4x16x1408 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)) -∗ K ⟨⟩))
          ⊢ wp frame (wpE (defs₀ (F := F)) Variants.none c none) E (cc0_bwd_ffn i arg1 harg1 arg2 harg2 arg3 harg3 arg4 harg4 arg5 harg5 arg6 harg6 arg7 harg7 arg8 harg8 arg9 harg9 arg10 harg10 arg11 harg11 arg12 harg12) K := by
    intro E K
    simp only [cc0_bwd_ffn_eq_skeleton]; unfold cc0_bwd_ffn_skel
    simp only [k0_part61_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [HS0]
    · iexists _, _; isplitr; swap; · iexact HS0
      ipureintro; rfl
    iexists _, _; isplitr; swap; · iexact HS1
    ipureintro; rfl

/-- The windows that the body writes. Nothing is said of them here. -/
def forgets0 : Fin 10 → Bool := fun w => w.val == 6 || w.val == 7 || w.val == 8 || w.val == 9

/-- The arrays, and what each input window holds. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Pipeline.Dat.unnamed (cfg := cfg0) ⟨6, h⟩ t
    | ⟨7, h⟩ => Pipeline.Dat.unnamed (cfg := cfg0) ⟨7, h⟩ t
    | ⟨8, h⟩ => Pipeline.Dat.unnamed (cfg := cfg0) ⟨8, h⟩ t
    | ⟨9, h⟩ => Pipeline.Dat.unnamed (cfg := cfg0) ⟨9, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- What the body starts with. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare d)
    ∗ (∃ d, owns (c : Thread nD τ) (ms0_7 t) fullShare d)
    ∗ (∃ d, owns (c : Thread nD τ) (ms0_8 t) fullShare d)
    ∗ (∃ d, owns (c : Thread nD τ) (ms0_9 t) fullShare d))

/-- What the body ends with. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ (∃ d, owns (c : Thread nD τ) (ms0_6 t) fullShare d)
    ∗ (∃ d, owns (c : Thread nD τ) (ms0_7 t) fullShare d)
    ∗ (∃ d, owns (c : Thread nD τ) (ms0_8 t) fullShare d)
    ∗ (∃ d, owns (c : Thread nD τ) (ms0_9 t) fullShare d))

set_option maxHeartbeats 2400000 in
/-- The body keeps its inputs, at every step. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  rw [show (dats m 0 c).Φ t.castSucc = Pipeline.ΦA spec0 c from rfl, PhiA0_eq]
  have hN : t.val < 32 := lt_of_lt_of_eq t.isLt (show cfg0.N = 32 from N_0)
  by_cases h0 : t.val % 32 = 0
  · iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((kernelRun0_A c (grid0.coords t) _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [H9]; · iexists _; iexact H9
    isplitl [HS0]; · iexact HS0
    isplitl [HS1]; · iexact HS1
    iintro ⟨H0, H1, H2, H3, H4, H5, H6, H7, H8, H9, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  · iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((kernelRun0_B c (grid0.coords t) _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [H9]; · iexists _; iexact H9
    isplitl [HS0]; · iexact HS0
    isplitl [HS1]; · iexact HS1
    iintro ⟨H0, H1, H2, H3, H4, H5, H6, H7, H8, H9, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

set_option backward.isDefEq.respectTransparency.types false in
/-- The run: the arrays that are only read end as they were, and the counters are zero. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The run without the counters. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- The arguments end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (fun c => (dats m 0 c).toRForget forgets0) (A_eq m) (run_main m ρ)

/-- The frame of the kernel: its arguments end unchanged and no counter is left raised. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.Kernel.Body

end
-- ==== Proof.BodyRest.lean ====
module

public import proofs.«01_k».proof.Proof.Gen.KernelIdeal.Frame
public import proofs.«01_k».proof.Proof.Gen.KernelIdeal.Skeleton

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F] [Named F]

local notation "𝕄" => MT nD τ sig Unit (Elt F) ℕ (UR sig nD τ) ℕ

/-- The body's one branch condition: the first grid point, where the sums and the carries are cleared. -/
def first (i : grid0.Coords) : Prop :=
  (Scalar.cmpi .ne (Scalar.extui (Scalar.cmpi .eq (BitVec.ofNat 32 (i 0).val) 0#32)) 0#32 : BitVec 1) = 1#1

set_option maxHeartbeats 8000000 in
/-- The body at a later grid point, on memrefs holding the inputs `x1 … x6`, the running sums `y9`, `y10` and the carries
    `y11`, `y12`: what it stores, as lists of pieces found by running it, with the proof that it stores them. -/
def runRest (c : Dev nD) (i : grid0.Coords) (arg1 : Memref sig .tc .vmem S256x1024 .bf16) (harg1 : arg1.IsWhole) (arg2 : Memref sig .tc .vmem S2x256x2816 .bf16) (harg2 : arg2.IsWhole) (arg3 : Memref sig .tc .vmem S2x256x2816 .bf16) (harg3 : arg3.IsWhole) (arg4 : Memref sig .tc .vmem S2816x1024 .bf16) (harg4 : arg4.IsWhole) (arg5 : Memref sig .tc .vmem S2x1024x2816 .bf16) (harg5 : arg5.IsWhole) (arg6 : Memref sig .tc .vmem S4x16x1408 .f32) (harg6 : arg6.IsWhole) (arg7 : Memref sig .tc .vmem S256x1024 .bf16) (harg7 : arg7.IsWhole) (arg8 : Memref sig .tc .vmem S2x256x2816 .bf16) (harg8 : arg8.IsWhole) (arg9 : Memref sig .tc .vmem S2x16x1408 .f32) (harg9 : arg9.IsWhole) (arg10 : Memref sig .tc .vmem S2x16x1408 .f32) (harg10 : arg10.IsWhole) (arg11 : Memref sig .tc .vmem S8x2816 .f32) (harg11 : arg11.IsWhole) (arg12 : Memref sig .tc .vmem S8x2816 .f32) (harg12 : arg12.IsWhole) (hc : ¬first i)
    (x1 : Vec F S256x1024 .bf16) (x2 : Vec F S2x256x2816 .bf16) (x3 : Vec F S2x256x2816 .bf16) (x4 : Vec F S2816x1024 .bf16) (x5 : Vec F S2x1024x2816 .bf16) (x6 : Vec F S4x16x1408 .f32) (y9 : Vec F S2x16x1408 .f32) (y10 : Vec F S2x16x1408 .f32) (y11 : Vec F S8x2816 .f32) (y12 : Vec F S8x2816 .f32) :
    Σ' (L7 : List (View.Piece (Elt F) S256x1024 .bf16)), Σ' (L8 : List (View.Piece (Elt F) S2x256x2816 .bf16)), Σ' (L9 : List (View.Piece (Elt F) S2x16x1408 .f32)), Σ' (L10 : List (View.Piece (Elt F) S2x16x1408 .f32)), Σ' (L11 : List (View.Piece (Elt F) S8x2816 .f32)), { L12 : List (View.Piece (Elt F) S8x2816 .f32) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d) ∗ (∃ d, owns (c : Thread nD τ) arg8 fullShare d) ∗ owns (c : Thread nD τ) arg9 fullShare y9 ∗ owns (c : Thread nD τ) arg10 fullShare y10 ∗ owns (c : Thread nD τ) arg11 fullShare y11 ∗ owns (c : Thread nD τ) arg12 fullShare y12
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ f, arg7.view.loc (c : Thread nD τ) ↦[arg7.view.set]{fullShare} arg7.view.writes (Elt F) f L7) ∗ (∃ f, arg8.view.loc (c : Thread nD τ) ↦[arg8.view.set]{fullShare} arg8.view.writes (Elt F) f L8) ∗ (arg9.view.loc (c : Thread nD τ) ↦[arg9.view.set]{fullShare} arg9.view.writes (Elt F) (harg9.unread y9) L9) ∗ (arg10.view.loc (c : Thread nD τ) ↦[arg10.view.set]{fullShare} arg10.view.writes (Elt F) (harg10.unread y10) L10) ∗ (arg11.view.loc (c : Thread nD τ) ↦[arg11.view.set]{fullShare} arg11.view.writes (Elt F) (harg11.unread y11) L11) ∗ (arg12.view.loc (c : Thread nD τ) ↦[arg12.view.set]{fullShare} arg12.view.writes (Elt F) (harg12.unread y12) L12)) -∗ K ⟨⟩))
          ⊢ wp frame (wpE (defs₀ (F := F)) Variants.none c none) E (cc0_bwd_ffn i arg1 harg1 arg2 harg2 arg3 harg3 arg4 harg4 arg5 harg5 arg6 harg6 arg7 harg7 arg8 harg8 arg9 harg9 arg10 harg10 arg11 harg11 arg12 harg12) K } := by
  refine ⟨?_, ?_, ?_, ?_, ?_, ?_, fun E K => ?run⟩
  case run =>
    simp only [cc0_bwd_ffn_eq_skeleton]; unfold cc0_bwd_ffn_skel
    simp only [k0_part61_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%f9, %hf9, H9⟩, ⟨%f10, %hf10, H10⟩, ⟨%f11, %hf11, H11⟩, ⟨%f12, %hf12, H12⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg9.eq_unread hf9; obtain rfl := harg10.eq_unread hf10; obtain rfl := harg11.eq_unread hf11; obtain rfl := harg12.eq_unread hf12
    sl_exec (disch := first | sl_exact hc)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]; · iexists _; iexact H7
    isplitl [H8]; · iexists _; iexact H8
    isplitl [H9]; · iexact H9
    isplitl [H10]; · iexact H10
    isplitl [H11]; · iexact H11
    iexact H12

end Cert.KernelIdeal.Body

end
-- ==== Proof.BodyFirst.lean ====
module

public import proofs.«01_k».proof.Proof.BodyRest

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F] [Named F]

local notation "𝕄" => MT nD τ sig Unit (Elt F) ℕ (UR sig nD τ) ℕ

/-- What the body does at the first grid point before the rest: it clears the sums and the carries. -/
def clear (arg9 : Memref sig .tc .vmem S2x16x1408 .f32) (harg9 : arg9.IsWhole) (arg10 : Memref sig .tc .vmem S2x16x1408 .f32) (harg10 : arg10.IsWhole) (arg11 : Memref sig .tc .vmem S8x2816 .f32) (harg11 : arg11.IsWhole) (arg12 : Memref sig .tc .vmem S8x2816 .f32) (harg12 : arg12.IsWhole) : Prog (TpuEff nD τ sig (Elt F) Λ₀ .tc) PUnit := do
  let v2060 : Vec F S2x16x1408 .f32 ← Prog.lift (.load arg9 (Rect.unit (s := S2x16x1408) ![0, 0, 0] S2x16x1408.size inb_S2x16x1408_S2x16x1408_0_0_0).toLoadRect (View.loadsAt_vmem h_S2x16x1408))
  Prog.lift (.store arg9 (Rect.unit (s := S2x16x1408) ![0, 0, 0] S2x16x1408.size inb_S2x16x1408_S2x16x1408_0_0_0) (k0_pay4 (F := F)) Finset.univ (View.stores_vmem_bits_univ h_S2x16x1408 rfl) (.inl rfl))
  let v2062 : Vec F S2x16x1408 .f32 ← Prog.lift (.load arg10 (Rect.unit (s := S2x16x1408) ![0, 0, 0] S2x16x1408.size inb_S2x16x1408_S2x16x1408_0_0_0).toLoadRect (View.loadsAt_vmem h_S2x16x1408))
  Prog.lift (.store arg10 (Rect.unit (s := S2x16x1408) ![0, 0, 0] S2x16x1408.size inb_S2x16x1408_S2x16x1408_0_0_0) (k0_pay5 (F := F)) Finset.univ (View.stores_vmem_bits_univ h_S2x16x1408 rfl) (.inl rfl))
  let v2064 : Vec F S8x2816 .f32 ← Prog.lift (.load arg11 (Rect.unit (s := S8x2816) ![0, 0] S8x2816.size inb_S8x2816_S8x2816_0_0).toLoadRect (View.loadsAt_vmem h_S8x2816))
  Prog.lift (.store arg11 (Rect.unit (s := S8x2816) ![0, 0] S8x2816.size inb_S8x2816_S8x2816_0_0) (k0_pay6 (F := F)) Finset.univ (View.stores_vmem_bits_univ h_S8x2816 rfl) (.inl rfl))
  let v2068 : Vec F S8x2816 .f32 ← Prog.lift (.load arg12 (Rect.unit (s := S8x2816) ![0, 0] S8x2816.size inb_S8x2816_S8x2816_0_0).toLoadRect (View.loadsAt_vmem h_S8x2816))
  Prog.lift (.store arg12 (Rect.unit (s := S8x2816) ![0, 0] S8x2816.size inb_S8x2816_S8x2816_0_0) (k0_pay7 (F := F)) Finset.univ (View.stores_vmem_bits_univ h_S8x2816 rfl) (.inl rfl))
  pure ⟨⟩

set_option maxHeartbeats 4000000 in
/-- The body at the first grid point: clear, then do what it does at any later one. -/
theorem body_first (i i' : grid0.Coords) (hc : first i) (hc' : ¬first i') (arg1 : Memref sig .tc .vmem S256x1024 .bf16) (harg1 : arg1.IsWhole) (arg2 : Memref sig .tc .vmem S2x256x2816 .bf16) (harg2 : arg2.IsWhole) (arg3 : Memref sig .tc .vmem S2x256x2816 .bf16) (harg3 : arg3.IsWhole) (arg4 : Memref sig .tc .vmem S2816x1024 .bf16) (harg4 : arg4.IsWhole) (arg5 : Memref sig .tc .vmem S2x1024x2816 .bf16) (harg5 : arg5.IsWhole) (arg6 : Memref sig .tc .vmem S4x16x1408 .f32) (harg6 : arg6.IsWhole) (arg7 : Memref sig .tc .vmem S256x1024 .bf16) (harg7 : arg7.IsWhole) (arg8 : Memref sig .tc .vmem S2x256x2816 .bf16) (harg8 : arg8.IsWhole) (arg9 : Memref sig .tc .vmem S2x16x1408 .f32) (harg9 : arg9.IsWhole) (arg10 : Memref sig .tc .vmem S2x16x1408 .f32) (harg10 : arg10.IsWhole) (arg11 : Memref sig .tc .vmem S8x2816 .f32) (harg11 : arg11.IsWhole) (arg12 : Memref sig .tc .vmem S8x2816 .f32) (harg12 : arg12.IsWhole) :
    cc0_bwd_ffn (F := F) i arg1 harg1 arg2 harg2 arg3 harg3 arg4 harg4 arg5 harg5 arg6 harg6 arg7 harg7 arg8 harg8 arg9 harg9 arg10 harg10 arg11 harg11 arg12 harg12 = (clear arg9 harg9 arg10 harg10 arg11 harg11 arg12 harg12 >>= fun _ => cc0_bwd_ffn (F := F) i' arg1 harg1 arg2 harg2 arg3 harg3 arg4 harg4 arg5 harg5 arg6 harg6 arg7 harg7 arg8 harg8 arg9 harg9 arg10 harg10 arg11 harg11 arg12 harg12) := by
  have e : ∀ i, first i → k0_part1 (F := F) i arg1 harg1 arg2 harg2 arg3 harg3 arg4 harg4 arg5 harg5 arg6 harg6 arg7 harg7 arg8 harg8 arg9 harg9 arg10 harg10 arg11 harg11 arg12 harg12 = (clear arg9 harg9 arg10 harg10 arg11 harg11 arg12 harg12 >>= fun _ => k0_part1 (F := F) i' arg1 harg1 arg2 harg2 arg3 harg3 arg4 harg4 arg5 harg5 arg6 harg6 arg7 harg7 arg8 harg8 arg9 harg9 arg10 harg10 arg11 harg11 arg12 harg12) := by
    intro i hc
    rw [k0_part1_eq_skeleton]
    unfold k0_part1_skel
    unfold first at hc hc'
    rw [dif_pos hc, dif_neg hc']
    rfl
  rw [cc0_bwd_ffn_eq_skeleton]
  unfold cc0_bwd_ffn_skel
  rw [k0_part61_eq_skeleton]
  unfold k0_part61_skel
  rw [e i hc]
  rfl

end Cert.KernelIdeal.Body

end
-- ==== Proof.Chunk.lean ====
module

public import proofs.«01_k».proof.Proof.Gen.KernelIdeal.Skeleton
public import Idealize.ShloMosaic.Lib.Pointwise
public import Idealize.ShloMosaic.Lib.Tactic

@[expose] public section

set_option maxRecDepth 16384

noncomputable section

namespace Cert.KernelIdeal.Body

open Idealize.ShloMosaic Idealize.ShloMosaic.TcCoe
open Cert.KernelIdeal Cert.KernelIdeal.Gen

/-! ## One block of 256 rows, element by element

`x1` is the block of `df`, `x2` and `x3` the blocks of the two halves of `hf` and `pre`, `x4` is `w_down`, `x6` holds
the taps, `y` the eight rows carried from the block of later rows. `n = 0` is the gate's half, `n = 1` the value's. -/

/-- `tanh` of the gelu's inner polynomial. -/
def th (v : EReal) : EReal := Ideal.tanh (v * (Ideal.ofBits .f32 0x3F4C422A#32 + Named.named (F := Ideal) (φ := .f32) κ "ca" 0x3D122279#32 * (v * v)))

/-- `(1 + tanh) / 2`. -/
def half (v : EReal) : EReal := Ideal.ofBits .f32 0x3F000000#32 + Ideal.ofBits .f32 0x3F000000#32 * th v

/-- The gelu as the kernel computes it. -/
def gl (v : EReal) : EReal := v * half v

/-- The gelu's derivative as the kernel computes it. -/
def dgl (v : EReal) : EReal :=
  half v + v * (half v * (1 - th v)) * (Ideal.ofBits .f32 0x3F4C422A#32 + Named.named (F := Ideal) (φ := .f32) κ "ca3" 0x3DDB33B6#32 * (v * v))

/-- The gradient of the gated activation: a row of `df` against a row of `w_down`. -/
def dact (x1 : Vec Ideal S256x1024 .bf16) (x4 : Vec Ideal S2816x1024 .bf16) (r : Fin 256) (q : Fin 2816) : EReal :=
  ∑ d : Fin 1024, x1 (ix2 r d) * x4 (ix2 q d)

/-- The gradient of the pre-activations. -/
def dp (x1 : Vec Ideal S256x1024 .bf16) (x3 : Vec Ideal S2x256x2816 .bf16) (x4 : Vec Ideal S2816x1024 .bf16) (n : Fin 2) (r : Fin 256)
    (q : Fin 2816) : EReal :=
  if n = 0 then dact x1 x4 r q * x3 (ix3 1 r q) * dgl (x3 (ix3 0 r q)) else dact x1 x4 r q * gl (x3 (ix3 0 r q))

/-- The same, continued by the carried rows. -/
def ext (P : Fin 256 → Fin 2816 → EReal) (y : Vec Ideal S8x2816 .f32) (e : Fin 264) (q : Fin 2816) : EReal :=
  if h : e.val < 256 then P ⟨e.val, h⟩ q else y (ix2 ⟨e.val - 256, by omega⟩ q)

/-- A place of a rectangle of a matrix. -/
theorem emb2 {A B m n o a : ℕ} (i : ∀ x, (![o, a] : Fin 2 → ℕ) x + (![m, n] : Fin 2 → ℕ) x ≤ (![A, B] : Fin 2 → ℕ) x) (r : Fin m) (q : Fin n)
    (hr : o + r.val < A) (hq : a + q.val < B) :
    (Rect.unit (s := ⟨2, ![A, B]⟩) ![o, a] ![m, n] i).emb (ix2 r q) = ix2 ⟨o + r.val, hr⟩ ⟨a + q.val, hq⟩ := by
  funext x
  apply Fin.ext
  rw [Rect.emb_apply]
  match x with
  | ⟨0, _⟩ => show o + 1 * r.val = o + r.val; omega
  | ⟨1, _⟩ => show a + 1 * q.val = a + q.val; omega

/-- A place of a box of an array of rank three. -/
theorem emb3 {A B C l m n o a b : ℕ} (i : ∀ x, (![o, a, b] : Fin 3 → ℕ) x + (![l, m, n] : Fin 3 → ℕ) x ≤ (![A, B, C] : Fin 3 → ℕ) x)
    (p : Fin l) (r : Fin m) (q : Fin n) (hp : o + p.val < A) (hr : a + r.val < B) (hq : b + q.val < C) :
    (Rect.unit (s := ⟨3, ![A, B, C]⟩) ![o, a, b] ![l, m, n] i).emb (ix3 p r q) = ix3 ⟨o + p.val, hp⟩ ⟨a + r.val, hr⟩ ⟨b + q.val, hq⟩ := by
  funext x
  apply Fin.ext
  rw [Rect.emb_apply]
  match x with
  | ⟨0, _⟩ => show o + 1 * p.val = o + p.val; omega
  | ⟨1, _⟩ => show a + 1 * r.val = a + r.val; omega
  | ⟨2, _⟩ => show b + 1 * q.val = b + q.val; omega

/-- Which half of the columns a column lies in, -/
def cs (q : Fin 2816) : Fin 2 := ⟨q.val / 1408, by omega⟩

/-- and where in it. -/
def cl (q : Fin 2816) : Fin 1408 := ⟨q.val % 1408, by omega⟩

/-- The column at a place of a half. -/
def col (s : Fin 2) (l : Fin 1408) : Fin 2816 := ⟨1408 * s.val + l.val, by omega⟩

/-- The gradient of the convolution's input: three taps, of this row and the next two. -/
def mix (x6 : Vec Ideal S4x16x1408 .f32) (P : Fin 256 → Fin 2816 → EReal) (y : Vec Ideal S8x2816 .f32) (n : Fin 2) (r : Fin 256)
    (q : Fin 2816) : EReal :=
  x6 (ix3 ⟨2 * n.val + (cs q).val, by omega⟩ 2 (cl q)) * P r q
    + x6 (ix3 ⟨2 * n.val + (cs q).val, by omega⟩ 1 (cl q)) * ext P y ⟨r.val + 1, by omega⟩ q
    + x6 (ix3 ⟨2 * n.val + (cs q).val, by omega⟩ 0 (cl q)) * ext P y ⟨r.val + 2, by omega⟩ q

/-- What the block adds to row `k` of the taps' gradient. -/
def addend (x2 : Vec Ideal S2x256x2816 .bf16) (P : Fin 256 → Fin 2816 → EReal) (y : Vec Ideal S8x2816 .f32) (n : Fin 2) (k : ℕ)
    (q : Fin 2816) : EReal :=
  if k = 0 then ∑ r : Fin 256, ext P y ⟨r.val + 2, by omega⟩ q * x2 (ix3 n r q)
  else if k = 1 then ∑ r : Fin 256, ext P y ⟨r.val + 1, by omega⟩ q * x2 (ix3 n r q)
  else if k = 2 then ∑ r : Fin 256, P r q * x2 (ix3 n r q)
  else if k = 3 then ∑ r : Fin 256, P r q
  else 0

/-- The two halves' carried rows. -/
def car (y11 y12 : Vec Ideal S8x2816 .f32) (n : Fin 2) : Vec Ideal S8x2816 .f32 := if n = 0 then y11 else y12

/-- Where the prepared `w_up` holds the column `l` of half `n`: the halves are laid side by side, chunk by chunk. -/
def pos (n : Fin 2) (l : Fin 1408) : Fin 2816 :=
  ⟨if l.val < 1280 then 512 * (l.val / 256) + 256 * n.val + l.val % 256 else 2560 + 128 * n.val + (l.val - 1280), by split <;> omega⟩

/-- One column's share of `du`. -/
def share (x5 : Vec Ideal S2x1024x2816 .bf16) (M : Fin 2 → Fin 256 → Fin 2816 → EReal) (r : Fin 256) (d : Fin 1024) (n : Fin 2) (q : ℕ) : EReal :=
  if h : q < 2816 then M n r ⟨q, h⟩ * x5 (ix3 (cs ⟨q, h⟩) d (pos n (cl ⟨q, h⟩))) else 0

/-- What the block leaves of `du`. -/
def newDu (x5 : Vec Ideal S2x1024x2816 .bf16) (M : Fin 2 → Fin 256 → Fin 2816 → EReal) : Vec Ideal S256x1024 .bf16 :=
  fun j => ∑ n : Fin 2, ∑ q ∈ Finset.range 2816, share x5 M (j 0) (j 1) n q

/-- The chunks' shares, in the order in which they are added. -/
theorem shares_eq (f g : ℕ → EReal) :
    (∑ n : Fin 2, ∑ q ∈ Finset.range 2816, (if n = 0 then f else g) q)
      = ((((((((((((∑ k ∈ Finset.range 256, f k) + ∑ k ∈ Finset.range 256, g k)
        + ((∑ k ∈ Finset.range 256, f (256 + k)) + ∑ k ∈ Finset.range 256, g (256 + k)))
        + ((∑ k ∈ Finset.range 256, f (512 + k)) + ∑ k ∈ Finset.range 256, g (512 + k)))
        + ((∑ k ∈ Finset.range 256, f (768 + k)) + ∑ k ∈ Finset.range 256, g (768 + k)))
        + ((∑ k ∈ Finset.range 256, f (1024 + k)) + ∑ k ∈ Finset.range 256, g (1024 + k)))
        + ((∑ k ∈ Finset.range 128, f (1280 + k)) + ∑ k ∈ Finset.range 128, g (1280 + k)))
        + ((∑ k ∈ Finset.range 256, f (1408 + k)) + ∑ k ∈ Finset.range 256, g (1408 + k)))
        + ((∑ k ∈ Finset.range 256, f (1664 + k)) + ∑ k ∈ Finset.range 256, g (1664 + k)))
        + ((∑ k ∈ Finset.range 256, f (1920 + k)) + ∑ k ∈ Finset.range 256, g (1920 + k)))
        + ((∑ k ∈ Finset.range 256, f (2176 + k)) + ∑ k ∈ Finset.range 256, g (2176 + k)))
        + ((∑ k ∈ Finset.range 256, f (2432 + k)) + ∑ k ∈ Finset.range 256, g (2432 + k)))
        + ((∑ k ∈ Finset.range 128, f (2688 + k)) + ∑ k ∈ Finset.range 128, g (2688 + k)) := by
  have key : ∀ h : ℕ → EReal, ∑ q ∈ Finset.range 2816, h q = ((((((((((((∑ k ∈ Finset.range 256, h k) + ∑ k ∈ Finset.range 256, h (256 + k))
      + ∑ k ∈ Finset.range 256, h (512 + k)) + ∑ k ∈ Finset.range 256, h (768 + k)) + ∑ k ∈ Finset.range 256, h (1024 + k))
      + ∑ k ∈ Finset.range 128, h (1280 + k)) + ∑ k ∈ Finset.range 256, h (1408 + k)) + ∑ k ∈ Finset.range 256, h (1664 + k))
      + ∑ k ∈ Finset.range 256, h (1920 + k)) + ∑ k ∈ Finset.range 256, h (2176 + k)) + ∑ k ∈ Finset.range 256, h (2432 + k))
      + ∑ k ∈ Finset.range 128, h (2688 + k)) := fun h => by
    rw [show 2816 = 2688 + 128 from rfl, Finset.sum_range_add, show 2688 = 2432 + 256 from rfl, Finset.sum_range_add,
      show 2432 = 2176 + 256 from rfl, Finset.sum_range_add, show 2176 = 1920 + 256 from rfl, Finset.sum_range_add,
      show 1920 = 1664 + 256 from rfl, Finset.sum_range_add, show 1664 = 1408 + 256 from rfl, Finset.sum_range_add,
      show 1408 = 1280 + 128 from rfl, Finset.sum_range_add, show 1280 = 1024 + 256 from rfl, Finset.sum_range_add,
      show 1024 = 768 + 256 from rfl, Finset.sum_range_add, show 768 = 512 + 256 from rfl, Finset.sum_range_add,
      show 512 = 256 + 256 from rfl, Finset.sum_range_add]
  rw [Fin.sum_univ_two, if_pos rfl, if_neg (by decide), key f, key g]
  abel

theorem addend0 (x2 : Vec Ideal S2x256x2816 .bf16) (P : Fin 256 → Fin 2816 → EReal) (y : Vec Ideal S8x2816 .f32) (n : Fin 2) (q : Fin 2816) :
    addend x2 P y n 0 q = ∑ r : Fin 256, ext P y ⟨r.val + 2, by omega⟩ q * x2 (ix3 n r q) := rfl

theorem addend1 (x2 : Vec Ideal S2x256x2816 .bf16) (P : Fin 256 → Fin 2816 → EReal) (y : Vec Ideal S8x2816 .f32) (n : Fin 2) (q : Fin 2816) :
    addend x2 P y n 1 q = ∑ r : Fin 256, ext P y ⟨r.val + 1, by omega⟩ q * x2 (ix3 n r q) := rfl

theorem addend2 (x2 : Vec Ideal S2x256x2816 .bf16) (P : Fin 256 → Fin 2816 → EReal) (y : Vec Ideal S8x2816 .f32) (n : Fin 2) (q : Fin 2816) :
    addend x2 P y n 2 q = ∑ r : Fin 256, P r q * x2 (ix3 n r q) := rfl

theorem addend3 (x2 : Vec Ideal S2x256x2816 .bf16) (P : Fin 256 → Fin 2816 → EReal) (y : Vec Ideal S8x2816 .f32) (n : Fin 2) (q : Fin 2816) :
    addend x2 P y n 3 q = ∑ r : Fin 256, P r q := rfl

/-- What the block leaves of the eight carried rows, -/
def newTop (P : Fin 256 → Fin 2816 → EReal) : Vec Ideal S8x2816 .f32 :=
  fun j => P ⟨(j 0).val, by have : (j 0).val < 8 := (j 0).isLt; omega⟩ (j 1)

/-- of the taps' gradient, -/
def newSum (x2 : Vec Ideal S2x256x2816 .bf16) (P : Fin 256 → Fin 2816 → EReal) (y : Vec Ideal S8x2816 .f32) (n : Fin 2)
    (old : Vec Ideal S2x16x1408 .f32) : Vec Ideal S2x16x1408 .f32 :=
  fun j => old j + addend x2 P y n (j 1).val (col (j 0) (j 2))

/-- of the gradient of the convolution's input. -/
def newSlab (x6 : Vec Ideal S4x16x1408 .f32) (P : Fin 2 → Fin 256 → Fin 2816 → EReal) (y : Fin 2 → Vec Ideal S8x2816 .f32) :
    Vec Ideal S2x256x2816 .bf16 :=
  fun j => mix x6 (P (j 0)) (y (j 0)) (j 0) (j 1) (j 2)

namespace Wide

/-! ### A chunk of 256 columns: the vectors the body computes -/

section Ops
variable {F : FTy → Type} [FloatOps F] [Named F]

/-- Widen a slab. -/
def wide (v : Vec F S1x256x256 .bf16) : FVec F S256x256 .f32 :=
  extf .f32 (shapeCast S256x256 v shapeCasts_S1x256x256_S256x256) bitsLt_bf16_f32

/-- `df` against the rows of `w_down`. -/
def vAct (v3 : Vec F S256x1024 .bf16) (v4 : Vec F S256x1024 .bf16) : FVec F S256x256 .f32 :=
  matmul dot_S256x1024_S256x1024_S256x256_1_1_0_0_n_n none v3 (shapeCast S256x1024 v4 shapeCasts_S256x1024_S256x1024) (constant S256x256 .f32 0x00000000#32)

/-- The inner `tanh`. -/
def vTh (g : FVec F S256x256 .f32) : FVec F S256x256 .f32 :=
  tanh (mulf g (addf (broadcast S256x256 (Scalar.ofBits .f32 0x3F4C422A#32))
    (mulf (broadcast S256x256 (Named.named κ "ca" 0x3D122279#32)) (mulf g g))))

/-- Half of one plus it. -/
def vHalf (g : FVec F S256x256 .f32) : FVec F S256x256 .f32 :=
  addf (broadcast S256x256 (Scalar.ofBits .f32 0x3F000000#32)) (mulf (broadcast S256x256 (Scalar.ofBits .f32 0x3F000000#32)) (vTh g))

/-- The gate's gradient. -/
def vG (v3 : Vec F S256x1024 .bf16) (v4 : Vec F S256x1024 .bf16) (p0 p1 : Vec F S1x256x256 .bf16) : FVec F S256x256 .f32 :=
  mulf (mulf (vAct v3 v4) (wide p1))
    (addf (vHalf (wide p0)) (mulf (mulf (wide p0) (mulf (vHalf (wide p0)) (subf (broadcast S256x256 (Scalar.ofBits .f32 0x3F800000#32)) (vTh (wide p0)))))
      (addf (broadcast S256x256 (Scalar.ofBits .f32 0x3F4C422A#32))
        (mulf (broadcast S256x256 (Named.named κ "ca3" 0x3DDB33B6#32)) (mulf (wide p0) (wide p0))))))

/-- The value's gradient. -/
def vV (v3 : Vec F S256x1024 .bf16) (v4 : Vec F S256x1024 .bf16) (p0 : Vec F S1x256x256 .bf16) : FVec F S256x256 .f32 :=
  mulf (vAct v3 v4) (mulf (wide p0) (vHalf (wide p0)))

/-- The rows `k` further down. -/
def vUp (k : BitVec 32) (P : FVec F S256x256 .f32) (y : Vec F S8x256 .f32) : FVec F S256x256 .f32 :=
  extractStridedSlice S256x256 ![0, 0] (dynamicRotate 0 k none
    (concatenate S264x256 0 [⟨S256x256, P⟩, ⟨S8x256, y⟩] concatenates_S256x256_S8x256_S264x256_d0) rotates_S264x256_d0) slices_S264x256_o0_0_S256x256

/-- The first eight rows, which the next block carries. -/
def vTop (P : FVec F S256x256 .f32) : FVec F S8x256 .f32 :=
  shapeCast S8x256 (extractStridedSlice S8x256 ![0, 0] P slices_S256x256_o0_0_S8x256) shapeCasts_S8x256_S8x256

/-- A running sum of rows. -/
def vSum (P : FVec F S256x256 .f32) (old : Vec F S1x1x256 .f32) : FVec F S1x1x256 .f32 :=
  shapeCast S1x1x256 (addf (shapeCast S1x256 old shapeCasts_S1x1x256_S1x256)
    (shapeCast S1x256 (multiReduction .add [0] S256 P 0x00000000#32 reduces_S256x256_S256 (.inl rfl) rfl) shapeCasts_S256_S1x256)) shapeCasts_S1x256_S1x1x256

/-- A tap along every row. -/
def vTap (k : Vec F S1x1x256 .f32) : FVec F S256x256 .f32 :=
  broadcastTo S256x256 (shapeCast S1x256 k shapeCasts_S1x1x256_S1x256) broadcasts_S1x256_S256x256

/-- Three taps. -/
def vMix (P : FVec F S256x256 .f32) (y : Vec F S8x256 .f32) (k2 k1 k0 : Vec F S1x1x256 .f32) : FVec F S256x256 .bf16 :=
  truncf .bf16 (addf (addf (mulf (vTap k2) P) (mulf (vTap k1) (vUp 263#32 P y))) (mulf (vTap k0) (vUp 262#32 P y))) bitsLt_bf16_f32

/-- The same, as a slab. -/
def vSlab (M : FVec F S256x256 .bf16) : FVec F S1x256x256 .bf16 := shapeCast S1x256x256 M shapeCasts_S256x256_S1x256x256

/-- Both halves against `w_up`. -/
def vTerm (A B : FVec F S256x256 .bf16) (w : Vec F S1x1024x512 .bf16) : FVec F S256x1024 .f32 :=
  matmul dot_S256x512_S1024x512_S256x1024_1_1_0_0_n_n none
    (concatenate S256x512 1 [⟨S256x256, A⟩, ⟨S256x256, B⟩] concatenates_S256x256_S256x256_S256x512_d1)
    (shapeCast S1024x512 w shapeCasts_S1x1024x512_S1024x512) (constant S256x1024 .f32 0x00000000#32)

end Ops

/-! ### The same at an index -/

section Apply

theorem wide_apply (v : Vec Ideal S1x256x256 .bf16) (j : S256x256.Idx) : wide v j = v (ix3 0 (j 0) (j 1)) := by
  unfold wide; pointwise

theorem vTh_apply (g : FVec Ideal S256x256 .f32) (j : S256x256.Idx) : vTh g j = th (g j) := by
  unfold vTh th; pointwise

theorem vHalf_apply (g : FVec Ideal S256x256 .f32) (j : S256x256.Idx) : vHalf g j = half (g j) := by
  unfold vHalf half; rw [← vTh_apply]; pointwise

theorem vAct_apply (v3 : Vec Ideal S256x1024 .bf16) (v4 : Vec Ideal S256x1024 .bf16) (j : S256x256.Idx) :
    vAct v3 v4 j = ∑ d : Fin 1024, v3 (ix2 (j 0) d) * v4 (ix2 (j 1) d) := by
  unfold vAct; pointwise

theorem vG_apply (v3 : Vec Ideal S256x1024 .bf16) (v4 : Vec Ideal S256x1024 .bf16) (p0 p1 : Vec Ideal S1x256x256 .bf16) (j : S256x256.Idx) :
    vG v3 v4 p0 p1 j = (∑ d : Fin 1024, v3 (ix2 (j 0) d) * v4 (ix2 (j 1) d)) * p1 (ix3 0 (j 0) (j 1)) * dgl (p0 (ix3 0 (j 0) (j 1))) := by
  unfold vG dgl
  rw [← vAct_apply, ← wide_apply p0, ← wide_apply p1, ← vHalf_apply, ← vTh_apply]
  pointwise

theorem vV_apply (v3 : Vec Ideal S256x1024 .bf16) (v4 : Vec Ideal S256x1024 .bf16) (p0 : Vec Ideal S1x256x256 .bf16) (j : S256x256.Idx) :
    vV v3 v4 p0 j = (∑ d : Fin 1024, v3 (ix2 (j 0) d) * v4 (ix2 (j 1) d)) * gl (p0 (ix3 0 (j 0) (j 1))) := by
  unfold vV gl
  rw [← vAct_apply, ← wide_apply p0, ← vHalf_apply]
  pointwise

theorem vUp1_apply (P : FVec Ideal S256x256 .f32) (y : Vec Ideal S8x256 .f32) (r : Fin 256) (q : Fin 256) :
    vUp 263#32 P y (ix2 r q) = if h : r.val + 1 < 256 then P (ix2 ⟨r.val + 1, h⟩ q) else y (ix2 ⟨r.val + 1 - 256, by omega⟩ q) := by
  have e : (r.val + 264 - 263) % 264 = r.val + 1 := by omega
  unfold vUp; pointwise; simp only [e]

theorem vUp2_apply (P : FVec Ideal S256x256 .f32) (y : Vec Ideal S8x256 .f32) (r : Fin 256) (q : Fin 256) :
    vUp 262#32 P y (ix2 r q) = if h : r.val + 2 < 256 then P (ix2 ⟨r.val + 2, h⟩ q) else y (ix2 ⟨r.val + 2 - 256, by omega⟩ q) := by
  have e : (r.val + 264 - 262) % 264 = r.val + 2 := by omega
  unfold vUp; pointwise; simp only [e]

theorem vTop_apply (P : FVec Ideal S256x256 .f32) (j : S8x256.Idx) :
    vTop P j = P (ix2 ⟨(j 0).val, by have : (j 0).val < 8 := (j 0).isLt; omega⟩ (j 1)) := by
  unfold vTop; pointwise

theorem vSum_apply (P : FVec Ideal S256x256 .f32) (old : Vec Ideal S1x1x256 .f32) (j : S1x1x256.Idx) :
    vSum P old j = old j + ∑ r : Fin 256, P (ix2 r (j 2)) := by
  unfold vSum; pointwise

theorem vTap_apply (k : Vec Ideal S1x1x256 .f32) (j : S256x256.Idx) : vTap k j = k (ix3 0 0 (j 1)) := by
  unfold vTap; pointwise

theorem vMix_apply (P : FVec Ideal S256x256 .f32) (y : Vec Ideal S8x256 .f32) (k2 k1 k0 : Vec Ideal S1x1x256 .f32) (j : S256x256.Idx) :
    vMix P y k2 k1 k0 j = k2 (ix3 0 0 (j 1)) * P j + k1 (ix3 0 0 (j 1)) * vUp 263#32 P y j + k0 (ix3 0 0 (j 1)) * vUp 262#32 P y j := by
  unfold vMix; rw [← vTap_apply k2, ← vTap_apply k1, ← vTap_apply k0]; pointwise

theorem vSlab_apply (M : FVec Ideal S256x256 .bf16) (j : S1x256x256.Idx) : vSlab M j = M (ix2 (j 1) (j 2)) := by
  unfold vSlab; pointwise

theorem vTerm_apply (A B : FVec Ideal S256x256 .bf16) (w : Vec Ideal S1x1024x512 .bf16) (j : S256x1024.Idx) :
    vTerm A B w j = (∑ k : Fin 256, A (ix2 (j 0) k) * w (ix3 0 (j 1) ⟨k.val, by omega⟩))
      + ∑ k : Fin 256, B (ix2 (j 0) k) * w (ix3 0 (j 1) ⟨256 + k.val, by omega⟩) := by
  unfold vTerm; pointwise

end Apply

/-! ### A piece of each buffer -/

section Pieces

theorem vG_block (x1 : Vec Ideal S256x1024 .bf16) (x3 : Vec Ideal S2x256x2816 .bf16) (x4 : Vec Ideal S2816x1024 .bf16) {a : ℕ} {i1 i3 i3' i4}
    (r : Fin 256) (q : Fin 256) (ha : a + q.val < 2816) :
    vG (View.ld x1 (Rect.unit ![0, 0] S256x1024.size i1)) (View.ld x4 (Rect.unit ![a, 0] S256x1024.size i4))
      (View.ld x3 (Rect.unit ![0, 0, a] S1x256x256.size i3)) (View.ld x3 (Rect.unit ![1, 0, a] S1x256x256.size i3')) (ix2 r q)
      = dp x1 x3 x4 0 r ⟨a + q.val, ha⟩ := by
  rw [vG_apply]; unfold dp dact; rw [if_pos rfl]; pointwise

theorem vV_block (x1 : Vec Ideal S256x1024 .bf16) (x3 : Vec Ideal S2x256x2816 .bf16) (x4 : Vec Ideal S2816x1024 .bf16) {a : ℕ} {i1 i3 i4}
    (r : Fin 256) (q : Fin 256) (ha : a + q.val < 2816) :
    vV (View.ld x1 (Rect.unit ![0, 0] S256x1024.size i1)) (View.ld x4 (Rect.unit ![a, 0] S256x1024.size i4))
      (View.ld x3 (Rect.unit ![0, 0, a] S1x256x256.size i3)) (ix2 r q)
      = dp x1 x3 x4 1 r ⟨a + q.val, ha⟩ := by
  rw [vV_apply]; unfold dp dact; rw [if_neg (by decide)]; pointwise

variable {V : FVec Ideal S256x256 .f32} {P : Fin 256 → Fin 2816 → EReal} {a : ℕ}

theorem up1_block (hV : ∀ r q (ha : a + q.val < 2816), V (ix2 r q) = P r ⟨a + q.val, ha⟩)
    {v : Vec Ideal S8x256 .f32} {y : Vec Ideal S8x2816 .f32} {iy} (hy : ∀ j, v j = y ((Rect.unit (s := S8x2816) ![0, a] S8x256.size iy).emb j))
    (r : Fin 256) (q : Fin 256) (ha : a + q.val < 2816) :
    vUp 263#32 V v (ix2 r q) = ext P y ⟨r.val + 1, by omega⟩ ⟨a + q.val, ha⟩ := by
  rw [vUp1_apply]; unfold ext
  by_cases h : r.val + 1 < 256
  · rw [dif_pos h, dif_pos h]; exact hV _ _ _
  · rw [dif_neg h, dif_neg h, hy, emb2 iy _ _ (by dsimp only; omega) ha]; congr 1; exact congrArg (ix2 · _) (Fin.ext (Nat.zero_add _))

theorem up2_block (hV : ∀ r q (ha : a + q.val < 2816), V (ix2 r q) = P r ⟨a + q.val, ha⟩)
    {v : Vec Ideal S8x256 .f32} {y : Vec Ideal S8x2816 .f32} {iy} (hy : ∀ j, v j = y ((Rect.unit (s := S8x2816) ![0, a] S8x256.size iy).emb j))
    (r : Fin 256) (q : Fin 256) (ha : a + q.val < 2816) :
    vUp 262#32 V v (ix2 r q) = ext P y ⟨r.val + 2, by omega⟩ ⟨a + q.val, ha⟩ := by
  rw [vUp2_apply]; unfold ext
  by_cases h : r.val + 2 < 256
  · rw [dif_pos h, dif_pos h]; exact hV _ _ _
  · rw [dif_neg h, dif_neg h, hy, emb2 iy _ _ (by dsimp only; omega) ha]; congr 1; exact congrArg (ix2 · _) (Fin.ext (Nat.zero_add _))

/-- The carried rows. -/
theorem top_piece (hV : ∀ r q (ha : a + q.val < 2816), V (ix2 r q) = P r ⟨a + q.val, ha⟩) {io} (j : S8x256.Idx) :
    vTop V j = newTop P ((Rect.unit (s := S8x2816) ![0, a] S8x256.size io).emb j) := by
  obtain ⟨r, q, rfl⟩ : ∃ r q, j = ix2 r q := ⟨_, _, eq_ix2 j⟩
  have h : a + 256 ≤ 2816 := io 1
  have ha : a + q.val < 2816 := by omega
  rw [vTop_apply, emb2 io r q (by omega) ha]
  refine (hV _ q ha).trans ?_
  unfold newTop
  exact congrArg (P · _) (Fin.ext (Nat.zero_add _).symm)

theorem wide_ld (x2 : Vec Ideal S2x256x2816 .bf16) {n : Fin 2} {i2} (r : Fin 256) (q : Fin 256) (ha : a + q.val < 2816) :
    wide (View.ld x2 (Rect.unit ![n.val, 0, a] S1x256x256.size i2)) (ix2 r q) = x2 (ix3 n r ⟨a + q.val, ha⟩) := by
  rw [wide_apply]; pointwise

section Sums
variable {s lo : ℕ} {x2 : Vec Ideal S2x256x2816 .bf16} {old : Vec Ideal S1x1x256 .f32} {y9 : Vec Ideal S2x16x1408 .f32}
  {v : Vec Ideal S8x256 .f32} {y : Vec Ideal S8x2816 .f32} {n : Fin 2}

theorem sum_piece {T : FVec Ideal S256x256 .f32} {k : ℕ} {io} (hs : a = 1408 * s + lo)
    (hold : ∀ j, old j = y9 ((Rect.unit (s := S2x16x1408) ![s, k, lo] S1x1x256.size io).emb j))
    (hT : ∀ q (ha : a + q.val < 2816), ∑ r : Fin 256, T (ix2 r q) = addend x2 P y n k ⟨a + q.val, ha⟩) (j : S1x1x256.Idx) :
    vSum T old j = newSum x2 P y n y9 ((Rect.unit (s := S2x16x1408) ![s, k, lo] S1x1x256.size io).emb j) := by
  have h0 : s + 1 ≤ 2 := io 0
  have h1 : k + 1 ≤ 16 := io 1
  have h2 : lo + 256 ≤ 1408 := io 2
  rw [vSum_apply, hold]
  obtain ⟨p, p', q, rfl⟩ : ∃ p p' q, j = ix3 p p' q := ⟨_, _, _, eq_ix3 j⟩
  obtain rfl : p = 0 := Subsingleton.elim _ _
  obtain rfl : p' = 0 := Subsingleton.elim _ _
  unfold newSum
  congr 1
  rw [emb3 io 0 0 q (by show s + 0 < 2; omega) (by show k + 0 < 16; omega) (by omega)]
  refine (hT q (by omega)).trans ?_
  show _ = addend x2 P y n (k + 0) (col ⟨s + 0, _⟩ ⟨lo + q.val, _⟩)
  congr 1
  apply Fin.ext
  show a + q.val = 1408 * (s + 0) + (lo + q.val)
  omega

/-- Row 0 of the taps' gradient. -/
theorem sum0_piece (hs : a = 1408 * s + lo) (hV : ∀ r q (ha : a + q.val < 2816), V (ix2 r q) = P r ⟨a + q.val, ha⟩) {iy io i2}
    (hy : ∀ j, v j = y ((Rect.unit (s := S8x2816) ![0, a] S8x256.size iy).emb j))
    (hold : ∀ j, old j = y9 ((Rect.unit (s := S2x16x1408) ![s, 0, lo] S1x1x256.size io).emb j)) (j : S1x1x256.Idx) :
    vSum (mulf (vUp 262#32 V v) (wide (View.ld x2 (Rect.unit ![n.val, 0, a] S1x256x256.size i2)))) old j
      = newSum x2 P y n y9 ((Rect.unit (s := S2x16x1408) ![s, 0, lo] S1x1x256.size io).emb j) :=
  sum_piece hs hold (fun q ha => by
    rw [addend0]
    refine Finset.sum_congr rfl fun r _ => ?_
    rw [← wide_ld x2 (n := n) (i2 := i2) r q ha, ← up2_block hV hy r q ha]; rfl) j

/-- Row 1. -/
theorem sum1_piece (hs : a = 1408 * s + lo) (hV : ∀ r q (ha : a + q.val < 2816), V (ix2 r q) = P r ⟨a + q.val, ha⟩) {iy io i2}
    (hy : ∀ j, v j = y ((Rect.unit (s := S8x2816) ![0, a] S8x256.size iy).emb j))
    (hold : ∀ j, old j = y9 ((Rect.unit (s := S2x16x1408) ![s, 1, lo] S1x1x256.size io).emb j)) (j : S1x1x256.Idx) :
    vSum (mulf (vUp 263#32 V v) (wide (View.ld x2 (Rect.unit ![n.val, 0, a] S1x256x256.size i2)))) old j
      = newSum x2 P y n y9 ((Rect.unit (s := S2x16x1408) ![s, 1, lo] S1x1x256.size io).emb j) :=
  sum_piece hs hold (fun q ha => by
    rw [addend1]
    refine Finset.sum_congr rfl fun r _ => ?_
    rw [← wide_ld x2 (n := n) (i2 := i2) r q ha, ← up1_block hV hy r q ha]; rfl) j

/-- Row 2. -/
theorem sum2_piece (hs : a = 1408 * s + lo) (hV : ∀ r q (ha : a + q.val < 2816), V (ix2 r q) = P r ⟨a + q.val, ha⟩) {io i2}
    (hold : ∀ j, old j = y9 ((Rect.unit (s := S2x16x1408) ![s, 2, lo] S1x1x256.size io).emb j)) (j : S1x1x256.Idx) :
    vSum (mulf V (wide (View.ld x2 (Rect.unit ![n.val, 0, a] S1x256x256.size i2)))) old j
      = newSum x2 P y n y9 ((Rect.unit (s := S2x16x1408) ![s, 2, lo] S1x1x256.size io).emb j) :=
  sum_piece hs hold (fun q ha => by
    rw [addend2]
    refine Finset.sum_congr rfl fun r _ => ?_
    rw [← wide_ld x2 (n := n) (i2 := i2) r q ha, ← hV r q ha]; rfl) j

/-- Row 3. -/
theorem sum3_piece (hs : a = 1408 * s + lo) (hV : ∀ r q (ha : a + q.val < 2816), V (ix2 r q) = P r ⟨a + q.val, ha⟩) {io}
    (hold : ∀ j, old j = y9 ((Rect.unit (s := S2x16x1408) ![s, 3, lo] S1x1x256.size io).emb j)) (j : S1x1x256.Idx) :
    vSum V old j = newSum x2 P y n y9 ((Rect.unit (s := S2x16x1408) ![s, 3, lo] S1x1x256.size io).emb j) :=
  sum_piece hs hold (fun q ha => by
    rw [addend3]
    exact Finset.sum_congr rfl fun r _ => hV r q ha) j

end Sums

section Slabs
variable {s lo t : ℕ} {x6 : Vec Ideal S4x16x1408 .f32} {v : Vec Ideal S8x256 .f32} {y : Vec Ideal S8x2816 .f32} {n : Fin 2}

theorem mix_block (hs : a = 1408 * s + lo) (ht : t = 2 * n.val + s) (hV : ∀ r q (ha : a + q.val < 2816), V (ix2 r q) = P r ⟨a + q.val, ha⟩)
    {iy k2 k1 k0} (hy : ∀ j, v j = y ((Rect.unit (s := S8x2816) ![0, a] S8x256.size iy).emb j)) (r : Fin 256) (q : Fin 256) (ha : a + q.val < 2816) :
    vMix V v (View.ld x6 (Rect.unit ![t, 2, lo] S1x1x256.size k2)) (View.ld x6 (Rect.unit ![t, 1, lo] S1x1x256.size k1))
      (View.ld x6 (Rect.unit ![t, 0, lo] S1x1x256.size k0)) (ix2 r q) = mix x6 P y n r ⟨a + q.val, ha⟩ := by
  have h0 : t + 1 ≤ 4 := k0 0
  have h2 : lo + 256 ≤ 1408 := k0 2
  have hn := n.isLt
  have e1 : ((⟨2 * n.val + (cs ⟨a + q.val, ha⟩).val, by have := (cs ⟨a + q.val, ha⟩).isLt; omega⟩ : Fin 4)) = ⟨t + 0, by omega⟩ := by
    apply Fin.ext; show 2 * n.val + (a + q.val) / 1408 = t + 0; omega
  have e2 : cl ⟨a + q.val, ha⟩ = ⟨lo + q.val, by omega⟩ := by
    apply Fin.ext; show (a + q.val) % 1408 = lo + q.val; omega
  rw [vMix_apply, up1_block hV hy r q ha, up2_block hV hy r q ha, hV r q ha]
  unfold mix
  rw [e1, e2]
  pointwise

/-- The gradient of the convolution's input. -/
theorem slab_piece {M : FVec Ideal S256x256 .bf16} {x6 : Vec Ideal S4x16x1408 .f32} {Q : Fin 2 → Fin 256 → Fin 2816 → EReal}
    {z : Fin 2 → Vec Ideal S8x2816 .f32} {io}
    (hM : ∀ r q (ha : a + q.val < 2816), M (ix2 r q) = mix x6 (Q n) (z n) n r ⟨a + q.val, ha⟩) (j : S1x256x256.Idx) :
    vSlab M j = newSlab x6 Q z ((Rect.unit (s := S2x256x2816) ![n.val, 0, a] S1x256x256.size io).emb j) := by
  have h2 : a + 256 ≤ 2816 := io 2
  obtain ⟨p, r, q, rfl⟩ : ∃ p r q, j = ix3 p r q := ⟨_, _, _, eq_ix3 j⟩
  obtain rfl : p = 0 := Subsingleton.elim _ _
  rw [vSlab_apply, emb3 io 0 r q (by have := n.isLt; show n.val + 0 < 2; omega) (by omega) (by omega)]
  refine (hM r q (by omega)).trans ?_
  have e : (⟨0 + r.val, by omega⟩ : Fin 256) = r := Fin.ext (Nat.zero_add _)
  show _ = mix x6 (Q n) (z n) n ⟨0 + r.val, _⟩ ⟨a + q.val, _⟩
  rw [e]

theorem term_block {A B : FVec Ideal S256x256 .bf16} {x5 : Vec Ideal S2x1024x2816 .bf16} {M : Fin 2 → Fin 256 → Fin 2816 → EReal} {p : ℕ} {i5}
    (hs : a = 1408 * s + lo) (hl : lo % 256 = 0 ∧ lo + 256 ≤ 1280) (hp : p = 2 * lo)
    (hA : ∀ r q (ha : a + q.val < 2816), A (ix2 r q) = M 0 r ⟨a + q.val, ha⟩)
    (hB : ∀ r q (ha : a + q.val < 2816), B (ix2 r q) = M 1 r ⟨a + q.val, ha⟩) (j : S256x1024.Idx) :
    vTerm A B (View.ld x5 (Rect.unit ![s, 0, p] S1x1024x512.size i5)) j
      = (∑ k ∈ Finset.range 256, share x5 M (j 0) (j 1) 0 (a + k)) + ∑ k ∈ Finset.range 256, share x5 M (j 0) (j 1) 1 (a + k) := by
  have h0 : s + 1 ≤ 2 := i5 0
  have h2 : p + 512 ≤ 2816 := i5 2
  have key : ∀ (n : Fin 2) (C : FVec Ideal S256x256 .bf16), (∀ r q (ha : a + q.val < 2816), C (ix2 r q) = M n r ⟨a + q.val, ha⟩) →
      ∀ (r : Fin 256) (d : Fin 1024), ∑ k : Fin 256, C (ix2 r k) * View.ld x5 (Rect.unit ![s, 0, p] S1x1024x512.size i5) (ix3 0 d ⟨256 * n.val + k.val, by omega⟩)
        = ∑ k ∈ Finset.range 256, share x5 M r d n (a + k) := fun n C hC r d => by
    rw [Finset.sum_range]
    refine Finset.sum_congr rfl fun k _ => ?_
    have ha : a + k.val < 2816 := by omega
    unfold share
    rw [dif_pos ha, hC r k ha]
    congr 1
    have e1 : cs ⟨a + k.val, ha⟩ = ⟨s + 0, h0⟩ := by apply Fin.ext; show (a + k.val) / 1408 = s + 0; omega
    have e2 : pos n (cl ⟨a + k.val, ha⟩) = ⟨p + (256 * n.val + k.val), by omega⟩ := by
      apply Fin.ext
      have e : (a + k.val) % 1408 = lo + k.val := by omega
      show (if (a + k.val) % 1408 < 1280 then 512 * ((a + k.val) % 1408 / 256) + 256 * n.val + (a + k.val) % 1408 % 256
        else 2560 + 128 * n.val + ((a + k.val) % 1408 - 1280)) = p + (256 * n.val + k.val)
      rw [e]
      rw [if_pos (by omega)]
      omega
    rw [e1, e2]
    have e3 : d = ⟨0 + d.val, by omega⟩ := Fin.ext (Nat.zero_add _).symm
    show x5 ((Rect.unit (s := S2x1024x2816) ![s, 0, p] S1x1024x512.size i5).emb (ix3 0 d ⟨256 * n.val + k.val, by omega⟩)) = _
    rw [emb3 i5 0 d ⟨256 * n.val + k.val, by omega⟩ (by show s + 0 < 2; omega) (by omega) (by show p + (256 * n.val + k.val) < 2816; omega)]
    exact congrArg (fun z => x5 (ix3 _ z _)) e3.symm
  refine (vTerm_apply A B _ j).trans (congrArg₂ (· + ·) (Eq.trans (Finset.sum_congr rfl fun k _ => ?_) (key 0 A hA (j 0) (j 1))) (key 1 B hB (j 0) (j 1)))
  have e : (⟨k.val, by omega⟩ : Fin 512) = ⟨256 * (0 : Fin 2).val + k.val, by show 256 * 0 + k.val < 512; omega⟩ :=
    Fin.ext (by show k.val = 256 * 0 + k.val; omega)
  exact congrArg (fun z => A (ix2 (j 0) k) * View.ld x5 (Rect.unit ![s, 0, p] S1x1024x512.size i5) (ix3 0 (j 1) z)) e

end Slabs

end Pieces

end Wide

namespace Narrow

/-! ### A chunk of 128 columns: the vectors the body computes -/

section Ops
variable {F : FTy → Type} [FloatOps F] [Named F]

/-- Widen a slab. -/
def wide (v : Vec F S1x256x128 .bf16) : FVec F S256x128 .f32 :=
  extf .f32 (shapeCast S256x128 v shapeCasts_S1x256x128_S256x128) bitsLt_bf16_f32

/-- `df` against the rows of `w_down`. -/
def vAct (v3 : Vec F S256x1024 .bf16) (v4 : Vec F S128x1024 .bf16) : FVec F S256x128 .f32 :=
  matmul dot_S256x1024_S128x1024_S256x128_1_1_0_0_n_n none v3 (shapeCast S128x1024 v4 shapeCasts_S128x1024_S128x1024) (constant S256x128 .f32 0x00000000#32)

/-- The inner `tanh`. -/
def vTh (g : FVec F S256x128 .f32) : FVec F S256x128 .f32 :=
  tanh (mulf g (addf (broadcast S256x128 (Scalar.ofBits .f32 0x3F4C422A#32))
    (mulf (broadcast S256x128 (Named.named κ "ca" 0x3D122279#32)) (mulf g g))))

/-- Half of one plus it. -/
def vHalf (g : FVec F S256x128 .f32) : FVec F S256x128 .f32 :=
  addf (broadcast S256x128 (Scalar.ofBits .f32 0x3F000000#32)) (mulf (broadcast S256x128 (Scalar.ofBits .f32 0x3F000000#32)) (vTh g))

/-- The gate's gradient. -/
def vG (v3 : Vec F S256x1024 .bf16) (v4 : Vec F S128x1024 .bf16) (p0 p1 : Vec F S1x256x128 .bf16) : FVec F S256x128 .f32 :=
  mulf (mulf (vAct v3 v4) (wide p1))
    (addf (vHalf (wide p0)) (mulf (mulf (wide p0) (mulf (vHalf (wide p0)) (subf (broadcast S256x128 (Scalar.ofBits .f32 0x3F800000#32)) (vTh (wide p0)))))
      (addf (broadcast S256x128 (Scalar.ofBits .f32 0x3F4C422A#32))
        (mulf (broadcast S256x128 (Named.named κ "ca3" 0x3DDB33B6#32)) (mulf (wide p0) (wide p0))))))

/-- The value's gradient. -/
def vV (v3 : Vec F S256x1024 .bf16) (v4 : Vec F S128x1024 .bf16) (p0 : Vec F S1x256x128 .bf16) : FVec F S256x128 .f32 :=
  mulf (vAct v3 v4) (mulf (wide p0) (vHalf (wide p0)))

/-- The rows `k` further down. -/
def vUp (k : BitVec 32) (P : FVec F S256x128 .f32) (y : Vec F S8x128 .f32) : FVec F S256x128 .f32 :=
  extractStridedSlice S256x128 ![0, 0] (dynamicRotate 0 k none
    (concatenate S264x128 0 [⟨S256x128, P⟩, ⟨S8x128, y⟩] concatenates_S256x128_S8x128_S264x128_d0) rotates_S264x128_d0) slices_S264x128_o0_0_S256x128

/-- The first eight rows, which the next block carries. -/
def vTop (P : FVec F S256x128 .f32) : FVec F S8x128 .f32 :=
  shapeCast S8x128 (extractStridedSlice S8x128 ![0, 0] P slices_S256x128_o0_0_S8x128) shapeCasts_S8x128_S8x128

/-- A running sum of rows. -/
def vSum (P : FVec F S256x128 .f32) (old : Vec F S1x1x128 .f32) : FVec F S1x1x128 .f32 :=
  shapeCast S1x1x128 (addf (shapeCast S1x128 old shapeCasts_S1x1x128_S1x128)
    (shapeCast S1x128 (multiReduction .add [0] S128 P 0x00000000#32 reduces_S256x128_S128 (.inl rfl) rfl) shapeCasts_S128_S1x128)) shapeCasts_S1x128_S1x1x128

/-- A tap along every row. -/
def vTap (k : Vec F S1x1x128 .f32) : FVec F S256x128 .f32 :=
  broadcastTo S256x128 (shapeCast S1x128 k shapeCasts_S1x1x128_S1x128) broadcasts_S1x128_S256x128

/-- Three taps. -/
def vMix (P : FVec F S256x128 .f32) (y : Vec F S8x128 .f32) (k2 k1 k0 : Vec F S1x1x128 .f32) : FVec F S256x128 .bf16 :=
  truncf .bf16 (addf (addf (mulf (vTap k2) P) (mulf (vTap k1) (vUp 263#32 P y))) (mulf (vTap k0) (vUp 262#32 P y))) bitsLt_bf16_f32

/-- The same, as a slab. -/
def vSlab (M : FVec F S256x128 .bf16) : FVec F S1x256x128 .bf16 := shapeCast S1x256x128 M shapeCasts_S256x128_S1x256x128

/-- Both halves against `w_up`. -/
def vTerm (A B : FVec F S256x128 .bf16) (w : Vec F S1x1024x256 .bf16) : FVec F S256x1024 .f32 :=
  matmul dot_S256x256_S1024x256_S256x1024_1_1_0_0_n_n none
    (concatenate S256x256 1 [⟨S256x128, A⟩, ⟨S256x128, B⟩] concatenates_S256x128_S256x128_S256x256_d1)
    (shapeCast S1024x256 w shapeCasts_S1x1024x256_S1024x256) (constant S256x1024 .f32 0x00000000#32)

end Ops

/-! ### The same at an index -/

section Apply

theorem wide_apply (v : Vec Ideal S1x256x128 .bf16) (j : S256x128.Idx) : wide v j = v (ix3 0 (j 0) (j 1)) := by
  unfold wide; pointwise

theorem vTh_apply (g : FVec Ideal S256x128 .f32) (j : S256x128.Idx) : vTh g j = th (g j) := by
  unfold vTh th; pointwise

theorem vHalf_apply (g : FVec Ideal S256x128 .f32) (j : S256x128.Idx) : vHalf g j = half (g j) := by
  unfold vHalf half; rw [← vTh_apply]; pointwise

theorem vAct_apply (v3 : Vec Ideal S256x1024 .bf16) (v4 : Vec Ideal S128x1024 .bf16) (j : S256x128.Idx) :
    vAct v3 v4 j = ∑ d : Fin 1024, v3 (ix2 (j 0) d) * v4 (ix2 (j 1) d) := by
  unfold vAct; pointwise

theorem vG_apply (v3 : Vec Ideal S256x1024 .bf16) (v4 : Vec Ideal S128x1024 .bf16) (p0 p1 : Vec Ideal S1x256x128 .bf16) (j : S256x128.Idx) :
    vG v3 v4 p0 p1 j = (∑ d : Fin 1024, v3 (ix2 (j 0) d) * v4 (ix2 (j 1) d)) * p1 (ix3 0 (j 0) (j 1)) * dgl (p0 (ix3 0 (j 0) (j 1))) := by
  unfold vG dgl
  rw [← vAct_apply, ← wide_apply p0, ← wide_apply p1, ← vHalf_apply, ← vTh_apply]
  pointwise

theorem vV_apply (v3 : Vec Ideal S256x1024 .bf16) (v4 : Vec Ideal S128x1024 .bf16) (p0 : Vec Ideal S1x256x128 .bf16) (j : S256x128.Idx) :
    vV v3 v4 p0 j = (∑ d : Fin 1024, v3 (ix2 (j 0) d) * v4 (ix2 (j 1) d)) * gl (p0 (ix3 0 (j 0) (j 1))) := by
  unfold vV gl
  rw [← vAct_apply, ← wide_apply p0, ← vHalf_apply]
  pointwise

theorem vUp1_apply (P : FVec Ideal S256x128 .f32) (y : Vec Ideal S8x128 .f32) (r : Fin 256) (q : Fin 128) :
    vUp 263#32 P y (ix2 r q) = if h : r.val + 1 < 256 then P (ix2 ⟨r.val + 1, h⟩ q) else y (ix2 ⟨r.val + 1 - 256, by omega⟩ q) := by
  have e : (r.val + 264 - 263) % 264 = r.val + 1 := by omega
  unfold vUp; pointwise; simp only [e]

theorem vUp2_apply (P : FVec Ideal S256x128 .f32) (y : Vec Ideal S8x128 .f32) (r : Fin 256) (q : Fin 128) :
    vUp 262#32 P y (ix2 r q) = if h : r.val + 2 < 256 then P (ix2 ⟨r.val + 2, h⟩ q) else y (ix2 ⟨r.val + 2 - 256, by omega⟩ q) := by
  have e : (r.val + 264 - 262) % 264 = r.val + 2 := by omega
  unfold vUp; pointwise; simp only [e]

theorem vTop_apply (P : FVec Ideal S256x128 .f32) (j : S8x128.Idx) :
    vTop P j = P (ix2 ⟨(j 0).val, by have : (j 0).val < 8 := (j 0).isLt; omega⟩ (j 1)) := by
  unfold vTop; pointwise

theorem vSum_apply (P : FVec Ideal S256x128 .f32) (old : Vec Ideal S1x1x128 .f32) (j : S1x1x128.Idx) :
    vSum P old j = old j + ∑ r : Fin 256, P (ix2 r (j 2)) := by
  unfold vSum; pointwise

theorem vTap_apply (k : Vec Ideal S1x1x128 .f32) (j : S256x128.Idx) : vTap k j = k (ix3 0 0 (j 1)) := by
  unfold vTap; pointwise

theorem vMix_apply (P : FVec Ideal S256x128 .f32) (y : Vec Ideal S8x128 .f32) (k2 k1 k0 : Vec Ideal S1x1x128 .f32) (j : S256x128.Idx) :
    vMix P y k2 k1 k0 j = k2 (ix3 0 0 (j 1)) * P j + k1 (ix3 0 0 (j 1)) * vUp 263#32 P y j + k0 (ix3 0 0 (j 1)) * vUp 262#32 P y j := by
  unfold vMix; rw [← vTap_apply k2, ← vTap_apply k1, ← vTap_apply k0]; pointwise

theorem vSlab_apply (M : FVec Ideal S256x128 .bf16) (j : S1x256x128.Idx) : vSlab M j = M (ix2 (j 1) (j 2)) := by
  unfold vSlab; pointwise

theorem vTerm_apply (A B : FVec Ideal S256x128 .bf16) (w : Vec Ideal S1x1024x256 .bf16) (j : S256x1024.Idx) :
    vTerm A B w j = (∑ k : Fin 128, A (ix2 (j 0) k) * w (ix3 0 (j 1) ⟨k.val, by omega⟩))
      + ∑ k : Fin 128, B (ix2 (j 0) k) * w (ix3 0 (j 1) ⟨128 + k.val, by omega⟩) := by
  unfold vTerm; pointwise

end Apply

/-! ### A piece of each buffer -/

section Pieces

theorem vG_block (x1 : Vec Ideal S256x1024 .bf16) (x3 : Vec Ideal S2x256x2816 .bf16) (x4 : Vec Ideal S2816x1024 .bf16) {a : ℕ} {i1 i3 i3' i4}
    (r : Fin 256) (q : Fin 128) (ha : a + q.val < 2816) :
    vG (View.ld x1 (Rect.unit ![0, 0] S256x1024.size i1)) (View.ld x4 (Rect.unit ![a, 0] S128x1024.size i4))
      (View.ld x3 (Rect.unit ![0, 0, a] S1x256x128.size i3)) (View.ld x3 (Rect.unit ![1, 0, a] S1x256x128.size i3')) (ix2 r q)
      = dp x1 x3 x4 0 r ⟨a + q.val, ha⟩ := by
  rw [vG_apply]; unfold dp dact; rw [if_pos rfl]; pointwise

theorem vV_block (x1 : Vec Ideal S256x1024 .bf16) (x3 : Vec Ideal S2x256x2816 .bf16) (x4 : Vec Ideal S2816x1024 .bf16) {a : ℕ} {i1 i3 i4}
    (r : Fin 256) (q : Fin 128) (ha : a + q.val < 2816) :
    vV (View.ld x1 (Rect.unit ![0, 0] S256x1024.size i1)) (View.ld x4 (Rect.unit ![a, 0] S128x1024.size i4))
      (View.ld x3 (Rect.unit ![0, 0, a] S1x256x128.size i3)) (ix2 r q)
      = dp x1 x3 x4 1 r ⟨a + q.val, ha⟩ := by
  rw [vV_apply]; unfold dp dact; rw [if_neg (by decide)]; pointwise

variable {V : FVec Ideal S256x128 .f32} {P : Fin 256 → Fin 2816 → EReal} {a : ℕ}

theorem up1_block (hV : ∀ r q (ha : a + q.val < 2816), V (ix2 r q) = P r ⟨a + q.val, ha⟩)
    {v : Vec Ideal S8x128 .f32} {y : Vec Ideal S8x2816 .f32} {iy} (hy : ∀ j, v j = y ((Rect.unit (s := S8x2816) ![0, a] S8x128.size iy).emb j))
    (r : Fin 256) (q : Fin 128) (ha : a + q.val < 2816) :
    vUp 263#32 V v (ix2 r q) = ext P y ⟨r.val + 1, by omega⟩ ⟨a + q.val, ha⟩ := by
  rw [vUp1_apply]; unfold ext
  by_cases h : r.val + 1 < 256
  · rw [dif_pos h, dif_pos h]; exact hV _ _ _
  · rw [dif_neg h, dif_neg h, hy, emb2 iy _ _ (by dsimp only; omega) ha]; congr 1; exact congrArg (ix2 · _) (Fin.ext (Nat.zero_add _))

theorem up2_block (hV : ∀ r q (ha : a + q.val < 2816), V (ix2 r q) = P r ⟨a + q.val, ha⟩)
    {v : Vec Ideal S8x128 .f32} {y : Vec Ideal S8x2816 .f32} {iy} (hy : ∀ j, v j = y ((Rect.unit (s := S8x2816) ![0, a] S8x128.size iy).emb j))
    (r : Fin 256) (q : Fin 128) (ha : a + q.val < 2816) :
    vUp 262#32 V v (ix2 r q) = ext P y ⟨r.val + 2, by omega⟩ ⟨a + q.val, ha⟩ := by
  rw [vUp2_apply]; unfold ext
  by_cases h : r.val + 2 < 256
  · rw [dif_pos h, dif_pos h]; exact hV _ _ _
  · rw [dif_neg h, dif_neg h, hy, emb2 iy _ _ (by dsimp only; omega) ha]; congr 1; exact congrArg (ix2 · _) (Fin.ext (Nat.zero_add _))

/-- The carried rows. -/
theorem top_piece (hV : ∀ r q (ha : a + q.val < 2816), V (ix2 r q) = P r ⟨a + q.val, ha⟩) {io} (j : S8x128.Idx) :
    vTop V j = newTop P ((Rect.unit (s := S8x2816) ![0, a] S8x128.size io).emb j) := by
  obtain ⟨r, q, rfl⟩ : ∃ r q, j = ix2 r q := ⟨_, _, eq_ix2 j⟩
  have h : a + 128 ≤ 2816 := io 1
  have ha : a + q.val < 2816 := by omega
  rw [vTop_apply, emb2 io r q (by omega) ha]
  refine (hV _ q ha).trans ?_
  unfold newTop
  exact congrArg (P · _) (Fin.ext (Nat.zero_add _).symm)

theorem wide_ld (x2 : Vec Ideal S2x256x2816 .bf16) {n : Fin 2} {i2} (r : Fin 256) (q : Fin 128) (ha : a + q.val < 2816) :
    wide (View.ld x2 (Rect.unit ![n.val, 0, a] S1x256x128.size i2)) (ix2 r q) = x2 (ix3 n r ⟨a + q.val, ha⟩) := by
  rw [wide_apply]; pointwise

section Sums
variable {s lo : ℕ} {x2 : Vec Ideal S2x256x2816 .bf16} {old : Vec Ideal S1x1x128 .f32} {y9 : Vec Ideal S2x16x1408 .f32}
  {v : Vec Ideal S8x128 .f32} {y : Vec Ideal S8x2816 .f32} {n : Fin 2}

theorem sum_piece {T : FVec Ideal S256x128 .f32} {k : ℕ} {io} (hs : a = 1408 * s + lo)
    (hold : ∀ j, old j = y9 ((Rect.unit (s := S2x16x1408) ![s, k, lo] S1x1x128.size io).emb j))
    (hT : ∀ q (ha : a + q.val < 2816), ∑ r : Fin 256, T (ix2 r q) = addend x2 P y n k ⟨a + q.val, ha⟩) (j : S1x1x128.Idx) :
    vSum T old j = newSum x2 P y n y9 ((Rect.unit (s := S2x16x1408) ![s, k, lo] S1x1x128.size io).emb j) := by
  have h0 : s + 1 ≤ 2 := io 0
  have h1 : k + 1 ≤ 16 := io 1
  have h2 : lo + 128 ≤ 1408 := io 2
  rw [vSum_apply, hold]
  obtain ⟨p, p', q, rfl⟩ : ∃ p p' q, j = ix3 p p' q := ⟨_, _, _, eq_ix3 j⟩
  obtain rfl : p = 0 := Subsingleton.elim _ _
  obtain rfl : p' = 0 := Subsingleton.elim _ _
  unfold newSum
  congr 1
  rw [emb3 io 0 0 q (by show s + 0 < 2; omega) (by show k + 0 < 16; omega) (by omega)]
  refine (hT q (by omega)).trans ?_
  show _ = addend x2 P y n (k + 0) (col ⟨s + 0, _⟩ ⟨lo + q.val, _⟩)
  congr 1
  apply Fin.ext
  show a + q.val = 1408 * (s + 0) + (lo + q.val)
  omega

/-- Row 0 of the taps' gradient. -/
theorem sum0_piece (hs : a = 1408 * s + lo) (hV : ∀ r q (ha : a + q.val < 2816), V (ix2 r q) = P r ⟨a + q.val, ha⟩) {iy io i2}
    (hy : ∀ j, v j = y ((Rect.unit (s := S8x2816) ![0, a] S8x128.size iy).emb j))
    (hold : ∀ j, old j = y9 ((Rect.unit (s := S2x16x1408) ![s, 0, lo] S1x1x128.size io).emb j)) (j : S1x1x128.Idx) :
    vSum (mulf (vUp 262#32 V v) (wide (View.ld x2 (Rect.unit ![n.val, 0, a] S1x256x128.size i2)))) old j
      = newSum x2 P y n y9 ((Rect.unit (s := S2x16x1408) ![s, 0, lo] S1x1x128.size io).emb j) :=
  sum_piece hs hold (fun q ha => by
    rw [addend0]
    refine Finset.sum_congr rfl fun r _ => ?_
    rw [← wide_ld x2 (n := n) (i2 := i2) r q ha, ← up2_block hV hy r q ha]; rfl) j

/-- Row 1. -/
theorem sum1_piece (hs : a = 1408 * s + lo) (hV : ∀ r q (ha : a + q.val < 2816), V (ix2 r q) = P r ⟨a + q.val, ha⟩) {iy io i2}
    (hy : ∀ j, v j = y ((Rect.unit (s := S8x2816) ![0, a] S8x128.size iy).emb j))
    (hold : ∀ j, old j = y9 ((Rect.unit (s := S2x16x1408) ![s, 1, lo] S1x1x128.size io).emb j)) (j : S1x1x128.Idx) :
    vSum (mulf (vUp 263#32 V v) (wide (View.ld x2 (Rect.unit ![n.val, 0, a] S1x256x128.size i2)))) old j
      = newSum x2 P y n y9 ((Rect.unit (s := S2x16x1408) ![s, 1, lo] S1x1x128.size io).emb j) :=
  sum_piece hs hold (fun q ha => by
    rw [addend1]
    refine Finset.sum_congr rfl fun r _ => ?_
    rw [← wide_ld x2 (n := n) (i2 := i2) r q ha, ← up1_block hV hy r q ha]; rfl) j

/-- Row 2. -/
theorem sum2_piece (hs : a = 1408 * s + lo) (hV : ∀ r q (ha : a + q.val < 2816), V (ix2 r q) = P r ⟨a + q.val, ha⟩) {io i2}
    (hold : ∀ j, old j = y9 ((Rect.unit (s := S2x16x1408) ![s, 2, lo] S1x1x128.size io).emb j)) (j : S1x1x128.Idx) :
    vSum (mulf V (wide (View.ld x2 (Rect.unit ![n.val, 0, a] S1x256x128.size i2)))) old j
      = newSum x2 P y n y9 ((Rect.unit (s := S2x16x1408) ![s, 2, lo] S1x1x128.size io).emb j) :=
  sum_piece hs hold (fun q ha => by
    rw [addend2]
    refine Finset.sum_congr rfl fun r _ => ?_
    rw [← wide_ld x2 (n := n) (i2 := i2) r q ha, ← hV r q ha]; rfl) j

/-- Row 3. -/
theorem sum3_piece (hs : a = 1408 * s + lo) (hV : ∀ r q (ha : a + q.val < 2816), V (ix2 r q) = P r ⟨a + q.val, ha⟩) {io}
    (hold : ∀ j, old j = y9 ((Rect.unit (s := S2x16x1408) ![s, 3, lo] S1x1x128.size io).emb j)) (j : S1x1x128.Idx) :
    vSum V old j = newSum x2 P y n y9 ((Rect.unit (s := S2x16x1408) ![s, 3, lo] S1x1x128.size io).emb j) :=
  sum_piece hs hold (fun q ha => by
    rw [addend3]
    exact Finset.sum_congr rfl fun r _ => hV r q ha) j

end Sums

section Slabs
variable {s lo t : ℕ} {x6 : Vec Ideal S4x16x1408 .f32} {v : Vec Ideal S8x128 .f32} {y : Vec Ideal S8x2816 .f32} {n : Fin 2}

theorem mix_block (hs : a = 1408 * s + lo) (ht : t = 2 * n.val + s) (hV : ∀ r q (ha : a + q.val < 2816), V (ix2 r q) = P r ⟨a + q.val, ha⟩)
    {iy k2 k1 k0} (hy : ∀ j, v j = y ((Rect.unit (s := S8x2816) ![0, a] S8x128.size iy).emb j)) (r : Fin 256) (q : Fin 128) (ha : a + q.val < 2816) :
    vMix V v (View.ld x6 (Rect.unit ![t, 2, lo] S1x1x128.size k2)) (View.ld x6 (Rect.unit ![t, 1, lo] S1x1x128.size k1))
      (View.ld x6 (Rect.unit ![t, 0, lo] S1x1x128.size k0)) (ix2 r q) = mix x6 P y n r ⟨a + q.val, ha⟩ := by
  have h0 : t + 1 ≤ 4 := k0 0
  have h2 : lo + 128 ≤ 1408 := k0 2
  have hn := n.isLt
  have e1 : ((⟨2 * n.val + (cs ⟨a + q.val, ha⟩).val, by have := (cs ⟨a + q.val, ha⟩).isLt; omega⟩ : Fin 4)) = ⟨t + 0, by omega⟩ := by
    apply Fin.ext; show 2 * n.val + (a + q.val) / 1408 = t + 0; omega
  have e2 : cl ⟨a + q.val, ha⟩ = ⟨lo + q.val, by omega⟩ := by
    apply Fin.ext; show (a + q.val) % 1408 = lo + q.val; omega
  rw [vMix_apply, up1_block hV hy r q ha, up2_block hV hy r q ha, hV r q ha]
  unfold mix
  rw [e1, e2]
  pointwise

/-- The gradient of the convolution's input. -/
theorem slab_piece {M : FVec Ideal S256x128 .bf16} {x6 : Vec Ideal S4x16x1408 .f32} {Q : Fin 2 → Fin 256 → Fin 2816 → EReal}
    {z : Fin 2 → Vec Ideal S8x2816 .f32} {io}
    (hM : ∀ r q (ha : a + q.val < 2816), M (ix2 r q) = mix x6 (Q n) (z n) n r ⟨a + q.val, ha⟩) (j : S1x256x128.Idx) :
    vSlab M j = newSlab x6 Q z ((Rect.unit (s := S2x256x2816) ![n.val, 0, a] S1x256x128.size io).emb j) := by
  have h2 : a + 128 ≤ 2816 := io 2
  obtain ⟨p, r, q, rfl⟩ : ∃ p r q, j = ix3 p r q := ⟨_, _, _, eq_ix3 j⟩
  obtain rfl : p = 0 := Subsingleton.elim _ _
  rw [vSlab_apply, emb3 io 0 r q (by have := n.isLt; show n.val + 0 < 2; omega) (by omega) (by omega)]
  refine (hM r q (by omega)).trans ?_
  have e : (⟨0 + r.val, by omega⟩ : Fin 256) = r := Fin.ext (Nat.zero_add _)
  show _ = mix x6 (Q n) (z n) n ⟨0 + r.val, _⟩ ⟨a + q.val, _⟩
  rw [e]

theorem term_block {A B : FVec Ideal S256x128 .bf16} {x5 : Vec Ideal S2x1024x2816 .bf16} {M : Fin 2 → Fin 256 → Fin 2816 → EReal} {p : ℕ} {i5}
    (hs : a = 1408 * s + lo) (hl : lo = 1280) (hp : p = 2 * lo)
    (hA : ∀ r q (ha : a + q.val < 2816), A (ix2 r q) = M 0 r ⟨a + q.val, ha⟩)
    (hB : ∀ r q (ha : a + q.val < 2816), B (ix2 r q) = M 1 r ⟨a + q.val, ha⟩) (j : S256x1024.Idx) :
    vTerm A B (View.ld x5 (Rect.unit ![s, 0, p] S1x1024x256.size i5)) j
      = (∑ k ∈ Finset.range 128, share x5 M (j 0) (j 1) 0 (a + k)) + ∑ k ∈ Finset.range 128, share x5 M (j 0) (j 1) 1 (a + k) := by
  have h0 : s + 1 ≤ 2 := i5 0
  have h2 : p + 256 ≤ 2816 := i5 2
  have key : ∀ (n : Fin 2) (C : FVec Ideal S256x128 .bf16), (∀ r q (ha : a + q.val < 2816), C (ix2 r q) = M n r ⟨a + q.val, ha⟩) →
      ∀ (r : Fin 256) (d : Fin 1024), ∑ k : Fin 128, C (ix2 r k) * View.ld x5 (Rect.unit ![s, 0, p] S1x1024x256.size i5) (ix3 0 d ⟨128 * n.val + k.val, by omega⟩)
        = ∑ k ∈ Finset.range 128, share x5 M r d n (a + k) := fun n C hC r d => by
    rw [Finset.sum_range]
    refine Finset.sum_congr rfl fun k _ => ?_
    have ha : a + k.val < 2816 := by omega
    unfold share
    rw [dif_pos ha, hC r k ha]
    congr 1
    have e1 : cs ⟨a + k.val, ha⟩ = ⟨s + 0, h0⟩ := by apply Fin.ext; show (a + k.val) / 1408 = s + 0; omega
    have e2 : pos n (cl ⟨a + k.val, ha⟩) = ⟨p + (128 * n.val + k.val), by omega⟩ := by
      apply Fin.ext
      have e : (a + k.val) % 1408 = lo + k.val := by omega
      show (if (a + k.val) % 1408 < 1280 then 512 * ((a + k.val) % 1408 / 256) + 256 * n.val + (a + k.val) % 1408 % 256
        else 2560 + 128 * n.val + ((a + k.val) % 1408 - 1280)) = p + (128 * n.val + k.val)
      rw [e]
      rw [if_neg (by omega)]
      omega
    rw [e1, e2]
    have e3 : d = ⟨0 + d.val, by omega⟩ := Fin.ext (Nat.zero_add _).symm
    show x5 ((Rect.unit (s := S2x1024x2816) ![s, 0, p] S1x1024x256.size i5).emb (ix3 0 d ⟨128 * n.val + k.val, by omega⟩)) = _
    rw [emb3 i5 0 d ⟨128 * n.val + k.val, by omega⟩ (by show s + 0 < 2; omega) (by omega) (by show p + (128 * n.val + k.val) < 2816; omega)]
    exact congrArg (fun z => x5 (ix3 _ z _)) e3.symm
  refine (vTerm_apply A B _ j).trans (congrArg₂ (· + ·) (Eq.trans (Finset.sum_congr rfl fun k _ => ?_) (key 0 A hA (j 0) (j 1))) (key 1 B hB (j 0) (j 1)))
  have e : (⟨k.val, by omega⟩ : Fin 256) = ⟨128 * (0 : Fin 2).val + k.val, by show 128 * 0 + k.val < 256; omega⟩ :=
    Fin.ext (by show k.val = 128 * 0 + k.val; omega)
  exact congrArg (fun z => A (ix2 (j 0) k) * View.ld x5 (Rect.unit ![s, 0, p] S1x1024x256.size i5) (ix3 0 (j 1) z)) e

end Slabs

end Pieces

end Narrow

/-- All chunks' shares. -/
theorem total (x5 : Vec Ideal S2x1024x2816 .bf16) (M : Fin 2 → Fin 256 → Fin 2816 → EReal) (j : S256x1024.Idx) :
    ((((((((((((∑ k ∈ Finset.range 256, share x5 M (j 0) (j 1) 0 (0 + k)) + ∑ k ∈ Finset.range 256, share x5 M (j 0) (j 1) 1 (0 + k))
      + ((∑ k ∈ Finset.range 256, share x5 M (j 0) (j 1) 0 (256 + k)) + ∑ k ∈ Finset.range 256, share x5 M (j 0) (j 1) 1 (256 + k)))
      + ((∑ k ∈ Finset.range 256, share x5 M (j 0) (j 1) 0 (512 + k)) + ∑ k ∈ Finset.range 256, share x5 M (j 0) (j 1) 1 (512 + k)))
      + ((∑ k ∈ Finset.range 256, share x5 M (j 0) (j 1) 0 (768 + k)) + ∑ k ∈ Finset.range 256, share x5 M (j 0) (j 1) 1 (768 + k)))
      + ((∑ k ∈ Finset.range 256, share x5 M (j 0) (j 1) 0 (1024 + k)) + ∑ k ∈ Finset.range 256, share x5 M (j 0) (j 1) 1 (1024 + k)))
      + ((∑ k ∈ Finset.range 128, share x5 M (j 0) (j 1) 0 (1280 + k)) + ∑ k ∈ Finset.range 128, share x5 M (j 0) (j 1) 1 (1280 + k)))
      + ((∑ k ∈ Finset.range 256, share x5 M (j 0) (j 1) 0 (1408 + k)) + ∑ k ∈ Finset.range 256, share x5 M (j 0) (j 1) 1 (1408 + k)))
      + ((∑ k ∈ Finset.range 256, share x5 M (j 0) (j 1) 0 (1664 + k)) + ∑ k ∈ Finset.range 256, share x5 M (j 0) (j 1) 1 (1664 + k)))
      + ((∑ k ∈ Finset.range 256, share x5 M (j 0) (j 1) 0 (1920 + k)) + ∑ k ∈ Finset.range 256, share x5 M (j 0) (j 1) 1 (1920 + k)))
      + ((∑ k ∈ Finset.range 256, share x5 M (j 0) (j 1) 0 (2176 + k)) + ∑ k ∈ Finset.range 256, share x5 M (j 0) (j 1) 1 (2176 + k)))
      + ((∑ k ∈ Finset.range 256, share x5 M (j 0) (j 1) 0 (2432 + k)) + ∑ k ∈ Finset.range 256, share x5 M (j 0) (j 1) 1 (2432 + k)))
      + ((∑ k ∈ Finset.range 128, share x5 M (j 0) (j 1) 0 (2688 + k)) + ∑ k ∈ Finset.range 128, share x5 M (j 0) (j 1) 1 (2688 + k))
      = newDu x5 M j := by
  simp only [Nat.zero_add]
  rw [← shares_eq (share x5 M (j 0) (j 1) 0) (share x5 M (j 0) (j 1) 1)]
  refine Finset.sum_congr rfl fun n _ => Finset.sum_congr rfl fun q _ => ?_
  match n with
  | ⟨0, _⟩ => rfl
  | ⟨1, _⟩ => rfl

/-- `du`. -/
theorem du_piece {T : FVec Ideal S256x1024 .f32} {x5 : Vec Ideal S2x1024x2816 .bf16} {M : Fin 2 → Fin 256 → Fin 2816 → EReal} {io}
    (hT : ∀ j, T j = newDu x5 M j) (j : S256x1024.Idx) :
    shapeCast S256x1024 (truncf (F := Ideal) .bf16 T bitsLt_bf16_f32) shapeCasts_S256x1024_S256x1024 j
      = newDu x5 M ((Rect.unit (s := S256x1024) ![0, 0] S256x1024.size io).emb j) := by
  have e : (Rect.unit (s := S256x1024) ![0, 0] S256x1024.size io).emb j = j := by
    obtain ⟨r, q, rfl⟩ : ∃ r q, j = ix2 r q := ⟨_, _, eq_ix2 j⟩
    rw [emb2 io r q (by omega) (by omega)]
    exact congrArg₂ ix2 (Fin.ext (Nat.zero_add _)) (Fin.ext (Nat.zero_add _))
  rw [e, shapeCast_self]
  exact hT j

end Cert.KernelIdeal.Body

end
-- ==== Proof.RestTops.lean ====
module

public import proofs.«01_k».proof.Proof.BodyRest
public import proofs.«01_k».proof.Proof.Chunk
public import Idealize.ShloMosaic.Lib.Tactic.Stretches

@[expose] public section

set_option maxRecDepth 16384

noncomputable section

namespace Cert.KernelIdeal.Body.Rest

open Idealize.ShloMosaic Idealize.ShloMosaic.TcCoe Idealize.ShloMosaic.Tactic
open Cert.KernelIdeal Cert.KernelIdeal.Gen

variable
  (c : Dev nD) (i : grid0.Coords) (arg1 : Memref sig .tc .vmem S256x1024 .bf16) (harg1 : arg1.IsWhole) (arg2 : Memref sig .tc .vmem S2x256x2816 .bf16) (harg2 : arg2.IsWhole)
  (arg3 : Memref sig .tc .vmem S2x256x2816 .bf16) (harg3 : arg3.IsWhole) (arg4 : Memref sig .tc .vmem S2816x1024 .bf16) (harg4 : arg4.IsWhole)
  (arg5 : Memref sig .tc .vmem S2x1024x2816 .bf16) (harg5 : arg5.IsWhole) (arg6 : Memref sig .tc .vmem S4x16x1408 .f32) (harg6 : arg6.IsWhole)
  (arg7 : Memref sig .tc .vmem S256x1024 .bf16) (harg7 : arg7.IsWhole) (arg8 : Memref sig .tc .vmem S2x256x2816 .bf16) (harg8 : arg8.IsWhole)
  (arg9 : Memref sig .tc .vmem S2x16x1408 .f32) (harg9 : arg9.IsWhole) (arg10 : Memref sig .tc .vmem S2x16x1408 .f32) (harg10 : arg10.IsWhole)
  (arg11 : Memref sig .tc .vmem S8x2816 .f32) (harg11 : arg11.IsWhole) (arg12 : Memref sig .tc .vmem S8x2816 .f32) (harg12 : arg12.IsWhole) (hc : ¬first i)
  (x1 : Vec Ideal S256x1024 .bf16) (x2 x3 : Vec Ideal S2x256x2816 .bf16) (x4 : Vec Ideal S2816x1024 .bf16) (x5 : Vec Ideal S2x1024x2816 .bf16)
  (x6 : Vec Ideal S4x16x1408 .f32) (y9 y10 : Vec Ideal S2x16x1408 .f32) (y11 y12 : Vec Ideal S8x2816 .f32)

set_option maxHeartbeats 8000000 in
/-- The carried rows it leaves, piece by piece. -/
theorem top0 (p) (hp : p ∈ (runRest c i arg1 harg1 arg2 harg2 arg3 harg3 arg4 harg4 arg5 harg5 arg6 harg6 arg7 harg7 arg8 harg8 arg9 harg9 arg10 harg10 arg11 harg11 arg12 harg12 hc x1 x2 x3 x4 x5 x6 y9 y10 y11 y12).2.2.2.2.1) (j : p.1.shape.Idx) : p.2 j = newTop (dp x1 x3 x4 0) (p.1.emb j) := by
  have e : newTop (dp x1 x3 x4 0) = newTop (dp (arg1.view.read (Elt Ideal) (harg1.unread x1)) (arg3.view.read (Elt Ideal) (harg3.unread x3)) (arg4.view.read (Elt Ideal) (harg4.unread x4)) 0) := by
    simp only [Memref.IsWhole.read_unread]
  rw [e]
  clear e
  unfold runRest at hp
  dsimp only at hp
  simp only [List.mem_cons, List.not_mem_nil, or_false] at hp
  revert j
  rcases hp with rfl | rfl | rfl | rfl | rfl | rfl | rfl | rfl | rfl | rfl | rfl | rfl <;>
    (intro j
     sl_open_run
     sl_open_pay
     dsimp only [View.readAt_eq_ld])
  · exact Narrow.top_piece (Narrow.vG_block (arg1.view.read (Elt Ideal) (harg1.unread x1)) (arg3.view.read (Elt Ideal) (harg3.unread x3)) (arg4.view.read (Elt Ideal) (harg4.unread x4))) j
  · exact Wide.top_piece (Wide.vG_block (arg1.view.read (Elt Ideal) (harg1.unread x1)) (arg3.view.read (Elt Ideal) (harg3.unread x3)) (arg4.view.read (Elt Ideal) (harg4.unread x4))) j
  · exact Wide.top_piece (Wide.vG_block (arg1.view.read (Elt Ideal) (harg1.unread x1)) (arg3.view.read (Elt Ideal) (harg3.unread x3)) (arg4.view.read (Elt Ideal) (harg4.unread x4))) j
  · exact Wide.top_piece (Wide.vG_block (arg1.view.read (Elt Ideal) (harg1.unread x1)) (arg3.view.read (Elt Ideal) (harg3.unread x3)) (arg4.view.read (Elt Ideal) (harg4.unread x4))) j
  · exact Wide.top_piece (Wide.vG_block (arg1.view.read (Elt Ideal) (harg1.unread x1)) (arg3.view.read (Elt Ideal) (harg3.unread x3)) (arg4.view.read (Elt Ideal) (harg4.unread x4))) j
  · exact Wide.top_piece (Wide.vG_block (arg1.view.read (Elt Ideal) (harg1.unread x1)) (arg3.view.read (Elt Ideal) (harg3.unread x3)) (arg4.view.read (Elt Ideal) (harg4.unread x4))) j
  · exact Narrow.top_piece (Narrow.vG_block (arg1.view.read (Elt Ideal) (harg1.unread x1)) (arg3.view.read (Elt Ideal) (harg3.unread x3)) (arg4.view.read (Elt Ideal) (harg4.unread x4))) j
  · exact Wide.top_piece (Wide.vG_block (arg1.view.read (Elt Ideal) (harg1.unread x1)) (arg3.view.read (Elt Ideal) (harg3.unread x3)) (arg4.view.read (Elt Ideal) (harg4.unread x4))) j
  · exact Wide.top_piece (Wide.vG_block (arg1.view.read (Elt Ideal) (harg1.unread x1)) (arg3.view.read (Elt Ideal) (harg3.unread x3)) (arg4.view.read (Elt Ideal) (harg4.unread x4))) j
  · exact Wide.top_piece (Wide.vG_block (arg1.view.read (Elt Ideal) (harg1.unread x1)) (arg3.view.read (Elt Ideal) (harg3.unread x3)) (arg4.view.read (Elt Ideal) (harg4.unread x4))) j
  · exact Wide.top_piece (Wide.vG_block (arg1.view.read (Elt Ideal) (harg1.unread x1)) (arg3.view.read (Elt Ideal) (harg3.unread x3)) (arg4.view.read (Elt Ideal) (harg4.unread x4))) j
  · exact Wide.top_piece (Wide.vG_block (arg1.view.read (Elt Ideal) (harg1.unread x1)) (arg3.view.read (Elt Ideal) (harg3.unread x3)) (arg4.view.read (Elt Ideal) (harg4.unread x4))) j

set_option maxHeartbeats 8000000 in
/-- The carried rows it leaves, piece by piece. -/
theorem top1 (p) (hp : p ∈ (runRest c i arg1 harg1 arg2 harg2 arg3 harg3 arg4 harg4 arg5 harg5 arg6 harg6 arg7 harg7 arg8 harg8 arg9 harg9 arg10 harg10 arg11 harg11 arg12 harg12 hc x1 x2 x3 x4 x5 x6 y9 y10 y11 y12).2.2.2.2.2.1) (j : p.1.shape.Idx) : p.2 j = newTop (dp x1 x3 x4 1) (p.1.emb j) := by
  have e : newTop (dp x1 x3 x4 1) = newTop (dp (arg1.view.read (Elt Ideal) (harg1.unread x1)) (arg3.view.read (Elt Ideal) (harg3.unread x3)) (arg4.view.read (Elt Ideal) (harg4.unread x4)) 1) := by
    simp only [Memref.IsWhole.read_unread]
  rw [e]
  clear e
  unfold runRest at hp
  dsimp only at hp
  simp only [List.mem_cons, List.not_mem_nil, or_false] at hp
  revert j
  rcases hp with rfl | rfl | rfl | rfl | rfl | rfl | rfl | rfl | rfl | rfl | rfl | rfl <;>
    (intro j
     sl_open_run
     sl_open_pay
     dsimp only [View.readAt_eq_ld])
  · exact Narrow.top_piece (Narrow.vV_block (arg1.view.read (Elt Ideal) (harg1.unread x1)) (arg3.view.read (Elt Ideal) (harg3.unread x3)) (arg4.view.read (Elt Ideal) (harg4.unread x4))) j
  · exact Wide.top_piece (Wide.vV_block (arg1.view.read (Elt Ideal) (harg1.unread x1)) (arg3.view.read (Elt Ideal) (harg3.unread x3)) (arg4.view.read (Elt Ideal) (harg4.unread x4))) j
  · exact Wide.top_piece (Wide.vV_block (arg1.view.read (Elt Ideal) (harg1.unread x1)) (arg3.view.read (Elt Ideal) (harg3.unread x3)) (arg4.view.read (Elt Ideal) (harg4.unread x4))) j
  · exact Wide.top_piece (Wide.vV_block (arg1.view.read (Elt Ideal) (harg1.unread x1)) (arg3.view.read (Elt Ideal) (harg3.unread x3)) (arg4.view.read (Elt Ideal) (harg4.unread x4))) j
  · exact Wide.top_piece (Wide.vV_block (arg1.view.read (Elt Ideal) (harg1.unread x1)) (arg3.view.read (Elt Ideal) (harg3.unread x3)) (arg4.view.read (Elt Ideal) (harg4.unread x4))) j
  · exact Wide.top_piece (Wide.vV_block (arg1.view.read (Elt Ideal) (harg1.unread x1)) (arg3.view.read (Elt Ideal) (harg3.unread x3)) (arg4.view.read (Elt Ideal) (harg4.unread x4))) j
  · exact Narrow.top_piece (Narrow.vV_block (arg1.view.read (Elt Ideal) (harg1.unread x1)) (arg3.view.read (Elt Ideal) (harg3.unread x3)) (arg4.view.read (Elt Ideal) (harg4.unread x4))) j
  · exact Wide.top_piece (Wide.vV_block (arg1.view.read (Elt Ideal) (harg1.unread x1)) (arg3.view.read (Elt Ideal) (harg3.unread x3)) (arg4.view.read (Elt Ideal) (harg4.unread x4))) j
  · exact Wide.top_piece (Wide.vV_block (arg1.view.read (Elt Ideal) (harg1.unread x1)) (arg3.view.read (Elt Ideal) (harg3.unread x3)) (arg4.view.read (Elt Ideal) (harg4.unread x4))) j
  · exact Wide.top_piece (Wide.vV_block (arg1.view.read (Elt Ideal) (harg1.unread x1)) (arg3.view.read (Elt Ideal) (harg3.unread x3)) (arg4.view.read (Elt Ideal) (harg4.unread x4))) j
  · exact Wide.top_piece (Wide.vV_block (arg1.view.read (Elt Ideal) (harg1.unread x1)) (arg3.view.read (Elt Ideal) (harg3.unread x3)) (arg4.view.read (Elt Ideal) (harg4.unread x4))) j
  · exact Wide.top_piece (Wide.vV_block (arg1.view.read (Elt Ideal) (harg1.unread x1)) (arg3.view.read (Elt Ideal) (harg3.unread x3)) (arg4.view.read (Elt Ideal) (harg4.unread x4))) j

end Cert.KernelIdeal.Body.Rest

end
-- ==== Proof.RestSums.lean ====
module

public import proofs.«01_k».proof.Proof.BodyRest
public import proofs.«01_k».proof.Proof.Chunk
public import Idealize.ShloMosaic.Lib.Tactic.Stretches

@[expose] public section

set_option maxRecDepth 16384

noncomputable section

namespace Cert.KernelIdeal.Body.Rest

open Idealize.ShloMosaic Idealize.ShloMosaic.TcCoe Idealize.ShloMosaic.Tactic
open Cert.KernelIdeal Cert.KernelIdeal.Gen

variable
  (c : Dev nD) (i : grid0.Coords) (arg1 : Memref sig .tc .vmem S256x1024 .bf16) (harg1 : arg1.IsWhole) (arg2 : Memref sig .tc .vmem S2x256x2816 .bf16) (harg2 : arg2.IsWhole)
  (arg3 : Memref sig .tc .vmem S2x256x2816 .bf16) (harg3 : arg3.IsWhole) (arg4 : Memref sig .tc .vmem S2816x1024 .bf16) (harg4 : arg4.IsWhole)
  (arg5 : Memref sig .tc .vmem S2x1024x2816 .bf16) (harg5 : arg5.IsWhole) (arg6 : Memref sig .tc .vmem S4x16x1408 .f32) (harg6 : arg6.IsWhole)
  (arg7 : Memref sig .tc .vmem S256x1024 .bf16) (harg7 : arg7.IsWhole) (arg8 : Memref sig .tc .vmem S2x256x2816 .bf16) (harg8 : arg8.IsWhole)
  (arg9 : Memref sig .tc .vmem S2x16x1408 .f32) (harg9 : arg9.IsWhole) (arg10 : Memref sig .tc .vmem S2x16x1408 .f32) (harg10 : arg10.IsWhole)
  (arg11 : Memref sig .tc .vmem S8x2816 .f32) (harg11 : arg11.IsWhole) (arg12 : Memref sig .tc .vmem S8x2816 .f32) (harg12 : arg12.IsWhole) (hc : ¬first i)
  (x1 : Vec Ideal S256x1024 .bf16) (x2 x3 : Vec Ideal S2x256x2816 .bf16) (x4 : Vec Ideal S2816x1024 .bf16) (x5 : Vec Ideal S2x1024x2816 .bf16)
  (x6 : Vec Ideal S4x16x1408 .f32) (y9 y10 : Vec Ideal S2x16x1408 .f32) (y11 y12 : Vec Ideal S8x2816 .f32)

set_option maxHeartbeats 8000000 in
/-- The taps' gradient it leaves, piece by piece. -/
theorem sum0 (p) (hp : p ∈ (runRest c i arg1 harg1 arg2 harg2 arg3 harg3 arg4 harg4 arg5 harg5 arg6 harg6 arg7 harg7 arg8 harg8 arg9 harg9 arg10 harg10 arg11 harg11 arg12 harg12 hc x1 x2 x3 x4 x5 x6 y9 y10 y11 y12).2.2.1) (j : p.1.shape.Idx) : p.2 j = newSum x2 (dp x1 x3 x4 0) y11 0 y9 (p.1.emb j) := by
  have e : newSum x2 (dp x1 x3 x4 0) y11 0 y9 = newSum (arg2.view.read (Elt Ideal) (harg2.unread x2)) (dp (arg1.view.read (Elt Ideal) (harg1.unread x1)) (arg3.view.read (Elt Ideal) (harg3.unread x3)) (arg4.view.read (Elt Ideal) (harg4.unread x4)) 0) (arg11.view.read (Elt Ideal) (harg11.unread y11)) 0 (arg9.view.read (Elt Ideal) (harg9.unread y9)) := by
    simp only [Memref.IsWhole.read_unread]
  rw [e]
  clear e
  unfold runRest at hp
  dsimp only at hp
  simp only [List.mem_cons, List.not_mem_nil, or_false] at hp
  revert j
  rcases hp with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl <;>
    (intro j
     sl_open_run
     sl_open_pay
     dsimp only [View.readAt_eq_ld])
  · exact Narrow.sum3_piece (n := 0) (s := 1) (lo := 1280) (by decide) (Narrow.vG_block (arg1.view.read (Elt Ideal) (harg1.unread x1)) (arg3.view.read (Elt Ideal) (harg3.unread x3)) (arg4.view.read (Elt Ideal) (harg4.unread x4))) (fun _ => rfl) j
  · exact Narrow.sum2_piece (n := 0) (s := 1) (lo := 1280) (by decide) (Narrow.vG_block (arg1.view.read (Elt Ideal) (harg1.unread x1)) (arg3.view.read (Elt Ideal) (harg3.unread x3)) (arg4.view.read (Elt Ideal) (harg4.unread x4))) (fun _ => rfl) j
  · exact Narrow.sum1_piece (n := 0) (s := 1) (lo := 1280) (by decide) (Narrow.vG_block (arg1.view.read (Elt Ideal) (harg1.unread x1)) (arg3.view.read (Elt Ideal) (harg3.unread x3)) (arg4.view.read (Elt Ideal) (harg4.unread x4))) (fun _ => rfl) (fun _ => rfl) j
  · exact Narrow.sum0_piece (n := 0) (s := 1) (lo := 1280) (by decide) (Narrow.vG_block (arg1.view.read (Elt Ideal) (harg1.unread x1)) (arg3.view.read (Elt Ideal) (harg3.unread x3)) (arg4.view.read (Elt Ideal) (harg4.unread x4))) (fun _ => rfl) (fun _ => rfl) j
  · exact Wide.sum3_piece (n := 0) (s := 1) (lo := 1024) (by decide) (Wide.vG_block (arg1.view.read (Elt Ideal) (harg1.unread x1)) (arg3.view.read (Elt Ideal) (harg3.unread x3)) (arg4.view.read (Elt Ideal) (harg4.unread x4))) (fun _ => rfl) j
  · exact Wide.sum2_piece (n := 0) (s := 1) (lo := 1024) (by decide) (Wide.vG_block (arg1.view.read (Elt Ideal) (harg1.unread x1)) (arg3.view.read (Elt Ideal) (harg3.unread x3)) (arg4.view.read (Elt Ideal) (harg4.unread x4))) (fun _ => rfl) j
  · exact Wide.sum1_piece (n := 0) (s := 1) (lo := 1024) (by decide) (Wide.vG_block (arg1.view.read (Elt Ideal) (harg1.unread x1)) (arg3.view.read (Elt Ideal) (harg3.unread x3)) (arg4.view.read (Elt Ideal) (harg4.unread x4))) (fun _ => rfl) (fun _ => rfl) j
  · exact Wide.sum0_piece (n := 0) (s := 1) (lo := 1024) (by decide) (Wide.vG_block (arg1.view.read (Elt Ideal) (harg1.unread x1)) (arg3.view.read (Elt Ideal) (harg3.unread x3)) (arg4.view.read (Elt Ideal) (harg4.unread x4))) (fun _ => rfl) (fun _ => rfl) j
  · exact Wide.sum3_piece (n := 0) (s := 1) (lo := 768) (by decide) (Wide.vG_block (arg1.view.read (Elt Ideal) (harg1.unread x1)) (arg3.view.read (Elt Ideal) (harg3.unread x3)) (arg4.view.read (Elt Ideal) (harg4.unread x4))) (fun _ => rfl) j
  · exact Wide.sum2_piece (n := 0) (s := 1) (lo := 768) (by decide) (Wide.vG_block (arg1.view.read (Elt Ideal) (harg1.unread x1)) (arg3.view.read (Elt Ideal) (harg3.unread x3)) (arg4.view.read (Elt Ideal) (harg4.unread x4))) (fun _ => rfl) j
  · exact Wide.sum1_piece (n := 0) (s := 1) (lo := 768) (by decide) (Wide.vG_block (arg1.view.read (Elt Ideal) (harg1.unread x1)) (arg3.view.read (Elt Ideal) (harg3.unread x3)) (arg4.view.read (Elt Ideal) (harg4.unread x4))) (fun _ => rfl) (fun _ => rfl) j
  · exact Wide.sum0_piece (n := 0) (s := 1) (lo := 768) (by decide) (Wide.vG_block (arg1.view.read (Elt Ideal) (harg1.unread x1)) (arg3.view.read (Elt Ideal) (harg3.unread x3)) (arg4.view.read (Elt Ideal) (harg4.unread x4))) (fun _ => rfl) (fun _ => rfl) j
  · exact Wide.sum3_piece (n := 0) (s := 1) (lo := 512) (by decide) (Wide.vG_block (arg1.view.read (Elt Ideal) (harg1.unread x1)) (arg3.view.read (Elt Ideal) (harg3.unread x3)) (arg4.view.read (Elt Ideal) (harg4.unread x4))) (fun _ => rfl) j
  · exact Wide.sum2_piece (n := 0) (s := 1) (lo := 512) (by decide) (Wide.vG_block (arg1.view.read (Elt Ideal) (harg1.unread x1)) (arg3.view.read (Elt Ideal) (harg3.unread x3)) (arg4.view.read (Elt Ideal) (harg4.unread x4))) (fun _ => rfl) j
  · exact Wide.sum1_piece (n := 0) (s := 1) (lo := 512) (by decide) (Wide.vG_block (arg1.view.read (Elt Ideal) (harg1.unread x1)) (arg3.view.read (Elt Ideal) (harg3.unread x3)) (arg4.view.read (Elt Ideal) (harg4.unread x4))) (fun _ => rfl) (fun _ => rfl) j
  · exact Wide.sum0_piece (n := 0) (s := 1) (lo := 512) (by decide) (Wide.vG_block (arg1.view.read (Elt Ideal) (harg1.unread x1)) (arg3.view.read (Elt Ideal) (harg3.unread x3)) (arg4.view.read (Elt Ideal) (harg4.unread x4))) (fun _ => rfl) (fun _ => rfl) j
  · exact Wide.sum3_piece (n := 0) (s := 1) (lo := 256) (by decide) (Wide.vG_block (arg1.view.read (Elt Ideal) (harg1.unread x1)) (arg3.view.read (Elt Ideal) (harg3.unread x3)) (arg4.view.read (Elt Ideal) (harg4.unread x4))) (fun _ => rfl) j
  · exact Wide.sum2_piece (n := 0) (s := 1) (lo := 256) (by decide) (Wide.vG_block (arg1.view.read (Elt Ideal) (harg1.unread x1)) (arg3.view.read (Elt Ideal) (harg3.unread x3)) (arg4.view.read (Elt Ideal) (harg4.unread x4))) (fun _ => rfl) j
  · exact Wide.sum1_piece (n := 0) (s := 1) (lo := 256) (by decide) (Wide.vG_block (arg1.view.read (Elt Ideal) (harg1.unread x1)) (arg3.view.read (Elt Ideal) (harg3.unread x3)) (arg4.view.read (Elt Ideal) (harg4.unread x4))) (fun _ => rfl) (fun _ => rfl) j
  · exact Wide.sum0_piece (n := 0) (s := 1) (lo := 256) (by decide) (Wide.vG_block (arg1.view.read (Elt Ideal) (harg1.unread x1)) (arg3.view.read (Elt Ideal) (harg3.unread x3)) (arg4.view.read (Elt Ideal) (harg4.unread x4))) (fun _ => rfl) (fun _ => rfl) j
  · exact Wide.sum3_piece (n := 0) (s := 1) (lo := 0) (by decide) (Wide.vG_block (arg1.view.read (Elt Ideal) (harg1.unread x1)) (arg3.view.read (Elt Ideal) (harg3.unread x3)) (arg4.view.read (Elt Ideal) (harg4.unread x4))) (fun _ => rfl) j
  · exact Wide.sum2_piece (n := 0) (s := 1) (lo := 0) (by decide) (Wide.vG_block (arg1.view.read (Elt Ideal) (harg1.unread x1)) (arg3.view.read (Elt Ideal) (harg3.unread x3)) (arg4.view.read (Elt Ideal) (harg4.unread x4))) (fun _ => rfl) j
  · exact Wide.sum1_piece (n := 0) (s := 1) (lo := 0) (by decide) (Wide.vG_block (arg1.view.read (Elt Ideal) (harg1.unread x1)) (arg3.view.read (Elt Ideal) (harg3.unread x3)) (arg4.view.read (Elt Ideal) (harg4.unread x4))) (fun _ => rfl) (fun _ => rfl) j
  · exact Wide.sum0_piece (n := 0) (s := 1) (lo := 0) (by decide) (Wide.vG_block (arg1.view.read (Elt Ideal) (harg1.unread x1)) (arg3.view.read (Elt Ideal) (harg3.unread x3)) (arg4.view.read (Elt Ideal) (harg4.unread x4))) (fun _ => rfl) (fun _ => rfl) j
  · exact Narrow.sum3_piece (n := 0) (s := 0) (lo := 1280) (by decide) (Narrow.vG_block (arg1.view.read (Elt Ideal) (harg1.unread x1)) (arg3.view.read (Elt Ideal) (harg3.unread x3)) (arg4.view.read (Elt Ideal) (harg4.unread x4))) (fun _ => rfl) j
  · exact Narrow.sum2_piece (n := 0) (s := 0) (lo := 1280) (by decide) (Narrow.vG_block (arg1.view.read (Elt Ideal) (harg1.unread x1)) (arg3.view.read (Elt Ideal) (harg3.unread x3)) (arg4.view.read (Elt Ideal) (harg4.unread x4))) (fun _ => rfl) j
  · exact Narrow.sum1_piece (n := 0) (s := 0) (lo := 1280) (by decide) (Narrow.vG_block (arg1.view.read (Elt Ideal) (harg1.unread x1)) (arg3.view.read (Elt Ideal) (harg3.unread x3)) (arg4.view.read (Elt Ideal) (harg4.unread x4))) (fun _ => rfl) (fun _ => rfl) j
  · exact Narrow.sum0_piece (n := 0) (s := 0) (lo := 1280) (by decide) (Narrow.vG_block (arg1.view.read (Elt Ideal) (harg1.unread x1)) (arg3.view.read (Elt Ideal) (harg3.unread x3)) (arg4.view.read (Elt Ideal) (harg4.unread x4))) (fun _ => rfl) (fun _ => rfl) j
  · exact Wide.sum3_piece (n := 0) (s := 0) (lo := 1024) (by decide) (Wide.vG_block (arg1.view.read (Elt Ideal) (harg1.unread x1)) (arg3.view.read (Elt Ideal) (harg3.unread x3)) (arg4.view.read (Elt Ideal) (harg4.unread x4))) (fun _ => rfl) j
  · exact Wide.sum2_piece (n := 0) (s := 0) (lo := 1024) (by decide) (Wide.vG_block (arg1.view.read (Elt Ideal) (harg1.unread x1)) (arg3.view.read (Elt Ideal) (harg3.unread x3)) (arg4.view.read (Elt Ideal) (harg4.unread x4))) (fun _ => rfl) j
  · exact Wide.sum1_piece (n := 0) (s := 0) (lo := 1024) (by decide) (Wide.vG_block (arg1.view.read (Elt Ideal) (harg1.unread x1)) (arg3.view.read (Elt Ideal) (harg3.unread x3)) (arg4.view.read (Elt Ideal) (harg4.unread x4))) (fun _ => rfl) (fun _ => rfl) j
  · exact Wide.sum0_piece (n := 0) (s := 0) (lo := 1024) (by decide) (Wide.vG_block (arg1.view.read (Elt Ideal) (harg1.unread x1)) (arg3.view.read (Elt Ideal) (harg3.unread x3)) (arg4.view.read (Elt Ideal) (harg4.unread x4))) (fun _ => rfl) (fun _ => rfl) j
  · exact Wide.sum3_piece (n := 0) (s := 0) (lo := 768) (by decide) (Wide.vG_block (arg1.view.read (Elt Ideal) (harg1.unread x1)) (arg3.view.read (Elt Ideal) (harg3.unread x3)) (arg4.view.read (Elt Ideal) (harg4.unread x4))) (fun _ => rfl) j
  · exact Wide.sum2_piece (n := 0) (s := 0) (lo := 768) (by decide) (Wide.vG_block (arg1.view.read (Elt Ideal) (harg1.unread x1)) (arg3.view.read (Elt Ideal) (harg3.unread x3)) (arg4.view.read (Elt Ideal) (harg4.unread x4))) (fun _ => rfl) j
  · exact Wide.sum1_piece (n := 0) (s := 0) (lo := 768) (by decide) (Wide.vG_block (arg1.view.read (Elt Ideal) (harg1.unread x1)) (arg3.view.read (Elt Ideal) (harg3.unread x3)) (arg4.view.read (Elt Ideal) (harg4.unread x4))) (fun _ => rfl) (fun _ => rfl) j
  · exact Wide.sum0_piece (n := 0) (s := 0) (lo := 768) (by decide) (Wide.vG_block (arg1.view.read (Elt Ideal) (harg1.unread x1)) (arg3.view.read (Elt Ideal) (harg3.unread x3)) (arg4.view.read (Elt Ideal) (harg4.unread x4))) (fun _ => rfl) (fun _ => rfl) j
  · exact Wide.sum3_piece (n := 0) (s := 0) (lo := 512) (by decide) (Wide.vG_block (arg1.view.read (Elt Ideal) (harg1.unread x1)) (arg3.view.read (Elt Ideal) (harg3.unread x3)) (arg4.view.read (Elt Ideal) (harg4.unread x4))) (fun _ => rfl) j
  · exact Wide.sum2_piece (n := 0) (s := 0) (lo := 512) (by decide) (Wide.vG_block (arg1.view.read (Elt Ideal) (harg1.unread x1)) (arg3.view.read (Elt Ideal) (harg3.unread x3)) (arg4.view.read (Elt Ideal) (harg4.unread x4))) (fun _ => rfl) j
  · exact Wide.sum1_piece (n := 0) (s := 0) (lo := 512) (by decide) (Wide.vG_block (arg1.view.read (Elt Ideal) (harg1.unread x1)) (arg3.view.read (Elt Ideal) (harg3.unread x3)) (arg4.view.read (Elt Ideal) (harg4.unread x4))) (fun _ => rfl) (fun _ => rfl) j
  · exact Wide.sum0_piece (n := 0) (s := 0) (lo := 512) (by decide) (Wide.vG_block (arg1.view.read (Elt Ideal) (harg1.unread x1)) (arg3.view.read (Elt Ideal) (harg3.unread x3)) (arg4.view.read (Elt Ideal) (harg4.unread x4))) (fun _ => rfl) (fun _ => rfl) j
  · exact Wide.sum3_piece (n := 0) (s := 0) (lo := 256) (by decide) (Wide.vG_block (arg1.view.read (Elt Ideal) (harg1.unread x1)) (arg3.view.read (Elt Ideal) (harg3.unread x3)) (arg4.view.read (Elt Ideal) (harg4.unread x4))) (fun _ => rfl) j
  · exact Wide.sum2_piece (n := 0) (s := 0) (lo := 256) (by decide) (Wide.vG_block (arg1.view.read (Elt Ideal) (harg1.unread x1)) (arg3.view.read (Elt Ideal) (harg3.unread x3)) (arg4.view.read (Elt Ideal) (harg4.unread x4))) (fun _ => rfl) j
  · exact Wide.sum1_piece (n := 0) (s := 0) (lo := 256) (by decide) (Wide.vG_block (arg1.view.read (Elt Ideal) (harg1.unread x1)) (arg3.view.read (Elt Ideal) (harg3.unread x3)) (arg4.view.read (Elt Ideal) (harg4.unread x4))) (fun _ => rfl) (fun _ => rfl) j
  · exact Wide.sum0_piece (n := 0) (s := 0) (lo := 256) (by decide) (Wide.vG_block (arg1.view.read (Elt Ideal) (harg1.unread x1)) (arg3.view.read (Elt Ideal) (harg3.unread x3)) (arg4.view.read (Elt Ideal) (harg4.unread x4))) (fun _ => rfl) (fun _ => rfl) j
  · exact Wide.sum3_piece (n := 0) (s := 0) (lo := 0) (by decide) (Wide.vG_block (arg1.view.read (Elt Ideal) (harg1.unread x1)) (arg3.view.read (Elt Ideal) (harg3.unread x3)) (arg4.view.read (Elt Ideal) (harg4.unread x4))) (fun _ => rfl) j
  · exact Wide.sum2_piece (n := 0) (s := 0) (lo := 0) (by decide) (Wide.vG_block (arg1.view.read (Elt Ideal) (harg1.unread x1)) (arg3.view.read (Elt Ideal) (harg3.unread x3)) (arg4.view.read (Elt Ideal) (harg4.unread x4))) (fun _ => rfl) j
  · exact Wide.sum1_piece (n := 0) (s := 0) (lo := 0) (by decide) (Wide.vG_block (arg1.view.read (Elt Ideal) (harg1.unread x1)) (arg3.view.read (Elt Ideal) (harg3.unread x3)) (arg4.view.read (Elt Ideal) (harg4.unread x4))) (fun _ => rfl) (fun _ => rfl) j
  · exact Wide.sum0_piece (n := 0) (s := 0) (lo := 0) (by decide) (Wide.vG_block (arg1.view.read (Elt Ideal) (harg1.unread x1)) (arg3.view.read (Elt Ideal) (harg3.unread x3)) (arg4.view.read (Elt Ideal) (harg4.unread x4))) (fun _ => rfl) (fun _ => rfl) j

set_option maxHeartbeats 8000000 in
/-- The taps' gradient it leaves, piece by piece. -/
theorem sum1 (p) (hp : p ∈ (runRest c i arg1 harg1 arg2 harg2 arg3 harg3 arg4 harg4 arg5 harg5 arg6 harg6 arg7 harg7 arg8 harg8 arg9 harg9 arg10 harg10 arg11 harg11 arg12 harg12 hc x1 x2 x3 x4 x5 x6 y9 y10 y11 y12).2.2.2.1) (j : p.1.shape.Idx) : p.2 j = newSum x2 (dp x1 x3 x4 1) y12 1 y10 (p.1.emb j) := by
  have e : newSum x2 (dp x1 x3 x4 1) y12 1 y10 = newSum (arg2.view.read (Elt Ideal) (harg2.unread x2)) (dp (arg1.view.read (Elt Ideal) (harg1.unread x1)) (arg3.view.read (Elt Ideal) (harg3.unread x3)) (arg4.view.read (Elt Ideal) (harg4.unread x4)) 1) (arg12.view.read (Elt Ideal) (harg12.unread y12)) 1 (arg10.view.read (Elt Ideal) (harg10.unread y10)) := by
    simp only [Memref.IsWhole.read_unread]
  rw [e]
  clear e
  unfold runRest at hp
  dsimp only at hp
  simp only [List.mem_cons, List.not_mem_nil, or_false] at hp
  revert j
  rcases hp with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl <;>
    (intro j
     sl_open_run
     sl_open_pay
     dsimp only [View.readAt_eq_ld])
  · exact Narrow.sum3_piece (n := 1) (s := 1) (lo := 1280) (by decide) (Narrow.vV_block (arg1.view.read (Elt Ideal) (harg1.unread x1)) (arg3.view.read (Elt Ideal) (harg3.unread x3)) (arg4.view.read (Elt Ideal) (harg4.unread x4))) (fun _ => rfl) j
  · exact Narrow.sum2_piece (n := 1) (s := 1) (lo := 1280) (by decide) (Narrow.vV_block (arg1.view.read (Elt Ideal) (harg1.unread x1)) (arg3.view.read (Elt Ideal) (harg3.unread x3)) (arg4.view.read (Elt Ideal) (harg4.unread x4))) (fun _ => rfl) j
  · exact Narrow.sum1_piece (n := 1) (s := 1) (lo := 1280) (by decide) (Narrow.vV_block (arg1.view.read (Elt Ideal) (harg1.unread x1)) (arg3.view.read (Elt Ideal) (harg3.unread x3)) (arg4.view.read (Elt Ideal) (harg4.unread x4))) (fun _ => rfl) (fun _ => rfl) j
  · exact Narrow.sum0_piece (n := 1) (s := 1) (lo := 1280) (by decide) (Narrow.vV_block (arg1.view.read (Elt Ideal) (harg1.unread x1)) (arg3.view.read (Elt Ideal) (harg3.unread x3)) (arg4.view.read (Elt Ideal) (harg4.unread x4))) (fun _ => rfl) (fun _ => rfl) j
  · exact Wide.sum3_piece (n := 1) (s := 1) (lo := 1024) (by decide) (Wide.vV_block (arg1.view.read (Elt Ideal) (harg1.unread x1)) (arg3.view.read (Elt Ideal) (harg3.unread x3)) (arg4.view.read (Elt Ideal) (harg4.unread x4))) (fun _ => rfl) j
  · exact Wide.sum2_piece (n := 1) (s := 1) (lo := 1024) (by decide) (Wide.vV_block (arg1.view.read (Elt Ideal) (harg1.unread x1)) (arg3.view.read (Elt Ideal) (harg3.unread x3)) (arg4.view.read (Elt Ideal) (harg4.unread x4))) (fun _ => rfl) j
  · exact Wide.sum1_piece (n := 1) (s := 1) (lo := 1024) (by decide) (Wide.vV_block (arg1.view.read (Elt Ideal) (harg1.unread x1)) (arg3.view.read (Elt Ideal) (harg3.unread x3)) (arg4.view.read (Elt Ideal) (harg4.unread x4))) (fun _ => rfl) (fun _ => rfl) j
  · exact Wide.sum0_piece (n := 1) (s := 1) (lo := 1024) (by decide) (Wide.vV_block (arg1.view.read (Elt Ideal) (harg1.unread x1)) (arg3.view.read (Elt Ideal) (harg3.unread x3)) (arg4.view.read (Elt Ideal) (harg4.unread x4))) (fun _ => rfl) (fun _ => rfl) j
  · exact Wide.sum3_piece (n := 1) (s := 1) (lo := 768) (by decide) (Wide.vV_block (arg1.view.read (Elt Ideal) (harg1.unread x1)) (arg3.view.read (Elt Ideal) (harg3.unread x3)) (arg4.view.read (Elt Ideal) (harg4.unread x4))) (fun _ => rfl) j
  · exact Wide.sum2_piece (n := 1) (s := 1) (lo := 768) (by decide) (Wide.vV_block (arg1.view.read (Elt Ideal) (harg1.unread x1)) (arg3.view.read (Elt Ideal) (harg3.unread x3)) (arg4.view.read (Elt Ideal) (harg4.unread x4))) (fun _ => rfl) j
  · exact Wide.sum1_piece (n := 1) (s := 1) (lo := 768) (by decide) (Wide.vV_block (arg1.view.read (Elt Ideal) (harg1.unread x1)) (arg3.view.read (Elt Ideal) (harg3.unread x3)) (arg4.view.read (Elt Ideal) (harg4.unread x4))) (fun _ => rfl) (fun _ => rfl) j
  · exact Wide.sum0_piece (n := 1) (s := 1) (lo := 768) (by decide) (Wide.vV_block (arg1.view.read (Elt Ideal) (harg1.unread x1)) (arg3.view.read (Elt Ideal) (harg3.unread x3)) (arg4.view.read (Elt Ideal) (harg4.unread x4))) (fun _ => rfl) (fun _ => rfl) j
  · exact Wide.sum3_piece (n := 1) (s := 1) (lo := 512) (by decide) (Wide.vV_block (arg1.view.read (Elt Ideal) (harg1.unread x1)) (arg3.view.read (Elt Ideal) (harg3.unread x3)) (arg4.view.read (Elt Ideal) (harg4.unread x4))) (fun _ => rfl) j
  · exact Wide.sum2_piece (n := 1) (s := 1) (lo := 512) (by decide) (Wide.vV_block (arg1.view.read (Elt Ideal) (harg1.unread x1)) (arg3.view.read (Elt Ideal) (harg3.unread x3)) (arg4.view.read (Elt Ideal) (harg4.unread x4))) (fun _ => rfl) j
  · exact Wide.sum1_piece (n := 1) (s := 1) (lo := 512) (by decide) (Wide.vV_block (arg1.view.read (Elt Ideal) (harg1.unread x1)) (arg3.view.read (Elt Ideal) (harg3.unread x3)) (arg4.view.read (Elt Ideal) (harg4.unread x4))) (fun _ => rfl) (fun _ => rfl) j
  · exact Wide.sum0_piece (n := 1) (s := 1) (lo := 512) (by decide) (Wide.vV_block (arg1.view.read (Elt Ideal) (harg1.unread x1)) (arg3.view.read (Elt Ideal) (harg3.unread x3)) (arg4.view.read (Elt Ideal) (harg4.unread x4))) (fun _ => rfl) (fun _ => rfl) j
  · exact Wide.sum3_piece (n := 1) (s := 1) (lo := 256) (by decide) (Wide.vV_block (arg1.view.read (Elt Ideal) (harg1.unread x1)) (arg3.view.read (Elt Ideal) (harg3.unread x3)) (arg4.view.read (Elt Ideal) (harg4.unread x4))) (fun _ => rfl) j
  · exact Wide.sum2_piece (n := 1) (s := 1) (lo := 256) (by decide) (Wide.vV_block (arg1.view.read (Elt Ideal) (harg1.unread x1)) (arg3.view.read (Elt Ideal) (harg3.unread x3)) (arg4.view.read (Elt Ideal) (harg4.unread x4))) (fun _ => rfl) j
  · exact Wide.sum1_piece (n := 1) (s := 1) (lo := 256) (by decide) (Wide.vV_block (arg1.view.read (Elt Ideal) (harg1.unread x1)) (arg3.view.read (Elt Ideal) (harg3.unread x3)) (arg4.view.read (Elt Ideal) (harg4.unread x4))) (fun _ => rfl) (fun _ => rfl) j
  · exact Wide.sum0_piece (n := 1) (s := 1) (lo := 256) (by decide) (Wide.vV_block (arg1.view.read (Elt Ideal) (harg1.unread x1)) (arg3.view.read (Elt Ideal) (harg3.unread x3)) (arg4.view.read (Elt Ideal) (harg4.unread x4))) (fun _ => rfl) (fun _ => rfl) j
  · exact Wide.sum3_piece (n := 1) (s := 1) (lo := 0) (by decide) (Wide.vV_block (arg1.view.read (Elt Ideal) (harg1.unread x1)) (arg3.view.read (Elt Ideal) (harg3.unread x3)) (arg4.view.read (Elt Ideal) (harg4.unread x4))) (fun _ => rfl) j
  · exact Wide.sum2_piece (n := 1) (s := 1) (lo := 0) (by decide) (Wide.vV_block (arg1.view.read (Elt Ideal) (harg1.unread x1)) (arg3.view.read (Elt Ideal) (harg3.unread x3)) (arg4.view.read (Elt Ideal) (harg4.unread x4))) (fun _ => rfl) j
  · exact Wide.sum1_piece (n := 1) (s := 1) (lo := 0) (by decide) (Wide.vV_block (arg1.view.read (Elt Ideal) (harg1.unread x1)) (arg3.view.read (Elt Ideal) (harg3.unread x3)) (arg4.view.read (Elt Ideal) (harg4.unread x4))) (fun _ => rfl) (fun _ => rfl) j
  · exact Wide.sum0_piece (n := 1) (s := 1) (lo := 0) (by decide) (Wide.vV_block (arg1.view.read (Elt Ideal) (harg1.unread x1)) (arg3.view.read (Elt Ideal) (harg3.unread x3)) (arg4.view.read (Elt Ideal) (harg4.unread x4))) (fun _ => rfl) (fun _ => rfl) j
  · exact Narrow.sum3_piece (n := 1) (s := 0) (lo := 1280) (by decide) (Narrow.vV_block (arg1.view.read (Elt Ideal) (harg1.unread x1)) (arg3.view.read (Elt Ideal) (harg3.unread x3)) (arg4.view.read (Elt Ideal) (harg4.unread x4))) (fun _ => rfl) j
  · exact Narrow.sum2_piece (n := 1) (s := 0) (lo := 1280) (by decide) (Narrow.vV_block (arg1.view.read (Elt Ideal) (harg1.unread x1)) (arg3.view.read (Elt Ideal) (harg3.unread x3)) (arg4.view.read (Elt Ideal) (harg4.unread x4))) (fun _ => rfl) j
  · exact Narrow.sum1_piece (n := 1) (s := 0) (lo := 1280) (by decide) (Narrow.vV_block (arg1.view.read (Elt Ideal) (harg1.unread x1)) (arg3.view.read (Elt Ideal) (harg3.unread x3)) (arg4.view.read (Elt Ideal) (harg4.unread x4))) (fun _ => rfl) (fun _ => rfl) j
  · exact Narrow.sum0_piece (n := 1) (s := 0) (lo := 1280) (by decide) (Narrow.vV_block (arg1.view.read (Elt Ideal) (harg1.unread x1)) (arg3.view.read (Elt Ideal) (harg3.unread x3)) (arg4.view.read (Elt Ideal) (harg4.unread x4))) (fun _ => rfl) (fun _ => rfl) j
  · exact Wide.sum3_piece (n := 1) (s := 0) (lo := 1024) (by decide) (Wide.vV_block (arg1.view.read (Elt Ideal) (harg1.unread x1)) (arg3.view.read (Elt Ideal) (harg3.unread x3)) (arg4.view.read (Elt Ideal) (harg4.unread x4))) (fun _ => rfl) j
  · exact Wide.sum2_piece (n := 1) (s := 0) (lo := 1024) (by decide) (Wide.vV_block (arg1.view.read (Elt Ideal) (harg1.unread x1)) (arg3.view.read (Elt Ideal) (harg3.unread x3)) (arg4.view.read (Elt Ideal) (harg4.unread x4))) (fun _ => rfl) j
  · exact Wide.sum1_piece (n := 1) (s := 0) (lo := 1024) (by decide) (Wide.vV_block (arg1.view.read (Elt Ideal) (harg1.unread x1)) (arg3.view.read (Elt Ideal) (harg3.unread x3)) (arg4.view.read (Elt Ideal) (harg4.unread x4))) (fun _ => rfl) (fun _ => rfl) j
  · exact Wide.sum0_piece (n := 1) (s := 0) (lo := 1024) (by decide) (Wide.vV_block (arg1.view.read (Elt Ideal) (harg1.unread x1)) (arg3.view.read (Elt Ideal) (harg3.unread x3)) (arg4.view.read (Elt Ideal) (harg4.unread x4))) (fun _ => rfl) (fun _ => rfl) j
  · exact Wide.sum3_piece (n := 1) (s := 0) (lo := 768) (by decide) (Wide.vV_block (arg1.view.read (Elt Ideal) (harg1.unread x1)) (arg3.view.read (Elt Ideal) (harg3.unread x3)) (arg4.view.read (Elt Ideal) (harg4.unread x4))) (fun _ => rfl) j
  · exact Wide.sum2_piece (n := 1) (s := 0) (lo := 768) (by decide) (Wide.vV_block (arg1.view.read (Elt Ideal) (harg1.unread x1)) (arg3.view.read (Elt Ideal) (harg3.unread x3)) (arg4.view.read (Elt Ideal) (harg4.unread x4))) (fun _ => rfl) j
  · exact Wide.sum1_piece (n := 1) (s := 0) (lo := 768) (by decide) (Wide.vV_block (arg1.view.read (Elt Ideal) (harg1.unread x1)) (arg3.view.read (Elt Ideal) (harg3.unread x3)) (arg4.view.read (Elt Ideal) (harg4.unread x4))) (fun _ => rfl) (fun _ => rfl) j
  · exact Wide.sum0_piece (n := 1) (s := 0) (lo := 768) (by decide) (Wide.vV_block (arg1.view.read (Elt Ideal) (harg1.unread x1)) (arg3.view.read (Elt Ideal) (harg3.unread x3)) (arg4.view.read (Elt Ideal) (harg4.unread x4))) (fun _ => rfl) (fun _ => rfl) j
  · exact Wide.sum3_piece (n := 1) (s := 0) (lo := 512) (by decide) (Wide.vV_block (arg1.view.read (Elt Ideal) (harg1.unread x1)) (arg3.view.read (Elt Ideal) (harg3.unread x3)) (arg4.view.read (Elt Ideal) (harg4.unread x4))) (fun _ => rfl) j
  · exact Wide.sum2_piece (n := 1) (s := 0) (lo := 512) (by decide) (Wide.vV_block (arg1.view.read (Elt Ideal) (harg1.unread x1)) (arg3.view.read (Elt Ideal) (harg3.unread x3)) (arg4.view.read (Elt Ideal) (harg4.unread x4))) (fun _ => rfl) j
  · exact Wide.sum1_piece (n := 1) (s := 0) (lo := 512) (by decide) (Wide.vV_block (arg1.view.read (Elt Ideal) (harg1.unread x1)) (arg3.view.read (Elt Ideal) (harg3.unread x3)) (arg4.view.read (Elt Ideal) (harg4.unread x4))) (fun _ => rfl) (fun _ => rfl) j
  · exact Wide.sum0_piece (n := 1) (s := 0) (lo := 512) (by decide) (Wide.vV_block (arg1.view.read (Elt Ideal) (harg1.unread x1)) (arg3.view.read (Elt Ideal) (harg3.unread x3)) (arg4.view.read (Elt Ideal) (harg4.unread x4))) (fun _ => rfl) (fun _ => rfl) j
  · exact Wide.sum3_piece (n := 1) (s := 0) (lo := 256) (by decide) (Wide.vV_block (arg1.view.read (Elt Ideal) (harg1.unread x1)) (arg3.view.read (Elt Ideal) (harg3.unread x3)) (arg4.view.read (Elt Ideal) (harg4.unread x4))) (fun _ => rfl) j
  · exact Wide.sum2_piece (n := 1) (s := 0) (lo := 256) (by decide) (Wide.vV_block (arg1.view.read (Elt Ideal) (harg1.unread x1)) (arg3.view.read (Elt Ideal) (harg3.unread x3)) (arg4.view.read (Elt Ideal) (harg4.unread x4))) (fun _ => rfl) j
  · exact Wide.sum1_piece (n := 1) (s := 0) (lo := 256) (by decide) (Wide.vV_block (arg1.view.read (Elt Ideal) (harg1.unread x1)) (arg3.view.read (Elt Ideal) (harg3.unread x3)) (arg4.view.read (Elt Ideal) (harg4.unread x4))) (fun _ => rfl) (fun _ => rfl) j
  · exact Wide.sum0_piece (n := 1) (s := 0) (lo := 256) (by decide) (Wide.vV_block (arg1.view.read (Elt Ideal) (harg1.unread x1)) (arg3.view.read (Elt Ideal) (harg3.unread x3)) (arg4.view.read (Elt Ideal) (harg4.unread x4))) (fun _ => rfl) (fun _ => rfl) j
  · exact Wide.sum3_piece (n := 1) (s := 0) (lo := 0) (by decide) (Wide.vV_block (arg1.view.read (Elt Ideal) (harg1.unread x1)) (arg3.view.read (Elt Ideal) (harg3.unread x3)) (arg4.view.read (Elt Ideal) (harg4.unread x4))) (fun _ => rfl) j
  · exact Wide.sum2_piece (n := 1) (s := 0) (lo := 0) (by decide) (Wide.vV_block (arg1.view.read (Elt Ideal) (harg1.unread x1)) (arg3.view.read (Elt Ideal) (harg3.unread x3)) (arg4.view.read (Elt Ideal) (harg4.unread x4))) (fun _ => rfl) j
  · exact Wide.sum1_piece (n := 1) (s := 0) (lo := 0) (by decide) (Wide.vV_block (arg1.view.read (Elt Ideal) (harg1.unread x1)) (arg3.view.read (Elt Ideal) (harg3.unread x3)) (arg4.view.read (Elt Ideal) (harg4.unread x4))) (fun _ => rfl) (fun _ => rfl) j
  · exact Wide.sum0_piece (n := 1) (s := 0) (lo := 0) (by decide) (Wide.vV_block (arg1.view.read (Elt Ideal) (harg1.unread x1)) (arg3.view.read (Elt Ideal) (harg3.unread x3)) (arg4.view.read (Elt Ideal) (harg4.unread x4))) (fun _ => rfl) (fun _ => rfl) j

end Cert.KernelIdeal.Body.Rest

end
-- ==== Proof.RestSlabs.lean ====
module

public import proofs.«01_k».proof.Proof.BodyRest
public import proofs.«01_k».proof.Proof.Chunk
public import Idealize.ShloMosaic.Lib.Tactic.Stretches

@[expose] public section

set_option maxRecDepth 16384

noncomputable section

namespace Cert.KernelIdeal.Body.Rest

open Idealize.ShloMosaic Idealize.ShloMosaic.TcCoe Idealize.ShloMosaic.Tactic
open Cert.KernelIdeal Cert.KernelIdeal.Gen

variable
  (c : Dev nD) (i : grid0.Coords) (arg1 : Memref sig .tc .vmem S256x1024 .bf16) (harg1 : arg1.IsWhole) (arg2 : Memref sig .tc .vmem S2x256x2816 .bf16) (harg2 : arg2.IsWhole)
  (arg3 : Memref sig .tc .vmem S2x256x2816 .bf16) (harg3 : arg3.IsWhole) (arg4 : Memref sig .tc .vmem S2816x1024 .bf16) (harg4 : arg4.IsWhole)
  (arg5 : Memref sig .tc .vmem S2x1024x2816 .bf16) (harg5 : arg5.IsWhole) (arg6 : Memref sig .tc .vmem S4x16x1408 .f32) (harg6 : arg6.IsWhole)
  (arg7 : Memref sig .tc .vmem S256x1024 .bf16) (harg7 : arg7.IsWhole) (arg8 : Memref sig .tc .vmem S2x256x2816 .bf16) (harg8 : arg8.IsWhole)
  (arg9 : Memref sig .tc .vmem S2x16x1408 .f32) (harg9 : arg9.IsWhole) (arg10 : Memref sig .tc .vmem S2x16x1408 .f32) (harg10 : arg10.IsWhole)
  (arg11 : Memref sig .tc .vmem S8x2816 .f32) (harg11 : arg11.IsWhole) (arg12 : Memref sig .tc .vmem S8x2816 .f32) (harg12 : arg12.IsWhole) (hc : ¬first i)
  (x1 : Vec Ideal S256x1024 .bf16) (x2 x3 : Vec Ideal S2x256x2816 .bf16) (x4 : Vec Ideal S2816x1024 .bf16) (x5 : Vec Ideal S2x1024x2816 .bf16)
  (x6 : Vec Ideal S4x16x1408 .f32) (y9 y10 : Vec Ideal S2x16x1408 .f32) (y11 y12 : Vec Ideal S8x2816 .f32)

set_option maxHeartbeats 8000000 in
/-- The gradient of the convolution's input, piece by piece. -/
theorem slab (p) (hp : p ∈ (runRest c i arg1 harg1 arg2 harg2 arg3 harg3 arg4 harg4 arg5 harg5 arg6 harg6 arg7 harg7 arg8 harg8 arg9 harg9 arg10 harg10 arg11 harg11 arg12 harg12 hc x1 x2 x3 x4 x5 x6 y9 y10 y11 y12).2.1) (j : p.1.shape.Idx) : p.2 j = newSlab x6 (dp x1 x3 x4) (car y11 y12) (p.1.emb j) := by
  have e : newSlab x6 (dp x1 x3 x4) (car y11 y12) = newSlab (arg6.view.read (Elt Ideal) (harg6.unread x6)) (dp (arg1.view.read (Elt Ideal) (harg1.unread x1)) (arg3.view.read (Elt Ideal) (harg3.unread x3)) (arg4.view.read (Elt Ideal) (harg4.unread x4))) (car (arg11.view.read (Elt Ideal) (harg11.unread y11)) (arg12.view.read (Elt Ideal) (harg12.unread y12))) := by
    simp only [Memref.IsWhole.read_unread]
  rw [e]
  clear e
  unfold runRest at hp
  dsimp only at hp
  simp only [List.mem_cons, List.not_mem_nil, or_false] at hp
  revert j
  rcases hp with rfl | rfl | rfl | rfl | rfl | rfl | rfl | rfl | rfl | rfl | rfl | rfl | rfl | rfl | rfl | rfl | rfl | rfl | rfl | rfl | rfl | rfl | rfl | rfl <;>
    (intro j
     sl_open_run
     sl_open_pay
     dsimp only [View.readAt_eq_ld])
  · exact Narrow.slab_piece (n := 1) (Q := dp (arg1.view.read (Elt Ideal) (harg1.unread x1)) (arg3.view.read (Elt Ideal) (harg3.unread x3)) (arg4.view.read (Elt Ideal) (harg4.unread x4))) (z := car (arg11.view.read (Elt Ideal) (harg11.unread y11)) (arg12.view.read (Elt Ideal) (harg12.unread y12))) (Narrow.mix_block (n := 1) (s := 1) (lo := 1280) (by decide) (by decide) (Narrow.vV_block (arg1.view.read (Elt Ideal) (harg1.unread x1)) (arg3.view.read (Elt Ideal) (harg3.unread x3)) (arg4.view.read (Elt Ideal) (harg4.unread x4))) (fun _ => rfl)) j
  · exact Narrow.slab_piece (n := 0) (Q := dp (arg1.view.read (Elt Ideal) (harg1.unread x1)) (arg3.view.read (Elt Ideal) (harg3.unread x3)) (arg4.view.read (Elt Ideal) (harg4.unread x4))) (z := car (arg11.view.read (Elt Ideal) (harg11.unread y11)) (arg12.view.read (Elt Ideal) (harg12.unread y12))) (Narrow.mix_block (n := 0) (s := 1) (lo := 1280) (by decide) (by decide) (Narrow.vG_block (arg1.view.read (Elt Ideal) (harg1.unread x1)) (arg3.view.read (Elt Ideal) (harg3.unread x3)) (arg4.view.read (Elt Ideal) (harg4.unread x4))) (fun _ => rfl)) j
  · exact Wide.slab_piece (n := 1) (Q := dp (arg1.view.read (Elt Ideal) (harg1.unread x1)) (arg3.view.read (Elt Ideal) (harg3.unread x3)) (arg4.view.read (Elt Ideal) (harg4.unread x4))) (z := car (arg11.view.read (Elt Ideal) (harg11.unread y11)) (arg12.view.read (Elt Ideal) (harg12.unread y12))) (Wide.mix_block (n := 1) (s := 1) (lo := 1024) (by decide) (by decide) (Wide.vV_block (arg1.view.read (Elt Ideal) (harg1.unread x1)) (arg3.view.read (Elt Ideal) (harg3.unread x3)) (arg4.view.read (Elt Ideal) (harg4.unread x4))) (fun _ => rfl)) j
  · exact Wide.slab_piece (n := 0) (Q := dp (arg1.view.read (Elt Ideal) (harg1.unread x1)) (arg3.view.read (Elt Ideal) (harg3.unread x3)) (arg4.view.read (Elt Ideal) (harg4.unread x4))) (z := car (arg11.view.read (Elt Ideal) (harg11.unread y11)) (arg12.view.read (Elt Ideal) (harg12.unread y12))) (Wide.mix_block (n := 0) (s := 1) (lo := 1024) (by decide) (by decide) (Wide.vG_block (arg1.view.read (Elt Ideal) (harg1.unread x1)) (arg3.view.read (Elt Ideal) (harg3.unread x3)) (arg4.view.read (Elt Ideal) (harg4.unread x4))) (fun _ => rfl)) j
  · exact Wide.slab_piece (n := 1) (Q := dp (arg1.view.read (Elt Ideal) (harg1.unread x1)) (arg3.view.read (Elt Ideal) (harg3.unread x3)) (arg4.view.read (Elt Ideal) (harg4.unread x4))) (z := car (arg11.view.read (Elt Ideal) (harg11.unread y11)) (arg12.view.read (Elt Ideal) (harg12.unread y12))) (Wide.mix_block (n := 1) (s := 1) (lo := 768) (by decide) (by decide) (Wide.vV_block (arg1.view.read (Elt Ideal) (harg1.unread x1)) (arg3.view.read (Elt Ideal) (harg3.unread x3)) (arg4.view.read (Elt Ideal) (harg4.unread x4))) (fun _ => rfl)) j
  · exact Wide.slab_piece (n := 0) (Q := dp (arg1.view.read (Elt Ideal) (harg1.unread x1)) (arg3.view.read (Elt Ideal) (harg3.unread x3)) (arg4.view.read (Elt Ideal) (harg4.unread x4))) (z := car (arg11.view.read (Elt Ideal) (harg11.unread y11)) (arg12.view.read (Elt Ideal) (harg12.unread y12))) (Wide.mix_block (n := 0) (s := 1) (lo := 768) (by decide) (by decide) (Wide.vG_block (arg1.view.read (Elt Ideal) (harg1.unread x1)) (arg3.view.read (Elt Ideal) (harg3.unread x3)) (arg4.view.read (Elt Ideal) (harg4.unread x4))) (fun _ => rfl)) j
  · exact Wide.slab_piece (n := 1) (Q := dp (arg1.view.read (Elt Ideal) (harg1.unread x1)) (arg3.view.read (Elt Ideal) (harg3.unread x3)) (arg4.view.read (Elt Ideal) (harg4.unread x4))) (z := car (arg11.view.read (Elt Ideal) (harg11.unread y11)) (arg12.view.read (Elt Ideal) (harg12.unread y12))) (Wide.mix_block (n := 1) (s := 1) (lo := 512) (by decide) (by decide) (Wide.vV_block (arg1.view.read (Elt Ideal) (harg1.unread x1)) (arg3.view.read (Elt Ideal) (harg3.unread x3)) (arg4.view.read (Elt Ideal) (harg4.unread x4))) (fun _ => rfl)) j
  · exact Wide.slab_piece (n := 0) (Q := dp (arg1.view.read (Elt Ideal) (harg1.unread x1)) (arg3.view.read (Elt Ideal) (harg3.unread x3)) (arg4.view.read (Elt Ideal) (harg4.unread x4))) (z := car (arg11.view.read (Elt Ideal) (harg11.unread y11)) (arg12.view.read (Elt Ideal) (harg12.unread y12))) (Wide.mix_block (n := 0) (s := 1) (lo := 512) (by decide) (by decide) (Wide.vG_block (arg1.view.read (Elt Ideal) (harg1.unread x1)) (arg3.view.read (Elt Ideal) (harg3.unread x3)) (arg4.view.read (Elt Ideal) (harg4.unread x4))) (fun _ => rfl)) j
  · exact Wide.slab_piece (n := 1) (Q := dp (arg1.view.read (Elt Ideal) (harg1.unread x1)) (arg3.view.read (Elt Ideal) (harg3.unread x3)) (arg4.view.read (Elt Ideal) (harg4.unread x4))) (z := car (arg11.view.read (Elt Ideal) (harg11.unread y11)) (arg12.view.read (Elt Ideal) (harg12.unread y12))) (Wide.mix_block (n := 1) (s := 1) (lo := 256) (by decide) (by decide) (Wide.vV_block (arg1.view.read (Elt Ideal) (harg1.unread x1)) (arg3.view.read (Elt Ideal) (harg3.unread x3)) (arg4.view.read (Elt Ideal) (harg4.unread x4))) (fun _ => rfl)) j
  · exact Wide.slab_piece (n := 0) (Q := dp (arg1.view.read (Elt Ideal) (harg1.unread x1)) (arg3.view.read (Elt Ideal) (harg3.unread x3)) (arg4.view.read (Elt Ideal) (harg4.unread x4))) (z := car (arg11.view.read (Elt Ideal) (harg11.unread y11)) (arg12.view.read (Elt Ideal) (harg12.unread y12))) (Wide.mix_block (n := 0) (s := 1) (lo := 256) (by decide) (by decide) (Wide.vG_block (arg1.view.read (Elt Ideal) (harg1.unread x1)) (arg3.view.read (Elt Ideal) (harg3.unread x3)) (arg4.view.read (Elt Ideal) (harg4.unread x4))) (fun _ => rfl)) j
  · exact Wide.slab_piece (n := 1) (Q := dp (arg1.view.read (Elt Ideal) (harg1.unread x1)) (arg3.view.read (Elt Ideal) (harg3.unread x3)) (arg4.view.read (Elt Ideal) (harg4.unread x4))) (z := car (arg11.view.read (Elt Ideal) (harg11.unread y11)) (arg12.view.read (Elt Ideal) (harg12.unread y12))) (Wide.mix_block (n := 1) (s := 1) (lo := 0) (by decide) (by decide) (Wide.vV_block (arg1.view.read (Elt Ideal) (harg1.unread x1)) (arg3.view.read (Elt Ideal) (harg3.unread x3)) (arg4.view.read (Elt Ideal) (harg4.unread x4))) (fun _ => rfl)) j
  · exact Wide.slab_piece (n := 0) (Q := dp (arg1.view.read (Elt Ideal) (harg1.unread x1)) (arg3.view.read (Elt Ideal) (harg3.unread x3)) (arg4.view.read (Elt Ideal) (harg4.unread x4))) (z := car (arg11.view.read (Elt Ideal) (harg11.unread y11)) (arg12.view.read (Elt Ideal) (harg12.unread y12))) (Wide.mix_block (n := 0) (s := 1) (lo := 0) (by decide) (by decide) (Wide.vG_block (arg1.view.read (Elt Ideal) (harg1.unread x1)) (arg3.view.read (Elt Ideal) (harg3.unread x3)) (arg4.view.read (Elt Ideal) (harg4.unread x4))) (fun _ => rfl)) j
  · exact Narrow.slab_piece (n := 1) (Q := dp (arg1.view.read (Elt Ideal) (harg1.unread x1)) (arg3.view.read (Elt Ideal) (harg3.unread x3)) (arg4.view.read (Elt Ideal) (harg4.unread x4))) (z := car (arg11.view.read (Elt Ideal) (harg11.unread y11)) (arg12.view.read (Elt Ideal) (harg12.unread y12))) (Narrow.mix_block (n := 1) (s := 0) (lo := 1280) (by decide) (by decide) (Narrow.vV_block (arg1.view.read (Elt Ideal) (harg1.unread x1)) (arg3.view.read (Elt Ideal) (harg3.unread x3)) (arg4.view.read (Elt Ideal) (harg4.unread x4))) (fun _ => rfl)) j
  · exact Narrow.slab_piece (n := 0) (Q := dp (arg1.view.read (Elt Ideal) (harg1.unread x1)) (arg3.view.read (Elt Ideal) (harg3.unread x3)) (arg4.view.read (Elt Ideal) (harg4.unread x4))) (z := car (arg11.view.read (Elt Ideal) (harg11.unread y11)) (arg12.view.read (Elt Ideal) (harg12.unread y12))) (Narrow.mix_block (n := 0) (s := 0) (lo := 1280) (by decide) (by decide) (Narrow.vG_block (arg1.view.read (Elt Ideal) (harg1.unread x1)) (arg3.view.read (Elt Ideal) (harg3.unread x3)) (arg4.view.read (Elt Ideal) (harg4.unread x4))) (fun _ => rfl)) j
  · exact Wide.slab_piece (n := 1) (Q := dp (arg1.view.read (Elt Ideal) (harg1.unread x1)) (arg3.view.read (Elt Ideal) (harg3.unread x3)) (arg4.view.read (Elt Ideal) (harg4.unread x4))) (z := car (arg11.view.read (Elt Ideal) (harg11.unread y11)) (arg12.view.read (Elt Ideal) (harg12.unread y12))) (Wide.mix_block (n := 1) (s := 0) (lo := 1024) (by decide) (by decide) (Wide.vV_block (arg1.view.read (Elt Ideal) (harg1.unread x1)) (arg3.view.read (Elt Ideal) (harg3.unread x3)) (arg4.view.read (Elt Ideal) (harg4.unread x4))) (fun _ => rfl)) j
  · exact Wide.slab_piece (n := 0) (Q := dp (arg1.view.read (Elt Ideal) (harg1.unread x1)) (arg3.view.read (Elt Ideal) (harg3.unread x3)) (arg4.view.read (Elt Ideal) (harg4.unread x4))) (z := car (arg11.view.read (Elt Ideal) (harg11.unread y11)) (arg12.view.read (Elt Ideal) (harg12.unread y12))) (Wide.mix_block (n := 0) (s := 0) (lo := 1024) (by decide) (by decide) (Wide.vG_block (arg1.view.read (Elt Ideal) (harg1.unread x1)) (arg3.view.read (Elt Ideal) (harg3.unread x3)) (arg4.view.read (Elt Ideal) (harg4.unread x4))) (fun _ => rfl)) j
  · exact Wide.slab_piece (n := 1) (Q := dp (arg1.view.read (Elt Ideal) (harg1.unread x1)) (arg3.view.read (Elt Ideal) (harg3.unread x3)) (arg4.view.read (Elt Ideal) (harg4.unread x4))) (z := car (arg11.view.read (Elt Ideal) (harg11.unread y11)) (arg12.view.read (Elt Ideal) (harg12.unread y12))) (Wide.mix_block (n := 1) (s := 0) (lo := 768) (by decide) (by decide) (Wide.vV_block (arg1.view.read (Elt Ideal) (harg1.unread x1)) (arg3.view.read (Elt Ideal) (harg3.unread x3)) (arg4.view.read (Elt Ideal) (harg4.unread x4))) (fun _ => rfl)) j
  · exact Wide.slab_piece (n := 0) (Q := dp (arg1.view.read (Elt Ideal) (harg1.unread x1)) (arg3.view.read (Elt Ideal) (harg3.unread x3)) (arg4.view.read (Elt Ideal) (harg4.unread x4))) (z := car (arg11.view.read (Elt Ideal) (harg11.unread y11)) (arg12.view.read (Elt Ideal) (harg12.unread y12))) (Wide.mix_block (n := 0) (s := 0) (lo := 768) (by decide) (by decide) (Wide.vG_block (arg1.view.read (Elt Ideal) (harg1.unread x1)) (arg3.view.read (Elt Ideal) (harg3.unread x3)) (arg4.view.read (Elt Ideal) (harg4.unread x4))) (fun _ => rfl)) j
  · exact Wide.slab_piece (n := 1) (Q := dp (arg1.view.read (Elt Ideal) (harg1.unread x1)) (arg3.view.read (Elt Ideal) (harg3.unread x3)) (arg4.view.read (Elt Ideal) (harg4.unread x4))) (z := car (arg11.view.read (Elt Ideal) (harg11.unread y11)) (arg12.view.read (Elt Ideal) (harg12.unread y12))) (Wide.mix_block (n := 1) (s := 0) (lo := 512) (by decide) (by decide) (Wide.vV_block (arg1.view.read (Elt Ideal) (harg1.unread x1)) (arg3.view.read (Elt Ideal) (harg3.unread x3)) (arg4.view.read (Elt Ideal) (harg4.unread x4))) (fun _ => rfl)) j
  · exact Wide.slab_piece (n := 0) (Q := dp (arg1.view.read (Elt Ideal) (harg1.unread x1)) (arg3.view.read (Elt Ideal) (harg3.unread x3)) (arg4.view.read (Elt Ideal) (harg4.unread x4))) (z := car (arg11.view.read (Elt Ideal) (harg11.unread y11)) (arg12.view.read (Elt Ideal) (harg12.unread y12))) (Wide.mix_block (n := 0) (s := 0) (lo := 512) (by decide) (by decide) (Wide.vG_block (arg1.view.read (Elt Ideal) (harg1.unread x1)) (arg3.view.read (Elt Ideal) (harg3.unread x3)) (arg4.view.read (Elt Ideal) (harg4.unread x4))) (fun _ => rfl)) j
  · exact Wide.slab_piece (n := 1) (Q := dp (arg1.view.read (Elt Ideal) (harg1.unread x1)) (arg3.view.read (Elt Ideal) (harg3.unread x3)) (arg4.view.read (Elt Ideal) (harg4.unread x4))) (z := car (arg11.view.read (Elt Ideal) (harg11.unread y11)) (arg12.view.read (Elt Ideal) (harg12.unread y12))) (Wide.mix_block (n := 1) (s := 0) (lo := 256) (by decide) (by decide) (Wide.vV_block (arg1.view.read (Elt Ideal) (harg1.unread x1)) (arg3.view.read (Elt Ideal) (harg3.unread x3)) (arg4.view.read (Elt Ideal) (harg4.unread x4))) (fun _ => rfl)) j
  · exact Wide.slab_piece (n := 0) (Q := dp (arg1.view.read (Elt Ideal) (harg1.unread x1)) (arg3.view.read (Elt Ideal) (harg3.unread x3)) (arg4.view.read (Elt Ideal) (harg4.unread x4))) (z := car (arg11.view.read (Elt Ideal) (harg11.unread y11)) (arg12.view.read (Elt Ideal) (harg12.unread y12))) (Wide.mix_block (n := 0) (s := 0) (lo := 256) (by decide) (by decide) (Wide.vG_block (arg1.view.read (Elt Ideal) (harg1.unread x1)) (arg3.view.read (Elt Ideal) (harg3.unread x3)) (arg4.view.read (Elt Ideal) (harg4.unread x4))) (fun _ => rfl)) j
  · exact Wide.slab_piece (n := 1) (Q := dp (arg1.view.read (Elt Ideal) (harg1.unread x1)) (arg3.view.read (Elt Ideal) (harg3.unread x3)) (arg4.view.read (Elt Ideal) (harg4.unread x4))) (z := car (arg11.view.read (Elt Ideal) (harg11.unread y11)) (arg12.view.read (Elt Ideal) (harg12.unread y12))) (Wide.mix_block (n := 1) (s := 0) (lo := 0) (by decide) (by decide) (Wide.vV_block (arg1.view.read (Elt Ideal) (harg1.unread x1)) (arg3.view.read (Elt Ideal) (harg3.unread x3)) (arg4.view.read (Elt Ideal) (harg4.unread x4))) (fun _ => rfl)) j
  · exact Wide.slab_piece (n := 0) (Q := dp (arg1.view.read (Elt Ideal) (harg1.unread x1)) (arg3.view.read (Elt Ideal) (harg3.unread x3)) (arg4.view.read (Elt Ideal) (harg4.unread x4))) (z := car (arg11.view.read (Elt Ideal) (harg11.unread y11)) (arg12.view.read (Elt Ideal) (harg12.unread y12))) (Wide.mix_block (n := 0) (s := 0) (lo := 0) (by decide) (by decide) (Wide.vG_block (arg1.view.read (Elt Ideal) (harg1.unread x1)) (arg3.view.read (Elt Ideal) (harg3.unread x3)) (arg4.view.read (Elt Ideal) (harg4.unread x4))) (fun _ => rfl)) j

end Cert.KernelIdeal.Body.Rest

end
-- ==== Proof.Total.lean ====
module

public import proofs.«01_k».proof.Proof.Chunk

@[expose] public section

set_option maxRecDepth 16384

noncomputable section

namespace Cert.KernelIdeal.Body

open Idealize.ShloMosaic Idealize.ShloMosaic.TcCoe Idealize.ShloMosaic.Tactic
open Cert.KernelIdeal Cert.KernelIdeal.Gen

/-- `du` from the twelve chunks' products, added in turn. -/
theorem du_sum {T0 T1 T2 T3 T4 T5 T6 T7 T8 T9 T10 T11 : FVec Ideal S256x1024 .f32} {x5 : Vec Ideal S2x1024x2816 .bf16} {M : Fin 2 → Fin 256 → Fin 2816 → EReal} {io}
    (h0 : ∀ j, T0 j = (∑ k ∈ Finset.range 256, share x5 M (j 0) (j 1) 0 (0 + k)) + ∑ k ∈ Finset.range 256, share x5 M (j 0) (j 1) 1 (0 + k))
    (h1 : ∀ j, T1 j = (∑ k ∈ Finset.range 256, share x5 M (j 0) (j 1) 0 (256 + k)) + ∑ k ∈ Finset.range 256, share x5 M (j 0) (j 1) 1 (256 + k))
    (h2 : ∀ j, T2 j = (∑ k ∈ Finset.range 256, share x5 M (j 0) (j 1) 0 (512 + k)) + ∑ k ∈ Finset.range 256, share x5 M (j 0) (j 1) 1 (512 + k))
    (h3 : ∀ j, T3 j = (∑ k ∈ Finset.range 256, share x5 M (j 0) (j 1) 0 (768 + k)) + ∑ k ∈ Finset.range 256, share x5 M (j 0) (j 1) 1 (768 + k))
    (h4 : ∀ j, T4 j = (∑ k ∈ Finset.range 256, share x5 M (j 0) (j 1) 0 (1024 + k)) + ∑ k ∈ Finset.range 256, share x5 M (j 0) (j 1) 1 (1024 + k))
    (h5 : ∀ j, T5 j = (∑ k ∈ Finset.range 128, share x5 M (j 0) (j 1) 0 (1280 + k)) + ∑ k ∈ Finset.range 128, share x5 M (j 0) (j 1) 1 (1280 + k))
    (h6 : ∀ j, T6 j = (∑ k ∈ Finset.range 256, share x5 M (j 0) (j 1) 0 (1408 + k)) + ∑ k ∈ Finset.range 256, share x5 M (j 0) (j 1) 1 (1408 + k))
    (h7 : ∀ j, T7 j = (∑ k ∈ Finset.range 256, share x5 M (j 0) (j 1) 0 (1664 + k)) + ∑ k ∈ Finset.range 256, share x5 M (j 0) (j 1) 1 (1664 + k))
    (h8 : ∀ j, T8 j = (∑ k ∈ Finset.range 256, share x5 M (j 0) (j 1) 0 (1920 + k)) + ∑ k ∈ Finset.range 256, share x5 M (j 0) (j 1) 1 (1920 + k))
    (h9 : ∀ j, T9 j = (∑ k ∈ Finset.range 256, share x5 M (j 0) (j 1) 0 (2176 + k)) + ∑ k ∈ Finset.range 256, share x5 M (j 0) (j 1) 1 (2176 + k))
    (h10 : ∀ j, T10 j = (∑ k ∈ Finset.range 256, share x5 M (j 0) (j 1) 0 (2432 + k)) + ∑ k ∈ Finset.range 256, share x5 M (j 0) (j 1) 1 (2432 + k))
    (h11 : ∀ j, T11 j = (∑ k ∈ Finset.range 128, share x5 M (j 0) (j 1) 0 (2688 + k)) + ∑ k ∈ Finset.range 128, share x5 M (j 0) (j 1) 1 (2688 + k))
    (j : S256x1024.Idx) :
    shapeCast S256x1024 (truncf (F := Ideal) .bf16 (addf (addf (addf (addf (addf (addf (addf (addf (addf (addf (addf T0 T1) T2) T3) T4) T5) T6) T7) T8) T9) T10) T11) bitsLt_bf16_f32) shapeCasts_S256x1024_S256x1024 j
      = newDu x5 M ((Rect.unit (s := S256x1024) ![0, 0] S256x1024.size io).emb j) :=
  du_piece (T := (addf (addf (addf (addf (addf (addf (addf (addf (addf (addf (addf T0 T1) T2) T3) T4) T5) T6) T7) T8) T9) T10) T11)) (fun j => (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (h0 j) (h1 j)) (h2 j)) (h3 j)) (h4 j)) (h5 j)) (h6 j)) (h7 j)) (h8 j)) (h9 j)) (h10 j)) (h11 j)).trans (total x5 M j)) j

/-- The taps' gradient has four rows: the others are left. -/
theorem newSum_high (x2 : Vec Ideal S2x256x2816 .bf16) (P : Fin 256 → Fin 2816 → EReal) (y : Vec Ideal S8x2816 .f32) (n : Fin 2)
    (old : Vec Ideal S2x16x1408 .f32) (j : S2x16x1408.Idx) (h : 4 ≤ (j 1).val) : newSum x2 P y n old j = old j := by
  unfold newSum addend
  rw [if_neg (by omega), if_neg (by omega), if_neg (by omega), if_neg (by omega)]
  exact add_zero _

end Cert.KernelIdeal.Body

end
-- ==== Proof.RestDu.lean ====
module

public import proofs.«01_k».proof.Proof.BodyRest
public import proofs.«01_k».proof.Proof.Total
public import Idealize.ShloMosaic.Lib.Tactic.Stretches

@[expose] public section

set_option maxRecDepth 16384

noncomputable section

namespace Cert.KernelIdeal.Body.Rest

open Idealize.ShloMosaic Idealize.ShloMosaic.TcCoe Idealize.ShloMosaic.Tactic
open Cert.KernelIdeal Cert.KernelIdeal.Gen

variable
  (c : Dev nD) (i : grid0.Coords) (arg1 : Memref sig .tc .vmem S256x1024 .bf16) (harg1 : arg1.IsWhole) (arg2 : Memref sig .tc .vmem S2x256x2816 .bf16) (harg2 : arg2.IsWhole)
  (arg3 : Memref sig .tc .vmem S2x256x2816 .bf16) (harg3 : arg3.IsWhole) (arg4 : Memref sig .tc .vmem S2816x1024 .bf16) (harg4 : arg4.IsWhole)
  (arg5 : Memref sig .tc .vmem S2x1024x2816 .bf16) (harg5 : arg5.IsWhole) (arg6 : Memref sig .tc .vmem S4x16x1408 .f32) (harg6 : arg6.IsWhole)
  (arg7 : Memref sig .tc .vmem S256x1024 .bf16) (harg7 : arg7.IsWhole) (arg8 : Memref sig .tc .vmem S2x256x2816 .bf16) (harg8 : arg8.IsWhole)
  (arg9 : Memref sig .tc .vmem S2x16x1408 .f32) (harg9 : arg9.IsWhole) (arg10 : Memref sig .tc .vmem S2x16x1408 .f32) (harg10 : arg10.IsWhole)
  (arg11 : Memref sig .tc .vmem S8x2816 .f32) (harg11 : arg11.IsWhole) (arg12 : Memref sig .tc .vmem S8x2816 .f32) (harg12 : arg12.IsWhole) (hc : ¬first i)
  (x1 : Vec Ideal S256x1024 .bf16) (x2 x3 : Vec Ideal S2x256x2816 .bf16) (x4 : Vec Ideal S2816x1024 .bf16) (x5 : Vec Ideal S2x1024x2816 .bf16)
  (x6 : Vec Ideal S4x16x1408 .f32) (y9 y10 : Vec Ideal S2x16x1408 .f32) (y11 y12 : Vec Ideal S8x2816 .f32)

set_option maxHeartbeats 8000000 in
/-- What it leaves of `du`. -/
theorem du (p) (hp : p ∈ (runRest c i arg1 harg1 arg2 harg2 arg3 harg3 arg4 harg4 arg5 harg5 arg6 harg6 arg7 harg7 arg8 harg8 arg9 harg9 arg10 harg10 arg11 harg11 arg12 harg12 hc x1 x2 x3 x4 x5 x6 y9 y10 y11 y12).1) (j : p.1.shape.Idx) : p.2 j = newDu x5 (fun n => mix x6 (dp x1 x3 x4 n) (car y11 y12 n) n) (p.1.emb j) := by
  have e : newDu x5 (fun n => mix x6 (dp x1 x3 x4 n) (car y11 y12 n) n) = newDu (arg5.view.read (Elt Ideal) (harg5.unread x5)) (fun n => mix (arg6.view.read (Elt Ideal) (harg6.unread x6)) (dp (arg1.view.read (Elt Ideal) (harg1.unread x1)) (arg3.view.read (Elt Ideal) (harg3.unread x3)) (arg4.view.read (Elt Ideal) (harg4.unread x4)) n) (car (arg11.view.read (Elt Ideal) (harg11.unread y11)) (arg12.view.read (Elt Ideal) (harg12.unread y12)) n) n) := by
    simp only [Memref.IsWhole.read_unread]
  rw [e]
  clear e
  unfold runRest at hp
  dsimp only at hp
  simp only [List.mem_cons, List.not_mem_nil, or_false] at hp
  revert j
  subst hp <;>
    (intro j
     sl_open_run
     sl_open_pay
     dsimp only [View.readAt_eq_ld])
  · refine du_sum ?_ ?_ ?_ ?_ ?_ ?_ ?_ ?_ ?_ ?_ ?_ ?_ j
    · refine fun j => Wide.term_block (a := 0) (s := 0) (lo := 0) (by decide) (⟨by decide, by decide⟩) (by decide) ?_ ?_ j
      · exact (Wide.mix_block (n := 0) (s := 0) (lo := 0) (by decide) (by decide) (Wide.vG_block (arg1.view.read (Elt Ideal) (harg1.unread x1)) (arg3.view.read (Elt Ideal) (harg3.unread x3)) (arg4.view.read (Elt Ideal) (harg4.unread x4))) (fun _ => rfl))
      · exact (Wide.mix_block (n := 1) (s := 0) (lo := 0) (by decide) (by decide) (Wide.vV_block (arg1.view.read (Elt Ideal) (harg1.unread x1)) (arg3.view.read (Elt Ideal) (harg3.unread x3)) (arg4.view.read (Elt Ideal) (harg4.unread x4))) (fun _ => rfl))
    · refine fun j => Wide.term_block (a := 256) (s := 0) (lo := 256) (by decide) (⟨by decide, by decide⟩) (by decide) ?_ ?_ j
      · exact (Wide.mix_block (n := 0) (s := 0) (lo := 256) (by decide) (by decide) (Wide.vG_block (arg1.view.read (Elt Ideal) (harg1.unread x1)) (arg3.view.read (Elt Ideal) (harg3.unread x3)) (arg4.view.read (Elt Ideal) (harg4.unread x4))) (fun _ => rfl))
      · exact (Wide.mix_block (n := 1) (s := 0) (lo := 256) (by decide) (by decide) (Wide.vV_block (arg1.view.read (Elt Ideal) (harg1.unread x1)) (arg3.view.read (Elt Ideal) (harg3.unread x3)) (arg4.view.read (Elt Ideal) (harg4.unread x4))) (fun _ => rfl))
    · refine fun j => Wide.term_block (a := 512) (s := 0) (lo := 512) (by decide) (⟨by decide, by decide⟩) (by decide) ?_ ?_ j
      · exact (Wide.mix_block (n := 0) (s := 0) (lo := 512) (by decide) (by decide) (Wide.vG_block (arg1.view.read (Elt Ideal) (harg1.unread x1)) (arg3.view.read (Elt Ideal) (harg3.unread x3)) (arg4.view.read (Elt Ideal) (harg4.unread x4))) (fun _ => rfl))
      · exact (Wide.mix_block (n := 1) (s := 0) (lo := 512) (by decide) (by decide) (Wide.vV_block (arg1.view.read (Elt Ideal) (harg1.unread x1)) (arg3.view.read (Elt Ideal) (harg3.unread x3)) (arg4.view.read (Elt Ideal) (harg4.unread x4))) (fun _ => rfl))
    · refine fun j => Wide.term_block (a := 768) (s := 0) (lo := 768) (by decide) (⟨by decide, by decide⟩) (by decide) ?_ ?_ j
      · exact (Wide.mix_block (n := 0) (s := 0) (lo := 768) (by decide) (by decide) (Wide.vG_block (arg1.view.read (Elt Ideal) (harg1.unread x1)) (arg3.view.read (Elt Ideal) (harg3.unread x3)) (arg4.view.read (Elt Ideal) (harg4.unread x4))) (fun _ => rfl))
      · exact (Wide.mix_block (n := 1) (s := 0) (lo := 768) (by decide) (by decide) (Wide.vV_block (arg1.view.read (Elt Ideal) (harg1.unread x1)) (arg3.view.read (Elt Ideal) (harg3.unread x3)) (arg4.view.read (Elt Ideal) (harg4.unread x4))) (fun _ => rfl))
    · refine fun j => Wide.term_block (a := 1024) (s := 0) (lo := 1024) (by decide) (⟨by decide, by decide⟩) (by decide) ?_ ?_ j
      · exact (Wide.mix_block (n := 0) (s := 0) (lo := 1024) (by decide) (by decide) (Wide.vG_block (arg1.view.read (Elt Ideal) (harg1.unread x1)) (arg3.view.read (Elt Ideal) (harg3.unread x3)) (arg4.view.read (Elt Ideal) (harg4.unread x4))) (fun _ => rfl))
      · exact (Wide.mix_block (n := 1) (s := 0) (lo := 1024) (by decide) (by decide) (Wide.vV_block (arg1.view.read (Elt Ideal) (harg1.unread x1)) (arg3.view.read (Elt Ideal) (harg3.unread x3)) (arg4.view.read (Elt Ideal) (harg4.unread x4))) (fun _ => rfl))
    · refine fun j => Narrow.term_block (a := 1280) (s := 0) (lo := 1280) (by decide) (rfl) (by decide) ?_ ?_ j
      · exact (Narrow.mix_block (n := 0) (s := 0) (lo := 1280) (by decide) (by decide) (Narrow.vG_block (arg1.view.read (Elt Ideal) (harg1.unread x1)) (arg3.view.read (Elt Ideal) (harg3.unread x3)) (arg4.view.read (Elt Ideal) (harg4.unread x4))) (fun _ => rfl))
      · exact (Narrow.mix_block (n := 1) (s := 0) (lo := 1280) (by decide) (by decide) (Narrow.vV_block (arg1.view.read (Elt Ideal) (harg1.unread x1)) (arg3.view.read (Elt Ideal) (harg3.unread x3)) (arg4.view.read (Elt Ideal) (harg4.unread x4))) (fun _ => rfl))
    · refine fun j => Wide.term_block (a := 1408) (s := 1) (lo := 0) (by decide) (⟨by decide, by decide⟩) (by decide) ?_ ?_ j
      · exact (Wide.mix_block (n := 0) (s := 1) (lo := 0) (by decide) (by decide) (Wide.vG_block (arg1.view.read (Elt Ideal) (harg1.unread x1)) (arg3.view.read (Elt Ideal) (harg3.unread x3)) (arg4.view.read (Elt Ideal) (harg4.unread x4))) (fun _ => rfl))
      · exact (Wide.mix_block (n := 1) (s := 1) (lo := 0) (by decide) (by decide) (Wide.vV_block (arg1.view.read (Elt Ideal) (harg1.unread x1)) (arg3.view.read (Elt Ideal) (harg3.unread x3)) (arg4.view.read (Elt Ideal) (harg4.unread x4))) (fun _ => rfl))
    · refine fun j => Wide.term_block (a := 1664) (s := 1) (lo := 256) (by decide) (⟨by decide, by decide⟩) (by decide) ?_ ?_ j
      · exact (Wide.mix_block (n := 0) (s := 1) (lo := 256) (by decide) (by decide) (Wide.vG_block (arg1.view.read (Elt Ideal) (harg1.unread x1)) (arg3.view.read (Elt Ideal) (harg3.unread x3)) (arg4.view.read (Elt Ideal) (harg4.unread x4))) (fun _ => rfl))
      · exact (Wide.mix_block (n := 1) (s := 1) (lo := 256) (by decide) (by decide) (Wide.vV_block (arg1.view.read (Elt Ideal) (harg1.unread x1)) (arg3.view.read (Elt Ideal) (harg3.unread x3)) (arg4.view.read (Elt Ideal) (harg4.unread x4))) (fun _ => rfl))
    · refine fun j => Wide.term_block (a := 1920) (s := 1) (lo := 512) (by decide) (⟨by decide, by decide⟩) (by decide) ?_ ?_ j
      · exact (Wide.mix_block (n := 0) (s := 1) (lo := 512) (by decide) (by decide) (Wide.vG_block (arg1.view.read (Elt Ideal) (harg1.unread x1)) (arg3.view.read (Elt Ideal) (harg3.unread x3)) (arg4.view.read (Elt Ideal) (harg4.unread x4))) (fun _ => rfl))
      · exact (Wide.mix_block (n := 1) (s := 1) (lo := 512) (by decide) (by decide) (Wide.vV_block (arg1.view.read (Elt Ideal) (harg1.unread x1)) (arg3.view.read (Elt Ideal) (harg3.unread x3)) (arg4.view.read (Elt Ideal) (harg4.unread x4))) (fun _ => rfl))
    · refine fun j => Wide.term_block (a := 2176) (s := 1) (lo := 768) (by decide) (⟨by decide, by decide⟩) (by decide) ?_ ?_ j
      · exact (Wide.mix_block (n := 0) (s := 1) (lo := 768) (by decide) (by decide) (Wide.vG_block (arg1.view.read (Elt Ideal) (harg1.unread x1)) (arg3.view.read (Elt Ideal) (harg3.unread x3)) (arg4.view.read (Elt Ideal) (harg4.unread x4))) (fun _ => rfl))
      · exact (Wide.mix_block (n := 1) (s := 1) (lo := 768) (by decide) (by decide) (Wide.vV_block (arg1.view.read (Elt Ideal) (harg1.unread x1)) (arg3.view.read (Elt Ideal) (harg3.unread x3)) (arg4.view.read (Elt Ideal) (harg4.unread x4))) (fun _ => rfl))
    · refine fun j => Wide.term_block (a := 2432) (s := 1) (lo := 1024) (by decide) (⟨by decide, by decide⟩) (by decide) ?_ ?_ j
      · exact (Wide.mix_block (n := 0) (s := 1) (lo := 1024) (by decide) (by decide) (Wide.vG_block (arg1.view.read (Elt Ideal) (harg1.unread x1)) (arg3.view.read (Elt Ideal) (harg3.unread x3)) (arg4.view.read (Elt Ideal) (harg4.unread x4))) (fun _ => rfl))
      · exact (Wide.mix_block (n := 1) (s := 1) (lo := 1024) (by decide) (by decide) (Wide.vV_block (arg1.view.read (Elt Ideal) (harg1.unread x1)) (arg3.view.read (Elt Ideal) (harg3.unread x3)) (arg4.view.read (Elt Ideal) (harg4.unread x4))) (fun _ => rfl))
    · refine fun j => Narrow.term_block (a := 2688) (s := 1) (lo := 1280) (by decide) (rfl) (by decide) ?_ ?_ j
      · exact (Narrow.mix_block (n := 0) (s := 1) (lo := 1280) (by decide) (by decide) (Narrow.vG_block (arg1.view.read (Elt Ideal) (harg1.unread x1)) (arg3.view.read (Elt Ideal) (harg3.unread x3)) (arg4.view.read (Elt Ideal) (harg4.unread x4))) (fun _ => rfl))
      · exact (Narrow.mix_block (n := 1) (s := 1) (lo := 1280) (by decide) (by decide) (Narrow.vV_block (arg1.view.read (Elt Ideal) (harg1.unread x1)) (arg3.view.read (Elt Ideal) (harg3.unread x3)) (arg4.view.read (Elt Ideal) (harg4.unread x4))) (fun _ => rfl))

end Cert.KernelIdeal.Body.Rest

end
-- ==== Proof.Step.lean ====
module

public import proofs.«01_k».proof.Proof.BodyFirst
public import proofs.«01_k».proof.Proof.RestTops
public import proofs.«01_k».proof.Proof.RestSums
public import proofs.«01_k».proof.Proof.RestSlabs
public import proofs.«01_k».proof.Proof.RestDu
public import Idealize.ShloMosaic.Lib.VecWindow

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

local notation "𝕄" => MT nD τ sig Unit (Elt Ideal) ℕ (UR sig nD τ) ℕ

/-! ### What clearing stores -/

theorem zero4 : k0_pay4 (F := Ideal) = fun _ => (0 : EReal) := by
  funext j; unfold k0_pay4; pointwise

theorem zero5 : k0_pay5 (F := Ideal) = fun _ => (0 : EReal) := by
  funext j; unfold k0_pay5; pointwise

theorem zero6 : k0_pay6 (F := Ideal) = fun _ => (0 : EReal) := by
  funext j; unfold k0_pay6; pointwise

theorem zero7 : k0_pay7 (F := Ideal) = fun _ => (0 : EReal) := by
  funext j; unfold k0_pay7; pointwise

variable (c : Dev nD) (i : grid0.Coords) (arg1 : Memref sig .tc .vmem S256x1024 .bf16) (harg1 : arg1.IsWhole) (arg2 : Memref sig .tc .vmem S2x256x2816 .bf16) (harg2 : arg2.IsWhole) (arg3 : Memref sig .tc .vmem S2x256x2816 .bf16) (harg3 : arg3.IsWhole) (arg4 : Memref sig .tc .vmem S2816x1024 .bf16) (harg4 : arg4.IsWhole) (arg5 : Memref sig .tc .vmem S2x1024x2816 .bf16) (harg5 : arg5.IsWhole) (arg6 : Memref sig .tc .vmem S4x16x1408 .f32) (harg6 : arg6.IsWhole) (arg7 : Memref sig .tc .vmem S256x1024 .bf16) (harg7 : arg7.IsWhole) (arg8 : Memref sig .tc .vmem S2x256x2816 .bf16) (harg8 : arg8.IsWhole) (arg9 : Memref sig .tc .vmem S2x16x1408 .f32) (harg9 : arg9.IsWhole) (arg10 : Memref sig .tc .vmem S2x16x1408 .f32) (harg10 : arg10.IsWhole) (arg11 : Memref sig .tc .vmem S8x2816 .f32) (harg11 : arg11.IsWhole) (arg12 : Memref sig .tc .vmem S8x2816 .f32) (harg12 : arg12.IsWhole)
  (hc : ¬first i)
  (x1 : Vec Ideal S256x1024 .bf16) (x2 x3 : Vec Ideal S2x256x2816 .bf16) (x4 : Vec Ideal S2816x1024 .bf16) (x5 : Vec Ideal S2x1024x2816 .bf16)
  (x6 : Vec Ideal S4x16x1408 .f32) (y9 y10 : Vec Ideal S2x16x1408 .f32) (y11 y12 : Vec Ideal S8x2816 .f32)

/-! ### What the body's stores leave in each buffer -/

theorem read_du (f : arg7.view.ty.Contents (Elt Ideal)) : arg7.view.read (Elt Ideal) (arg7.view.writes (Elt Ideal) f (runRest c i arg1 harg1 arg2 harg2 arg3 harg3 arg4 harg4 arg5 harg5 arg6 harg6 arg7 harg7 arg8 harg8 arg9 harg9 arg10 harg10 arg11 harg11 arg12 harg12 hc x1 x2 x3 x4 x5 x6 y9 y10 y11 y12).1)
    = newDu x5 (fun n => mix x6 (dp x1 x3 x4 n) (car y11 y12 n) n) :=
  funext fun y => View.read_writes_apply_of_pieces arg7.view f _ _ (Rest.du c i arg1 harg1 arg2 harg2 arg3 harg3 arg4 harg4 arg5 harg5 arg6 harg6 arg7 harg7 arg8 harg8 arg9 harg9 arg10 harg10 arg11 harg11 arg12 harg12 hc x1 x2 x3 x4 x5 x6 y9 y10 y11 y12) y
    (View.cover_of_tiledBy (runRest c i arg1 harg1 arg2 harg2 arg3 harg3 arg4 harg4 arg5 harg5 arg6 harg6 arg7 harg7 arg8 harg8 arg9 harg9 arg10 harg10 arg11 harg11 arg12 harg12 hc x1 x2 x3 x4 x5 x6 y9 y10 y11 y12).1 ![256, 1024] (by sl_kernel_rfl) y)

theorem read_slab (f : arg8.view.ty.Contents (Elt Ideal)) : arg8.view.read (Elt Ideal) (arg8.view.writes (Elt Ideal) f (runRest c i arg1 harg1 arg2 harg2 arg3 harg3 arg4 harg4 arg5 harg5 arg6 harg6 arg7 harg7 arg8 harg8 arg9 harg9 arg10 harg10 arg11 harg11 arg12 harg12 hc x1 x2 x3 x4 x5 x6 y9 y10 y11 y12).2.1)
    = newSlab x6 (dp x1 x3 x4) (car y11 y12) :=
  funext fun y => View.read_writes_apply_of_pieces arg8.view f _ _ (Rest.slab c i arg1 harg1 arg2 harg2 arg3 harg3 arg4 harg4 arg5 harg5 arg6 harg6 arg7 harg7 arg8 harg8 arg9 harg9 arg10 harg10 arg11 harg11 arg12 harg12 hc x1 x2 x3 x4 x5 x6 y9 y10 y11 y12) y
    (View.cover_of_tiledBy (runRest c i arg1 harg1 arg2 harg2 arg3 harg3 arg4 harg4 arg5 harg5 arg6 harg6 arg7 harg7 arg8 harg8 arg9 harg9 arg10 harg10 arg11 harg11 arg12 harg12 hc x1 x2 x3 x4 x5 x6 y9 y10 y11 y12).2.1 ![1, 256, 128] (by sl_kernel_rfl) y)

theorem read_top0 (f : arg11.view.ty.Contents (Elt Ideal)) : arg11.view.read (Elt Ideal) (arg11.view.writes (Elt Ideal) f (runRest c i arg1 harg1 arg2 harg2 arg3 harg3 arg4 harg4 arg5 harg5 arg6 harg6 arg7 harg7 arg8 harg8 arg9 harg9 arg10 harg10 arg11 harg11 arg12 harg12 hc x1 x2 x3 x4 x5 x6 y9 y10 y11 y12).2.2.2.2.1)
    = newTop (dp x1 x3 x4 0) :=
  funext fun y => View.read_writes_apply_of_pieces arg11.view f _ _ (Rest.top0 c i arg1 harg1 arg2 harg2 arg3 harg3 arg4 harg4 arg5 harg5 arg6 harg6 arg7 harg7 arg8 harg8 arg9 harg9 arg10 harg10 arg11 harg11 arg12 harg12 hc x1 x2 x3 x4 x5 x6 y9 y10 y11 y12) y
    (View.cover_of_tiledBy (runRest c i arg1 harg1 arg2 harg2 arg3 harg3 arg4 harg4 arg5 harg5 arg6 harg6 arg7 harg7 arg8 harg8 arg9 harg9 arg10 harg10 arg11 harg11 arg12 harg12 hc x1 x2 x3 x4 x5 x6 y9 y10 y11 y12).2.2.2.2.1 ![8, 128] (by sl_kernel_rfl) y)

theorem read_top1 (f : arg12.view.ty.Contents (Elt Ideal)) : arg12.view.read (Elt Ideal) (arg12.view.writes (Elt Ideal) f (runRest c i arg1 harg1 arg2 harg2 arg3 harg3 arg4 harg4 arg5 harg5 arg6 harg6 arg7 harg7 arg8 harg8 arg9 harg9 arg10 harg10 arg11 harg11 arg12 harg12 hc x1 x2 x3 x4 x5 x6 y9 y10 y11 y12).2.2.2.2.2.1)
    = newTop (dp x1 x3 x4 1) :=
  funext fun y => View.read_writes_apply_of_pieces arg12.view f _ _ (Rest.top1 c i arg1 harg1 arg2 harg2 arg3 harg3 arg4 harg4 arg5 harg5 arg6 harg6 arg7 harg7 arg8 harg8 arg9 harg9 arg10 harg10 arg11 harg11 arg12 harg12 hc x1 x2 x3 x4 x5 x6 y9 y10 y11 y12) y
    (View.cover_of_tiledBy (runRest c i arg1 harg1 arg2 harg2 arg3 harg3 arg4 harg4 arg5 harg5 arg6 harg6 arg7 harg7 arg8 harg8 arg9 harg9 arg10 harg10 arg11 harg11 arg12 harg12 hc x1 x2 x3 x4 x5 x6 y9 y10 y11 y12).2.2.2.2.2.1 ![8, 128] (by sl_kernel_rfl) y)

theorem read_sum0 : arg9.view.read (Elt Ideal) (arg9.view.writes (Elt Ideal) (harg9.unread y9) (runRest c i arg1 harg1 arg2 harg2 arg3 harg3 arg4 harg4 arg5 harg5 arg6 harg6 arg7 harg7 arg8 harg8 arg9 harg9 arg10 harg10 arg11 harg11 arg12 harg12 hc x1 x2 x3 x4 x5 x6 y9 y10 y11 y12).2.2.1)
    = newSum x2 (dp x1 x3 x4 0) y11 0 y9 := by
  funext y
  by_cases h : ∃ p ∈ (runRest c i arg1 harg1 arg2 harg2 arg3 harg3 arg4 harg4 arg5 harg5 arg6 harg6 arg7 harg7 arg8 harg8 arg9 harg9 arg10 harg10 arg11 harg11 arg12 harg12 hc x1 x2 x3 x4 x5 x6 y9 y10 y11 y12).2.2.1, y ∈ p.1.set
  · exact View.read_writes_apply_of_pieces arg9.view _ _ _ (Rest.sum0 c i arg1 harg1 arg2 harg2 arg3 harg3 arg4 harg4 arg5 harg5 arg6 harg6 arg7 harg7 arg8 harg8 arg9 harg9 arg10 harg10 arg11 harg11 arg12 harg12 hc x1 x2 x3 x4 x5 x6 y9 y10 y11 y12) y h
  · push Not at h
    rw [View.read_writes_apply_of_forall_not_mem arg9.view _ y _ h, harg9.read_unread]
    obtain ⟨p, hp, hy⟩ := View.cover_of_tiledBy (((runRest c i arg1 harg1 arg2 harg2 arg3 harg3 arg4 harg4 arg5 harg5 arg6 harg6 arg7 harg7 arg8 harg8 arg9 harg9 arg10 harg10 arg11 harg11 arg12 harg12 hc x1 x2 x3 x4 x5 x6 y9 y10 y11 y12).2.2.1) ++
      [(⟨Rect.unit (s := S2x16x1408) ![0, 4, 0] ![2, 12, 1408] (by decide), fun _ => (0 : EReal)⟩ : View.Piece (Elt Ideal) S2x16x1408 .f32)])
      ![1, 1, 128] (by sl_kernel_rfl) y
    rcases List.mem_append.1 hp with hp | hp
    · exact absurd hy (h p hp)
    · obtain rfl := List.mem_singleton.1 hp
      obtain ⟨x, rfl⟩ : ∃ x, (Rect.unit (s := S2x16x1408) ![0, 4, 0] ![2, 12, 1408] (by decide)).emb x = y := LoadRect.exists_idx_of_mem _ hy
      exact (newSum_high _ _ _ _ _ _ (by rw [Rect.emb_apply]; show 4 ≤ 4 + 1 * (x 1).val; omega)).symm

theorem read_sum1 : arg10.view.read (Elt Ideal) (arg10.view.writes (Elt Ideal) (harg10.unread y10) (runRest c i arg1 harg1 arg2 harg2 arg3 harg3 arg4 harg4 arg5 harg5 arg6 harg6 arg7 harg7 arg8 harg8 arg9 harg9 arg10 harg10 arg11 harg11 arg12 harg12 hc x1 x2 x3 x4 x5 x6 y9 y10 y11 y12).2.2.2.1)
    = newSum x2 (dp x1 x3 x4 1) y12 1 y10 := by
  funext y
  by_cases h : ∃ p ∈ (runRest c i arg1 harg1 arg2 harg2 arg3 harg3 arg4 harg4 arg5 harg5 arg6 harg6 arg7 harg7 arg8 harg8 arg9 harg9 arg10 harg10 arg11 harg11 arg12 harg12 hc x1 x2 x3 x4 x5 x6 y9 y10 y11 y12).2.2.2.1, y ∈ p.1.set
  · exact View.read_writes_apply_of_pieces arg10.view _ _ _ (Rest.sum1 c i arg1 harg1 arg2 harg2 arg3 harg3 arg4 harg4 arg5 harg5 arg6 harg6 arg7 harg7 arg8 harg8 arg9 harg9 arg10 harg10 arg11 harg11 arg12 harg12 hc x1 x2 x3 x4 x5 x6 y9 y10 y11 y12) y h
  · push Not at h
    rw [View.read_writes_apply_of_forall_not_mem arg10.view _ y _ h, harg10.read_unread]
    obtain ⟨p, hp, hy⟩ := View.cover_of_tiledBy (((runRest c i arg1 harg1 arg2 harg2 arg3 harg3 arg4 harg4 arg5 harg5 arg6 harg6 arg7 harg7 arg8 harg8 arg9 harg9 arg10 harg10 arg11 harg11 arg12 harg12 hc x1 x2 x3 x4 x5 x6 y9 y10 y11 y12).2.2.2.1) ++
      [(⟨Rect.unit (s := S2x16x1408) ![0, 4, 0] ![2, 12, 1408] (by decide), fun _ => (0 : EReal)⟩ : View.Piece (Elt Ideal) S2x16x1408 .f32)])
      ![1, 1, 128] (by sl_kernel_rfl) y
    rcases List.mem_append.1 hp with hp | hp
    · exact absurd hy (h p hp)
    · obtain rfl := List.mem_singleton.1 hp
      obtain ⟨x, rfl⟩ : ∃ x, (Rect.unit (s := S2x16x1408) ![0, 4, 0] ![2, 12, 1408] (by decide)).emb x = y := LoadRect.exists_idx_of_mem _ hy
      exact (newSum_high _ _ _ _ _ _ (by rw [Rect.emb_apply]; show 4 ≤ 4 + 1 * (x 1).val; omega)).symm

include hc in
set_option maxHeartbeats 1000000 in
/-- One block of rows at a later grid point: from the inputs, the running sums and the carries it leaves the outputs, the
    sums with the block's shares added, and the block's first rows as the next carries. -/
theorem rest_step (E : Set ℕ) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d) ∗ (∃ d, owns (c : Thread nD τ) arg8 fullShare d) ∗ owns (c : Thread nD τ) arg9 fullShare y9 ∗ owns (c : Thread nD τ) arg10 fullShare y10 ∗ owns (c : Thread nD τ) arg11 fullShare y11 ∗ owns (c : Thread nD τ) arg12 fullShare y12
      ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare (newDu x5 (fun n => mix x6 (dp x1 x3 x4 n) (car y11 y12 n) n)) ∗ owns (c : Thread nD τ) arg8 fullShare (newSlab x6 (dp x1 x3 x4) (car y11 y12)) ∗ owns (c : Thread nD τ) arg9 fullShare (newSum x2 (dp x1 x3 x4 0) y11 0 y9) ∗ owns (c : Thread nD τ) arg10 fullShare (newSum x2 (dp x1 x3 x4 1) y12 1 y10) ∗ owns (c : Thread nD τ) arg11 fullShare (newTop (dp x1 x3 x4 0)) ∗ owns (c : Thread nD τ) arg12 fullShare (newTop (dp x1 x3 x4 1))) -∗ K ⟨⟩))
    ⊢ wp frame (wpE (defs₀ (F := Ideal)) Variants.none c none) E (cc0_bwd_ffn (F := Ideal) i arg1 harg1 arg2 harg2 arg3 harg3 arg4 harg4 arg5 harg5 arg6 harg6 arg7 harg7 arg8 harg8 arg9 harg9 arg10 harg10 arg11 harg11 arg12 harg12) K := by
  iintro ⟨H1, H2, H3, H4, H5, H6, H7, H8, H9, H10, H11, H12, Hk⟩
  iapply (runRest c i arg1 harg1 arg2 harg2 arg3 harg3 arg4 harg4 arg5 harg5 arg6 harg6 arg7 harg7 arg8 harg8 arg9 harg9 arg10 harg10 arg11 harg11 arg12 harg12 hc x1 x2 x3 x4 x5 x6 y9 y10 y11 y12).2.2.2.2.2.2 E K
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iintro ⟨H1, H2, H3, H4, H5, H6, ⟨%f7, H7⟩, ⟨%f8, H8⟩, H9, H10, H11, H12⟩
  iapply Hk
  isplitl [H1]; · iexact H1
  isplitl [H2]; · iexact H2
  isplitl [H3]; · iexact H3
  isplitl [H4]; · iexact H4
  isplitl [H5]; · iexact H5
  isplitl [H6]; · iexact H6
  isplitl [H7]
  · unfold owns; iexists _; isplitr; · ipureintro; exact read_du c i arg1 harg1 arg2 harg2 arg3 harg3 arg4 harg4 arg5 harg5 arg6 harg6 arg7 harg7 arg8 harg8 arg9 harg9 arg10 harg10 arg11 harg11 arg12 harg12 hc x1 x2 x3 x4 x5 x6 y9 y10 y11 y12 f7
    iexact H7
  isplitl [H8]
  · unfold owns; iexists _; isplitr; · ipureintro; exact read_slab c i arg1 harg1 arg2 harg2 arg3 harg3 arg4 harg4 arg5 harg5 arg6 harg6 arg7 harg7 arg8 harg8 arg9 harg9 arg10 harg10 arg11 harg11 arg12 harg12 hc x1 x2 x3 x4 x5 x6 y9 y10 y11 y12 f8
    iexact H8
  isplitl [H9]
  · unfold owns; iexists _; isplitr; · ipureintro; exact read_sum0 c i arg1 harg1 arg2 harg2 arg3 harg3 arg4 harg4 arg5 harg5 arg6 harg6 arg7 harg7 arg8 harg8 arg9 harg9 arg10 harg10 arg11 harg11 arg12 harg12 hc x1 x2 x3 x4 x5 x6 y9 y10 y11 y12
    iexact H9
  isplitl [H10]
  · unfold owns; iexists _; isplitr; · ipureintro; exact read_sum1 c i arg1 harg1 arg2 harg2 arg3 harg3 arg4 harg4 arg5 harg5 arg6 harg6 arg7 harg7 arg8 harg8 arg9 harg9 arg10 harg10 arg11 harg11 arg12 harg12 hc x1 x2 x3 x4 x5 x6 y9 y10 y11 y12
    iexact H10
  isplitl [H11]
  · unfold owns; iexists _; isplitr; · ipureintro; exact read_top0 c i arg1 harg1 arg2 harg2 arg3 harg3 arg4 harg4 arg5 harg5 arg6 harg6 arg7 harg7 arg8 harg8 arg9 harg9 arg10 harg10 arg11 harg11 arg12 harg12 hc x1 x2 x3 x4 x5 x6 y9 y10 y11 y12 (harg11.unread y11)
    iexact H11
  unfold owns; iexists _; isplitr; · ipureintro; exact read_top1 c i arg1 harg1 arg2 harg2 arg3 harg3 arg4 harg4 arg5 harg5 arg6 harg6 arg7 harg7 arg8 harg8 arg9 harg9 arg10 harg10 arg11 harg11 arg12 harg12 hc x1 x2 x3 x4 x5 x6 y9 y10 y11 y12 (harg12.unread y12)
  iexact H12

set_option maxHeartbeats 1000000 in
/-- Clearing leaves zeros in the sums and the carries, and then goes on. -/
theorem clear_step (P : Prog (TpuEff nD τ sig (Elt Ideal) Λ₀ .tc) PUnit) (E : Set ℕ) (K : PUnit → sProp 𝕄) :
    iprop((∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
      ∗ (iprop(owns (c : Thread nD τ) arg9 fullShare (fun _ => (0 : EReal)) ∗ owns (c : Thread nD τ) arg10 fullShare (fun _ => (0 : EReal)) ∗ owns (c : Thread nD τ) arg11 fullShare (fun _ => (0 : EReal)) ∗ owns (c : Thread nD τ) arg12 fullShare (fun _ => (0 : EReal))) -∗ wp frame (wpE (defs₀ (F := Ideal)) Variants.none c none) E P K))
    ⊢ wp frame (wpE (defs₀ (F := Ideal)) Variants.none c none) E (clear (F := Ideal) arg9 harg9 arg10 harg10 arg11 harg11 arg12 harg12 >>= fun _ => P) K := by
  unfold clear owns
  iintro ⟨⟨%d9, %f9, -, H9⟩, ⟨%d10, %f10, -, H10⟩, ⟨%d11, %f11, -, H11⟩, ⟨%d12, %f12, -, H12⟩, Hk⟩
  sl_exec
  iapply Hk
  isplitl [H9]
  · iexists _; isplitr
    swap
    · iexact H9
    ipureintro; exact (View.read_writes_full arg9.view _ _ _ _).trans zero4
  isplitl [H10]
  · iexists _; isplitr
    swap
    · iexact H10
    ipureintro; exact (View.read_writes_full arg10.view _ _ _ _).trans zero5
  isplitl [H11]
  · iexists _; isplitr
    swap
    · iexact H11
    ipureintro; exact (View.read_writes_full arg11.view _ _ _ _).trans zero6
  iexists _; isplitr
  swap
  · iexact H12
  ipureintro; exact (View.read_writes_full arg12.view _ _ _ _).trans zero7

include hc in
set_option maxHeartbeats 1000000 in
/-- The same at the first grid point, whatever the sums and the carries hold: the sums and the carries start from zero. -/
theorem first_step (i₀ : grid0.Coords) (h₀ : first i₀) (E : Set ℕ) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
      ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare (newDu x5 (fun n => mix x6 (dp x1 x3 x4 n) (car (fun _ => (0 : EReal)) (fun _ => (0 : EReal)) n) n)) ∗ owns (c : Thread nD τ) arg8 fullShare (newSlab x6 (dp x1 x3 x4) (car (fun _ => (0 : EReal)) (fun _ => (0 : EReal)))) ∗ owns (c : Thread nD τ) arg9 fullShare (newSum x2 (dp x1 x3 x4 0) (fun _ => (0 : EReal)) 0 (fun _ => (0 : EReal))) ∗ owns (c : Thread nD τ) arg10 fullShare (newSum x2 (dp x1 x3 x4 1) (fun _ => (0 : EReal)) 1 (fun _ => (0 : EReal))) ∗ owns (c : Thread nD τ) arg11 fullShare (newTop (dp x1 x3 x4 0)) ∗ owns (c : Thread nD τ) arg12 fullShare (newTop (dp x1 x3 x4 1))) -∗ K ⟨⟩))
    ⊢ wp frame (wpE (defs₀ (F := Ideal)) Variants.none c none) E (cc0_bwd_ffn (F := Ideal) i₀ arg1 harg1 arg2 harg2 arg3 harg3 arg4 harg4 arg5 harg5 arg6 harg6 arg7 harg7 arg8 harg8 arg9 harg9 arg10 harg10 arg11 harg11 arg12 harg12) K := by
  rw [body_first i₀ i h₀ hc]
  iintro ⟨H1, H2, H3, H4, H5, H6, H7, H8, H9, H10, H11, H12, Hk⟩
  iapply clear_step c arg9 harg9 arg10 harg10 arg11 harg11 arg12 harg12 (cc0_bwd_ffn (F := Ideal) i arg1 harg1 arg2 harg2 arg3 harg3 arg4 harg4 arg5 harg5 arg6 harg6 arg7 harg7 arg8 harg8 arg9 harg9 arg10 harg10 arg11 harg11 arg12 harg12) E K
  isplitl [H9]; · iexact H9
  isplitl [H10]; · iexact H10
  isplitl [H11]; · iexact H11
  isplitl [H12]; · iexact H12
  iintro ⟨H9, H10, H11, H12⟩
  iapply rest_step c i arg1 harg1 arg2 harg2 arg3 harg3 arg4 harg4 arg5 harg5 arg6 harg6 arg7 harg7 arg8 harg8 arg9 harg9 arg10 harg10 arg11 harg11 arg12 harg12 hc x1 x2 x3 x4 x5 x6 (fun _ => (0 : EReal)) (fun _ => (0 : EReal)) (fun _ => (0 : EReal)) (fun _ => (0 : EReal)) E K
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact Hk

end Cert.KernelIdeal.Body

end
-- ==== Proof.Data.lean ====
module

public import proofs.«01_k».proof.Proof.Step
public import proofs.«01_k».proof.Proof.Gen.KernelIdeal.Frame
public import Idealize.ShloMosaic.Lib.Pipeline.TableIdle
public import Idealize.ShloMosaic.Lib.Claim

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

local notation "𝕄" => MT nD τ sig Unit (Elt Ideal) ℕ (UR sig nD τ) ℕ

variable (m : (ℓ : Loc nD τ sig) → Buf (Elt Ideal) ℓ) (ρ : Dev nD → PrngReg)

/-! ### What a point computes -/

/-- The gradient of the pre-activations of point `t`'s rows. -/
def P (c : Dev nD) (t : Fin cfg0.N) (n : Fin 2) : Fin 256 → Fin 2816 → EReal :=
  dp (iblk m c 0 t) (iblk m c 2 t) (iblk m c 3 t) n

/-- The eight rows point `k` finds: those of the point before, none at the first. -/
def tops (c : Dev nD) (k : ℕ) (n : Fin 2) : Vec Ideal S8x2816 .f32 :=
  if h : 0 < k ∧ k - 1 < cfg0.N then newTop (P m c ⟨k - 1, h.2⟩ n) else fun _ => (0 : EReal)

/-- The taps' gradient over the first `k` points. -/
def sums (c : Dev nD) : ℕ → Fin 2 → Vec Ideal S2x16x1408 .f32
  | 0, _ => fun _ => (0 : EReal)
  | k + 1, n => if h : k < cfg0.N then newSum (iblk m c 1 ⟨k, h⟩) (P m c ⟨k, h⟩ n) (tops m c k n) n (sums c k n) else sums c k n

theorem tops_zero (c : Dev nD) (n : Fin 2) : tops m c 0 n = fun _ => (0 : EReal) := dif_neg (fun h => Nat.lt_irrefl 0 h.1)

theorem tops_succ (c : Dev nD) (t : Fin cfg0.N) (n : Fin 2) : tops m c (t.val + 1) n = newTop (P m c t n) :=
  dif_pos ⟨Nat.succ_pos _, t.isLt⟩

theorem sums_succ (c : Dev nD) (t : Fin cfg0.N) (n : Fin 2) :
    sums m c (t.val + 1) n = newSum (iblk m c 1 t) (P m c t n) (tops m c t.val n) n (sums m c t.val n) := dif_pos t.isLt

theorem car_tops (c : Dev nD) (k : ℕ) (n : Fin 2) : car (tops m c k 0) (tops m c k 1) n = tops m c k n := by
  unfold car; fin_cases n <;> simp

/-! ### The buffers at a point -/

abbrev ms0 (t : Fin cfg0.N) : Memref sig .tc .vmem S256x1024 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S2x256x2816 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S2x256x2816 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S2816x1024 .bf16 := win0_3.stage (cfg0.slots t 3)
abbrev hs3 (t : Fin cfg0.N) : (ms3 t).IsWhole := hstage0_3 ((cfg0.slots t 3).cast nbuf0_3)
abbrev ms4 (t : Fin cfg0.N) : Memref sig .tc .vmem S2x1024x2816 .bf16 := win0_4.stage (cfg0.slots t 4)
abbrev hs4 (t : Fin cfg0.N) : (ms4 t).IsWhole := hstage0_4 ((cfg0.slots t 4).cast nbuf0_4)
abbrev ms5 (t : Fin cfg0.N) : Memref sig .tc .vmem S4x16x1408 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S256x1024 .bf16 := win0_6.stage (cfg0.slots t 6)
abbrev hs6 (t : Fin cfg0.N) : (ms6 t).IsWhole := hstage0_6 ((cfg0.slots t 6).cast nbuf0_6)
abbrev ms7 (t : Fin cfg0.N) : Memref sig .tc .vmem S2x256x2816 .bf16 := win0_7.stage (cfg0.slots t 7)
abbrev hs7 (t : Fin cfg0.N) : (ms7 t).IsWhole := hstage0_7 ((cfg0.slots t 7).cast nbuf0_7)
abbrev ms8 (t : Fin cfg0.N) : Memref sig .tc .vmem S2x16x1408 .f32 := win0_8.stage (cfg0.slots t 8)
abbrev hs8 (t : Fin cfg0.N) : (ms8 t).IsWhole := hstage0_8 ((cfg0.slots t 8).cast nbuf0_8)
abbrev ms9 (t : Fin cfg0.N) : Memref sig .tc .vmem S2x16x1408 .f32 := win0_9.stage (cfg0.slots t 9)
abbrev hs9 (t : Fin cfg0.N) : (ms9 t).IsWhole := hstage0_9 ((cfg0.slots t 9).cast nbuf0_9)
abbrev sc0 : Memref sig .tc .vmem S8x2816 .f32 := Memref.whole cc0_scratch0
abbrev sc1 : Memref sig .tc .vmem S8x2816 .f32 := Memref.whole cc0_scratch1

theorem rest_eq (c : Dev nD) :
    (Pipeline.ΦA spec0 c : sProp 𝕄)
      = iprop(iprop((∃ d, owns (c : Thread nD τ) sc0 fullShare d) ∗ (∃ d, owns (c : Thread nD τ) sc1 fullShare d)) ∗ (∃ r, prngReg c r)) := by
  unfold Pipeline.ΦA; rw [scopedRest0_eq]; simp only [sc0, sc1, owns_whole]; try rfl

/-- What holds between points: before the first the scratch holds anything, later the rows the point before left. -/
def inv (c : Dev nD) (k : ℕ) : sProp 𝕄 :=
  if k = 0 then Pipeline.ΦA spec0 c
  else iprop(iprop(owns (c : Thread nD τ) sc0 fullShare (tops m c k 0) ∗ owns (c : Thread nD τ) sc1 fullShare (tops m c k 1)) ∗ (∃ r, prngReg c r))

theorem inv_zero (c : Dev nD) : inv m c 0 = Pipeline.ΦA spec0 c := if_pos rfl

theorem inv_pos (c : Dev nD) (k : ℕ) (h : k ≠ 0) : inv m c k
    = iprop(iprop(owns (c : Thread nD τ) sc0 fullShare (tops m c k 0) ∗ owns (c : Thread nD τ) sc1 fullShare (tops m c k 1)) ∗ (∃ r, prngReg c r)) := if_neg h

/-- What the pipeline keeps: each input's buffer at its block, the outputs at what the points up to here make of them. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => newDu (iblk m c 4 t) (fun n => mix (iblk m c 5 t) (P m c t n) (tops m c t.val n) n)
    | ⟨7, _⟩ => newSlab (iblk m c 5 t) (P m c t) (tops m c t.val)
    | ⟨8, _⟩ => sums m c (t.val + 1) 0
    | ⟨9, _⟩ => sums m c (t.val + 1) 1
  Φ t := inv m c t.val
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = newDu (iblk m c 4 t) (fun n => mix (iblk m c 5 t) (P m c t n) (tops m c t.val n) n) := by dsimp only [dats]
theorem after7 (c : Dev nD) (t : Fin cfg0.N) : (dats m 0 c).after 7 t = newSlab (iblk m c 5 t) (P m c t) (tops m c t.val) := by dsimp only [dats]
theorem after8 (c : Dev nD) (t : Fin cfg0.N) : (dats m 0 c).after 8 t = sums m c (t.val + 1) 0 := by dsimp only [dats]
theorem after9 (c : Dev nD) (t : Fin cfg0.N) : (dats m 0 c).after 9 t = sums m c (t.val + 1) 1 := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d

theorem live8 : ∀ t : Fin cfg0.N, cfg0.idle 8 (grid0.coords t) = false := by decide +kernel

theorem carry8 (c : Dev nD) : ∀ (t : Fin cfg0.N) (_ : t.val ≠ 0), cfg0.idle 8 (grid0.coords t) = true → cfg0.fresh 8 t.val = false →
    (dats m 0 c).after 8 t = (dats m 0 c).after 8 ⟨t.val - 1, by omega⟩ := fun t _ h => by
  rw [live8 t] at h; exact absurd h Bool.false_ne_true

theorem kept8 : ∀ t : Fin cfg0.N, t.val ≠ 0 → cfg0.fresh 8 t.val = false := fun t ht => by
  obtain ⟨k, hk⟩ := Nat.exists_eq_succ_of_ne_zero ht
  have hN : t.val < 32 := lt_of_lt_of_eq t.isLt (show cfg0.N = 32 from N_0)
  rw [hk, Pipeline.Cfg.fresh_succ cfg0 8 k (by have := t.isLt; omega), show cfg0.idle 8 (cfg0.grid.coords _) = false from live8 _,
    Bool.false_and, Bool.or_false, Bool.eq_false_iff, Ne, flush0_8]
  show ¬k % 32 = 31
  omega

/-- A running sum is what the point before left. -/
theorem before8 (c : Dev nD) (t : Fin cfg0.N) (ht : t.val ≠ 0) (d) : (dats m 0 c).before 8 t d = sums m c t.val 0 := by
  rw [Dat.before_out_traj _ 8 rfl (fun _ _ => rfl) (carry8 m c) t.val t rfl d,
    if_neg (by rw [kept8 t ht]; exact Bool.false_ne_true), after8]
  show sums m c (t.val - 1 + 1) 0 = _
  rw [Nat.sub_add_cancel (Nat.pos_of_ne_zero ht)]

theorem live9 : ∀ t : Fin cfg0.N, cfg0.idle 9 (grid0.coords t) = false := by decide +kernel

theorem carry9 (c : Dev nD) : ∀ (t : Fin cfg0.N) (_ : t.val ≠ 0), cfg0.idle 9 (grid0.coords t) = true → cfg0.fresh 9 t.val = false →
    (dats m 0 c).after 9 t = (dats m 0 c).after 9 ⟨t.val - 1, by omega⟩ := fun t _ h => by
  rw [live9 t] at h; exact absurd h Bool.false_ne_true

theorem kept9 : ∀ t : Fin cfg0.N, t.val ≠ 0 → cfg0.fresh 9 t.val = false := fun t ht => by
  obtain ⟨k, hk⟩ := Nat.exists_eq_succ_of_ne_zero ht
  have hN : t.val < 32 := lt_of_lt_of_eq t.isLt (show cfg0.N = 32 from N_0)
  rw [hk, Pipeline.Cfg.fresh_succ cfg0 9 k (by have := t.isLt; omega), show cfg0.idle 9 (cfg0.grid.coords _) = false from live9 _,
    Bool.false_and, Bool.or_false, Bool.eq_false_iff, Ne, flush0_9]
  show ¬k % 32 = 31
  omega

/-- A running sum is what the point before left. -/
theorem before9 (c : Dev nD) (t : Fin cfg0.N) (ht : t.val ≠ 0) (d) : (dats m 0 c).before 9 t d = sums m c t.val 1 := by
  rw [Dat.before_out_traj _ 9 rfl (fun _ _ => rfl) (carry9 m c) t.val t rfl d,
    if_neg (by rw [kept9 t ht]; exact Bool.false_ne_true), after9]
  show sums m c (t.val - 1 + 1) 1 = _
  rw [Nat.sub_add_cancel (Nat.pos_of_ne_zero ht)]

/-! ### The body at a point -/

theorem first_iff : ∀ t : Fin cfg0.N, first (grid0.coords t) ↔ t.val = 0 := fun t => by
  have ht : t.val < 32 := Nat.lt_of_lt_of_eq t.isLt N_0
  have e0 : (grid0.coords t 0).val = t.val / 1 % 32 := Pipeline.Grid.coords_val t 0 (by decide) rfl
  have e1 : (grid0.coords t 0).val = t.val := by rw [e0]; omega
  simp only [first, e1]
  word_cmp

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d)))

def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t)
    ∗ owns (c : Thread nD τ) (ms7 t) fullShare ((dats m 0 c).after 7 t)
    ∗ owns (c : Thread nD τ) (ms8 t) fullShare ((dats m 0 c).after 8 t)
    ∗ owns (c : Thread nD τ) (ms9 t) fullShare ((dats m 0 c).after 9 t))

set_option maxHeartbeats 2400000 in
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0, before1, before2, before3, before4, before5]
  rw [show (dats m 0 c).owesAt () t.succ = (dats m 0 c).owesAt () t.castSucc from rfl,
    show (dats m 0 c).Φ t.castSucc = inv m c t.val from rfl, show (dats m 0 c).Φ t.succ = inv m c (t.val + 1) from rfl,
    after0, after1, after2, after3, after4, after5, after6, after7, after8, after9, inv_pos m c (t.val + 1) (Nat.succ_ne_zero _),
    tops_succ, tops_succ, sums_succ, sums_succ]
  unfold P
  by_cases h0 : t.val = 0
  · have e : ∀ n, tops m c t.val n = fun _ => (0 : EReal) := fun n => by rw [h0]; exact tops_zero m c n
    have e' : ∀ n, sums m c t.val n = fun _ => (0 : EReal) := fun n => by rw [h0]; rfl
    have ec : (fun n => car (fun _ => (0 : EReal)) (fun _ => (0 : EReal)) n : Fin 2 → Vec Ideal S8x2816 .f32) = fun _ _ => (0 : EReal) := by
      funext n; unfold car; split <;> rfl
    have et : tops m c t.val = car (fun _ => (0 : EReal)) (fun _ => (0 : EReal)) := by funext n; rw [e]; exact (congrFun ec n).symm
    rw [et]
    have e0 : car (fun _ => (0 : EReal)) (fun _ => (0 : EReal)) 0 = (fun _ => (0 : EReal)) := congrFun ec 0
    have e1 : car (fun _ => (0 : EReal)) (fun _ => (0 : EReal)) 1 = (fun _ => (0 : EReal)) := congrFun ec 1
    rw [e0, e1, e', e']
    rw [h0, inv_zero, rest_eq]
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (first_step c (grid0.coords ⟨1, by decide⟩) _ _ _ _ _ _ _ _ _ _ _ _ _ _ _ _ _ _ _ _ _ _ _ _ (fun h => absurd ((first_iff _).mp h) (by decide)) (iblk m c 0 t) (iblk m c 1 t) (iblk m c 2 t) (iblk m c 3 t) (iblk m c 4 t) (iblk m c 5 t) (grid0.coords t) ((first_iff t).mpr h0) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [H9]; · iexists _; iexact H9
    isplitl [HS0]; · iexact HS0
    isplitl [HS1]; · iexact HS1
    iintro ⟨H0, H1, H2, H3, H4, H5, H6, H7, H8, H9, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  · simp only [before8 m c t h0, before9 m c t h0]
    rw [inv_pos m c t.val h0]
    have et : tops m c t.val = car (tops m c t.val 0) (tops m c t.val 1) := by funext n; exact (car_tops m c t.val n).symm
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (rest_step c (grid0.coords t) _ _ _ _ _ _ _ _ _ _ _ _ _ _ _ _ _ _ _ _ _ _ _ _ (fun h => h0 ((first_iff t).mp h)) (iblk m c 0 t) (iblk m c 1 t) (iblk m c 2 t) (iblk m c 3 t) (iblk m c 4 t) (iblk m c 5 t) (sums m c t.val 0) (sums m c t.val 1) (tops m c t.val 0) (tops m c t.val 1) Set.univ _)
    rw [← et]
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexact H8
    isplitl [H9]; · iexact H9
    isplitl [HS0]; · iexact HS0
    isplitl [HS1]; · iexact HS1
    iintro ⟨H0, H1, H2, H3, H4, H5, H6, H7, H8, H9, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9

theorem row (t : Fin cfg0.N) :
    defs₀ (F := Ideal) .tc cfg0.body (cfg0.bodyArgs t (cfg0.slots t)) = bodyAt0 t := by
  unfold defs₀; rw [Defs.onTc_tc]

theorem obligation (c : Dev nD) : BodyObligation (dats m 0 c) (defs₀ (F := Ideal)) Variants.none () Set.univ := fun t => by
  rw [bigSep_W0, bigSep_W0, row]
  exact triple_restated (sound_body m c t) rfl .rfl fun _ => .rfl

/-! ### The run -/

theorem inv_last (c : Dev nD) (k : ℕ) : inv m c k ⊢ Pipeline.ΦA spec0 c := by
  by_cases h : k = 0
  · rw [h, inv_zero]
  · rw [inv_pos m c k h, rest_eq]
    iintro ⟨⟨HS0, HS1⟩, Hg⟩
    isplitl [HS0 HS1]
    · isplitl [HS0]
      · iexists _; iexact HS0
      iexists _; iexact HS1
    iexact Hg

set_option backward.isDefEq.respectTransparency.types false in
theorem run_quiescent : θ_run defs (onTc (τ := τ) (main (F := Ideal))) (s₀ m ρ) (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m)
    (hin := fun c => by rw [show (dats m 0 c).Φ 0 = inv m c 0 from rfl, inv_zero])
    (hout := fun c => by exact inv_last m c (Fin.last cfg0.N).val)

theorem run : θ_run defs (onTc (τ := τ) (main (F := Ideal))) (s₀ m ρ) (Pipeline.FramePost cfgs (dats m) 0 (V m)) :=
  (θ_run defs _ _).mono (fun _ h => h.1) (run_quiescent m ρ)

/-- The arguments end unchanged and no semaphore is left raised. -/
theorem framed : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) (run m ρ)) ((θ_run defs _ _).mono (fun _ h => h.2) (run_quiescent m ρ))

end Cert.KernelIdeal.Body

end
-- ==== Proof.Spec.lean ====
module

public import proofs.«01_k».proof.Proof.Chunk

@[expose] public section

set_option maxRecDepth 16384

noncomputable section

namespace Cert.KernelIdeal.Body

open Idealize.ShloMosaic Idealize.ShloMosaic.TcCoe
open Cert.KernelIdeal Cert.KernelIdeal.Gen

/-! ## The call as mathematics

`u` is the block's input, `w` is `w_up`, `t` the three taps, `b` the convolution's bias, `z` is `w_down` and `f` is `df`. -/

/-- The six arrays, read by row and column. -/
structure Args where
  u : Fin 8192 → Fin 1024 → EReal
  w : Fin 1024 → Fin 5632 → EReal
  t : Fin 3 → Fin 5632 → EReal
  b : Fin 5632 → EReal
  z : Fin 2816 → Fin 1024 → EReal
  f : Fin 8192 → Fin 1024 → EReal

namespace Args

variable (A : Args)

/-- The column of half `n`. -/
def jj (n : Fin 2) (q : Fin 2816) : Fin 5632 := ⟨2816 * n.val + q.val, by omega⟩

/-- The first product, zero outside the rows. -/
def H (e : ℕ) (j : Fin 5632) : EReal := if h : e < 8192 then ∑ k : Fin 1024, A.u ⟨e, h⟩ k * A.w k j else 0

/-- The same after two rows of zeros. -/
def hp (e : ℕ) (j : Fin 5632) : EReal := if e < 2 then 0 else A.H (e - 2) j

/-- The causal convolution. -/
def pre (i : ℕ) (j : Fin 5632) : EReal := A.t 0 j * A.hp i j + A.t 1 j * A.hp (i + 1) j + A.t 2 j * A.hp (i + 2) j + A.b j

/-- The gradient of the gated activation. -/
def act (i : Fin 8192) (q : Fin 2816) : EReal := ∑ d : Fin 1024, A.f i d * A.z q d

/-- The gradient of the pre-activations, zero after the last row. -/
def dp (n : Fin 2) (e : ℕ) (q : Fin 2816) : EReal :=
  if h : e < 8192 then
    (if n = 0 then A.act ⟨e, h⟩ q * A.pre e (jj 1 q) * dgl (A.pre e (jj 0 q)) else A.act ⟨e, h⟩ q * gl (A.pre e (jj 0 q)))
  else 0

/-- The gradient of the convolution's input. -/
def dh (n : Fin 2) (i : ℕ) (q : Fin 2816) : EReal :=
  A.t 2 (jj n q) * A.dp n i q + A.t 1 (jj n q) * A.dp n (i + 1) q + A.t 0 (jj n q) * A.dp n (i + 2) q

/-- The gradient of `u`. -/
def du (i : ℕ) (d : Fin 1024) : EReal := ∑ n : Fin 2, ∑ q : Fin 2816, A.dh n i q * A.w d (jj n q)

/-- The gradients of the taps and of the bias, one row each, as sums of a row's term. -/
def term (n : Fin 2) (k : ℕ) (q : Fin 2816) (i : ℕ) : EReal :=
  if k = 0 then A.dp n (i + 2) q * A.H i (jj n q)
  else if k = 1 then A.dp n (i + 1) q * A.H i (jj n q)
  else if k = 2 then A.dp n i q * A.H i (jj n q)
  else if k = 3 then A.dp n i q
  else 0

def dw (n : Fin 2) (k : ℕ) (q : Fin 2816) : EReal := ∑ i ∈ Finset.range 8192, A.term n k q i

/-! ### Sums by blocks -/

theorem sum_blocks (g : ℕ → EReal) (a b : ℕ) : ∑ k ∈ Finset.range a, ∑ r ∈ Finset.range b, g (b * k + r) = ∑ i ∈ Finset.range (b * a), g i := by
  induction a with
  | zero => simp
  | succ a ih => rw [Finset.sum_range_succ, ih, Nat.mul_succ, Finset.sum_range_add]

theorem sum_down (g : ℕ → EReal) : ∑ k ∈ Finset.range 32, ∑ r : Fin 256, g (256 * (31 - k) + r.val) = ∑ i ∈ Finset.range 8192, g i := by
  have e : ∀ k, ∑ r : Fin 256, g (256 * (31 - k) + r.val) = (fun k => ∑ r ∈ Finset.range 256, g (256 * k + r)) (32 - 1 - k) := fun k =>
    Fin.sum_univ_eq_sum_range (fun r => g (256 * (31 - k) + r)) 256
  rw [Finset.sum_congr rfl fun k _ => e k, Finset.sum_range_reflect (fun k => ∑ r ∈ Finset.range 256, g (256 * k + r)) 32, sum_blocks]

theorem dp_out (n : Fin 2) (e : ℕ) (q : Fin 2816) (h : 8192 ≤ e) : A.dp n e q = 0 := dif_neg (by omega)

/-- The taps' gradients with the convolution's input shifted instead. -/
theorem dw_zero (n : Fin 2) (q : Fin 2816) : A.dw n 0 q = ∑ i ∈ Finset.range 8192, A.dp n i q * A.hp i (jj n q) := by
  have l : A.dw n 0 q = ∑ i ∈ Finset.range 8190, A.dp n (2 + i) q * A.H i (jj n q) := by
    rw [dw, show 8192 = 8190 + 2 from rfl, Finset.sum_range_add]
    rw [Finset.sum_eq_zero (s := Finset.range 2) fun i _ => by rw [term, if_pos rfl, A.dp_out n _ q (by omega), zero_mul], add_zero]
    exact Finset.sum_congr rfl fun i _ => by rw [term, if_pos rfl, Nat.add_comm]
  rw [l, show 8192 = 2 + 8190 from rfl, Finset.sum_range_add]
  rw [Finset.sum_eq_zero (s := Finset.range 2) fun i hi => by rw [hp, if_pos (Finset.mem_range.mp hi), mul_zero], zero_add]
  exact Finset.sum_congr rfl fun i _ => by rw [hp, if_neg (by omega), Nat.add_sub_cancel_left]

theorem dw_one (n : Fin 2) (q : Fin 2816) : A.dw n 1 q = ∑ i ∈ Finset.range 8192, A.dp n i q * A.hp (i + 1) (jj n q) := by
  have l : A.dw n 1 q = ∑ i ∈ Finset.range 8191, A.dp n (1 + i) q * A.H i (jj n q) := by
    rw [dw, show 8192 = 8191 + 1 from rfl, Finset.sum_range_add]
    rw [Finset.sum_eq_zero (s := Finset.range 1) fun i _ => by
      rw [term, if_neg (by decide), if_pos rfl, A.dp_out n _ q (by omega), zero_mul], add_zero]
    exact Finset.sum_congr rfl fun i _ => by rw [term, if_neg (by decide), if_pos rfl, Nat.add_comm]
  rw [l, show 8192 = 1 + 8191 from rfl, Finset.sum_range_add]
  rw [Finset.sum_eq_zero (s := Finset.range 1) fun i hi => by
    rw [hp, if_pos (by have := Finset.mem_range.mp hi; omega), mul_zero], zero_add]
  exact Finset.sum_congr rfl fun i _ => by rw [hp, if_neg (by omega), show 1 + i + 1 - 2 = i by omega]

theorem dw_two (n : Fin 2) (q : Fin 2816) : A.dw n 2 q = ∑ i ∈ Finset.range 8192, A.dp n i q * A.hp (i + 2) (jj n q) :=
  Finset.sum_congr rfl fun i _ => by
    rw [term, if_neg (by decide), if_neg (by decide), if_pos rfl, hp, if_neg (by omega), Nat.add_sub_cancel]

theorem dw_three (n : Fin 2) (q : Fin 2816) : A.dw n 3 q = ∑ i ∈ Finset.range 8192, A.dp n i q :=
  Finset.sum_congr rfl fun i _ => by rw [term, if_neg (by decide), if_neg (by decide), if_neg (by decide), if_pos rfl]

theorem dw_high (n : Fin 2) (k : ℕ) (h : 4 ≤ k) (q : Fin 2816) : A.dw n k q = 0 :=
  Finset.sum_eq_zero fun i _ => by
    rw [term, if_neg (by omega), if_neg (by omega), if_neg (by omega), if_neg (by omega)]

/-! ### Finite numbers -/

/-- An extended real that is a real. -/
def Fin' (x : EReal) : Prop := ∃ r : ℝ, x = (r : EReal)

theorem fin_add {x y : EReal} (hx : Fin' x) (hy : Fin' y) : Fin' (x + y) := by
  obtain ⟨r, rfl⟩ := hx; obtain ⟨s, rfl⟩ := hy; exact ⟨r + s, (EReal.coe_add r s).symm⟩

theorem fin_mul {x y : EReal} (hx : Fin' x) (hy : Fin' y) : Fin' (x * y) := by
  obtain ⟨r, rfl⟩ := hx; obtain ⟨s, rfl⟩ := hy; exact ⟨r * s, (EReal.coe_mul r s).symm⟩

theorem fin_zero : Fin' 0 := ⟨0, EReal.coe_zero.symm⟩

theorem fin_sum {n : ℕ} (g : Fin n → EReal) (h : ∀ k, Fin' (g k)) : Fin' (∑ k, g k) :=
  Finset.sum_induction g Fin' (fun _ _ => fin_add) fin_zero fun k _ => h k

/-- Every element of every argument is a real. -/
structure Finite : Prop where
  u : ∀ i k, Fin' (A.u i k)
  w : ∀ i k, Fin' (A.w i k)
  t : ∀ i k, Fin' (A.t i k)
  b : ∀ k, Fin' (A.b k)
  z : ∀ i k, Fin' (A.z i k)
  f : ∀ i k, Fin' (A.f i k)

variable {A}

theorem Finite.H (h : A.Finite) (e : ℕ) (j : Fin 5632) : Fin' (A.H e j) := by
  unfold Args.H; split
  · exact fin_sum _ fun k => fin_mul (h.u _ _) (h.w _ _)
  · exact fin_zero

theorem Finite.hp (h : A.Finite) (e : ℕ) (j : Fin 5632) : Fin' (A.hp e j) := by
  unfold Args.hp; split
  · exact fin_zero
  · exact h.H _ _

theorem Finite.pre (h : A.Finite) (i : ℕ) (j : Fin 5632) : Fin' (A.pre i j) :=
  fin_add (fin_add (fin_add (fin_mul (h.t _ _) (h.hp _ _)) (fin_mul (h.t _ _) (h.hp _ _))) (fin_mul (h.t _ _) (h.hp _ _))) (h.b _)

theorem Finite.act (h : A.Finite) (i : Fin 8192) (q : Fin 2816) : Fin' (A.act i q) := fin_sum _ fun d => fin_mul (h.f _ _) (h.z _ _)

end Args

/-! ### The gelu's derivative, written in two ways -/

theorem word_c : Ideal.ofBits .f32 0x3F4C422A#32 = ((6693141 / 8388608 : ℝ) : EReal) := by
  simp [Ideal.ofBits, Ideal.ieee, -EReal.coe_mul]; norm_num
theorem word_a : Ideal.ofBits .f32 0x3D372713#32 = ((12003091 / 268435456 : ℝ) : EReal) := by
  simp [Ideal.ofBits, Ideal.ieee, -EReal.coe_mul]; norm_num
theorem word_half : Ideal.ofBits .f32 0x3F000000#32 = ((1 / 2 : ℝ) : EReal) := by
  simp [Ideal.ofBits, Ideal.ieee, -EReal.coe_mul]; norm_num
theorem word_one : Ideal.ofBits .f32 0x3F800000#32 = ((1 : ℝ) : EReal) := by
  simp [Ideal.ofBits, Ideal.ieee, -EReal.coe_mul]; norm_num
theorem word_three : Ideal.ofBits .f32 0x40400000#32 = ((3 : ℝ) : EReal) := by
  simp [Ideal.ofBits, Ideal.ieee, -EReal.coe_mul]; norm_num
theorem name_ca : Named.named (F := Ideal) (φ := .f32) κ "ca" 0x3D122279#32 = ((80338380498831 / 2251799813685248 : ℝ) : EReal) :=
  IdealRules.named_const.ideal_named_scalar _ _ _ _ rfl
theorem name_ca3 : Named.named (F := Ideal) (φ := .f32) κ "ca3" 0x3DDB33B6#32 = ((241015141496493 / 2251799813685248 : ℝ) : EReal) :=
  IdealRules.named_const.ideal_named_scalar _ _ _ _ rfl

/-- The inner `tanh` as the plain program computes it. -/
def th' (v : EReal) : EReal := Ideal.tanh (Ideal.ofBits .f32 0x3F4C422A#32 * (v + Ideal.ofBits .f32 0x3D372713#32 * (v * v * v)))

/-- Half of one plus it, -/
def half' (v : EReal) : EReal := Ideal.ofBits .f32 0x3F000000#32 * (Ideal.ofBits .f32 0x3F800000#32 + th' v)

/-- the inner derivative, -/
def inner' (v g : EReal) : EReal :=
  Ideal.ofBits .f32 0x3F4C422A#32
    * (Ideal.ofBits .f32 0x3F000000#32 * (v * g) * ((Ideal.ofBits .f32 0x3F800000#32 + th' v) * (Ideal.ofBits .f32 0x3F800000#32 - th' v)))

/-- and the gate's gradient. -/
def gate' (v g : EReal) : EReal :=
  g * half' v + inner' v g + Ideal.ofBits .f32 0x3D372713#32 * inner' v g * (Ideal.ofBits .f32 0x40400000#32 * (v * v))

theorem th_eq (v : ℝ) : th' v = th v := by
  unfold th th'
  rw [word_c, word_a, name_ca]
  simp only [← EReal.coe_mul, ← EReal.coe_add]
  congr 2
  ring

theorem half_eq (v : ℝ) : half' v = half v := by
  unfold half half'
  rw [th_eq, word_half, word_one]
  unfold th
  rw [word_c, name_ca]
  simp only [← EReal.coe_mul, ← EReal.coe_add, Ideal.tanh_coe]
  congr 1
  ring

theorem gate_eq (v a w : ℝ) : gate' v (a * w) = a * w * dgl v := by
  unfold gate' inner' dgl
  rw [half_eq, th_eq]
  unfold half
  have e : ∃ s : ℝ, th v = s := by
    unfold th
    rw [word_c, name_ca]
    simp only [← EReal.coe_mul, ← EReal.coe_add, Ideal.tanh_coe]
    exact ⟨_, rfl⟩
  obtain ⟨s, hs⟩ := e
  rw [hs, word_half, word_one, word_c, word_a, word_three, name_ca3, show (1 : EReal) = ((1 : ℝ) : EReal) from rfl]
  simp only [← EReal.coe_mul, ← EReal.coe_add, ← EReal.coe_sub]
  congr 1
  ring

end Cert.KernelIdeal.Body

end
-- ==== Proof.RefRows.lean ====
module

public import proofs.«01_k».proof.Proof.Spec
public import proofs.«01_k».proof.Proof.Gen.ReferenceIdeal.Read
public import Idealize.ShloMosaic.Lib.Pointwise

@[expose] public section

set_option maxRecDepth 16384

noncomputable section

namespace Cert.ReferenceIdeal.Rows

open Idealize.ShloMosaic Idealize.ShloMosaic.TcCoe
open Cert.ReferenceIdeal Cert.ReferenceIdeal.Gen Cert.ReferenceIdeal.Read
open Cert.KernelIdeal.Body (Args th' half' inner' gate' half_eq gate_eq gl dgl)
open Cert.KernelIdeal.Body.Args (jj)

/-- The six arrays by row and column. -/
def args (x0 : Vec Ideal S8192x1024 .bf16) (x1 : Vec Ideal S1024x5632 .f32) (x2 : Vec Ideal S3x5632 .f32) (x3 : Vec Ideal S5632 .f32)
    (x4 : Vec Ideal S2816x1024 .f32) (x5 : Vec Ideal S8192x1024 .bf16) : Args where
  u i k := x0 (ix2 i k)
  w i k := x1 (ix2 i k)
  t i k := x2 (ix2 i k)
  b k := x3 (ix1 k)
  z i k := x4 (ix2 i k)
  f i k := x5 (ix2 i k)

variable (x0 : Vec Ideal S8192x1024 .bf16) (x1 : Vec Ideal S1024x5632 .f32) (x2 : Vec Ideal S3x5632 .f32) (x3 : Vec Ideal S5632 .f32)
  (x4 : Vec Ideal S2816x1024 .f32) (x5 : Vec Ideal S8192x1024 .bf16)

/-! ### The forward pass -/

theorem up (i : Fin 8192) (j : Fin 5632) : val_main_v1 (F := Ideal) x0 x1 (ix2 i j) = (args x0 x1 x2 x3 x4 x5).H i.val j := by
  unfold val_main_v1 val_main_v0 Args.H args
  rw [dif_pos i.isLt]
  pointwise

theorem padded (e : Fin 8194) (j : Fin 5632) : val_main_v3 (F := Ideal) x0 x1 (ix2 e j) = (args x0 x1 x2 x3 x4 x5).hp e.val j := by
  have h := fun i => up x0 x1 x2 x3 x4 x5 i j
  unfold val_main_v3 val_main_v2 val_main_cst Args.hp
  generalize val_main_v1 (F := Ideal) x0 x1 = y at h ⊢
  pointwise
  by_cases k : e.val < 2
  · rw [dif_pos k, if_pos k]
  · rw [dif_neg k, if_neg k, h]

theorem conv (i : Fin 8192) (j : Fin 5632) : val_main_v27 (F := Ideal) x0 x1 x2 x3 (ix2 i j) = (args x0 x1 x2 x3 x4 x5).pre i.val j := by
  have h := fun e => padded x0 x1 x2 x3 x4 x5 e j
  unfold val_main_v27 val_main_v26 val_main_v25 val_main_v24 val_main_v23 val_main_v22 val_main_v21 val_main_v20 val_main_v19 val_main_v18
    val_main_v17 val_main_v16 val_main_v15 val_main_v14 val_main_v13 val_main_v12 val_main_v11 val_main_v10 val_main_v9 val_main_v8 val_main_v7
    val_main_v6 val_main_v5 Args.pre
  generalize val_main_v3 (F := Ideal) x0 x1 = y at h ⊢
  pointwise
  simp only [h, Nat.add_comm 1 i.val, Nat.add_comm 2 i.val]
  rfl

/-! ### The gelu and its gradient -/

theorem jj_zero (q : Fin 2816) (h : q.val < 5632) : (⟨q.val, h⟩ : Fin 5632) = jj 0 q := Fin.ext (by simp [jj])

theorem jj_one (q : Fin 2816) (h : 2816 + q.val < 5632) : (⟨2816 + q.val, h⟩ : Fin 5632) = jj 1 q := Fin.ext (by simp [jj])

theorem inner (v : FVec Ideal S8192x5632 .f32) (h : val_main_v27 (F := Ideal) x0 x1 x2 x3 = v) (i : Fin 8192) (q : Fin 2816) :
    val_main_v40 (F := Ideal) x0 x1 x2 x3 (ix2 i q) = th' (v (ix2 i (jj 0 q))) := by
  unfold val_main_v40 val_main_v39 val_main_v38 val_main_v37 val_main_v36 val_main_v35 val_main_v31 val_main_v30 val_main_v28 val_main_cst_3 val_main_cst_2
  rw [h]
  unfold th'
  pointwise
  rw [jj_zero]

theorem halved (v : FVec Ideal S8192x5632 .f32) (h : val_main_v27 (F := Ideal) x0 x1 x2 x3 = v) (i : Fin 8192) (q : Fin 2816) :
    val_main_v49 (F := Ideal) x0 x1 x2 x3 (ix2 i q) = half' (v (ix2 i (jj 0 q))) := by
  have k := inner x0 x1 x2 x3 v h i q
  unfold val_main_v49 val_main_v48 val_main_v47 val_main_v46 val_main_cst_6 val_main_cst_7
  generalize val_main_v40 (F := Ideal) x0 x1 x2 x3 = y at k ⊢
  unfold half'
  pointwise
  rw [k]

theorem back (i : Fin 8192) (q : Fin 2816) : val_main_v56 (F := Ideal) x4 x5 (ix2 i q) = (args x0 x1 x2 x3 x4 x5).act i q := by
  unfold val_main_v56 val_main_v53 Args.act args
  pointwise

theorem value (h : (args x0 x1 x2 x3 x4 x5).Finite) (i : Fin 8192) (q : Fin 2816) :
    val_main_v57 (F := Ideal) x0 x1 x2 x3 x4 x5 (ix2 i q) = (args x0 x1 x2 x3 x4 x5).dp 1 i.val q := by
  have a := halved x0 x1 x2 x3 _ rfl i q
  have b := back x0 x1 x2 x3 x4 x5 i q
  have c := conv x0 x1 x2 x3 x4 x5 i (jj 0 q)
  unfold val_main_v57 val_main_v50 val_main_v28
  generalize val_main_v49 (F := Ideal) x0 x1 x2 x3 = y at a ⊢
  generalize val_main_v56 (F := Ideal) x4 x5 = z at b ⊢
  generalize val_main_v27 (F := Ideal) x0 x1 x2 x3 = v at a c ⊢
  obtain ⟨p, hp⟩ := h.pre i.val (jj 0 q)
  obtain ⟨r, hr⟩ := h.act i q
  unfold Args.dp
  rw [dif_pos i.isLt, if_neg (by decide)]
  pointwise
  rw [jj_zero, a, b, c, hp, half_eq]
  unfold gl
  exact mul_comm _ _

theorem gate_of {v w a : EReal} {p p' r : ℝ} (hp : v = p) (hp' : w = p') (hr : a = r) : gate' v (a * w) = a * w * dgl v := by
  subst hp hp' hr; exact gate_eq _ _ _

theorem gate (h : (args x0 x1 x2 x3 x4 x5).Finite) (i : Fin 8192) (q : Fin 2816) :
    val_main_v70 (F := Ideal) x0 x1 x2 x3 x4 x5 (ix2 i q) = (args x0 x1 x2 x3 x4 x5).dp 0 i.val q := by
  have a := halved x0 x1 x2 x3 _ rfl i q
  have a' := inner x0 x1 x2 x3 _ rfl i q
  have b := back x0 x1 x2 x3 x4 x5 i q
  have c := conv x0 x1 x2 x3 x4 x5 i (jj 0 q)
  have d := conv x0 x1 x2 x3 x4 x5 i (jj 1 q)
  unfold val_main_v70 val_main_v69 val_main_v68 val_main_v67 val_main_v66 val_main_v65 val_main_v64 val_main_v63 val_main_v62 val_main_v61
    val_main_v60 val_main_v59 val_main_v58 val_main_v45 val_main_v44 val_main_v43 val_main_v42 val_main_v41 val_main_v34 val_main_v33 val_main_v32 val_main_v29 val_main_v28
    val_main_cst_1 val_main_cst_4 val_main_cst_5 val_main_cst_8 val_main_cst_9 val_main_cst_10
  generalize val_main_v49 (F := Ideal) x0 x1 x2 x3 = y at a ⊢
  generalize val_main_v40 (F := Ideal) x0 x1 x2 x3 = y' at a' ⊢
  generalize val_main_v56 (F := Ideal) x4 x5 = z at b ⊢
  generalize val_main_v27 (F := Ideal) x0 x1 x2 x3 = v at a a' c d ⊢
  obtain ⟨p, hp⟩ := h.pre i.val (jj 0 q)
  obtain ⟨p', hp'⟩ := h.pre i.val (jj 1 q)
  obtain ⟨r, hr⟩ := h.act i q
  unfold Args.dp
  rw [dif_pos i.isLt, if_pos rfl, ← gate_of hp hp' hr]
  unfold gate' inner'
  pointwise
  rw [jj_zero, jj_one, a, a', b, c, d]

theorem both (h : (args x0 x1 x2 x3 x4 x5).Finite) (i : Fin 8192) (n : Fin 2) (q : Fin 2816) :
    val_main_v71 (F := Ideal) x0 x1 x2 x3 x4 x5 (ix2 i (jj n q)) = (args x0 x1 x2 x3 x4 x5).dp n i.val q := by
  have a := gate x0 x1 x2 x3 x4 x5 h i
  have b := value x0 x1 x2 x3 x4 x5 h i
  unfold val_main_v71
  generalize val_main_v70 (F := Ideal) x0 x1 x2 x3 x4 x5 = y at a ⊢
  generalize val_main_v57 (F := Ideal) x0 x1 x2 x3 x4 x5 = z at b ⊢
  rcases (by omega : n.val = 0 ∨ n.val = 1) with k | k
  · obtain rfl : n = 0 := Fin.ext k
    have e : (jj 0 q).val = q.val := by simp [jj]
    pointwise
    rw [dif_pos (by omega), ← a]
    exact congrArg (fun k => y (ix2 i k)) (Fin.ext e)
  · obtain rfl : n = 1 := Fin.ext k
    have e : (jj 1 q).val = 2816 + q.val := by simp [jj]
    pointwise
    rw [dif_neg (by omega), ← b]
    exact congrArg (fun k => z (ix2 i k)) (Fin.ext (by simp [e]))

end Cert.ReferenceIdeal.Rows

end
-- ==== Proof.Chunked.lean ====
module

public import proofs.«01_k».proof.Proof.Spec
public import Idealize.ShloMosaic.Lib.Pointwise

@[expose] public section

set_option maxRecDepth 16384

noncomputable section

namespace Cert.KernelIdeal.Body

open Idealize.ShloMosaic Idealize.ShloMosaic.TcCoe
open Cert.KernelIdeal Cert.KernelIdeal.Gen
open Cert.KernelIdeal.Body.Args (jj)

/-! ## `w_up` as the kernel is handed it -/

/-- `w_up` by quarters of its columns. -/
def quarters (y : FVec Ideal S1024x5632 .f32) : FVec Ideal S4x1024x1408 .bf16 :=
  truncf .bf16 (transpose S4x1024x1408 [1, 0, 2] (shapeCast S1024x4x1408 y shapeCasts_S1024x5632_S1024x4x1408) transposes_S1024x4x1408_S4x1024x1408_1_0_2)
    bitsLt_bf16_f32

theorem quarters_apply (y : FVec Ideal S1024x5632 .f32) (n s : Fin 2) (d : Fin 1024) (l : Fin 1408) (p : Fin 4) (hp : p.val = 2 * n.val + s.val) :
    quarters y (ix3 p d l) = y (ix2 d (jj n (col s l))) := by
  unfold quarters
  pointwise
  exact congrArg (fun b => y (ix2 d b)) (Fin.ext (by simp only [jj, col]; omega))

/-- The quarters' chunks of 256 columns, the two halves' side by side. -/
def chunked (y : FVec Ideal S4x1024x1408 .bf16) : FVec Ideal S2x1024x2816 .bf16 :=
  concatenate S2x1024x2816 2
    [⟨S2x1024x256, extractStridedSlice S2x1024x256 ![0, 0, 0] y slices_S4x1024x1408_S2x1024x256_0_0_0⟩,
     ⟨S2x1024x256, extractStridedSlice S2x1024x256 ![2, 0, 0] y slices_S4x1024x1408_S2x1024x256_2_0_0⟩,
     ⟨S2x1024x256, extractStridedSlice S2x1024x256 ![0, 0, 256] y slices_S4x1024x1408_S2x1024x256_0_0_256⟩,
     ⟨S2x1024x256, extractStridedSlice S2x1024x256 ![2, 0, 256] y slices_S4x1024x1408_S2x1024x256_2_0_256⟩,
     ⟨S2x1024x256, extractStridedSlice S2x1024x256 ![0, 0, 512] y slices_S4x1024x1408_S2x1024x256_0_0_512⟩,
     ⟨S2x1024x256, extractStridedSlice S2x1024x256 ![2, 0, 512] y slices_S4x1024x1408_S2x1024x256_2_0_512⟩,
     ⟨S2x1024x256, extractStridedSlice S2x1024x256 ![0, 0, 768] y slices_S4x1024x1408_S2x1024x256_0_0_768⟩,
     ⟨S2x1024x256, extractStridedSlice S2x1024x256 ![2, 0, 768] y slices_S4x1024x1408_S2x1024x256_2_0_768⟩,
     ⟨S2x1024x256, extractStridedSlice S2x1024x256 ![0, 0, 1024] y slices_S4x1024x1408_S2x1024x256_0_0_1024⟩,
     ⟨S2x1024x256, extractStridedSlice S2x1024x256 ![2, 0, 1024] y slices_S4x1024x1408_S2x1024x256_2_0_1024⟩,
     ⟨S2x1024x128, extractStridedSlice S2x1024x128 ![0, 0, 1280] y slices_S4x1024x1408_S2x1024x128_0_0_1280⟩,
     ⟨S2x1024x128, extractStridedSlice S2x1024x128 ![2, 0, 1280] y slices_S4x1024x1408_S2x1024x128_2_0_1280⟩]
    concatenates_S2x1024x256_S2x1024x256_S2x1024x256_S2x1024x256_S2x1024x256_S2x1024x256_S2x1024x256_S2x1024x256_S2x1024x256_S2x1024x256_S2x1024x128_S2x1024x128_S2x1024x2816_d2

theorem pick {b : Prop} [Decidable b] {x : b → EReal} {y : ¬b → EReal} {z : EReal} (h : ∀ k, x k = z) (h' : ∀ k, y k = z) : dite b x y = z := by
  by_cases k : b
  · rw [dif_pos k]; exact h k
  · rw [dif_neg k]; exact h' k

set_option maxHeartbeats 1600000 in
theorem chunked_apply (y : FVec Ideal S4x1024x1408 .bf16) (s n : Fin 2) (d : Fin 1024) (l : Fin 1408) (z : EReal)
    (h : ∀ p : Fin 4, p.val = 2 * n.val + s.val → y (ix3 p d l) = z) : chunked y (ix3 s d (pos n l)) = z := by
  have hp : (pos n l).val = if l.val < 1280 then 512 * (l.val / 256) + 256 * n.val + l.val % 256 else 2560 + 128 * n.val + (l.val - 1280) := rfl
  generalize pos n l = p at hp ⊢
  have k : ∀ (a : Fin 4) (b : Fin 1408), a.val = 2 * n.val + s.val → b.val = l.val → y (ix3 a d b) = z := fun a b ha hb => by
    obtain rfl : b = l := Fin.ext hb
    exact h a ha
  clear h
  have hl := l.isLt
  have hn := n.isLt
  have hc : (l.val < 1280 ∧ p.val = 512 * (l.val / 256) + 256 * n.val + l.val % 256) ∨ (1280 ≤ l.val ∧ p.val = 2560 + 128 * n.val + (l.val - 1280)) := by
    by_cases hc : l.val < 1280
    · rw [if_pos hc] at hp; exact .inl ⟨hc, hp⟩
    · rw [if_neg hc] at hp; exact .inr ⟨by omega, hp⟩
  clear hp
  unfold chunked
  pointwise
  refine pick (fun x0 => ?_) fun y0 => ?_
  · exact k _ _ (by dsimp only; omega) (by dsimp only; omega)
  refine pick (fun x1 => ?_) fun y1 => ?_
  · exact k _ _ (by dsimp only; omega) (by dsimp only; omega)
  refine pick (fun x2 => ?_) fun y2 => ?_
  · exact k _ _ (by dsimp only; omega) (by dsimp only; omega)
  refine pick (fun x3 => ?_) fun y3 => ?_
  · exact k _ _ (by dsimp only; omega) (by dsimp only; omega)
  refine pick (fun x4 => ?_) fun y4 => ?_
  · exact k _ _ (by dsimp only; omega) (by dsimp only; omega)
  refine pick (fun x5 => ?_) fun y5 => ?_
  · exact k _ _ (by dsimp only; omega) (by dsimp only; omega)
  refine pick (fun x6 => ?_) fun y6 => ?_
  · exact k _ _ (by dsimp only; omega) (by dsimp only; omega)
  refine pick (fun x7 => ?_) fun y7 => ?_
  · exact k _ _ (by dsimp only; omega) (by dsimp only; omega)
  refine pick (fun x8 => ?_) fun y8 => ?_
  · exact k _ _ (by dsimp only; omega) (by dsimp only; omega)
  refine pick (fun x9 => ?_) fun y9 => ?_
  · exact k _ _ (by dsimp only; omega) (by dsimp only; omega)
  refine pick (fun x10 => ?_) fun y10 => ?_
  · exact k _ _ (by dsimp only; omega) (by dsimp only; omega)
  exact k _ _ (by dsimp only; omega) (by dsimp only; omega)

end Cert.KernelIdeal.Body

end
-- ==== Proof.Host.lean ====
module

public import proofs.«01_k».proof.Proof.Data
public import proofs.«01_k».proof.Proof.RefRows
public import proofs.«01_k».proof.Proof.Chunked

@[expose] public section

set_option maxRecDepth 16384

noncomputable section

namespace Cert.KernelIdeal.Body

open Idealize.ShloMosaic Idealize.ShloMosaic.TcCoe Idealize.ShloMosaic.Tactic
open Idealize.ShloMosaic.StableHlo
open Cert.KernelIdeal Cert.KernelIdeal.Gen
open Cert.KernelIdeal.Body.Args (jj)
open Cert.ReferenceIdeal.Rows (args)
open Cert.ReferenceIdeal.Read (val_main_v1 val_main_v27)

variable (m : (ℓ : Loc nD τ sig) → Buf (Elt Ideal) ℓ) (c : Dev nD)

/-! ## What the windows' arrays hold when the kernel starts -/

abbrev a0 : Vec Ideal S8192x1024 .bf16 := m ((c : Thread nD τ).loc main_arg0)
abbrev a1 : Vec Ideal S1024x5632 .f32 := m ((c : Thread nD τ).loc main_arg1)
abbrev a2 : Vec Ideal S3x5632 .f32 := m ((c : Thread nD τ).loc main_arg2)
abbrev a3 : Vec Ideal S5632 .f32 := m ((c : Thread nD τ).loc main_arg3)
abbrev a4 : Vec Ideal S2816x1024 .f32 := m ((c : Thread nD τ).loc main_arg4)
abbrev a5 : Vec Ideal S8192x1024 .bf16 := m ((c : Thread nD τ).loc main_arg5)

/-- The arguments by row and column. -/
abbrev A : Args := args (a0 m c) (a1 m c) (a2 m c) (a3 m c) (a4 m c) (a5 m c)

/-- The two halves of a matrix, one after the other. -/
def stacked (y : FVec Ideal S8192x5632 .f32) : FVec Ideal S2x8192x2816 .bf16 :=
  truncf .bf16 (concatenate S2x8192x2816 0
    [⟨S1x8192x2816, broadcastInDim S1x8192x2816 ![1, 2] bcast_S8192x2816_S1x8192x2816_1_2 (extractStridedSlice S8192x2816 ![0, 0] y slices_S8192x5632_S8192x2816_0_0)⟩,
      ⟨S1x8192x2816, broadcastInDim S1x8192x2816 ![1, 2] bcast_S8192x2816_S1x8192x2816_1_2 (extractStridedSlice S8192x2816 ![0, 2816] y slices_S8192x5632_S8192x2816_0_2816)⟩]
    concatenates_S1x8192x2816_S1x8192x2816_S2x8192x2816_d0) bitsLt_bf16_f32

theorem stacked_apply (y : FVec Ideal S8192x5632 .f32) (n : Fin 2) (i : Fin 8192) (q : Fin 2816) : stacked y (ix3 n i q) = y (ix2 i (jj n q)) := by
  unfold stacked
  rcases (by omega : n.val = 0 ∨ n.val = 1) with k | k
  · obtain rfl : n = 0 := Fin.ext k
    pointwise
    rw [Cert.ReferenceIdeal.Rows.jj_zero]
  · obtain rfl : n = 1 := Fin.ext k
    pointwise
    rw [Cert.ReferenceIdeal.Rows.jj_one]

set_option maxHeartbeats 1600000 in
theorem V32 : V m c main_v32 = stacked (val_main_v1 (a0 m c) (a1 m c)) := by
  unfold_abbrev_sides
  simp only [List.flatten_cons, List.flatten_nil, List.append_nil, List.cons_append, List.nil_append]
  after_results
  rfl

set_option maxHeartbeats 1600000 in
theorem V38 : V m c main_v38 = stacked (val_main_v27 (a0 m c) (a1 m c) (a2 m c) (a3 m c)) := by
  unfold_abbrev_sides
  simp only [List.flatten_cons, List.flatten_nil, List.append_nil, List.cons_append, List.nil_append]
  after_results
  rfl

theorem V58 : V m c main_v58 = truncf (F := Ideal) .bf16 (a4 m c) bitsLt_bf16_f32 := by
  unfold_abbrev_sides
  simp only [List.flatten_cons, List.flatten_nil, List.append_nil, List.cons_append, List.nil_append]
  after_results

/-- The taps, half by half. -/
def taps (y : FVec Ideal S3x5632 .f32) : FVec Ideal S4x16x1408 .f32 :=
  pad S4x16x1408 ![0, 0, 0] ![0, 13, 0] ![0, 0, 0]
    (transpose S4x3x1408 [1, 0, 2] (shapeCast S3x4x1408 y shapeCasts_S3x5632_S3x4x1408) transposes_S3x4x1408_S4x3x1408_1_0_2)
    (sitofp (F := Ideal) .f32 (constantI S_ 32 0#32)) pads_S4x3x1408_S4x16x1408_000_0130_000 h_S_

theorem V57 : V m c main_v57 = taps (a2 m c) := by
  unfold_abbrev_sides
  simp only [List.flatten_cons, List.flatten_nil, List.append_nil, List.cons_append, List.nil_append]
  after_results
  rfl

theorem taps_apply (y : FVec Ideal S3x5632 .f32) (n : Fin 2) (k : Fin 16) (e : Fin 3) (hk : k.val = e.val) (q : Fin 2816) (p : Fin 4)
    (hp : p.val = 2 * n.val + (cs q).val) : taps y (ix3 p k (cl q)) = y (ix2 e (jj n q)) := by
  unfold taps
  pointwise
  rw [dif_pos (by omega)]
  exact congrArg₂ (fun a b => y (ix2 a b)) (Fin.ext hk) (Fin.ext (by simp only [jj, cl, cs] at hp ⊢; omega))

theorem V54 : V m c main_v54 = chunked (quarters (a1 m c)) := by
  unfold_abbrev_sides
  simp only [List.flatten_cons, List.flatten_nil, List.append_nil, List.cons_append, List.nil_append]
  after_results
  rfl

theorem V54_apply (s n : Fin 2) (d : Fin 1024) (l : Fin 1408) :
    (V m c main_v54 : FVec Ideal S2x1024x2816 .bf16) (ix3 s d (pos n l)) = (A m c).w d (jj n (col s l)) := by
  rw [V54]
  exact chunked_apply _ s n d l _ (quarters_apply (a1 m c) n s d l)

end Cert.KernelIdeal.Body

end
-- ==== Proof.Final.lean ====
module

public import proofs.«01_k».proof.Proof.Host
public import Idealize.ShloMosaic.Lib.Pipeline.ValueKit.Geometry

@[expose] public section

set_option maxRecDepth 16384

noncomputable section

namespace Cert.KernelIdeal.Body

open Idealize.ShloMosaic Idealize.ShloMosaic.TcCoe Idealize.ShloMosaic.Tactic
open Idealize.ShloMosaic.StableHlo
open Cert.KernelIdeal Cert.KernelIdeal.Gen
open Cert.KernelIdeal.Body.Args (jj)
open Cert.ReferenceIdeal.Rows (args)

variable (m : (ℓ : Loc nD τ sig) → Buf (Elt Ideal) ℓ) (c : Dev nD)

/-! ## The blocks of a point -/

theorem e0 : ∀ t : Fin cfg0.N, win0_0.index t = ![31 - t.val, 0] := (by decide +kernel : ∀ t : Fin grid0.N, _)
theorem e1 : ∀ t : Fin cfg0.N, win0_1.index t = ![0, 31 - t.val, 0] := (by decide +kernel : ∀ t : Fin grid0.N, _)
theorem e2 : ∀ t : Fin cfg0.N, win0_2.index t = ![0, 31 - t.val, 0] := (by decide +kernel : ∀ t : Fin grid0.N, _)
theorem e3 : ∀ t : Fin cfg0.N, win0_3.index t = ![0, 0] := (by decide +kernel : ∀ t : Fin grid0.N, _)
theorem e4 : ∀ t : Fin cfg0.N, win0_4.index t = ![0, 0, 0] := (by decide +kernel : ∀ t : Fin grid0.N, _)
theorem e5 : ∀ t : Fin cfg0.N, win0_5.index t = ![0, 0, 0] := (by decide +kernel : ∀ t : Fin grid0.N, _)
theorem e6 : ∀ t : Fin cfg0.N, win0_6.index t = ![31 - t.val, 0] := (by decide +kernel : ∀ t : Fin grid0.N, _)
theorem e7 : ∀ t : Fin cfg0.N, win0_7.index t = ![0, 31 - t.val, 0] := (by decide +kernel : ∀ t : Fin grid0.N, _)

theorem lt_points (t : Fin cfg0.N) : t.val < 32 := lt_of_lt_of_eq t.isLt N_0

/-- The row of the arrays at row `r` of point `t`'s block. -/
abbrev at_ (t : Fin cfg0.N) (r : Fin 256) : Fin 8192 := ⟨256 * (31 - t.val) + r.val, by omega⟩

theorem Varg5 : V m c main_arg5 = a5 m c := by
  unfold_abbrev_sides
  simp only [List.flatten_cons, List.flatten_nil, List.append_nil, List.cons_append, List.nil_append]
  after_results

theorem blk0 (t : Fin cfg0.N) (r : Fin 256) (d : Fin 1024) : iblk m c 0 t (ix2 r d) = (A m c).f (at_ t r) d := by
  have h : iblk m c 0 t (ix2 r d) = V m c main_arg5 (ix2 (at_ t r) d) := by
    blk_simp [iblk]
    blk_ext [e0]
  rw [h]
  exact congrFun (Varg5 m c) _

theorem blk1 (t : Fin cfg0.N) (n : Fin 2) (r : Fin 256) (q : Fin 2816) : iblk m c 1 t (ix3 n r q) = (A m c).H (at_ t r).val (jj n q) := by
  have h : iblk m c 1 t (ix3 n r q) = V m c main_v32 (ix3 n (at_ t r) q) := by
    blk_simp [iblk]
    blk_ext [e1]
  rw [h, V32]
  exact (stacked_apply _ n _ q).trans (Cert.ReferenceIdeal.Rows.up _ _ _ _ _ _ _ _)

theorem blk2 (t : Fin cfg0.N) (n : Fin 2) (r : Fin 256) (q : Fin 2816) : iblk m c 2 t (ix3 n r q) = (A m c).pre (at_ t r).val (jj n q) := by
  have h : iblk m c 2 t (ix3 n r q) = V m c main_v38 (ix3 n (at_ t r) q) := by
    blk_simp [iblk]
    blk_ext [e2]
  rw [h, V38]
  exact (stacked_apply _ n _ q).trans (Cert.ReferenceIdeal.Rows.conv _ _ _ _ _ _ _ _)

theorem blk3 (t : Fin cfg0.N) (q : Fin 2816) (d : Fin 1024) : iblk m c 3 t (ix2 q d) = (A m c).z q d := by
  have h : iblk m c 3 t (ix2 q d) = V m c main_v58 (ix2 q d) := by
    blk_simp [iblk]
    blk_ext [e3]
  rw [h, V58]
  rfl

theorem col_eq (q : Fin 2816) : col (cs q) (cl q) = q := Fin.ext (by simp only [col, cs, cl]; omega)

theorem cs_col (s : Fin 2) (l : Fin 1408) : cs (col s l) = s := Fin.ext (by simp only [col, cs]; omega)

theorem cl_col (s : Fin 2) (l : Fin 1408) : cl (col s l) = l := Fin.ext (by simp only [col, cl]; omega)

theorem blk4 (t : Fin cfg0.N) (n : Fin 2) (q : Fin 2816) (d : Fin 1024) : iblk m c 4 t (ix3 (cs q) d (pos n (cl q))) = (A m c).w d (jj n q) := by
  have h : iblk m c 4 t (ix3 (cs q) d (pos n (cl q))) = V m c main_v54 (ix3 (cs q) d (pos n (cl q))) := by
    blk_simp [iblk]
    blk_ext [e4]
  rw [h]
  refine (V54_apply m c _ _ _ _).trans ?_
  rw [col_eq]

theorem blk5 (t : Fin cfg0.N) (n : Fin 2) (k : Fin 16) (e : Fin 3) (hk : k.val = e.val) (q : Fin 2816) (p : Fin 4) (hp : p.val = 2 * n.val + (cs q).val) :
    iblk m c 5 t (ix3 p k (cl q)) = (A m c).t e (jj n q) := by
  have h : iblk m c 5 t (ix3 p k (cl q)) = V m c main_v57 (ix3 p k (cl q)) := by
    blk_simp [iblk]
    blk_ext [e5]
  rw [h, V57]
  exact taps_apply _ n k e hk q p hp

/-! ## What a point computes, as the call's mathematics -/

theorem P_eq (t : Fin cfg0.N) (n : Fin 2) (r : Fin 256) (q : Fin 2816) : P m c t n r q = (A m c).dp n (at_ t r).val q := by
  have h : dact (iblk m c 0 t) (iblk m c 3 t) r q = (A m c).act (at_ t r) q :=
    Finset.sum_congr rfl fun d _ => congrArg₂ (· * ·) (blk0 m c t r d) (blk3 m c t q d)
  unfold P dp Args.dp
  rw [dif_pos (at_ t r).isLt, h, blk2, blk2]

theorem ext_eq (t : Fin cfg0.N) (n : Fin 2) (e : Fin 264) (q : Fin 2816) :
    ext (P m c t n) (tops m c t.val n) e q = (A m c).dp n (256 * (31 - t.val) + e.val) q := by
  have ht := lt_points t
  unfold ext
  by_cases h : e.val < 256
  · rw [dif_pos h, P_eq]
  · rw [dif_neg h]
    by_cases h0 : t.val = 0
    · rw [h0, tops_zero, Args.dp_out _ _ _ _ (by omega)]
    · have e' : tops m c t.val n = newTop (P m c ⟨t.val - 1, by omega⟩ n) := dif_pos ⟨by omega, by omega⟩
      rw [e']
      refine (P_eq m c _ n _ q).trans (congrArg (fun k => (A m c).dp n k q) ?_)
      show 256 * (31 - (t.val - 1)) + (e.val - 256) = _
      omega

theorem mix_eq (t : Fin cfg0.N) (n : Fin 2) (r : Fin 256) (q : Fin 2816) :
    mix (iblk m c 5 t) (P m c t n) (tops m c t.val n) n r q = (A m c).dh n (at_ t r).val q := by
  unfold mix Args.dh
  rw [blk5 m c t n 2 2 rfl q _ rfl, blk5 m c t n 1 1 rfl q _ rfl, blk5 m c t n 0 0 rfl q _ rfl, P_eq, ext_eq, ext_eq]
  rfl

theorem addend_eq (t : Fin cfg0.N) (n : Fin 2) (k : ℕ) (q : Fin 2816) :
    addend (iblk m c 1 t) (P m c t n) (tops m c t.val n) n k q = ∑ r : Fin 256, (A m c).term n k q (256 * (31 - t.val) + r.val) := by
  unfold addend Args.term
  by_cases h0 : k = 0
  · simp only [if_pos h0]
    exact Finset.sum_congr rfl fun r _ => congrArg₂ (· * ·) (ext_eq m c t n _ q) (blk1 m c t n r q)
  by_cases h1 : k = 1
  · simp only [if_neg h0, if_pos h1]
    exact Finset.sum_congr rfl fun r _ => congrArg₂ (· * ·) (ext_eq m c t n _ q) (blk1 m c t n r q)
  by_cases h2 : k = 2
  · simp only [if_neg h0, if_neg h1, if_pos h2]
    exact Finset.sum_congr rfl fun r _ => congrArg₂ (· * ·) (P_eq m c t n r q) (blk1 m c t n r q)
  by_cases h3 : k = 3
  · simp only [if_neg h0, if_neg h1, if_neg h2, if_pos h3]
    exact Finset.sum_congr rfl fun r _ => P_eq m c t n r q
  · simp only [if_neg h0, if_neg h1, if_neg h2, if_neg h3, Finset.sum_const_zero]

theorem sums_eq (k : ℕ) (hk : k ≤ 32) (n s : Fin 2) (e : Fin 16) (l : Fin 1408) :
    sums m c k n (ix3 s e l) = ∑ t ∈ Finset.range k, ∑ r : Fin 256, (A m c).term n e.val (col s l) (256 * (31 - t) + r.val) := by
  induction k with
  | zero => rfl
  | succ k ih =>
    have hN : k < cfg0.N := lt_of_lt_of_eq (by omega : k < 32) N_0.symm
    rw [Finset.sum_range_succ, ← ih (by omega), sums_succ m c ⟨k, hN⟩ n]
    exact congrArg (sums m c k n (ix3 s e l) + ·) (addend_eq m c ⟨k, hN⟩ n e.val (col s l))

theorem sums_last (n s : Fin 2) (e : Fin 16) (l : Fin 1408) : sums m c 32 n (ix3 s e l) = (A m c).dw n e.val (col s l) :=
  (sums_eq m c 32 le_rfl n s e l).trans (Args.sum_down _)

theorem du_eq (t : Fin cfg0.N) (r : Fin 256) (d : Fin 1024) :
    newDu (iblk m c 4 t) (fun n => mix (iblk m c 5 t) (P m c t n) (tops m c t.val n) n) (ix2 r d) = (A m c).du (at_ t r).val d := by
  unfold newDu Args.du
  refine Finset.sum_congr rfl fun n _ => ?_
  rw [← Fin.sum_univ_eq_sum_range]
  refine Finset.sum_congr rfl fun q _ => ?_
  unfold share
  rw [dif_pos q.isLt]
  exact congrArg₂ (· * ·) (mix_eq m c t n r q) (blk4 m c t n q d)

/-! ## The result arrays -/

abbrev G6 : Vec Ideal S8192x1024 .bf16 := fun i => (A m c).du (i 0).val (i 1)
abbrev G7 : Vec Ideal S2x8192x2816 .bf16 := fun i => (A m c).dh (i 0) (i 1).val (i 2)
abbrev G8 (n : Fin 2) : Vec Ideal S2x16x1408 .f32 := fun i => (A m c).dw n (i 1).val (col (i 0) (i 2))

theorem arr6 : (dats m 0 c).arrAt 6 cfg0.N = G6 m c := by
  refine (dats m 0 c).arrAt_eq_of_covers 6 _ (by decide +kernel) fun t hf y => ?_
  blk_simp
  rw [after6]
  obtain ⟨r, d, rfl⟩ : ∃ (r : Fin 256) (d : Fin 1024), y = ix2 r d := ⟨_, _, eq_ix2 y⟩
  exact (du_eq m c t r d).trans (congrArg₂ (A m c).du (by blk_simp [e6]; dsimp only; omega) (Fin.ext (by blk_simp [e6]; try omega)))

theorem arr7 : (dats m 0 c).arrAt 7 cfg0.N = G7 m c := by
  refine (dats m 0 c).arrAt_eq_of_covers 7 _ (by decide +kernel) fun t hf y => ?_
  blk_simp
  rw [after7]
  obtain ⟨n, r, d, rfl⟩ : ∃ (n : Fin 2) (r : Fin 256) (d : Fin 2816), y = ix3 n r d := ⟨_, _, _, eq_ix3 y⟩
  refine (mix_eq m c t n r d).trans ?_
  have h : ∀ (n n' : Fin 2) (i i' : ℕ) (q q' : Fin 2816), n = n' → i = i' → q = q' → (A m c).dh n i q = (A m c).dh n' i' q' := by
    rintro _ _ _ _ _ _ rfl rfl rfl; rfl
  exact h _ _ _ _ _ _ (Fin.ext (by blk_simp [e7]; try omega)) (by blk_simp [e7]; dsimp only; omega) (Fin.ext (by blk_simp [e7]; try omega))

theorem arr8 : (dats m 0 c).arrAt 8 cfg0.N = G8 m c 0 := by
  refine (dats m 0 c).arrAt_eq_of_after_last 8 ⟨31, by decide⟩ (by decide +kernel) _ fun j => ?_
  obtain ⟨n, r, d, rfl⟩ : ∃ (n : Fin 2) (r : Fin 16) (d : Fin 1408), j = ix3 n r d := ⟨_, _, _, eq_ix3 j⟩
  exact (congrFun (after8 m c ⟨31, by decide⟩) (ix3 n r d)).trans (sums_last m c 0 n r d)

theorem arr9 : (dats m 0 c).arrAt 9 cfg0.N = G8 m c 1 := by
  refine (dats m 0 c).arrAt_eq_of_after_last 9 ⟨31, by decide⟩ (by decide +kernel) _ fun j => ?_
  obtain ⟨n, r, d, rfl⟩ : ∃ (n : Fin 2) (r : Fin 16) (d : Fin 1408), j = ix3 n r d := ⟨_, _, _, eq_ix3 j⟩
  exact (congrFun (after9 m c ⟨31, by decide⟩) (ix3 n r d)).trans (sums_last m c 1 n r d)

end Cert.KernelIdeal.Body

end
-- ==== Proof.RefValue.lean ====
module

public import proofs.«01_k».proof.Proof.RefRows

@[expose] public section

set_option maxRecDepth 16384

noncomputable section

namespace Cert.ReferenceIdeal.Rows

open Idealize.ShloMosaic Idealize.ShloMosaic.TcCoe
open Cert.ReferenceIdeal Cert.ReferenceIdeal.Gen Cert.ReferenceIdeal.Read
open Cert.KernelIdeal.Body (Args col)
open Cert.KernelIdeal.Body.Args (jj)

variable (x0 : Vec Ideal S8192x1024 .bf16) (x1 : Vec Ideal S1024x5632 .f32) (x2 : Vec Ideal S3x5632 .f32) (x3 : Vec Ideal S5632 .f32)
  (x4 : Vec Ideal S2816x1024 .f32) (x5 : Vec Ideal S8192x1024 .bf16)

theorem sum_halves (g : Fin 5632 → EReal) : ∑ j, g j = ∑ n : Fin 2, ∑ q : Fin 2816, g (jj n q) := by
  rw [Fin.sum_univ_two]
  refine (Fin.sum_univ_add (a := 2816) (b := 2816) g).trans ?_
  congr 1

/-- The gradient of the pre-activations after two rows of zeros, before the first row and after the last one. -/
theorem back_conv (h : (args x0 x1 x2 x3 x4 x5).Finite) (i : Fin 8192) (n : Fin 2) (q : Fin 2816) :
    val_main_v107 (F := Ideal) x0 x1 x2 x3 x4 x5 (ix2 i (jj n q)) = (args x0 x1 x2 x3 x4 x5).dh n i.val q := by
  have a := fun i => both x0 x1 x2 x3 x4 x5 h i n q
  unfold val_main_v107 val_main_v102 val_main_v101 val_main_v91 val_main_v90 val_main_v81 val_main_v76 val_main_v75 val_main_v85 val_main_v84
    val_main_v96 val_main_v95 val_main_cst_15 val_main_cst_19 val_main_cst_23 val_main_v21 val_main_v14 val_main_v8
    val_main_v19 val_main_v18 val_main_v12 val_main_v11 val_main_v6 val_main_v5
  generalize val_main_v71 (F := Ideal) x0 x1 x2 x3 x4 x5 = y at a ⊢
  unfold Args.dh
  have e1 : (if h : 1 ≤ 2 + i.val ∧ 2 + i.val - 1 < 8192 then x2 (ix2 1 (jj n q)) * y (ix2 ⟨2 + i.val - 1, h.2⟩ (jj n q)) else 0)
      = x2 (ix2 1 (jj n q)) * (args x0 x1 x2 x3 x4 x5).dp n (i.val + 1) q := by
    by_cases k : 2 + i.val - 1 < 8192
    · rw [dif_pos ⟨by omega, k⟩, a]
      exact congrArg (fun e => _ * (args x0 x1 x2 x3 x4 x5).dp n e q) (by show 2 + i.val - 1 = i.val + 1; omega)
    · rw [dif_neg fun h => k h.2, Args.dp_out _ _ _ _ (by omega), mul_zero]
  have e2 : (if h : 2 + i.val < 8192 then x2 (ix2 0 (jj n q)) * y (ix2 ⟨2 + i.val, h⟩ (jj n q)) else 0)
      = x2 (ix2 0 (jj n q)) * (args x0 x1 x2 x3 x4 x5).dp n (i.val + 2) q := by
    by_cases k : 2 + i.val < 8192
    · rw [dif_pos k, a]
      exact congrArg (fun e => _ * (args x0 x1 x2 x3 x4 x5).dp n e q) (by show 2 + i.val = i.val + 2; omega)
    · rw [dif_neg k, Args.dp_out _ _ _ _ (by omega), mul_zero]
  pointwise
  refine congrArg₂ (· + ·) (congrArg₂ (· + ·) ?_ e1) e2
  rw [a]
  rfl

theorem du (h : (args x0 x1 x2 x3 x4 x5).Finite) (i : Fin 8192) (d : Fin 1024) :
    val_main_v116 (F := Ideal) x0 x1 x2 x3 x4 x5 (ix2 i d) = (args x0 x1 x2 x3 x4 x5).du i.val d := by
  have a := back_conv x0 x1 x2 x3 x4 x5 h i
  unfold val_main_v116 val_main_v110 Args.du
  generalize val_main_v107 (F := Ideal) x0 x1 x2 x3 x4 x5 = y at a ⊢
  pointwise
  rw [sum_halves]
  simp only [a]
  rfl

theorem dh (h : (args x0 x1 x2 x3 x4 x5).Finite) (n : Fin 2) (i : Fin 8192) (q : Fin 2816) :
    val_main_v122 (F := Ideal) x0 x1 x2 x3 x4 x5 (ix3 n i q) = (args x0 x1 x2 x3 x4 x5).dh n i.val q := by
  have a := back_conv x0 x1 x2 x3 x4 x5 h i n q
  unfold val_main_v122 val_main_v121 val_main_v120 val_main_v119 val_main_v118 val_main_v117
  generalize val_main_v107 (F := Ideal) x0 x1 x2 x3 x4 x5 = y at a ⊢
  rw [← a]
  rcases (by omega : n.val = 0 ∨ n.val = 1) with k | k
  · obtain rfl : n = 0 := Fin.ext k
    pointwise
    rw [jj_zero]
  · obtain rfl : n = 1 := Fin.ext k
    pointwise
    rw [jj_one]

theorem rows (h : (args x0 x1 x2 x3 x4 x5).Finite) (n : Fin 2) (k : Fin 16) (q : Fin 2816) :
    val_main_v113 (F := Ideal) x0 x1 x2 x3 x4 x5 (ix2 k (jj n q)) = (args x0 x1 x2 x3 x4 x5).dw n k.val q := by
  have a := fun i => both x0 x1 x2 x3 x4 x5 h i n q
  have b := fun e => padded x0 x1 x2 x3 x4 x5 e (jj n q)
  unfold val_main_v113 val_main_v112 val_main_v111 val_main_v105 val_main_v104 val_main_v103 val_main_v100 val_main_v99 val_main_v98 val_main_v97
    val_main_v94 val_main_v93 val_main_v92 val_main_v89 val_main_v88 val_main_v87 val_main_v86 val_main_v83 val_main_v82 val_main_v80 val_main_v79
    val_main_v78 val_main_v77 val_main_v74 val_main_v73 val_main_v72 val_main_v20 val_main_v13 val_main_v7
    val_main_cst_11 val_main_cst_12 val_main_cst_13 val_main_cst_14 val_main_cst_16 val_main_cst_17 val_main_cst_18 val_main_cst_20 val_main_cst_21
    val_main_cst_22 val_main_cst_24 val_main_cst_25
  generalize val_main_v71 (F := Ideal) x0 x1 x2 x3 x4 x5 = y at a ⊢
  generalize val_main_v3 (F := Ideal) x0 x1 = z at b ⊢
  have z0 : ∀ g : ℕ → EReal, (∑ x : Fin 8192, g x.val) = ∑ i ∈ Finset.range 8192, g i := fun g => Fin.sum_univ_eq_sum_range g 8192
  rcases (by omega : k.val = 0 ∨ k.val = 1 ∨ k.val = 2 ∨ k.val = 3 ∨ 4 ≤ k.val) with e | e | e | e | e
  · obtain rfl : k = 0 := Fin.ext e
    pointwise
    refine (Fin.sum_univ_one _).trans (Eq.trans ?_ (Args.dw_zero _ n q).symm)
    rw [← z0]
    exact Finset.sum_congr rfl fun x _ => congrArg₂ (· * ·) (a _) (b _)
  · obtain rfl : k = 1 := Fin.ext e
    pointwise
    refine (Fin.sum_univ_one _).trans (Eq.trans ?_ (Args.dw_one _ n q).symm)
    rw [← z0]
    exact Finset.sum_congr rfl fun x _ => congrArg₂ (· * ·) (a _) ((b _).trans (congrArg (fun e => (args x0 x1 x2 x3 x4 x5).hp e _) (Nat.add_comm 1 x.val)))
  · obtain rfl : k = 2 := Fin.ext e
    pointwise
    refine (Fin.sum_univ_one _).trans (Eq.trans ?_ (Args.dw_two _ n q).symm)
    rw [← z0]
    exact Finset.sum_congr rfl fun x _ => congrArg₂ (· * ·) (a _) ((b _).trans (congrArg (fun e => (args x0 x1 x2 x3 x4 x5).hp e _) (Nat.add_comm 2 x.val)))
  · obtain rfl : k = 3 := Fin.ext e
    pointwise
    refine (Fin.sum_univ_one _).trans (Eq.trans ?_ (Args.dw_three _ n q).symm)
    rw [← z0]
    exact Finset.sum_congr rfl fun x _ => a _
  · rw [Args.dw_high _ n k.val e q]
    pointwise
    rw [dif_neg (by omega), dif_neg (by omega)]

theorem shared (h : (args x0 x1 x2 x3 x4 x5).Finite) (n s : Fin 2) (k : Fin 16) (l : Fin 1408) :
    val_main_v115 (F := Ideal) x0 x1 x2 x3 x4 x5 (ix4 n s k l) = (args x0 x1 x2 x3 x4 x5).dw n k.val (col s l) := by
  have a := rows x0 x1 x2 x3 x4 x5 h n k (col s l)
  unfold val_main_v115 val_main_v114
  generalize val_main_v113 (F := Ideal) x0 x1 x2 x3 x4 x5 = y at a ⊢
  rw [← a]
  pointwise
  exact congrArg (fun j => y (ix2 k j)) (Fin.ext (by simp [jj, col]; omega))

theorem first (h : (args x0 x1 x2 x3 x4 x5).Finite) (s : Fin 2) (k : Fin 16) (l : Fin 1408) :
    val_main_v124 (F := Ideal) x0 x1 x2 x3 x4 x5 (ix3 s k l) = (args x0 x1 x2 x3 x4 x5).dw 0 k.val (col s l) := by
  have a := shared x0 x1 x2 x3 x4 x5 h 0 s k l
  unfold val_main_v124 val_main_v123
  generalize val_main_v115 (F := Ideal) x0 x1 x2 x3 x4 x5 = y at a ⊢
  rw [← a]
  pointwise

theorem second (h : (args x0 x1 x2 x3 x4 x5).Finite) (s : Fin 2) (k : Fin 16) (l : Fin 1408) :
    val_main_v126 (F := Ideal) x0 x1 x2 x3 x4 x5 (ix3 s k l) = (args x0 x1 x2 x3 x4 x5).dw 1 k.val (col s l) := by
  have a := shared x0 x1 x2 x3 x4 x5 h 1 s k l
  unfold val_main_v126 val_main_v125
  generalize val_main_v115 (F := Ideal) x0 x1 x2 x3 x4 x5 = y at a ⊢
  rw [← a]
  pointwise

end Cert.ReferenceIdeal.Rows

end
-- ==== Proof.Value.lean ====
module

public import proofs.«01_k».proof.Proof.Final
public import proofs.«01_k».proof.Proof.RefValue
public import proofs.«01_k».proof.Defs

@[expose] public section

set_option maxRecDepth 16384

noncomputable section

namespace Cert.KernelIdeal.Body

open Idealize.ShloMosaic Idealize.ShloMosaic.TcCoe Idealize.ShloMosaic.Tactic
open Idealize.SL Idealize.SL.Sem
open Idealize.ShloMosaic.StableHlo
open Cert.KernelIdeal Cert.KernelIdeal.Gen
open Cert.ReferenceIdeal.Rows (args)
open Cert.ReferenceIdeal.Read (val_main_v116 val_main_v122 val_main_v124 val_main_v126)

variable (m : (ℓ : Loc nD τ sig) → Buf (Elt Ideal) ℓ) (ρ : Dev nD → PrngReg)

/-- The kernel's run: each result at the call's mathematics, the arguments unchanged. -/
theorem value_run : θ_run defs (onTc (τ := τ) (main (F := Ideal))) ⟨m, fun _ => 0, ρ⟩ (fun r => ∀ c : Dev nD,
      r.2.mem ((c.tc : Thread nD τ).loc main_v59_0) = G6 m c
      ∧ r.2.mem ((c.tc : Thread nD τ).loc main_v59_1) = G7 m c
      ∧ r.2.mem ((c.tc : Thread nD τ).loc main_v59_2) = G8 m c 0
      ∧ r.2.mem ((c.tc : Thread nD τ).loc main_v59_3) = G8 m c 1
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h.1.out_eq c 6).trans (arr6 m c), (h.1.out_eq c 7).trans (arr7 m c), (h.1.out_eq c 8).trans (arr8 m c),
    (h.1.out_eq c 9).trans (arr9 m c), h.2.1 c⟩) (θ_run_and (run m ρ) (framed m ρ))

/-! ## The precondition -/

instance preFacts : Cert.Pre_finite.Facts where
  bitsLt_bf16_f32 := by decide
  bcast_S_S8192x1024 := by decide
  bcast_S_S1024x5632 := by decide
  bcast_S_S3x5632 := by decide
  bcast_S_S5632 := by decide
  bcast_S_S2816x1024 := by decide

theorem word_inf : Ideal.ofBits .f32 0x7F800000#32 = (⊤ : EReal) := by simp [Ideal.ofBits, Ideal.ieee]

/-- An extended real whose absolute value is below infinity is a real. -/
theorem fin_of_lt (x : EReal) (h : BitVec.ofBool (decide (FloatOps.absf (F := Ideal) (φ := .f32) x < Ideal.ofBits .f32 0x7F800000#32)) = 1#1) :
    Args.Fin' x := by
  rw [word_inf] at h
  have h' : FloatOps.absf (F := Ideal) (φ := .f32) x < (⊤ : EReal) := by
    by_contra k
    rw [decide_eq_false k] at h
    exact absurd h (by decide)
  change max x (-x) < ⊤ at h'
  induction x using EReal.rec with
  | bot => simp at h'
  | coe r => exact ⟨r, rfl⟩
  | top => simp at h'

variable {m}

/-- Under the precondition every argument is finite. -/
theorem finite_of (c : Dev nD) (h : Cert.Pre_KernelIdeal_finite m) : (A m c).Finite := by
  obtain ⟨h0, h1, h2, h3, h4, h5⟩ := h c
  unfold Cert.Pre_finite.fn Cert.Pre_finite.fn_part1 at h0 h1 h2 h3 h4 h5
  dsimp only at h0 h1 h2 h3 h4 h5
  constructor
  · intro i k
    have e := congrFun h0 (ix2 i k)
    clear h0 h1 h2 h3 h4 h5
    pointwise at e
    exact fin_of_lt _ e
  · intro i k
    have e := congrFun h1 (ix2 i k)
    clear h0 h1 h2 h3 h4 h5
    pointwise at e
    exact fin_of_lt _ e
  · intro i k
    have e := congrFun h2 (ix2 i k)
    clear h0 h1 h2 h3 h4 h5
    pointwise at e
    exact fin_of_lt _ e
  · intro k
    have e := congrFun h3 (ix1 k)
    clear h0 h1 h2 h3 h4 h5
    pointwise at e
    exact fin_of_lt _ e
  · intro i k
    have e := congrFun h4 (ix2 i k)
    clear h0 h1 h2 h3 h4 h5
    pointwise at e
    exact fin_of_lt _ e
  · intro i k
    have e := congrFun h5 (ix2 i k)
    clear h0 h1 h2 h3 h4 h5
    pointwise at e
    exact fin_of_lt _ e

/-! ## The reference's results -/

variable (c : Dev nD) (h : (A m c).Finite)
include h

theorem ref_du : val_main_v116 (F := Ideal) (a0 m c) (a1 m c) (a2 m c) (a3 m c) (a4 m c) (a5 m c) = G6 m c := by
  funext j
  obtain ⟨r, d, rfl⟩ : ∃ (r : Fin 8192) (d : Fin 1024), j = ix2 r d := ⟨_, _, eq_ix2 j⟩
  exact Cert.ReferenceIdeal.Rows.du _ _ _ _ _ _ h r d

theorem ref_dh : val_main_v122 (F := Ideal) (a0 m c) (a1 m c) (a2 m c) (a3 m c) (a4 m c) (a5 m c) = G7 m c := by
  funext j
  obtain ⟨n, r, d, rfl⟩ : ∃ (n : Fin 2) (r : Fin 8192) (d : Fin 2816), j = ix3 n r d := ⟨_, _, _, eq_ix3 j⟩
  exact Cert.ReferenceIdeal.Rows.dh _ _ _ _ _ _ h n r d

theorem ref_first : val_main_v124 (F := Ideal) (a0 m c) (a1 m c) (a2 m c) (a3 m c) (a4 m c) (a5 m c) = G8 m c 0 := by
  funext j
  obtain ⟨n, r, d, rfl⟩ : ∃ (n : Fin 2) (r : Fin 16) (d : Fin 1408), j = ix3 n r d := ⟨_, _, _, eq_ix3 j⟩
  exact Cert.ReferenceIdeal.Rows.first _ _ _ _ _ _ h n r d

theorem ref_second : val_main_v126 (F := Ideal) (a0 m c) (a1 m c) (a2 m c) (a3 m c) (a4 m c) (a5 m c) = G8 m c 1 := by
  funext j
  obtain ⟨n, r, d, rfl⟩ : ∃ (n : Fin 2) (r : Fin 16) (d : Fin 1408), j = ix3 n r d := ⟨_, _, _, eq_ix3 j⟩
  exact Cert.ReferenceIdeal.Rows.second _ _ _ _ _ _ h n r d

end Cert.KernelIdeal.Body

end
-- ==== Proof.Blocks.lean ====
/- The rows of an array in four blocks of 2048: a sum over the rows is the sum of the blocks' sums. -/
module

public import Idealize.ShloMosaic.Lib.Pointwise
public import Idealize.ShloMosaic.Lib.Tactic

@[expose] public section

noncomputable section

namespace Cert.Blocks

/-- The row `k` of block `b`. -/
abbrev row (b : Fin 4) (k : Fin 2048) : Fin 8192 := ⟨2048 * b.val + k.val, by omega⟩

/-- A row is a block and a row of the block. -/
def rows : Fin 4 × Fin 2048 ≃ Fin 8192 where
  toFun p := row p.1 p.2
  invFun i := (⟨i.val / 2048, by omega⟩, ⟨i.val % 2048, by omega⟩)
  left_inv p := by
    obtain ⟨b, k⟩ := p
    simp only [Prod.mk.injEq]
    exact ⟨Fin.ext (by simp only; omega), Fin.ext (by simp only; omega)⟩
  right_inv i := Fin.ext (by simp only [row]; omega)

/-- The four blocks' sums, added up from zero, are the sum over all rows. -/
theorem sum_rows (f : Fin 8192 → EReal) :
    (((0 + ∑ k, f (row 0 k)) + ∑ k, f (row 1 k)) + ∑ k, f (row 2 k)) + ∑ k, f (row 3 k) = ∑ i, f i := by
  rw [← Equiv.sum_comp rows f, Fintype.sum_prod_type, Fin.sum_univ_four, zero_add]
  rfl

end Cert.Blocks

end
-- ==== Proof.Up.lean ====
/- The value of the call wgrad_up. -/
module

public import proofs.«01_k».proof.Proof.Blocks
public import proofs.«01_k».proof.Proof.Gen.UpIdeal.Value
public import proofs.«01_k».proof.Proof.Gen.UpIdeal.Skeleton
public import proofs.«01_k».proof.Proof.Gen.UpReferenceIdeal.Read
public import Idealize.ShloMosaic.Lib.Pointwise
public import Idealize.ShloMosaic.Lib.Tactic
public import Idealize.ShloMosaic.Lib.Pipeline.ValueKit.Geometry

@[expose] public section

set_option maxRecDepth 16384

noncomputable section

namespace Cert.UpIdeal.Sum

open Idealize.ShloMosaic Idealize.ShloMosaic.TcCoe Idealize.ShloMosaic.Tactic
open Cert.UpIdeal Cert.UpIdeal.Gen Cert.UpIdeal.Value Cert.Blocks

variable (m : (ℓ : Loc nD τ sig) → Buf (Elt Ideal) ℓ) (c : Dev nD)

abbrev a0 : Vec Ideal S8192x1024 .bf16 := m ((c : Thread nD τ).loc main_arg0)
abbrev a1 : Vec Ideal S2x8192x2816 .bf16 := m ((c : Thread nD τ).loc main_arg1)

/-- The array and the column in it of column `j` of part `s`. -/
abbrev half (s : Fin 4) : Fin 2 := ⟨s.val / 2, by omega⟩
abbrev column (s : Fin 4) (j : Fin 1408) : Fin 2816 := ⟨1408 * (s.val % 2) + j.val, by omega⟩

/-- One product of the sum. -/
abbrev term (s : Fin 4) (i : Fin 1024) (j : Fin 1408) (t : Fin 8192) : EReal :=
  a0 m c (ix2 t i) * a1 m c (ix3 (half s) t (column s j))

/-- One step adds the product of its two blocks. -/
theorem pay2 (x1 : Vec Ideal S1x2048x1408 .bf16) (acc : Vec Ideal S1x1024x1408 .f32) (x0 : Vec Ideal S2048x1024 .bf16)
    (i : Fin 1024) (j : Fin 1408) :
    k0_pay2 x1 acc x0 (ix3 0 i j) = acc (ix3 0 i j) + ∑ k : Fin 2048, x0 (ix2 k i) * x1 (ix3 0 k j) := by
  unfold k0_pay2
  pointwise

theorem pay1 (i : Fin 1024) (j : Fin 1408) : k0_pay1 (F := Ideal) (ix3 0 i j) = (0 : EReal) := by
  unfold k0_pay1
  pointwise

theorem e0 : ∀ t : Fin cfg0.N, win0_0.index t = ![t.val % 4, 0] := (by decide +kernel : ∀ t : Fin grid0.N, _)
theorem e1 : ∀ t : Fin cfg0.N, win0_1.index t = ![t.val / 4 / 2, t.val % 4, t.val / 4 % 2] := (by decide +kernel : ∀ t : Fin grid0.N, _)

/-- The point of block `b` of part `s`. -/
theorem pt_lt (s b : Fin 4) : 4 * s.val + b.val < cfg0.N := by rw [show cfg0.N = 16 from N_0]; omega

theorem blk0 (s b : Fin 4) (k : Fin 2048) (i : Fin 1024) :
    iblk m c 0 ⟨4 * s.val + b.val, pt_lt s b⟩ (ix2 k i) = a0 m c (ix2 (row b k) i) := by
  blk_simp [iblk]
  blk_ext [e0]

theorem blk1 (s b : Fin 4) (k : Fin 2048) (j : Fin 1408) :
    iblk m c 1 ⟨4 * s.val + b.val, pt_lt s b⟩ (ix3 0 k j) = a1 m c (ix3 (half s) (row b k) (column s j)) := by
  blk_simp [iblk]
  blk_ext [e1]

/-- One step's block: what the step adds to what was there. -/
theorem step (s b : Fin 4) (acc : Vec Ideal S1x1024x1408 .f32) (i : Fin 1024) (j : Fin 1408) :
    k0_pay2 (iblk m c 1 ⟨4 * s.val + b.val, pt_lt s b⟩) acc (iblk m c 0 ⟨4 * s.val + b.val, pt_lt s b⟩) (ix3 0 i j)
      = acc (ix3 0 i j) + ∑ k, term m c s i j (row b k) := by
  refine (pay2 _ _ _ i j).trans ?_
  simp only [blk0, blk1]

/-- The four steps of a part, at one place. -/
theorem steps (s : Fin 4) (i : Fin 1024) (j : Fin 1408) (h : 4 * s.val + 3 < cfg0.N) :
    Pipeline.accAt (reset2 m c) (step2 m c) (4 * s.val) 3 h (ix3 0 i j) = ∑ t, term m c s i j t := by
  rw [← sum_rows]
  refine (step m c s 3 _ i j).trans (congrArg (· + _) ?_)
  refine (step m c s 2 _ i j).trans (congrArg (· + _) ?_)
  refine (step m c s 1 _ i j).trans (congrArg (· + _) ?_)
  refine (step m c s 0 _ i j).trans (congrArg (· + _) ?_)
  exact pay1 i j

theorem run_at (s : Fin 4) (i : Fin 1024) (j : Fin 1408) : run2Of (ix3 s i j : S4x1024x1408.Idx) = s.val := by
  show 1 * (s.val / 1 - 0) + 1 * (i.val / 1024 - 0) + 1 * (j.val / 1408 - 0) = s.val
  omega

theorem loc_at (s : Fin 4) (i : Fin 1024) (j : Fin 1408) : loc2Of (ix3 s i j : S4x1024x1408.Idx) = ix3 0 i j := by
  funext a
  apply Fin.ext
  match a with
  | ⟨0, _⟩ => show s.val % 1 = 0; omega
  | ⟨1, _⟩ => show i.val % 1024 = i.val; omega
  | ⟨2, _⟩ => show j.val % 1408 = j.val; omega

/-- What the call leaves at one place is the sum over all rows. -/
theorem G2_apply (s : Fin 4) (i : Fin 1024) (j : Fin 1408) : G2 m c (ix3 s i j) = ∑ t, term m c s i j t := by
  have e : ∀ (n : ℕ) (_ : n = s.val) (h : 4 * n + 3 < cfg0.N),
      Pipeline.accAt (reset2 m c) (step2 m c) (4 * n) 3 h (ix3 0 i j) = ∑ t, term m c s i j t := by
    intro n hn h
    subst hn
    exact steps m c s i j h
  unfold G2
  rw [dif_pos (by rw [run_at]; exact pt_lt s 3), loc_at]
  exact e _ (run_at s i j) _

open Cert.UpReferenceIdeal.Read in
/-- The joined array of the reference. -/
theorem joined (x : Vec Ideal S2x8192x2816 .bf16) (s : Fin 4) (t : Fin 8192) (j : Fin 1408) :
    val_main_v6 (F := Ideal) x (ix2 t ⟨1408 * s.val + j.val, by omega⟩) = x (ix3 (half s) t (column s j)) := by
  unfold val_main_v6 val_main_v5 val_main_v4 val_main_v3 val_main_v2 val_main_v1 val_main_v0
  obtain ⟨s, hs⟩ := s
  interval_cases s
  · pointwise
    rw [dif_pos (by omega)]
    exact congrArg (fun q => x (ix3 0 t q)) (Fin.ext (by simp only; omega))
  · pointwise
    rw [dif_pos (by omega)]
    exact congrArg (fun q => x (ix3 0 t q)) (Fin.ext (by simp only; omega))
  · pointwise
    exact congrArg (fun q => x (ix3 1 t q)) (Fin.ext (by simp only; omega))
  · pointwise
    rw [dif_neg (by omega)]
    exact congrArg (fun q => x (ix3 1 t q)) (Fin.ext (by simp only; omega))

open Cert.UpReferenceIdeal.Read in
/-- The reference at one place. -/
theorem reference_apply (x0 : Vec Ideal S8192x1024 .bf16) (x1 : Vec Ideal S2x8192x2816 .bf16) (s : Fin 4) (i : Fin 1024) (j : Fin 1408) :
    val_main_v14 (F := Ideal) x0 x1 (ix3 s i j) = ∑ t, x0 (ix2 t i) * x1 (ix3 (half s) t (column s j)) := by
  have h : val_main_v14 (F := Ideal) x0 x1 (ix3 s i j) = val_main_v10 (F := Ideal) x0 x1 (ix2 ⟨1408 * s.val + j.val, by omega⟩ i) := by
    unfold val_main_v14 val_main_v13 val_main_v11
    generalize val_main_v10 (F := Ideal) x0 x1 = y
    pointwise
    exact congrArg (fun q => y (ix2 q i)) (Fin.ext (by simp only; omega))
  rw [h, val_main_v10_apply]
  refine Finset.sum_congr rfl fun t _ => ?_
  rw [mul_comm]
  refine congrArg₂ (· * ·) ?_ (Eq.trans (congrArg _ ?_) (joined x1 s t j))
  · refine (val_main_v8_apply x0 _).trans (congrArg x0 (funext fun a => ?_))
    match a with
    | ⟨0, _⟩ => rfl
    | ⟨1, _⟩ => rfl
  · funext a
    match a with
    | ⟨0, _⟩ => rfl
    | ⟨1, _⟩ => rfl

/-- The reference's array is what the call leaves. -/
theorem agrees : Cert.UpReferenceIdeal.Read.val_main_v14 (F := Ideal) (a0 m c) (a1 m c) = G2 m c := by
  funext p
  obtain ⟨s, i, j, rfl⟩ : ∃ (s : Fin 4) (i : Fin 1024) (j : Fin 1408), p = ix3 s i j := ⟨_, _, _, eq_ix3 p⟩
  exact (reference_apply _ _ s i j).trans (G2_apply m c s i j).symm

end Cert.UpIdeal.Sum

end
-- ==== Proof.Down.lean ====
/- The value of the call wgrad_down. -/
module

public import proofs.«01_k».proof.Proof.Blocks
public import proofs.«01_k».proof.Proof.Gen.DownIdeal.Value
public import proofs.«01_k».proof.Proof.Gen.DownIdeal.Skeleton
public import proofs.«01_k».proof.Proof.Gen.DownReferenceIdeal.Read
public import Idealize.ShloMosaic.Lib.Pointwise
public import Idealize.ShloMosaic.Lib.Tactic
public import Idealize.ShloMosaic.Lib.Pipeline.ValueKit.Geometry

@[expose] public section

set_option maxRecDepth 16384

noncomputable section

namespace Cert.DownIdeal.Sum

open Idealize.ShloMosaic Idealize.ShloMosaic.TcCoe Idealize.ShloMosaic.Tactic
open Cert.DownIdeal Cert.DownIdeal.Gen Cert.DownIdeal.Value Cert.Blocks

variable (m : (ℓ : Loc nD τ sig) → Buf (Elt Ideal) ℓ) (c : Dev nD)

abbrev a0 : Vec Ideal S8192x2816 .bf16 := m ((c : Thread nD τ).loc main_arg0)
abbrev a1 : Vec Ideal S8192x1024 .bf16 := m ((c : Thread nD τ).loc main_arg1)

/-- Row `i` of part `s`. -/
abbrev at_ (s : Fin 2) (i : Fin 1408) : Fin 2816 := ⟨1408 * s.val + i.val, by omega⟩

/-- One product of the sum. -/
abbrev term (s : Fin 2) (i : Fin 1408) (j : Fin 1024) (t : Fin 8192) : EReal :=
  a0 m c (ix2 t (at_ s i)) * a1 m c (ix2 t j)

/-- One step adds the product of its two blocks. -/
theorem pay2 (x1 : Vec Ideal S2048x1024 .bf16) (acc : Vec Ideal S1408x1024 .f32) (x0 : Vec Ideal S2048x1408 .bf16)
    (i : Fin 1408) (j : Fin 1024) :
    k0_pay2 x1 acc x0 (ix2 i j) = acc (ix2 i j) + ∑ k : Fin 2048, x0 (ix2 k i) * x1 (ix2 k j) := by
  unfold k0_pay2
  pointwise

theorem pay1 (i : Fin 1408) (j : Fin 1024) : k0_pay1 (F := Ideal) (ix2 i j) = (0 : EReal) := by
  unfold k0_pay1
  pointwise

theorem e0 : ∀ t : Fin cfg0.N, win0_0.index t = ![t.val % 4, t.val / 4] := (by decide +kernel : ∀ t : Fin grid0.N, _)
theorem e1 : ∀ t : Fin cfg0.N, win0_1.index t = ![t.val % 4, 0] := (by decide +kernel : ∀ t : Fin grid0.N, _)

/-- The point of block `b` of part `s`. -/
theorem pt_lt (s : Fin 2) (b : Fin 4) : 4 * s.val + b.val < cfg0.N := by rw [show cfg0.N = 8 from N_0]; omega

theorem blk0 (s : Fin 2) (b : Fin 4) (k : Fin 2048) (i : Fin 1408) :
    iblk m c 0 ⟨4 * s.val + b.val, pt_lt s b⟩ (ix2 k i) = a0 m c (ix2 (row b k) (at_ s i)) := by
  blk_simp [iblk]
  blk_ext [e0]

theorem blk1 (s : Fin 2) (b : Fin 4) (k : Fin 2048) (j : Fin 1024) :
    iblk m c 1 ⟨4 * s.val + b.val, pt_lt s b⟩ (ix2 k j) = a1 m c (ix2 (row b k) j) := by
  blk_simp [iblk]
  blk_ext [e1]

/-- One step's block: what the step adds to what was there. -/
theorem step (s : Fin 2) (b : Fin 4) (acc : Vec Ideal S1408x1024 .f32) (i : Fin 1408) (j : Fin 1024) :
    k0_pay2 (iblk m c 1 ⟨4 * s.val + b.val, pt_lt s b⟩) acc (iblk m c 0 ⟨4 * s.val + b.val, pt_lt s b⟩) (ix2 i j)
      = acc (ix2 i j) + ∑ k, term m c s i j (row b k) := by
  refine (pay2 _ _ _ i j).trans ?_
  simp only [blk0, blk1]

/-- The four steps of a part, at one place. -/
theorem steps (s : Fin 2) (i : Fin 1408) (j : Fin 1024) (h : 4 * s.val + 3 < cfg0.N) :
    Pipeline.accAt (reset2 m c) (step2 m c) (4 * s.val) 3 h (ix2 i j) = ∑ t, term m c s i j t := by
  rw [← sum_rows]
  refine (step m c s 3 _ i j).trans (congrArg (· + _) ?_)
  refine (step m c s 2 _ i j).trans (congrArg (· + _) ?_)
  refine (step m c s 1 _ i j).trans (congrArg (· + _) ?_)
  refine (step m c s 0 _ i j).trans (congrArg (· + _) ?_)
  exact pay1 i j

theorem run_at (s : Fin 2) (i : Fin 1408) (j : Fin 1024) : run2Of (ix2 (at_ s i) j : S2816x1024.Idx) = s.val := by
  show 1 * ((1408 * s.val + i.val) / 1408 - 0) + 1 * (j.val / 1024 - 0) = s.val
  omega

theorem loc_at (s : Fin 2) (i : Fin 1408) (j : Fin 1024) : loc2Of (ix2 (at_ s i) j : S2816x1024.Idx) = ix2 i j := by
  funext a
  apply Fin.ext
  match a with
  | ⟨0, _⟩ => show (1408 * s.val + i.val) % 1408 = i.val; omega
  | ⟨1, _⟩ => show j.val % 1024 = j.val; omega

/-- What the call leaves at one place is the sum over all rows. -/
theorem G2_apply (s : Fin 2) (i : Fin 1408) (j : Fin 1024) : G2 m c (ix2 (at_ s i) j) = ∑ t, term m c s i j t := by
  have e : ∀ (n : ℕ) (_ : n = s.val) (h : 4 * n + 3 < cfg0.N),
      Pipeline.accAt (reset2 m c) (step2 m c) (4 * n) 3 h (ix2 i j) = ∑ t, term m c s i j t := by
    intro n hn h
    subst hn
    exact steps m c s i j h
  unfold G2
  rw [dif_pos (by rw [run_at]; exact pt_lt s 3), loc_at]
  exact e _ (run_at s i j) _

open Cert.DownReferenceIdeal.Read in
/-- The reference at one place. -/
theorem reference_apply (x0 : Vec Ideal S8192x2816 .bf16) (x1 : Vec Ideal S8192x1024 .bf16) (r : Fin 2816) (j : Fin 1024) :
    val_main_v5 (F := Ideal) x0 x1 (ix2 r j) = ∑ t, x0 (ix2 t r) * x1 (ix2 t j) := by
  rw [val_main_v5_apply, val_main_v4_apply]
  refine Finset.sum_congr rfl fun t _ => ?_
  rw [mul_comm]
  refine congrArg₂ (· * ·) ((val_main_v1_apply x0 _).trans (congrArg x0 ?_)) ((val_main_v3_apply x1 _).trans (congrArg x1 ?_))
  · funext a
    match a with
    | ⟨0, _⟩ => rfl
    | ⟨1, _⟩ => rfl
  · funext a
    match a with
    | ⟨0, _⟩ => rfl
    | ⟨1, _⟩ => rfl

/-- The reference's array is what the call leaves. -/
theorem agrees : Cert.DownReferenceIdeal.Read.val_main_v5 (F := Ideal) (a0 m c) (a1 m c) = G2 m c := by
  funext p
  obtain ⟨r, j, rfl⟩ : ∃ (r : Fin 2816) (j : Fin 1024), p = ix2 r j := ⟨_, _, eq_ix2 p⟩
  obtain ⟨s, i, rfl⟩ : ∃ (s : Fin 2) (i : Fin 1408), r = at_ s i :=
    ⟨⟨r.val / 1408, by omega⟩, ⟨r.val % 1408, by omega⟩, Fin.ext (by simp only; omega)⟩
  exact (reference_apply _ _ (at_ s i) j).trans (G2_apply m c s i j).symm

end Cert.DownIdeal.Sum

end
-- ==== Proof.In.lean ====
/- The value of the call wgrad_in. -/
module

public import proofs.«01_k».proof.Proof.Blocks
public import proofs.«01_k».proof.Proof.Gen.InIdeal.Value
public import proofs.«01_k».proof.Proof.Gen.InIdeal.Skeleton
public import proofs.«01_k».proof.Proof.Gen.InReferenceIdeal.Read
public import Idealize.ShloMosaic.Lib.Pointwise
public import Idealize.ShloMosaic.Lib.Tactic
public import Idealize.ShloMosaic.Lib.Pipeline.ValueKit.Geometry

@[expose] public section

set_option maxRecDepth 16384

noncomputable section

namespace Cert.InIdeal.Sum

open Idealize.ShloMosaic Idealize.ShloMosaic.TcCoe Idealize.ShloMosaic.Tactic
open Cert.InIdeal Cert.InIdeal.Gen Cert.InIdeal.Value Cert.Blocks

variable (m : (ℓ : Loc nD τ sig) → Buf (Elt Ideal) ℓ) (c : Dev nD)

abbrev a0 : Vec Ideal S8192x1024 .bf16 := m ((c : Thread nD τ).loc main_arg0)
abbrev a1 : Vec Ideal S8192x2560 .bf16 := m ((c : Thread nD τ).loc main_arg1)

/-- The column of the array at column `j` of part `s`. -/
abbrev column (s : Fin 4) (j : Fin 640) : Fin 2560 := ⟨640 * s.val + j.val, by omega⟩

/-- One product of the sum. -/
abbrev term (s : Fin 4) (i : Fin 1024) (j : Fin 640) (t : Fin 8192) : EReal :=
  a0 m c (ix2 t i) * a1 m c (ix2 t (column s j))

/-- One step adds the product of its two blocks. -/
theorem pay2 (x1 : Vec Ideal S2048x640 .bf16) (acc : Vec Ideal S1x1024x640 .f32) (x0 : Vec Ideal S2048x1024 .bf16)
    (i : Fin 1024) (j : Fin 640) :
    k0_pay2 x1 acc x0 (ix3 0 i j) = acc (ix3 0 i j) + ∑ k : Fin 2048, x0 (ix2 k i) * x1 (ix2 k j) := by
  unfold k0_pay2
  pointwise

theorem pay1 (i : Fin 1024) (j : Fin 640) : k0_pay1 (F := Ideal) (ix3 0 i j) = (0 : EReal) := by
  unfold k0_pay1
  pointwise

theorem e0 : ∀ t : Fin cfg0.N, win0_0.index t = ![t.val % 4, 0] := (by decide +kernel : ∀ t : Fin grid0.N, _)
theorem e1 : ∀ t : Fin cfg0.N, win0_1.index t = ![t.val % 4, t.val / 4] := (by decide +kernel : ∀ t : Fin grid0.N, _)

/-- The point of block `b` of part `s`. -/
theorem pt_lt (s b : Fin 4) : 4 * s.val + b.val < cfg0.N := by rw [show cfg0.N = 16 from N_0]; omega

theorem blk0 (s b : Fin 4) (k : Fin 2048) (i : Fin 1024) :
    iblk m c 0 ⟨4 * s.val + b.val, pt_lt s b⟩ (ix2 k i) = a0 m c (ix2 (row b k) i) := by
  blk_simp [iblk]
  blk_ext [e0]

theorem blk1 (s b : Fin 4) (k : Fin 2048) (j : Fin 640) :
    iblk m c 1 ⟨4 * s.val + b.val, pt_lt s b⟩ (ix2 k j) = a1 m c (ix2 (row b k) (column s j)) := by
  blk_simp [iblk]
  blk_ext [e1]

/-- One step's block: what the step adds to what was there. -/
theorem step (s b : Fin 4) (acc : Vec Ideal S1x1024x640 .f32) (i : Fin 1024) (j : Fin 640) :
    k0_pay2 (iblk m c 1 ⟨4 * s.val + b.val, pt_lt s b⟩) acc (iblk m c 0 ⟨4 * s.val + b.val, pt_lt s b⟩) (ix3 0 i j)
      = acc (ix3 0 i j) + ∑ k, term m c s i j (row b k) := by
  refine (pay2 _ _ _ i j).trans ?_
  simp only [blk0, blk1]

/-- The four steps of a part, at one place. -/
theorem steps (s : Fin 4) (i : Fin 1024) (j : Fin 640) (h : 4 * s.val + 3 < cfg0.N) :
    Pipeline.accAt (reset2 m c) (step2 m c) (4 * s.val) 3 h (ix3 0 i j) = ∑ t, term m c s i j t := by
  rw [← sum_rows]
  refine (step m c s 3 _ i j).trans (congrArg (· + _) ?_)
  refine (step m c s 2 _ i j).trans (congrArg (· + _) ?_)
  refine (step m c s 1 _ i j).trans (congrArg (· + _) ?_)
  refine (step m c s 0 _ i j).trans (congrArg (· + _) ?_)
  exact pay1 i j

theorem run_at (s : Fin 4) (i : Fin 1024) (j : Fin 640) : run2Of (ix3 s i j : S4x1024x640.Idx) = s.val := by
  show 1 * (s.val / 1 - 0) + 1 * (i.val / 1024 - 0) + 1 * (j.val / 640 - 0) = s.val
  omega

theorem loc_at (s : Fin 4) (i : Fin 1024) (j : Fin 640) : loc2Of (ix3 s i j : S4x1024x640.Idx) = ix3 0 i j := by
  funext a
  apply Fin.ext
  match a with
  | ⟨0, _⟩ => show s.val % 1 = 0; omega
  | ⟨1, _⟩ => show i.val % 1024 = i.val; omega
  | ⟨2, _⟩ => show j.val % 640 = j.val; omega

/-- What the call leaves at one place is the sum over all rows. -/
theorem G2_apply (s : Fin 4) (i : Fin 1024) (j : Fin 640) : G2 m c (ix3 s i j) = ∑ t, term m c s i j t := by
  have e : ∀ (n : ℕ) (_ : n = s.val) (h : 4 * n + 3 < cfg0.N),
      Pipeline.accAt (reset2 m c) (step2 m c) (4 * n) 3 h (ix3 0 i j) = ∑ t, term m c s i j t := by
    intro n hn h
    subst hn
    exact steps m c s i j h
  unfold G2
  rw [dif_pos (by rw [run_at]; exact pt_lt s 3), loc_at]
  exact e _ (run_at s i j) _

open Cert.InReferenceIdeal.Read in
/-- The reference at one place. -/
theorem reference_apply (x0 : Vec Ideal S8192x1024 .bf16) (x1 : Vec Ideal S8192x2560 .bf16) (s : Fin 4) (i : Fin 1024) (j : Fin 640) :
    val_main_v8 (F := Ideal) x0 x1 (ix3 s i j) = ∑ t, x0 (ix2 t i) * x1 (ix2 t (column s j)) := by
  have h : val_main_v8 (F := Ideal) x0 x1 (ix3 s i j) = val_main_v4 (F := Ideal) x0 x1 (ix2 ⟨640 * s.val + j.val, by omega⟩ i) := by
    unfold val_main_v8 val_main_v7 val_main_v5
    generalize val_main_v4 (F := Ideal) x0 x1 = y
    pointwise
    exact congrArg (fun q => y (ix2 q i)) (Fin.ext (by simp only; omega))
  rw [h, val_main_v4_apply]
  refine Finset.sum_congr rfl fun t _ => ?_
  rw [mul_comm]
  refine congrArg₂ (· * ·) ?_ ((val_main_v3_apply x1 _).trans (congrArg x1 ?_))
  · refine (val_main_v1_apply x0 _).trans (congrArg x0 (funext fun a => ?_))
    match a with
    | ⟨0, _⟩ => rfl
    | ⟨1, _⟩ => rfl
  · funext a
    match a with
    | ⟨0, _⟩ => rfl
    | ⟨1, _⟩ => rfl

/-- The reference's array is what the call leaves. -/
theorem agrees : Cert.InReferenceIdeal.Read.val_main_v8 (F := Ideal) (a0 m c) (a1 m c) = G2 m c := by
  funext p
  obtain ⟨s, i, j, rfl⟩ : ∃ (s : Fin 4) (i : Fin 1024) (j : Fin 640), p = ix3 s i j := ⟨_, _, _, eq_ix3 p⟩
  exact (reference_apply _ _ s i j).trans (G2_apply m c s i j).symm

end Cert.InIdeal.Sum

end
-- ==== Proof.Out.lean ====
/- The value of the call wgrad_out. -/
module

public import proofs.«01_k».proof.Proof.Blocks
public import proofs.«01_k».proof.Proof.Gen.OutIdeal.Value
public import proofs.«01_k».proof.Proof.Gen.OutIdeal.Skeleton
public import proofs.«01_k».proof.Proof.Gen.OutReferenceIdeal.Read
public import Idealize.ShloMosaic.Lib.Pointwise
public import Idealize.ShloMosaic.Lib.Tactic
public import Idealize.ShloMosaic.Lib.Pipeline.ValueKit.Geometry

@[expose] public section

set_option maxRecDepth 16384

noncomputable section

namespace Cert.OutIdeal.Sum

open Idealize.ShloMosaic Idealize.ShloMosaic.TcCoe Idealize.ShloMosaic.Tactic
open Cert.OutIdeal Cert.OutIdeal.Gen Cert.OutIdeal.Value Cert.Blocks

variable (m : (ℓ : Loc nD τ sig) → Buf (Elt Ideal) ℓ) (c : Dev nD)

abbrev a0 : Vec Ideal S8192x512 .bf16 := m ((c : Thread nD τ).loc main_arg0)
abbrev a1 : Vec Ideal S8192x512 .bf16 := m ((c : Thread nD τ).loc main_arg1)
abbrev a2 : Vec Ideal S8192x1024 .bf16 := m ((c : Thread nD τ).loc main_arg2)

/-- The array whose columns part `s` takes. -/
abbrev part (x0 x1 : Vec Ideal S8192x512 .bf16) (s : Fin 2) : Vec Ideal S8192x512 .bf16 := if s = 0 then x0 else x1

/-- Row `i` of part `s`. -/
abbrev at_ (s : Fin 2) (i : Fin 512) : Fin 1024 := ⟨512 * s.val + i.val, by omega⟩

/-- One product of the sum. -/
abbrev term (s : Fin 2) (i : Fin 512) (j : Fin 1024) (t : Fin 8192) : EReal :=
  part (a0 m c) (a1 m c) s (ix2 t i) * a2 m c (ix2 t j)

/-- One step adds the product of its two blocks. -/
theorem pay2 (x2 : Vec Ideal S2048x1024 .bf16) (acc : Vec Ideal S512x1024 .f32) (x : Vec Ideal S2048x512 .bf16)
    (i : Fin 512) (j : Fin 1024) :
    k0_pay2 x2 acc x (ix2 i j) = acc (ix2 i j) + ∑ k : Fin 2048, x (ix2 k i) * x2 (ix2 k j) := by
  unfold k0_pay2
  pointwise

theorem pay1 (i : Fin 512) (j : Fin 1024) : k0_pay1 (F := Ideal) (ix2 i j) = (0 : EReal) := by
  unfold k0_pay1
  pointwise

theorem e0 : ∀ t : Fin cfg0.N, win0_0.index t = ![t.val % 4, 0] := (by decide +kernel : ∀ t : Fin grid0.N, _)
theorem e1 : ∀ t : Fin cfg0.N, win0_1.index t = ![t.val % 4, 0] := (by decide +kernel : ∀ t : Fin grid0.N, _)
theorem e2 : ∀ t : Fin cfg0.N, win0_2.index t = ![t.val % 4, 0] := (by decide +kernel : ∀ t : Fin grid0.N, _)
theorem e3 : ∀ t : Fin cfg0.N, win0_3.index t = ![t.val / 4, 0] := (by decide +kernel : ∀ t : Fin grid0.N, _)

/-- The point of block `b` of part `s`. -/
theorem pt_lt (s : Fin 2) (b : Fin 4) : 4 * s.val + b.val < cfg0.N := by rw [show cfg0.N = 8 from N_0]; omega

theorem blk0 (s : Fin 2) (b : Fin 4) (k : Fin 2048) (i : Fin 512) :
    iblk m c 0 ⟨4 * s.val + b.val, pt_lt s b⟩ (ix2 k i) = a0 m c (ix2 (row b k) i) := by
  blk_simp [iblk]
  blk_ext [e0]

theorem blk1 (s : Fin 2) (b : Fin 4) (k : Fin 2048) (i : Fin 512) :
    iblk m c 1 ⟨4 * s.val + b.val, pt_lt s b⟩ (ix2 k i) = a1 m c (ix2 (row b k) i) := by
  blk_simp [iblk]
  blk_ext [e1]

theorem blk2 (s : Fin 2) (b : Fin 4) (k : Fin 2048) (j : Fin 1024) :
    iblk m c 2 ⟨4 * s.val + b.val, pt_lt s b⟩ (ix2 k j) = a2 m c (ix2 (row b k) j) := by
  blk_simp [iblk]
  blk_ext [e2]

/-! What a point leaves in the block: the first half's points add the first array's product, the second half's
the second array's; a half's first point starts from zeros. -/

theorem hz2 : (![0, 0] : Fin 2 → Nat) = fun _ => 0 := by
  funext a
  match a with
  | ⟨0, _⟩ => rfl
  | ⟨1, _⟩ => rfl

theorem left_A (c : Dev nD) (i : grid0.Coords) (arg2 : Memref sig .tc .vmem S2048x512 .bf16) (harg2 : arg2.IsWhole) (arg3 : Memref sig .tc .vmem S2048x512 .bf16) (harg3 : arg3.IsWhole)
    (arg4 : Memref sig .tc .vmem S2048x1024 .bf16) (harg4 : arg4.IsWhole) (arg5 : Memref sig .tc .vmem S512x1024 .f32) (harg5 : arg5.IsWhole)
    (h0 : cond0_0 i) (h1 : cond0_1 i) (h2 : ¬cond0_2 i)
    (x0 x1 : Vec Ideal S2048x512 .bf16) (x2 : Vec Ideal S2048x1024 .bf16) :
    out0_A_3 c i arg2 harg2 arg3 harg3 arg4 harg4 arg5 harg5 h0 h1 h2 x0 x1 x2 = k0_pay2 x2 (k0_pay1 (F := Ideal)) x0 := by
  unfold out0_A_3
  rw [View.read_writes_eq_canon _ _ _ (cover0_A_3 c i arg2 harg2 arg3 harg3 arg4 harg4 arg5 harg5 h0 h1 h2 x0 x1 x2)]
  unfold kernelRun0_A
  dsimp only
  try sl_unfold_words
  rw [View.canon_cons_unit_zero (S := S512x1024) hz2, View.readCov_unit_zero (S := S512x1024) _ hz2]
  simp only [View.readAt_eq_ld, harg2.read_unread, harg3.read_unread, harg4.read_unread, harg5.read_unread, View.ld_unit_zero (S := S512x1024) hz2, View.ld_unit_zero (S := S2048x512) hz2, View.ld_unit_zero (S := S2048x1024) hz2, shapeCast_self]
  try rfl

theorem left_B (c : Dev nD) (i : grid0.Coords) (arg2 : Memref sig .tc .vmem S2048x512 .bf16) (harg2 : arg2.IsWhole) (arg3 : Memref sig .tc .vmem S2048x512 .bf16) (harg3 : arg3.IsWhole)
    (arg4 : Memref sig .tc .vmem S2048x1024 .bf16) (harg4 : arg4.IsWhole) (arg5 : Memref sig .tc .vmem S512x1024 .f32) (harg5 : arg5.IsWhole)
    (h0 : ¬cond0_0 i) (h1 : cond0_1 i) (h2 : ¬cond0_2 i)
    (x0 x1 : Vec Ideal S2048x512 .bf16) (x2 : Vec Ideal S2048x1024 .bf16) (xo : Vec Ideal S512x1024 .f32) :
    out0_B_3 c i arg2 harg2 arg3 harg3 arg4 harg4 arg5 harg5 h0 h1 h2 x0 x1 x2 xo = k0_pay2 x2 xo x0 := by
  unfold out0_B_3
  rw [View.read_writes_eq_canon _ _ _ (cover0_B_3 c i arg2 harg2 arg3 harg3 arg4 harg4 arg5 harg5 h0 h1 h2 x0 x1 x2 xo)]
  unfold kernelRun0_B
  dsimp only
  try sl_unfold_words
  rw [View.canon_unit_zero hz2]
  simp only [View.readAt_eq_ld, harg2.read_unread, harg3.read_unread, harg4.read_unread, harg5.read_unread, View.ld_unit_zero (S := S512x1024) hz2, View.ld_unit_zero (S := S2048x512) hz2, View.ld_unit_zero (S := S2048x1024) hz2, shapeCast_self]
  try rfl

theorem left_C (c : Dev nD) (i : grid0.Coords) (arg2 : Memref sig .tc .vmem S2048x512 .bf16) (harg2 : arg2.IsWhole) (arg3 : Memref sig .tc .vmem S2048x512 .bf16) (harg3 : arg3.IsWhole)
    (arg4 : Memref sig .tc .vmem S2048x1024 .bf16) (harg4 : arg4.IsWhole) (arg5 : Memref sig .tc .vmem S512x1024 .f32) (harg5 : arg5.IsWhole)
    (h0 : cond0_0 i) (h1 : ¬cond0_1 i) (h2 : cond0_2 i)
    (x0 x1 : Vec Ideal S2048x512 .bf16) (x2 : Vec Ideal S2048x1024 .bf16) :
    out0_C_3 c i arg2 harg2 arg3 harg3 arg4 harg4 arg5 harg5 h0 h1 h2 x0 x1 x2 = k0_pay2 x2 (k0_pay1 (F := Ideal)) x1 := by
  unfold out0_C_3
  rw [View.read_writes_eq_canon _ _ _ (cover0_C_3 c i arg2 harg2 arg3 harg3 arg4 harg4 arg5 harg5 h0 h1 h2 x0 x1 x2)]
  unfold kernelRun0_C
  dsimp only
  try sl_unfold_words
  rw [View.canon_cons_unit_zero (S := S512x1024) hz2, View.readCov_unit_zero (S := S512x1024) _ hz2]
  simp only [View.readAt_eq_ld, harg2.read_unread, harg3.read_unread, harg4.read_unread, harg5.read_unread, View.ld_unit_zero (S := S512x1024) hz2, View.ld_unit_zero (S := S2048x512) hz2, View.ld_unit_zero (S := S2048x1024) hz2, shapeCast_self]
  try rfl

theorem left_D (c : Dev nD) (i : grid0.Coords) (arg2 : Memref sig .tc .vmem S2048x512 .bf16) (harg2 : arg2.IsWhole) (arg3 : Memref sig .tc .vmem S2048x512 .bf16) (harg3 : arg3.IsWhole)
    (arg4 : Memref sig .tc .vmem S2048x1024 .bf16) (harg4 : arg4.IsWhole) (arg5 : Memref sig .tc .vmem S512x1024 .f32) (harg5 : arg5.IsWhole)
    (h0 : ¬cond0_0 i) (h1 : ¬cond0_1 i) (h2 : cond0_2 i)
    (x0 x1 : Vec Ideal S2048x512 .bf16) (x2 : Vec Ideal S2048x1024 .bf16) (xo : Vec Ideal S512x1024 .f32) :
    out0_D_3 c i arg2 harg2 arg3 harg3 arg4 harg4 arg5 harg5 h0 h1 h2 x0 x1 x2 xo = k0_pay2 x2 xo x1 := by
  unfold out0_D_3
  rw [View.read_writes_eq_canon _ _ _ (cover0_D_3 c i arg2 harg2 arg3 harg3 arg4 harg4 arg5 harg5 h0 h1 h2 x0 x1 x2 xo)]
  unfold kernelRun0_D
  dsimp only
  try sl_unfold_words
  rw [View.canon_unit_zero hz2]
  simp only [View.readAt_eq_ld, harg2.read_unread, harg3.read_unread, harg4.read_unread, harg5.read_unread, View.ld_unit_zero (S := S512x1024) hz2, View.ld_unit_zero (S := S2048x512) hz2, View.ld_unit_zero (S := S2048x1024) hz2, shapeCast_self]
  try rfl

/-- A part's first point. -/
theorem start (s : Fin 2) (i : Fin 512) (j : Fin 1024) :
    outsAt0 m c (4 * s.val + 0) (pt_lt s 0) (ix2 i j) = 0 + ∑ k, term m c s i j (row 0 k) := by
  match s with
  | ⟨0, _⟩ =>
    refine (congrFun ((outsAt0_A m c ⟨4 * 0 + 0, pt_lt 0 0⟩ (by decide) (by decide) (by decide)).trans (left_A ..)) (ix2 i j)).trans ?_
    refine (pay2 _ _ _ i j).trans (congrArg₂ (· + ·) (pay1 i j) (Finset.sum_congr rfl fun k _ => ?_))
    exact congrArg₂ (· * ·) (blk0 m c 0 0 k i) (blk2 m c 0 0 k j)
  | ⟨1, _⟩ =>
    refine (congrFun ((outsAt0_C m c ⟨4 * 1 + 0, pt_lt 1 0⟩ (by decide) (by decide) (by decide)).trans (left_C ..)) (ix2 i j)).trans ?_
    refine (pay2 _ _ _ i j).trans (congrArg₂ (· + ·) (pay1 i j) (Finset.sum_congr rfl fun k _ => ?_))
    exact congrArg₂ (· * ·) (blk1 m c 1 0 k i) (blk2 m c 1 0 k j)

/-- A later point adds its blocks' product. -/
theorem next (s : Fin 2) (b : Fin 3) (i : Fin 512) (j : Fin 1024) :
    outsAt0 m c (4 * s.val + b.succ.val) (pt_lt s b.succ) (ix2 i j)
      = outsAt0 m c (4 * s.val + b.castSucc.val) (pt_lt s b.castSucc) (ix2 i j) + ∑ k, term m c s i j (row b.succ k) := by
  have hv : b.succ.val = b.val + 1 := rfl
  match s with
  | ⟨0, _⟩ =>
    refine (congrFun ((outsAt0_B m c ⟨4 * 0 + b.succ.val, pt_lt 0 b.succ⟩ (by dsimp only; omega) (by dsimp only; omega) (by dsimp only; omega)).trans (left_B ..)) (ix2 i j)).trans ?_
    refine (pay2 _ _ _ i j).trans (congrArg₂ (· + ·) rfl (Finset.sum_congr rfl fun k _ => ?_))
    exact congrArg₂ (· * ·) (blk0 m c 0 b.succ k i) (blk2 m c 0 b.succ k j)
  | ⟨1, _⟩ =>
    refine (congrFun ((outsAt0_D m c ⟨4 * 1 + b.succ.val, pt_lt 1 b.succ⟩ (by dsimp only; omega) (by dsimp only; omega) (by dsimp only; omega)).trans (left_D ..)) (ix2 i j)).trans ?_
    refine (pay2 _ _ _ i j).trans (congrArg₂ (· + ·) rfl (Finset.sum_congr rfl fun k _ => ?_))
    exact congrArg₂ (· * ·) (blk1 m c 1 b.succ k i) (blk2 m c 1 b.succ k j)

/-- A part's last point holds the sum over all rows. -/
theorem last (s : Fin 2) (i : Fin 512) (j : Fin 1024) :
    outsAt0 m c (4 * s.val + 3) (pt_lt s 3) (ix2 i j) = ∑ t, term m c s i j t := by
  rw [← sum_rows]
  refine (next m c s 2 i j).trans (congrArg (· + _) ?_)
  refine (next m c s 1 i j).trans (congrArg (· + _) ?_)
  refine (next m c s 0 i j).trans (congrArg (· + _) ?_)
  exact start m c s i j

open Cert.OutReferenceIdeal.Read in
/-- The two arrays side by side. -/
theorem joined (x0 x1 : Vec Ideal S8192x512 .bf16) (t : Fin 8192) (s : Fin 2) (i : Fin 512) :
    val_main_v2 (F := Ideal) x0 x1 (ix2 t (at_ s i)) = part x0 x1 s (ix2 t i) := by
  unfold val_main_v2
  pointwise
  match s with
  | ⟨0, _⟩ =>
    rw [dif_pos (by simp only; omega)]
    exact congrArg (fun q => x0 (ix2 t q)) (Fin.ext (by simp only; omega))
  | ⟨1, _⟩ =>
    rw [dif_neg (by simp only; omega)]
    exact congrArg (fun q => x1 (ix2 t q)) (Fin.ext (by simp only; omega))

/-- The reference's array. -/
abbrev R : Vec Ideal S1024x1024 .f32 := Cert.OutReferenceIdeal.Read.val_main_v7 (F := Ideal) (a0 m c) (a1 m c) (a2 m c)

open Cert.OutReferenceIdeal.Read in
/-- The reference at one place. -/
theorem reference_apply (s : Fin 2) (i : Fin 512) (j : Fin 1024) : R m c (ix2 (at_ s i) j) = ∑ t, term m c s i j t := by
  unfold R
  rw [val_main_v7_apply, val_main_v6_apply]
  refine Finset.sum_congr rfl fun t _ => ?_
  rw [mul_comm]
  refine congrArg₂ (· * ·) (Eq.trans (congrArg _ ?_) (joined (a0 m c) (a1 m c) t s i)) ((val_main_v5_apply (a2 m c) _).trans (congrArg (a2 m c) ?_))
  · funext a
    match a with
    | ⟨0, _⟩ => rfl
    | ⟨1, _⟩ => rfl
  · funext a
    match a with
    | ⟨0, _⟩ => rfl
    | ⟨1, _⟩ => rfl

/-- The call leaves the reference's array. -/
theorem final : (dats m 0 c).arrAt 3 cfg0.N = R m c := by
  refine (dats m 0 c).arrAt_eq_of_covers 3 _ (by decide +kernel) fun t hf y => ?_
  have ht : t.val % 4 = 3 := (flush0_3 t).mp hf
  have hN : t.val < 8 := lt_of_lt_of_eq t.isLt (show cfg0.N = 8 from N_0)
  obtain ⟨s, hs⟩ : ∃ s : Fin 2, t = ⟨4 * s.val + 3, pt_lt s 3⟩ := ⟨⟨t.val / 4, by omega⟩, Fin.ext (by simp only; omega)⟩
  blk_simp
  rw [after0_3]
  obtain ⟨i, j, rfl⟩ : ∃ (i : Fin 512) (j : Fin 1024), y = ix2 i j := ⟨_, _, eq_ix2 y⟩
  subst hs
  refine (last m c s i j).trans ((reference_apply m c s i j).symm.trans (congrArg (R m c) ?_))
  blk_ext [e3]

/-- The run, with the reference's array in the call's result. -/
theorem run (ρ : Dev nD → PrngReg) : θ_run defs (onTc (τ := τ) (main (F := Ideal))) ⟨m, fun _ => 0, ρ⟩ fun r => ∀ c : Dev nD,
      r.2.mem ((c : Thread nD τ).loc main_v0) = R m c
      ∧ r.2.mem ((c : Thread nD τ).loc main_arg0) = a0 m c
      ∧ r.2.mem ((c : Thread nD τ).loc main_arg1) = a1 m c
      ∧ r.2.mem ((c : Thread nD τ).loc main_arg2) = a2 m c :=
  (θ_run defs _ _).mono (fun r h c => ⟨(h c).1.trans (final m c), (h c).2⟩) (run_blocks m ρ)

end Cert.OutIdeal.Sum

end
-- ==== Proof.Norm.lean ====
/- The root mean square norm of a row, as both sides write it. -/
module

public import Idealize.ShloMosaic.Lib.Pointwise
public import Idealize.ShloMosaic.Lib.Tactic

@[expose] public section

noncomputable section

namespace Cert.Norm

open Idealize.ShloMosaic

/-- One over the root of a row's mean square and the small constant. -/
abbrev scale (v : Fin 1024 → EReal) : EReal :=
  Ideal.rsqrt (Ideal.div (∑ j, v j * v j) (Ideal.ofBits FTy.f32 1149239296#32) + Ideal.ofBits FTy.f32 897988541#32)

/-- The row `v`, scaled and then multiplied by the gains `g`. -/
abbrev normed (v g : Fin 1024 → EReal) (k : Fin 1024) : EReal := v k * scale v * g k

end Cert.Norm

end
-- ==== Proof.FwdIn.lean ====
/- The values of the call fwd_in_proj. -/
module

public import proofs.«01_k».proof.Proof.Norm
public import proofs.«01_k».proof.Proof.Gen.FwdInIdeal.Value
public import proofs.«01_k».proof.Proof.Gen.FwdInIdeal.Skeleton
public import proofs.«01_k».proof.Proof.Gen.FwdInReferenceIdeal.Read
public import Idealize.ShloMosaic.Lib.Pointwise
public import Idealize.ShloMosaic.Lib.Tactic
public import Idealize.ShloMosaic.Lib.Pipeline.ValueKit.Geometry

@[expose] public section

set_option maxRecDepth 16384

noncomputable section

namespace Cert.FwdInIdeal.Sum

open Idealize.ShloMosaic Idealize.ShloMosaic.TcCoe Idealize.ShloMosaic.Tactic
open Cert.FwdInIdeal Cert.FwdInIdeal.Gen Cert.FwdInIdeal.Value Cert.Norm

variable (m : (ℓ : Loc nD τ sig) → Buf (Elt Ideal) ℓ) (c : Dev nD)

abbrev a0 : Vec Ideal S8192x1024 .f32 := m ((c : Thread nD τ).loc main_arg0)
abbrev a1 : Vec Ideal S1x1024 .f32 := m ((c : Thread nD τ).loc main_arg1)
abbrev a2 : Vec Ideal S1024x2560 .bf16 := m ((c : Thread nD τ).loc main_arg2)

/-- The normed row `r`. -/
abbrev u (r : Fin 8192) (k : Fin 1024) : EReal := normed (fun j => a0 m c (ix2 r j)) (fun j => a1 m c (ix2 0 j)) k

/-- Its product with column `j`. -/
abbrev proj (r : Fin 8192) (j : Fin 2560) : EReal := ∑ k, u m c r k * a2 m c (ix2 k j)

/-- Row `r` of block `t`. -/
abbrev at_ (t : Fin 8) (r : Fin 1024) : Fin 8192 := ⟨1024 * t.val + r.val, by omega⟩
abbrev right (j : Fin 1536) : Fin 2560 := ⟨1024 + j.val, by omega⟩
abbrev left (j : Fin 1024) : Fin 2560 := ⟨j.val, by omega⟩

theorem pay1 (x : Vec Ideal S1024x1024 .f32) (g : Vec Ideal S1x1024 .f32) (r k : Fin 1024) :
    k0_pay1 x g (ix2 r k) = normed (fun j => x (ix2 r j)) (fun j => g (ix2 0 j)) k := by
  unfold k0_pay1
  pointwise

theorem pay2 (x : Vec Ideal S1024x1024 .f32) (g : Vec Ideal S1x1024 .f32) (r k : Fin 1024) :
    k0_pay2 x g (ix2 r k) = normed (fun j => x (ix2 r j)) (fun j => g (ix2 0 j)) k := by
  refine Eq.trans ?_ (pay1 x g r k)
  unfold k0_pay2
  pointwise

theorem pay3 (x : Vec Ideal S1024x1024 .f32) (g : Vec Ideal S1x1024 .f32) (w : Vec Ideal S1024x1024 .bf16) (r j : Fin 1024) :
    k0_pay3 x g w (ix2 r j) = ∑ k : Fin 1024, k0_pay1 x g (ix2 r k) * w (ix2 k j) := by
  unfold k0_pay3
  pointwise

theorem pay4 (x : Vec Ideal S1024x1024 .f32) (g : Vec Ideal S1x1024 .f32) (w : Vec Ideal S1024x1536 .bf16) (r : Fin 1024) (j : Fin 1536) :
    k0_pay4 x g w (ix2 r j) = ∑ k : Fin 1024, k0_pay1 x g (ix2 r k) * w (ix2 k j) := by
  unfold k0_pay4
  pointwise

theorem e0 : ∀ t : Fin cfg0.N, win0_0.index t = ![t.val, 0] := (by decide +kernel : ∀ t : Fin grid0.N, _)
theorem e1 : ∀ t : Fin cfg0.N, win0_1.index t = ![0, 0] := (by decide +kernel : ∀ t : Fin grid0.N, _)
theorem e2 : ∀ t : Fin cfg0.N, win0_2.index t = ![0, 0] := (by decide +kernel : ∀ t : Fin grid0.N, _)
theorem e3 : ∀ t : Fin cfg0.N, win0_3.index t = ![t.val, 0] := (by decide +kernel : ∀ t : Fin grid0.N, _)
theorem e4 : ∀ t : Fin cfg0.N, win0_4.index t = ![t.val, 0] := (by decide +kernel : ∀ t : Fin grid0.N, _)
theorem e5 : ∀ t : Fin cfg0.N, win0_5.index t = ![t.val, 0] := (by decide +kernel : ∀ t : Fin grid0.N, _)

theorem pt_lt (t : Fin 8) : t.val < cfg0.N := by rw [show cfg0.N = 8 from N_0]; omega

theorem blk0 (t : Fin 8) (r k : Fin 1024) : iblk m c 0 ⟨t.val, pt_lt t⟩ (ix2 r k) = a0 m c (ix2 (at_ t r) k) := by
  blk_simp [iblk]
  blk_ext [e0]

theorem blk1 (t : Fin 8) (k : Fin 1024) : iblk m c 1 ⟨t.val, pt_lt t⟩ (ix2 0 k) = a1 m c (ix2 0 k) := by
  blk_simp [iblk]
  blk_ext [e1]

theorem blk2 (t : Fin 8) (k : Fin 1024) (j : Fin 2560) : iblk m c 2 ⟨t.val, pt_lt t⟩ (ix2 k j) = a2 m c (ix2 k j) := by
  blk_simp [iblk]
  blk_ext [e2]

/-- Reading a whole buffer gives the buffer. -/
theorem ld0 (x : Vec Ideal S1024x1024 .f32) : View.ld x r0_0 = x := by
  funext y
  refine congrArg x (funext fun a => Fin.ext ?_)
  match a with
  | ⟨0, _⟩ => show 0 + 1 * (y 0).val = (y 0).val; omega
  | ⟨1, _⟩ => show 0 + 1 * (y 1).val = (y 1).val; omega

theorem ld1 (x : Vec Ideal S1x1024 .f32) : View.ld x r0_1 = x := by
  funext y
  refine congrArg x (funext fun a => Fin.ext ?_)
  match a with
  | ⟨0, _⟩ => show 0 + 1 * (y 0).val = (y 0).val; omega
  | ⟨1, _⟩ => show 0 + 1 * (y 1).val = (y 1).val; omega

/-- The first 1024 columns and the others. -/
theorem ld2 (x : Vec Ideal S1024x2560 .bf16) (k j : Fin 1024) : View.ld x r0_2 (ix2 k j) = x (ix2 k (left j)) := by
  refine congrArg x (funext fun a => Fin.ext ?_)
  match a with
  | ⟨0, _⟩ => show 0 + 1 * k.val = k.val; omega
  | ⟨1, _⟩ => show 0 + 1 * j.val = j.val; omega

theorem ld3 (x : Vec Ideal S1024x2560 .bf16) (k : Fin 1024) (j : Fin 1536) : View.ld x r0_3 (ix2 k j) = x (ix2 k (right j)) := by
  refine congrArg x (funext fun a => Fin.ext ?_)
  match a with
  | ⟨0, _⟩ => show 0 + 1 * k.val = k.val; omega
  | ⟨1, _⟩ => show 1024 + 1 * j.val = 1024 + j.val; omega

theorem hz2 : (![0, 0] : Fin 2 → Nat) = fun _ => 0 := by
  funext a
  match a with
  | ⟨0, _⟩ => rfl
  | ⟨1, _⟩ => rfl

/-- The normed row in a block. -/
theorem u_blk (t : Fin 8) (r k : Fin 1024) :
    k0_pay1 (iblk m c 0 ⟨t.val, pt_lt t⟩) (iblk m c 1 ⟨t.val, pt_lt t⟩) (ix2 r k) = u m c (at_ t r) k := by
  refine (pay1 _ _ r k).trans ?_
  simp only [blk0, blk1]

theorem left3 (t : Fin 8) (r k : Fin 1024) :
    out0_3 (iblk m c 0 ⟨t.val, pt_lt t⟩) (iblk m c 1 ⟨t.val, pt_lt t⟩) (iblk m c 2 ⟨t.val, pt_lt t⟩) (ix2 r k) = u m c (at_ t r) k := by
  unfold out0_3
  rw [View.canon_unit_zero hz2, ld0, ld1]
  refine (pay2 _ _ r k).trans ?_
  simp only [blk0, blk1]

theorem left4 (t : Fin 8) (r j : Fin 1024) :
    out0_4 (iblk m c 0 ⟨t.val, pt_lt t⟩) (iblk m c 1 ⟨t.val, pt_lt t⟩) (iblk m c 2 ⟨t.val, pt_lt t⟩) (ix2 r j) = proj m c (at_ t r) (left j) := by
  unfold out0_4
  rw [View.canon_unit_zero hz2, ld0, ld1]
  refine (pay3 _ _ _ r j).trans (Finset.sum_congr rfl fun k _ => ?_)
  exact congrArg₂ (· * ·) (u_blk m c t r k) ((ld2 _ k j).trans (blk2 m c t k (left j)))

theorem left5 (t : Fin 8) (r : Fin 1024) (j : Fin 1536) :
    out0_5 (iblk m c 0 ⟨t.val, pt_lt t⟩) (iblk m c 1 ⟨t.val, pt_lt t⟩) (iblk m c 2 ⟨t.val, pt_lt t⟩) (ix2 r j) = proj m c (at_ t r) (right j) := by
  unfold out0_5
  rw [View.canon_unit_zero hz2, ld0, ld1]
  refine (pay4 _ _ _ r j).trans (Finset.sum_congr rfl fun k _ => ?_)
  exact congrArg₂ (· * ·) (u_blk m c t r k) ((ld3 _ k j).trans (blk2 m c t k (right j)))

open Cert.FwdInReferenceIdeal.Read in
/-- The reference's normed row. -/
theorem ref_u (x : Vec Ideal S8192x1024 .f32) (g : Vec Ideal S1x1024 .f32) (r : Fin 8192) (k : Fin 1024) :
    val_main_v13 (F := Ideal) x g (ix2 r k) = normed (fun j => x (ix2 r j)) (fun j => g (ix2 0 j)) k := by
  unfold val_main_v13 val_main_v12 val_main_v11 val_main_v10 val_main_v9 val_main_v8 val_main_v7 val_main_v6 val_main_v5 val_main_v4
    val_main_v3 val_main_v2 val_main_v1 val_main_v0 val_main_cst val_main_cst_0 val_main_cst_1
  pointwise

open Cert.FwdInReferenceIdeal.Read in
/-- The reference's product. -/
theorem ref_proj (x : Vec Ideal S8192x1024 .f32) (g : Vec Ideal S1x1024 .f32) (w : Vec Ideal S1024x2560 .bf16) (r : Fin 8192) (j : Fin 2560) :
    val_main_v15 (F := Ideal) x g w (ix2 r j) = ∑ k, normed (fun j => x (ix2 r j)) (fun j => g (ix2 0 j)) k * w (ix2 k j) := by
  rw [val_main_v15_apply]
  refine Finset.sum_congr rfl fun k _ => congrArg₂ (· * ·) (Eq.trans (congrArg _ ?_) (ref_u x g r k)) ((val_main_v14_apply w _).trans (congrArg w ?_))
  · funext a
    match a with
    | ⟨0, _⟩ => rfl
    | ⟨1, _⟩ => rfl
  · funext a
    match a with
    | ⟨0, _⟩ => rfl
    | ⟨1, _⟩ => rfl

/-- The reference's three arrays. -/
abbrev R0 : Vec Ideal S8192x1024 .bf16 := Cert.FwdInReferenceIdeal.Read.val_main_v16 (F := Ideal) (a0 m c) (a1 m c)
abbrev R1 : Vec Ideal S8192x1024 .f32 := Cert.FwdInReferenceIdeal.Read.val_main_v17 (F := Ideal) (a0 m c) (a1 m c) (a2 m c)
abbrev R2 : Vec Ideal S8192x1536 .bf16 := Cert.FwdInReferenceIdeal.Read.val_main_v19 (F := Ideal) (a0 m c) (a1 m c) (a2 m c)

theorem R0_apply (r : Fin 8192) (k : Fin 1024) : R0 m c (ix2 r k) = u m c r k :=
  (Cert.FwdInReferenceIdeal.Read.val_main_v16_apply _ _ _).trans (ref_u _ _ r k)

theorem R1_apply (r : Fin 8192) (j : Fin 1024) : R1 m c (ix2 r j) = proj m c r (left j) := by
  refine (Cert.FwdInReferenceIdeal.Read.val_main_v17_apply _ _ _ _).trans (Eq.trans (congrArg _ ?_) (ref_proj _ _ _ r (left j)))
  funext a
  match a with
  | ⟨0, _⟩ => rfl
  | ⟨1, _⟩ => rfl

theorem R2_apply (r : Fin 8192) (j : Fin 1536) : R2 m c (ix2 r j) = proj m c r (right j) := by
  refine (Cert.FwdInReferenceIdeal.Read.val_main_v19_apply _ _ _ _).trans
    ((Cert.FwdInReferenceIdeal.Read.val_main_v18_apply _ _ _ _).trans (Eq.trans (congrArg _ ?_) (ref_proj _ _ _ r (right j))))
  funext a
  match a with
  | ⟨0, _⟩ => rfl
  | ⟨1, _⟩ => rfl

/-- A point, as a block. -/
theorem pt_of (t : Fin cfg0.N) : ∃ s : Fin 8, t = ⟨s.val, pt_lt s⟩ := by
  have hN : t.val < 8 := lt_of_lt_of_eq t.isLt (show cfg0.N = 8 from N_0)
  exact ⟨⟨t.val, hN⟩, rfl⟩

theorem final3 : (dats m 0 c).arrAt 3 cfg0.N = R0 m c := by
  refine (dats m 0 c).arrAt_eq_of_covers 3 _ (by decide +kernel) fun t hf y => ?_
  obtain ⟨s, rfl⟩ := pt_of t
  blk_simp
  rw [after0_3]
  obtain ⟨r, k, rfl⟩ : ∃ (r k : Fin 1024), y = ix2 r k := ⟨_, _, eq_ix2 y⟩
  refine (left3 m c s r k).trans ((R0_apply m c (at_ s r) k).symm.trans (congrArg (R0 m c) ?_))
  blk_ext [e3]

theorem final4 : (dats m 0 c).arrAt 4 cfg0.N = R1 m c := by
  refine (dats m 0 c).arrAt_eq_of_covers 4 _ (by decide +kernel) fun t hf y => ?_
  obtain ⟨s, rfl⟩ := pt_of t
  blk_simp
  rw [after0_4]
  obtain ⟨r, k, rfl⟩ : ∃ (r k : Fin 1024), y = ix2 r k := ⟨_, _, eq_ix2 y⟩
  refine (left4 m c s r k).trans ((R1_apply m c (at_ s r) k).symm.trans (congrArg (R1 m c) ?_))
  blk_ext [e4]

theorem final5 : (dats m 0 c).arrAt 5 cfg0.N = R2 m c := by
  refine (dats m 0 c).arrAt_eq_of_covers 5 _ (by decide +kernel) fun t hf y => ?_
  obtain ⟨s, rfl⟩ := pt_of t
  blk_simp
  rw [after0_5]
  obtain ⟨r, k, rfl⟩ : ∃ (r : Fin 1024) (k : Fin 1536), y = ix2 r k := ⟨_, _, eq_ix2 y⟩
  refine (left5 m c s r k).trans ((R2_apply m c (at_ s r) k).symm.trans (congrArg (R2 m c) ?_))
  blk_ext [e5]

/-- The run, with the reference's arrays in the call's results. -/
theorem run (ρ : Dev nD → PrngReg) : θ_run defs (onTc (τ := τ) (main (F := Ideal))) ⟨m, fun _ => 0, ρ⟩ fun r => ∀ c : Dev nD,
      r.2.mem ((c : Thread nD τ).loc main_v0_0) = R0 m c
      ∧ r.2.mem ((c : Thread nD τ).loc main_v0_1) = R1 m c
      ∧ r.2.mem ((c : Thread nD τ).loc main_v0_2) = R2 m c
      ∧ r.2.mem ((c : Thread nD τ).loc main_arg0) = a0 m c
      ∧ r.2.mem ((c : Thread nD τ).loc main_arg1) = a1 m c
      ∧ r.2.mem ((c : Thread nD τ).loc main_arg2) = a2 m c :=
  (θ_run defs _ _).mono (fun r h c => ⟨(h c).1.trans (final3 m c), (h c).2.1.trans (final4 m c), (h c).2.2.1.trans (final5 m c), (h c).2.2.2⟩)
    (run_blocks m ρ)

end Cert.FwdInIdeal.Sum

end
-- ==== Proof.FwdOut.lean ====
/- The values of the call fwd_out_proj. -/
module

public import proofs.«01_k».proof.Proof.Norm
public import proofs.«01_k».proof.Proof.Gen.FwdOutIdeal.Value
public import proofs.«01_k».proof.Proof.Gen.FwdOutIdeal.Skeleton
public import proofs.«01_k».proof.Proof.Gen.FwdOutReferenceIdeal.Read
public import Idealize.ShloMosaic.Lib.Pointwise
public import Idealize.ShloMosaic.Lib.Tactic
public import Idealize.ShloMosaic.Lib.Pipeline.ValueKit.Geometry

@[expose] public section

set_option maxRecDepth 16384

noncomputable section

namespace Cert.FwdOutIdeal.Sum

open Idealize.ShloMosaic Idealize.ShloMosaic.TcCoe Idealize.ShloMosaic.Tactic
open Cert.FwdOutIdeal Cert.FwdOutIdeal.Gen Cert.FwdOutIdeal.Value Cert.Norm

variable (m : (ℓ : Loc nD τ sig) → Buf (Elt Ideal) ℓ) (c : Dev nD)

abbrev a0 : Vec Ideal S8192x512 .bf16 := m ((c : Thread nD τ).loc main_arg0)
abbrev a1 : Vec Ideal S8192x512 .bf16 := m ((c : Thread nD τ).loc main_arg1)
abbrev a2 : Vec Ideal S1024x1024 .bf16 := m ((c : Thread nD τ).loc main_arg2)
abbrev a3 : Vec Ideal S8192x1024 .f32 := m ((c : Thread nD τ).loc main_arg3)
abbrev a4 : Vec Ideal S1x1024 .f32 := m ((c : Thread nD τ).loc main_arg4)
abbrev a5 : Vec Ideal S1x1024 .f32 := m ((c : Thread nD τ).loc main_arg5)

/-- The upper and the lower half of the rows of the weight. -/
abbrev up (k : Fin 512) : Fin 1024 := ⟨k.val, by omega⟩
abbrev low (k : Fin 512) : Fin 1024 := ⟨512 + k.val, by omega⟩

/-- The product of both inputs with the weight, from row `r`. -/
abbrev mix (r : Fin 8192) (j : Fin 1024) : EReal :=
  (∑ k : Fin 512, a0 m c (ix2 r k) * a2 m c (ix2 (up k) j)) + ∑ k : Fin 512, a1 m c (ix2 r k) * a2 m c (ix2 (low k) j)

/-- The residual stream after it. -/
abbrev h1 (r : Fin 8192) (j : Fin 1024) : EReal := a3 m c (ix2 r j) + normed (mix m c r) (fun j => a4 m c (ix2 0 j)) j

/-- Its norm. -/
abbrev u2 (r : Fin 8192) (j : Fin 1024) : EReal := normed (h1 m c r) (fun j => a5 m c (ix2 0 j)) j

/-- Row `r` of block `t`. -/
abbrev at_ (t : Fin 8) (r : Fin 1024) : Fin 8192 := ⟨1024 * t.val + r.val, by omega⟩

section Pays

variable (v0 : Vec Ideal S1024x512 .bf16) (v1 : Vec Ideal S512x1024 .bf16) (v3 : Vec Ideal S1024x512 .bf16) (v4 : Vec Ideal S512x1024 .bf16)
    (g : Vec Ideal S1x1024 .f32) (x : Vec Ideal S1024x1024 .f32)

theorem pay2 (r j : Fin 1024) :
    k0_pay2 v0 v1 v3 v4 (ix2 r j) = (∑ k : Fin 512, v0 (ix2 r k) * v1 (ix2 k j)) + ∑ k : Fin 512, v3 (ix2 r k) * v4 (ix2 k j) := by
  unfold k0_pay2
  pointwise

theorem pay3 (r j : Fin 1024) : k0_pay3 v0 v1 v3 v4 (ix2 r j) = k0_pay2 v0 v1 v3 v4 (ix2 r j) := by
  unfold k0_pay3
  generalize k0_pay2 v0 v1 v3 v4 = y
  pointwise

theorem pay4 (r j : Fin 1024) : k0_pay4 v0 v1 v3 v4 g x (ix2 r j)
    = x (ix2 r j) + normed (fun k => k0_pay2 v0 v1 v3 v4 (ix2 r k)) (fun k => g (ix2 0 k)) j := by
  unfold k0_pay4
  generalize k0_pay2 v0 v1 v3 v4 = y
  pointwise

theorem pay5 (r j : Fin 1024) : k0_pay5 v0 v1 v3 v4 g x (ix2 r j) = k0_pay4 v0 v1 v3 v4 g x (ix2 r j) := by
  unfold k0_pay5
  generalize k0_pay4 v0 v1 v3 v4 g x = y
  pointwise

theorem pay1 (g' : Vec Ideal S1x1024 .f32) (r j : Fin 1024) : k0_pay1 (k0_pay4 v0 v1 v3 v4 g x) g' (k0_pay6 v0 v1 v3 v4 g x) (ix2 r j)
    = normed (fun k => k0_pay4 v0 v1 v3 v4 g x (ix2 r k)) (fun k => g' (ix2 0 k)) j := by
  unfold k0_pay1 k0_pay6
  generalize k0_pay4 v0 v1 v3 v4 g x = y
  pointwise

end Pays

theorem e0 : ∀ t : Fin cfg0.N, win0_0.index t = ![t.val, 0] := (by decide +kernel : ∀ t : Fin grid0.N, _)
theorem e1 : ∀ t : Fin cfg0.N, win0_1.index t = ![t.val, 0] := (by decide +kernel : ∀ t : Fin grid0.N, _)
theorem e2 : ∀ t : Fin cfg0.N, win0_2.index t = ![0, 0] := (by decide +kernel : ∀ t : Fin grid0.N, _)
theorem e3 : ∀ t : Fin cfg0.N, win0_3.index t = ![t.val, 0] := (by decide +kernel : ∀ t : Fin grid0.N, _)
theorem e4 : ∀ t : Fin cfg0.N, win0_4.index t = ![0, 0] := (by decide +kernel : ∀ t : Fin grid0.N, _)
theorem e5 : ∀ t : Fin cfg0.N, win0_5.index t = ![0, 0] := (by decide +kernel : ∀ t : Fin grid0.N, _)
theorem e6 : ∀ t : Fin cfg0.N, win0_6.index t = ![t.val, 0] := (by decide +kernel : ∀ t : Fin grid0.N, _)
theorem e7 : ∀ t : Fin cfg0.N, win0_7.index t = ![t.val, 0] := (by decide +kernel : ∀ t : Fin grid0.N, _)
theorem e8 : ∀ t : Fin cfg0.N, win0_8.index t = ![t.val, 0] := (by decide +kernel : ∀ t : Fin grid0.N, _)

theorem pt_lt (t : Fin 8) : t.val < cfg0.N := by rw [show cfg0.N = 8 from N_0]; omega

theorem blk0 (t : Fin 8) (r : Fin 1024) (k : Fin 512) : iblk m c 0 ⟨t.val, pt_lt t⟩ (ix2 r k) = a0 m c (ix2 (at_ t r) k) := by
  blk_simp [iblk]
  blk_ext [e0]

theorem blk1 (t : Fin 8) (r : Fin 1024) (k : Fin 512) : iblk m c 1 ⟨t.val, pt_lt t⟩ (ix2 r k) = a1 m c (ix2 (at_ t r) k) := by
  blk_simp [iblk]
  blk_ext [e1]

theorem blk2 (t : Fin 8) (k j : Fin 1024) : iblk m c 2 ⟨t.val, pt_lt t⟩ (ix2 k j) = a2 m c (ix2 k j) := by
  blk_simp [iblk]
  blk_ext [e2]

theorem blk3 (t : Fin 8) (r k : Fin 1024) : iblk m c 3 ⟨t.val, pt_lt t⟩ (ix2 r k) = a3 m c (ix2 (at_ t r) k) := by
  blk_simp [iblk]
  blk_ext [e3]

theorem blk4 (t : Fin 8) (k : Fin 1024) : iblk m c 4 ⟨t.val, pt_lt t⟩ (ix2 0 k) = a4 m c (ix2 0 k) := by
  blk_simp [iblk]
  blk_ext [e4]

theorem blk5 (t : Fin 8) (k : Fin 1024) : iblk m c 5 ⟨t.val, pt_lt t⟩ (ix2 0 k) = a5 m c (ix2 0 k) := by
  blk_simp [iblk]
  blk_ext [e5]

/-- Reading a whole buffer gives the buffer. -/
theorem ld0 (x : Vec Ideal S1024x512 .bf16) : View.ld x r0_0 = x := by
  funext y
  refine congrArg x (funext fun a => Fin.ext ?_)
  match a with
  | ⟨0, _⟩ => show 0 + 1 * (y 0).val = (y 0).val; omega
  | ⟨1, _⟩ => show 0 + 1 * (y 1).val = (y 1).val; omega

theorem ld3 (x : Vec Ideal S1024x1024 .f32) : View.ld x r0_3 = x := by
  funext y
  refine congrArg x (funext fun a => Fin.ext ?_)
  match a with
  | ⟨0, _⟩ => show 0 + 1 * (y 0).val = (y 0).val; omega
  | ⟨1, _⟩ => show 0 + 1 * (y 1).val = (y 1).val; omega

theorem ld4 (x : Vec Ideal S1x1024 .f32) : View.ld x r0_4 = x := by
  funext y
  refine congrArg x (funext fun a => Fin.ext ?_)
  match a with
  | ⟨0, _⟩ => show 0 + 1 * (y 0).val = (y 0).val; omega
  | ⟨1, _⟩ => show 0 + 1 * (y 1).val = (y 1).val; omega

theorem ld1 (x : Vec Ideal S1024x1024 .bf16) (k : Fin 512) (j : Fin 1024) : View.ld x r0_1 (ix2 k j) = x (ix2 (up k) j) := by
  refine congrArg x (funext fun a => Fin.ext ?_)
  match a with
  | ⟨0, _⟩ => show 0 + 1 * k.val = k.val; omega
  | ⟨1, _⟩ => show 0 + 1 * j.val = j.val; omega

theorem ld2 (x : Vec Ideal S1024x1024 .bf16) (k : Fin 512) (j : Fin 1024) : View.ld x r0_2 (ix2 k j) = x (ix2 (low k) j) := by
  refine congrArg x (funext fun a => Fin.ext ?_)
  match a with
  | ⟨0, _⟩ => show 512 + 1 * k.val = 512 + k.val; omega
  | ⟨1, _⟩ => show 0 + 1 * j.val = j.val; omega

theorem hz2 : (![0, 0] : Fin 2 → Nat) = fun _ => 0 := by
  funext a
  match a with
  | ⟨0, _⟩ => rfl
  | ⟨1, _⟩ => rfl

/-- The product in a block. -/
theorem mix_blk (t : Fin 8) (r j : Fin 1024) :
    k0_pay2 (iblk m c 0 ⟨t.val, pt_lt t⟩) (View.ld (iblk m c 2 ⟨t.val, pt_lt t⟩) r0_1) (iblk m c 1 ⟨t.val, pt_lt t⟩)
      (View.ld (iblk m c 2 ⟨t.val, pt_lt t⟩) r0_2) (ix2 r j) = mix m c (at_ t r) j := by
  refine (pay2 _ _ _ _ r j).trans (congrArg₂ (· + ·) (Finset.sum_congr rfl fun k _ => ?_) (Finset.sum_congr rfl fun k _ => ?_))
  · exact congrArg₂ (· * ·) (blk0 m c t r k) ((ld1 _ k j).trans (blk2 m c t (up k) j))
  · exact congrArg₂ (· * ·) (blk1 m c t r k) ((ld2 _ k j).trans (blk2 m c t (low k) j))

/-- The residual stream in a block. -/
theorem h1_blk (t : Fin 8) (r j : Fin 1024) :
    k0_pay4 (iblk m c 0 ⟨t.val, pt_lt t⟩) (View.ld (iblk m c 2 ⟨t.val, pt_lt t⟩) r0_1) (iblk m c 1 ⟨t.val, pt_lt t⟩)
      (View.ld (iblk m c 2 ⟨t.val, pt_lt t⟩) r0_2) (iblk m c 4 ⟨t.val, pt_lt t⟩) (iblk m c 3 ⟨t.val, pt_lt t⟩) (ix2 r j) = h1 m c (at_ t r) j := by
  refine (pay4 _ _ _ _ _ _ r j).trans ?_
  simp only [mix_blk, blk3, blk4]

theorem left6 (t : Fin 8) (r j : Fin 1024) :
    out0_6 (iblk m c 0 ⟨t.val, pt_lt t⟩) (iblk m c 1 ⟨t.val, pt_lt t⟩) (iblk m c 2 ⟨t.val, pt_lt t⟩)
      (iblk m c 3 ⟨t.val, pt_lt t⟩) (iblk m c 4 ⟨t.val, pt_lt t⟩) (iblk m c 5 ⟨t.val, pt_lt t⟩) (ix2 r j) = mix m c (at_ t r) j := by
  unfold out0_6
  rw [View.canon_unit_zero hz2]
  simp only [ld0, ld3, ld4]
  exact (pay3 _ _ _ _ r j).trans (mix_blk m c t r j)

theorem left7 (t : Fin 8) (r j : Fin 1024) :
    out0_7 (iblk m c 0 ⟨t.val, pt_lt t⟩) (iblk m c 1 ⟨t.val, pt_lt t⟩) (iblk m c 2 ⟨t.val, pt_lt t⟩)
      (iblk m c 3 ⟨t.val, pt_lt t⟩) (iblk m c 4 ⟨t.val, pt_lt t⟩) (iblk m c 5 ⟨t.val, pt_lt t⟩) (ix2 r j) = h1 m c (at_ t r) j := by
  unfold out0_7
  rw [View.canon_unit_zero hz2]
  simp only [ld0, ld3, ld4]
  exact (pay5 _ _ _ _ _ _ r j).trans (h1_blk m c t r j)

theorem left8 (t : Fin 8) (r j : Fin 1024) :
    out0_8 (iblk m c 0 ⟨t.val, pt_lt t⟩) (iblk m c 1 ⟨t.val, pt_lt t⟩) (iblk m c 2 ⟨t.val, pt_lt t⟩)
      (iblk m c 3 ⟨t.val, pt_lt t⟩) (iblk m c 4 ⟨t.val, pt_lt t⟩) (iblk m c 5 ⟨t.val, pt_lt t⟩) (ix2 r j) = u2 m c (at_ t r) j := by
  unfold out0_8
  rw [View.canon_unit_zero hz2]
  simp only [ld0, ld3, ld4]
  exact (pay1 _ _ _ _ _ _ _ r j).trans
    (congrArg₂ (fun f g => normed f g j) (funext fun k => h1_blk m c t r k) (funext fun k => blk5 m c t k))

open Cert.FwdOutReferenceIdeal.Read in
/-- The reference's product. -/
theorem ref_mix (r : Fin 8192) (j : Fin 1024) : val_main_v4 (F := Ideal) (a0 m c) (a1 m c) (a2 m c) (ix2 r j) = mix m c r j := by
  rw [val_main_v4_apply]
  refine (Fin.sum_univ_add (a := 512) (b := 512) _).trans (congrArg₂ (· + ·) (Finset.sum_congr rfl fun k _ => ?_) (Finset.sum_congr rfl fun k _ => ?_))
  · refine congrArg₂ (· * ·) ?_ ?_
    · rw [show lidx_main_v4 (ix2 r j) (Fin.castAdd 512 k) = ix2 r (up k) from eq_ix2 _]
      unfold val_main_v2 val_main_v0 val_main_v1
      pointwise
    · refine (val_main_v3_apply _ _).trans (congrArg (a2 m c) ?_)
      funext a
      match a with
      | ⟨0, _⟩ => rfl
      | ⟨1, _⟩ => rfl
  · refine congrArg₂ (· * ·) ?_ ?_
    · rw [show lidx_main_v4 (ix2 r j) (Fin.natAdd 512 k) = ix2 r (low k) from eq_ix2 _]
      unfold val_main_v2 val_main_v0 val_main_v1
      pointwise
    · refine (val_main_v3_apply _ _).trans (congrArg (a2 m c) ?_)
      funext a
      match a with
      | ⟨0, _⟩ => rfl
      | ⟨1, _⟩ => rfl

section Norms

variable (x0 x1 : Vec Ideal S8192x512 .bf16) (x2 : Vec Ideal S1024x1024 .bf16) (x3 : Vec Ideal S8192x1024 .f32) (x4 x5 : Vec Ideal S1x1024 .f32)

open Cert.FwdOutReferenceIdeal.Read in
/-- The reference's residual stream. -/
theorem ref_h1 (r : Fin 8192) (j : Fin 1024) : val_main_v19 (F := Ideal) x0 x1 x2 x3 x4 (ix2 r j)
    = x3 (ix2 r j) + normed (fun k => val_main_v4 (F := Ideal) x0 x1 x2 (ix2 r k)) (fun k => x4 (ix2 0 k)) j := by
  unfold val_main_v19 val_main_v18 val_main_v17 val_main_v16 val_main_v15 val_main_v14 val_main_v13 val_main_v12 val_main_v11 val_main_v10
    val_main_v9 val_main_v8 val_main_v7 val_main_v6 val_main_v5 val_main_cst val_main_cst_0 val_main_cst_1
  generalize val_main_v4 (F := Ideal) x0 x1 x2 = y
  pointwise

open Cert.FwdOutReferenceIdeal.Read in
/-- The reference's second norm. -/
theorem ref_u2 (r : Fin 8192) (j : Fin 1024) : val_main_v35 (F := Ideal) x0 x1 x2 x3 x4 x5 (ix2 r j)
    = normed (fun k => val_main_v19 (F := Ideal) x0 x1 x2 x3 x4 (ix2 r k)) (fun k => x5 (ix2 0 k)) j := by
  unfold val_main_v35 val_main_v34 val_main_v33 val_main_v32 val_main_v31 val_main_v30 val_main_v29 val_main_v28 val_main_v27 val_main_v26
    val_main_v25 val_main_v24 val_main_v23 val_main_v22 val_main_v21 val_main_cst_2 val_main_cst_3 val_main_cst_4
  generalize val_main_v19 (F := Ideal) x0 x1 x2 x3 x4 = y
  pointwise

end Norms

/-- The reference's three arrays. -/
abbrev R0 : Vec Ideal S8192x1024 .bf16 := Cert.FwdOutReferenceIdeal.Read.val_main_v20 (F := Ideal) (a0 m c) (a1 m c) (a2 m c)
abbrev R1 : Vec Ideal S8192x1024 .f32 := Cert.FwdOutReferenceIdeal.Read.val_main_v19 (F := Ideal) (a0 m c) (a1 m c) (a2 m c) (a3 m c) (a4 m c)
abbrev R2 : Vec Ideal S8192x1024 .bf16 :=
  Cert.FwdOutReferenceIdeal.Read.val_main_v35 (F := Ideal) (a0 m c) (a1 m c) (a2 m c) (a3 m c) (a4 m c) (a5 m c)

theorem R0_apply (r : Fin 8192) (j : Fin 1024) : R0 m c (ix2 r j) = mix m c r j :=
  (Cert.FwdOutReferenceIdeal.Read.val_main_v20_apply _ _ _ _).trans (ref_mix m c r j)

theorem R1_apply (r : Fin 8192) (j : Fin 1024) : R1 m c (ix2 r j) = h1 m c r j := by
  refine (ref_h1 _ _ _ _ _ r j).trans ?_
  simp only [ref_mix]

theorem R2_apply (r : Fin 8192) (j : Fin 1024) : R2 m c (ix2 r j) = u2 m c r j := by
  refine (ref_u2 _ _ _ _ _ _ r j).trans ?_
  have e : (fun k => Cert.FwdOutReferenceIdeal.Read.val_main_v19 (F := Ideal) (a0 m c) (a1 m c) (a2 m c) (a3 m c) (a4 m c) (ix2 r k)) = h1 m c r :=
    funext fun k => R1_apply m c r k
  rw [e]

/-- A point, as a block. -/
theorem pt_of (t : Fin cfg0.N) : ∃ s : Fin 8, t = ⟨s.val, pt_lt s⟩ := by
  have hN : t.val < 8 := lt_of_lt_of_eq t.isLt (show cfg0.N = 8 from N_0)
  exact ⟨⟨t.val, hN⟩, rfl⟩

theorem final6 : (dats m 0 c).arrAt 6 cfg0.N = R0 m c := by
  refine (dats m 0 c).arrAt_eq_of_covers 6 _ (by decide +kernel) fun t hf y => ?_
  obtain ⟨s, rfl⟩ := pt_of t
  blk_simp
  rw [after0_6]
  obtain ⟨r, k, rfl⟩ : ∃ (r k : Fin 1024), y = ix2 r k := ⟨_, _, eq_ix2 y⟩
  refine (left6 m c s r k).trans ((R0_apply m c (at_ s r) k).symm.trans (congrArg (R0 m c) ?_))
  blk_ext [e6]

theorem final7 : (dats m 0 c).arrAt 7 cfg0.N = R1 m c := by
  refine (dats m 0 c).arrAt_eq_of_covers 7 _ (by decide +kernel) fun t hf y => ?_
  obtain ⟨s, rfl⟩ := pt_of t
  blk_simp
  rw [after0_7]
  obtain ⟨r, k, rfl⟩ : ∃ (r k : Fin 1024), y = ix2 r k := ⟨_, _, eq_ix2 y⟩
  refine (left7 m c s r k).trans ((R1_apply m c (at_ s r) k).symm.trans (congrArg (R1 m c) ?_))
  blk_ext [e7]

theorem final8 : (dats m 0 c).arrAt 8 cfg0.N = R2 m c := by
  refine (dats m 0 c).arrAt_eq_of_covers 8 _ (by decide +kernel) fun t hf y => ?_
  obtain ⟨s, rfl⟩ := pt_of t
  blk_simp
  rw [after0_8]
  obtain ⟨r, k, rfl⟩ : ∃ (r k : Fin 1024), y = ix2 r k := ⟨_, _, eq_ix2 y⟩
  refine (left8 m c s r k).trans ((R2_apply m c (at_ s r) k).symm.trans (congrArg (R2 m c) ?_))
  blk_ext [e8]

/-- The run, with the reference's arrays in the call's results. -/
theorem run (ρ : Dev nD → PrngReg) : θ_run defs (onTc (τ := τ) (main (F := Ideal))) ⟨m, fun _ => 0, ρ⟩ fun r => ∀ c : Dev nD,
      r.2.mem ((c : Thread nD τ).loc main_v0_0) = R0 m c
      ∧ r.2.mem ((c : Thread nD τ).loc main_v0_1) = R1 m c
      ∧ r.2.mem ((c : Thread nD τ).loc main_v0_2) = R2 m c
      ∧ r.2.mem ((c : Thread nD τ).loc main_arg0) = a0 m c
      ∧ r.2.mem ((c : Thread nD τ).loc main_arg1) = a1 m c
      ∧ r.2.mem ((c : Thread nD τ).loc main_arg2) = a2 m c
      ∧ r.2.mem ((c : Thread nD τ).loc main_arg3) = a3 m c
      ∧ r.2.mem ((c : Thread nD τ).loc main_arg4) = a4 m c
      ∧ r.2.mem ((c : Thread nD τ).loc main_arg5) = a5 m c :=
  (θ_run defs _ _).mono (fun r h c => ⟨(h c).1.trans (final6 m c), (h c).2.1.trans (final7 m c), (h c).2.2.1.trans (final8 m c), (h c).2.2.2⟩)
    (run_blocks m ρ)

end Cert.FwdOutIdeal.Sum

end
-- ==== Proof.Rms.lean ====
/- The gradient of the root mean square norm: the kernel's form and the derivative's agree on finite rows. -/
module

public import proofs.«01_k».proof.Proof.Norm

@[expose] public section

noncomputable section

namespace Cert.Norm

open Idealize.ShloMosaic

theorem word_1024 : Ideal.ofBits FTy.f32 1149239296#32 = ((1024 : ℝ) : EReal) := by
  simp [Ideal.ofBits, Ideal.ieee, -EReal.coe_mul]; norm_num
theorem word_small : Ideal.ofBits FTy.f32 897988541#32 = ((8796093 / 8796093022208 : ℝ) : EReal) := by
  simp [Ideal.ofBits, Ideal.ieee, -EReal.coe_mul]; norm_num
theorem word_minus_half : Ideal.ofBits FTy.f32 3204448256#32 = ((-(1 / 2) : ℝ) : EReal) := by
  simp [Ideal.ofBits, Ideal.ieee, -EReal.coe_mul]; norm_num

/-- A row's mean square and the small constant. -/
abbrev mean (v : Fin 1024 → EReal) : EReal :=
  Ideal.div (∑ j, v j * v j) (Ideal.ofBits FTy.f32 1149239296#32) + Ideal.ofBits FTy.f32 897988541#32

/-- The kernel's gradient of the row `v`, from the gradient `d` of the norm's result. -/
abbrev slope (v g d : Fin 1024 → EReal) (k : Fin 1024) : EReal :=
  scale v * (d k * g k - v k * scale v * Ideal.div (∑ j, d j * g j * (v j * scale v)) (Ideal.ofBits FTy.f32 1149239296#32))

/-- What the derivative passes on to each factor of a row's square. -/
abbrev share (v g d : Fin 1024 → EReal) : EReal :=
  Ideal.div ((∑ j, v j * (d j * g j)) * (Ideal.ofBits FTy.f32 3204448256#32 * Ideal.div (scale v) (mean v))) (Ideal.ofBits FTy.f32 1149239296#32)

theorem coe_sum {n : ℕ} (f : Fin n → ℝ) : ∑ j, ((f j : ℝ) : EReal) = ((∑ j, f j : ℝ) : EReal) :=
  (map_sum (⟨⟨((↑) : ℝ → EReal), EReal.coe_zero⟩, EReal.coe_add⟩ : ℝ →+ EReal) f Finset.univ).symm

theorem slope_eq (v g d : Fin 1024 → ℝ) (h : EReal) (k : Fin 1024) :
    h + ((d k : EReal) * (g k : EReal)) * scale (fun j => (v j : EReal))
        + (v k : EReal) * share (fun j => (v j : EReal)) (fun j => (g j : EReal)) (fun j => (d j : EReal))
        + share (fun j => (v j : EReal)) (fun j => (g j : EReal)) (fun j => (d j : EReal)) * (v k : EReal)
      = h + slope (fun j => (v j : EReal)) (fun j => (g j : EReal)) (fun j => (d j : EReal)) k := by
  set Z : ℝ := (∑ j, v j * v j) * (1 / 1024) + 8796093 / 8796093022208 with hZ
  have hpos : 0 < Z := by
    have : 0 ≤ ∑ j, v j * v j := Finset.sum_nonneg fun j _ => mul_self_nonneg _
    positivity
  have em : mean (fun j => (v j : EReal)) = ((Z : ℝ) : EReal) := by
    unfold mean
    rw [word_1024, word_small, Ideal.div_coe (by norm_num)]
    simp only [← EReal.coe_mul, coe_sum, ← EReal.coe_add]
    rfl
  set R : ℝ := (Real.sqrt Z)⁻¹ with hR
  have es : scale (fun j => (v j : EReal)) = ((R : ℝ) : EReal) := by
    refine (congrArg Ideal.rsqrt em).trans ?_
    rw [Ideal.rsqrt_coe, if_neg (not_lt.mpr hpos.le), if_neg hpos.ne']
  have hRR : R * R = 1 / Z := by
    rw [hR, ← mul_inv, Real.mul_self_sqrt hpos.le, one_div]
  unfold share slope
  rw [em, es, word_1024, word_minus_half]
  rw [Ideal.div_coe (show (1024 : ℝ) ≠ 0 by norm_num), Ideal.div_coe (show (1024 : ℝ) ≠ 0 by norm_num), Ideal.div_coe hpos.ne']
  simp only [← EReal.coe_mul, coe_sum, ← EReal.coe_sub]
  rw [add_assoc, add_assoc, ← EReal.coe_add, ← EReal.coe_add]
  refine congrArg (fun x : ℝ => h + (x : EReal)) ?_
  have e1 : ∑ j, d j * g j * (v j * R) = R * ∑ j, v j * (d j * g j) := by
    rw [Finset.mul_sum]
    exact Finset.sum_congr rfl fun j _ => by ring
  rw [e1, ← hRR]
  ring

theorem slope_fin (v g d : Fin 1024 → EReal) (h : EReal) (k : Fin 1024) (hv : ∀ j, ∃ x : ℝ, v j = (x : EReal))
    (hg : ∀ j, ∃ x : ℝ, g j = (x : EReal)) (hd : ∀ j, ∃ x : ℝ, d j = (x : EReal)) :
    h + (d k * g k) * scale v + v k * share v g d + share v g d * v k = h + slope v g d k := by
  choose v' ev using hv
  choose g' eg using hg
  choose d' ed using hd
  obtain rfl := funext ev
  obtain rfl := funext eg
  obtain rfl := funext ed
  exact slope_eq v' g' d' h k

end Cert.Norm

end
-- ==== Proof.BwdIn.lean ====
/- The values of the call bwd_in_proj. -/
module

public import proofs.«01_k».proof.Proof.Rms
public import proofs.«01_k».proof.Defs
public import proofs.«01_k».proof.Proof.Gen.BwdInIdeal.Value
public import proofs.«01_k».proof.Proof.Gen.BwdInIdeal.Skeleton
public import proofs.«01_k».proof.Proof.Gen.BwdInReferenceIdeal.Read
public import Idealize.ShloMosaic.Lib.Pointwise
public import Idealize.ShloMosaic.Lib.Tactic
public import Idealize.ShloMosaic.Lib.Pipeline.ValueKit.Geometry

@[expose] public section

set_option maxRecDepth 16384

noncomputable section

namespace Cert.BwdInIdeal.Sum

open Idealize.ShloMosaic Idealize.ShloMosaic.TcCoe Idealize.ShloMosaic.Tactic
open Cert.BwdInIdeal Cert.BwdInIdeal.Gen Cert.BwdInIdeal.Value Cert.Norm

variable (m : (ℓ : Loc nD τ sig) → Buf (Elt Ideal) ℓ) (c : Dev nD)

abbrev a0 : Vec Ideal S8192x2560 .bf16 := m ((c : Thread nD τ).loc main_arg0)
abbrev a1 : Vec Ideal S1024x2560 .bf16 := m ((c : Thread nD τ).loc main_arg1)
abbrev a2 : Vec Ideal S8192x1024 .f32 := m ((c : Thread nD τ).loc main_arg2)
abbrev a3 : Vec Ideal S8192x1024 .f32 := m ((c : Thread nD τ).loc main_arg3)
abbrev a4 : Vec Ideal S1x1024 .f32 := m ((c : Thread nD τ).loc main_arg4)

/-- The gradient of the normed row `r`. -/
abbrev du (r : Fin 8192) (k : Fin 1024) : EReal := ∑ j, a0 m c (ix2 r j) * a1 m c (ix2 k j)

/-- The gradient of the row. -/
abbrev gx (r : Fin 8192) (k : Fin 1024) : EReal :=
  a3 m c (ix2 r k) + slope (fun j => a2 m c (ix2 r j)) (fun j => a4 m c (ix2 0 j)) (du m c r) k

/-- What row `r` adds to the gradient of the gains. -/
abbrev dg (k : Fin 1024) (r : Fin 8192) : EReal := du m c r k * (a2 m c (ix2 r k) * scale (fun j => a2 m c (ix2 r j)))

/-- Row `r` of block `t`. -/
abbrev at_ (t : Fin 8) (r : Fin 1024) : Fin 8192 := ⟨1024 * t.val + r.val, by omega⟩

section Pays

variable (d w : Vec Ideal S1024x2560 .bf16) (x h : Vec Ideal S1024x1024 .f32) (g : Vec Ideal S1x1024 .f32)

theorem pay2 (r k : Fin 1024) : k0_pay2 d w (ix2 r k) = ∑ j : Fin 2560, d (ix2 r j) * w (ix2 k j) := by
  unfold k0_pay2
  pointwise

theorem pay3 (r : Fin 1024) : k0_pay3 x (ix2 r 0) = scale (fun j => x (ix2 r j)) := by
  unfold k0_pay3
  pointwise

theorem pay4 (r k : Fin 1024) : k0_pay4 x (ix2 r k) = x (ix2 r k) * scale (fun j => x (ix2 r j)) := by
  refine Eq.trans ?_ (congrArg (x (ix2 r k) * ·) (pay3 x r))
  unfold k0_pay4
  generalize k0_pay3 x = y
  pointwise

theorem pay5 (r k : Fin 1024) : k0_pay5 d w x g h (ix2 r k)
    = h (ix2 r k) + slope (fun j => x (ix2 r j)) (fun j => g (ix2 0 j)) (fun j => k0_pay2 d w (ix2 r j)) k := by
  unfold Norm.slope
  simp only [← pay4 x]
  simp only [← pay3 x]
  unfold k0_pay5
  generalize k0_pay2 d w = y
  generalize k0_pay3 x = z
  generalize k0_pay4 x = q
  pointwise

theorem pay6 (k : Fin 1024) : k0_pay6 d w x (ix2 0 k)
    = ∑ r : Fin 1024, k0_pay2 d w (ix2 r k) * (x (ix2 r k) * scale (fun j => x (ix2 r j))) := by
  simp only [← pay4 x]
  unfold k0_pay6
  generalize k0_pay2 d w = y
  generalize k0_pay4 x = q
  pointwise

theorem pay1 (p q : Vec Ideal S1x1024 .f32) (k : Fin 1024) : k0_pay1 p q (ix2 0 k) = q (ix2 0 k) + p (ix2 0 k) := by
  unfold k0_pay1
  pointwise

end Pays

section Reference

variable (x0 : Vec Ideal S8192x2560 .bf16) (x1 : Vec Ideal S1024x2560 .bf16) (x2 x3 : Vec Ideal S8192x1024 .f32) (x4 : Vec Ideal S1x1024 .f32)

open Cert.BwdInReferenceIdeal.Read

/-- The reference's gradient of the normed rows. -/
theorem ref_du (r : Fin 8192) (k : Fin 1024) : val_main_v20 (F := Ideal) x0 x1 (ix2 r k) = ∑ j, x0 (ix2 r j) * x1 (ix2 k j) := by
  unfold val_main_v20 val_main_v19 val_main_v17
  pointwise

theorem ref_scale (r : Fin 8192) : val_main_v8 (F := Ideal) x2 (ix2 r 0) = scale (fun j => x2 (ix2 r j)) := by
  unfold val_main_v8 val_main_v7 val_main_v6 val_main_v5 val_main_v4 val_main_v3 val_main_v2 val_main_v1 val_main_cst val_main_cst_0 val_main_cst_1
  pointwise

theorem ref_mean (r : Fin 8192) : val_main_v7 (F := Ideal) x2 (ix2 r 0) = mean (fun j => x2 (ix2 r j)) := by
  unfold val_main_v7 val_main_v6 val_main_v5 val_main_v4 val_main_v3 val_main_v2 val_main_v1 val_main_cst val_main_cst_0 val_main_cst_1
  pointwise

theorem ref_dn (r : Fin 8192) (k : Fin 1024) :
    val_main_v25 (F := Ideal) x0 x1 x4 (ix2 r k) = val_main_v20 (F := Ideal) x0 x1 (ix2 r k) * x4 (ix2 0 k) := by
  unfold val_main_v25 val_main_v24 val_main_v14 val_main_v0
  generalize val_main_v20 (F := Ideal) x0 x1 = y
  pointwise

theorem ref_share (r : Fin 8192) : val_main_v36 (F := Ideal) x0 x1 x2 x4 (ix1 r)
    = share (fun j => x2 (ix2 r j)) (fun j => x4 (ix2 0 j)) (fun j => val_main_v20 (F := Ideal) x0 x1 (ix2 r j)) := by
  unfold share
  simp only [← ref_dn x0 x1 x4, ← ref_scale x2, ← ref_mean x2]
  unfold val_main_v36 val_main_v35 val_main_v34 val_main_v33 val_main_v29 val_main_v28 val_main_v27 val_main_v11 val_main_v10 val_main_v9
    val_main_cst_2 val_main_cst_5 val_main_cst_6 val_main_cst_7
  generalize val_main_v25 (F := Ideal) x0 x1 x4 = y
  generalize val_main_v8 (F := Ideal) x2 = z
  generalize val_main_v7 (F := Ideal) x2 = q
  pointwise
  exact Fin.sum_univ_one _

theorem ref_gx (r : Fin 8192) (k : Fin 1024) : val_main_v41 (F := Ideal) x0 x1 x2 x3 x4 (ix2 r k)
    = x3 (ix2 r k) + (val_main_v20 (F := Ideal) x0 x1 (ix2 r k) * x4 (ix2 0 k)) * scale (fun j => x2 (ix2 r j))
      + x2 (ix2 r k) * share (fun j => x2 (ix2 r j)) (fun j => x4 (ix2 0 j)) (fun j => val_main_v20 (F := Ideal) x0 x1 (ix2 r j))
      + share (fun j => x2 (ix2 r j)) (fun j => x4 (ix2 0 j)) (fun j => val_main_v20 (F := Ideal) x0 x1 (ix2 r j)) * x2 (ix2 r k) := by
  simp only [← ref_share x0 x1 x2 x4, ← ref_dn x0 x1 x4, ← ref_scale x2]
  unfold val_main_v41 val_main_v40 val_main_v39 val_main_v38 val_main_v37 val_main_v32 val_main_v31 val_main_v30
  generalize val_main_v25 (F := Ideal) x0 x1 x4 = y
  generalize val_main_v8 (F := Ideal) x2 = z
  generalize val_main_v36 (F := Ideal) x0 x1 x2 x4 = q
  pointwise

theorem ref_dg (k : Fin 1024) : val_main_v42 (F := Ideal) x0 x1 x2 (ix2 0 k)
    = ∑ r, val_main_v20 (F := Ideal) x0 x1 (ix2 r k) * (x2 (ix2 r k) * scale (fun j => x2 (ix2 r j))) := by
  simp only [← ref_scale x2]
  unfold val_main_v42 val_main_v26 val_main_v23 val_main_v22 val_main_v21 val_main_v13 val_main_v12 val_main_cst_3 val_main_cst_4
  generalize val_main_v20 (F := Ideal) x0 x1 = y
  generalize val_main_v8 (F := Ideal) x2 = z
  pointwise
  exact (Fin.sum_univ_one _).trans (Finset.sum_congr rfl fun i _ => mul_comm _ _)

end Reference

theorem e0 : ∀ t : Fin cfg0.N, win0_0.index t = ![t.val, 0] := (by decide +kernel : ∀ t : Fin grid0.N, _)
theorem e1 : ∀ t : Fin cfg0.N, win0_1.index t = ![0, 0] := (by decide +kernel : ∀ t : Fin grid0.N, _)
theorem e2 : ∀ t : Fin cfg0.N, win0_2.index t = ![t.val, 0] := (by decide +kernel : ∀ t : Fin grid0.N, _)
theorem e3 : ∀ t : Fin cfg0.N, win0_3.index t = ![t.val, 0] := (by decide +kernel : ∀ t : Fin grid0.N, _)
theorem e4 : ∀ t : Fin cfg0.N, win0_4.index t = ![0, 0] := (by decide +kernel : ∀ t : Fin grid0.N, _)
theorem e5 : ∀ t : Fin cfg0.N, win0_5.index t = ![t.val, 0] := (by decide +kernel : ∀ t : Fin grid0.N, _)
theorem e6 : ∀ t : Fin cfg0.N, win0_6.index t = ![0, 0] := (by decide +kernel : ∀ t : Fin grid0.N, _)

theorem pt_lt (t : Fin 8) : t.val < cfg0.N := by rw [show cfg0.N = 8 from N_0]; omega

theorem blk0 (t : Fin 8) (r : Fin 1024) (j : Fin 2560) : iblk m c 0 ⟨t.val, pt_lt t⟩ (ix2 r j) = a0 m c (ix2 (at_ t r) j) := by
  blk_simp [iblk]
  blk_ext [e0]

theorem blk1 (t : Fin 8) (k : Fin 1024) (j : Fin 2560) : iblk m c 1 ⟨t.val, pt_lt t⟩ (ix2 k j) = a1 m c (ix2 k j) := by
  blk_simp [iblk]
  blk_ext [e1]

theorem blk2 (t : Fin 8) (r k : Fin 1024) : iblk m c 2 ⟨t.val, pt_lt t⟩ (ix2 r k) = a2 m c (ix2 (at_ t r) k) := by
  blk_simp [iblk]
  blk_ext [e2]

theorem blk3 (t : Fin 8) (r k : Fin 1024) : iblk m c 3 ⟨t.val, pt_lt t⟩ (ix2 r k) = a3 m c (ix2 (at_ t r) k) := by
  blk_simp [iblk]
  blk_ext [e3]

theorem blk4 (t : Fin 8) (k : Fin 1024) : iblk m c 4 ⟨t.val, pt_lt t⟩ (ix2 0 k) = a4 m c (ix2 0 k) := by
  blk_simp [iblk]
  blk_ext [e4]

theorem hz2 : (![0, 0] : Fin 2 → Nat) = fun _ => 0 := by
  funext a
  match a with
  | ⟨0, _⟩ => rfl
  | ⟨1, _⟩ => rfl

/-! What a point leaves in its two blocks: the first point starts the gains' gradient, a later one adds to it. -/

theorem left_A_5 (c : Dev nD) (i : grid0.Coords) (arg1 : Memref sig .tc .vmem S1024x2560 .bf16) (harg1 : arg1.IsWhole) (arg2 : Memref sig .tc .vmem S1024x2560 .bf16) (harg2 : arg2.IsWhole)
     (arg3 : Memref sig .tc .vmem S1024x1024 .f32) (harg3 : arg3.IsWhole) (arg4 : Memref sig .tc .vmem S1024x1024 .f32) (harg4 : arg4.IsWhole)
     (arg5 : Memref sig .tc .vmem S1x1024 .f32) (harg5 : arg5.IsWhole) (arg6 : Memref sig .tc .vmem S1024x1024 .f32) (harg6 : arg6.IsWhole)
     (arg7 : Memref sig .tc .vmem S1x1024 .f32) (harg7 : arg7.IsWhole)
    (h0 : cond0_0 i) (h1 : ¬cond0_1 i) (x0 x1 : Vec Ideal S1024x2560 .bf16) (x2 x3 : Vec Ideal S1024x1024 .f32) (x4 : Vec Ideal S1x1024 .f32) :
    out0_A_5 c i arg1 harg1 arg2 harg2 arg3 harg3 arg4 harg4 arg5 harg5 arg6 harg6 arg7 harg7 h0 h1 x0 x1 x2 x3 x4 = k0_pay5 x0 x1 x2 x4 x3 := by
  unfold out0_A_5
  rw [View.read_writes_eq_canon _ _ _ (cover0_A_5 c i arg1 harg1 arg2 harg2 arg3 harg3 arg4 harg4 arg5 harg5 arg6 harg6 arg7 harg7 h0 h1 x0 x1 x2 x3 x4)]
  unfold kernelRun0_A
  dsimp only
  try sl_unfold_words
  rw [View.canon_unit_zero hz2]
  simp only [View.readAt_eq_ld, harg1.read_unread, harg2.read_unread, harg3.read_unread, harg4.read_unread, harg5.read_unread, harg6.read_unread, harg7.read_unread, View.ld_unit_zero (S := S1024x2560) hz2, View.ld_unit_zero (S := S1024x1024) hz2, View.ld_unit_zero (S := S1x1024) hz2]
  try rfl

theorem left_A_6 (c : Dev nD) (i : grid0.Coords) (arg1 : Memref sig .tc .vmem S1024x2560 .bf16) (harg1 : arg1.IsWhole) (arg2 : Memref sig .tc .vmem S1024x2560 .bf16) (harg2 : arg2.IsWhole)
     (arg3 : Memref sig .tc .vmem S1024x1024 .f32) (harg3 : arg3.IsWhole) (arg4 : Memref sig .tc .vmem S1024x1024 .f32) (harg4 : arg4.IsWhole)
     (arg5 : Memref sig .tc .vmem S1x1024 .f32) (harg5 : arg5.IsWhole) (arg6 : Memref sig .tc .vmem S1024x1024 .f32) (harg6 : arg6.IsWhole)
     (arg7 : Memref sig .tc .vmem S1x1024 .f32) (harg7 : arg7.IsWhole)
    (h0 : cond0_0 i) (h1 : ¬cond0_1 i) (x0 x1 : Vec Ideal S1024x2560 .bf16) (x2 x3 : Vec Ideal S1024x1024 .f32) (x4 : Vec Ideal S1x1024 .f32) :
    out0_A_6 c i arg1 harg1 arg2 harg2 arg3 harg3 arg4 harg4 arg5 harg5 arg6 harg6 arg7 harg7 h0 h1 x0 x1 x2 x3 x4 = k0_pay6 x0 x1 x2 := by
  unfold out0_A_6
  rw [View.read_writes_eq_canon _ _ _ (cover0_A_6 c i arg1 harg1 arg2 harg2 arg3 harg3 arg4 harg4 arg5 harg5 arg6 harg6 arg7 harg7 h0 h1 x0 x1 x2 x3 x4)]
  unfold kernelRun0_A
  dsimp only
  try sl_unfold_words
  rw [View.canon_unit_zero hz2]
  simp only [View.readAt_eq_ld, harg1.read_unread, harg2.read_unread, harg3.read_unread, harg4.read_unread, harg5.read_unread, harg6.read_unread, harg7.read_unread, View.ld_unit_zero (S := S1024x2560) hz2, View.ld_unit_zero (S := S1024x1024) hz2, View.ld_unit_zero (S := S1x1024) hz2]
  try rfl

theorem left_B_5 (c : Dev nD) (i : grid0.Coords) (arg1 : Memref sig .tc .vmem S1024x2560 .bf16) (harg1 : arg1.IsWhole) (arg2 : Memref sig .tc .vmem S1024x2560 .bf16) (harg2 : arg2.IsWhole)
     (arg3 : Memref sig .tc .vmem S1024x1024 .f32) (harg3 : arg3.IsWhole) (arg4 : Memref sig .tc .vmem S1024x1024 .f32) (harg4 : arg4.IsWhole)
     (arg5 : Memref sig .tc .vmem S1x1024 .f32) (harg5 : arg5.IsWhole) (arg6 : Memref sig .tc .vmem S1024x1024 .f32) (harg6 : arg6.IsWhole)
     (arg7 : Memref sig .tc .vmem S1x1024 .f32) (harg7 : arg7.IsWhole)
    (h0 : ¬cond0_0 i) (h1 : cond0_1 i) (x0 x1 : Vec Ideal S1024x2560 .bf16) (x2 x3 : Vec Ideal S1024x1024 .f32) (x4 : Vec Ideal S1x1024 .f32) (xo : Vec Ideal S1x1024 .f32) :
    out0_B_5 c i arg1 harg1 arg2 harg2 arg3 harg3 arg4 harg4 arg5 harg5 arg6 harg6 arg7 harg7 h0 h1 x0 x1 x2 x3 x4 xo = k0_pay5 x0 x1 x2 x4 x3 := by
  unfold out0_B_5
  rw [View.read_writes_eq_canon _ _ _ (cover0_B_5 c i arg1 harg1 arg2 harg2 arg3 harg3 arg4 harg4 arg5 harg5 arg6 harg6 arg7 harg7 h0 h1 x0 x1 x2 x3 x4 xo)]
  unfold kernelRun0_B
  dsimp only
  try sl_unfold_words
  rw [View.canon_unit_zero hz2]
  simp only [View.readAt_eq_ld, harg1.read_unread, harg2.read_unread, harg3.read_unread, harg4.read_unread, harg5.read_unread, harg6.read_unread, harg7.read_unread, View.ld_unit_zero (S := S1024x2560) hz2, View.ld_unit_zero (S := S1024x1024) hz2, View.ld_unit_zero (S := S1x1024) hz2]
  try rfl

theorem left_B_6 (c : Dev nD) (i : grid0.Coords) (arg1 : Memref sig .tc .vmem S1024x2560 .bf16) (harg1 : arg1.IsWhole) (arg2 : Memref sig .tc .vmem S1024x2560 .bf16) (harg2 : arg2.IsWhole)
     (arg3 : Memref sig .tc .vmem S1024x1024 .f32) (harg3 : arg3.IsWhole) (arg4 : Memref sig .tc .vmem S1024x1024 .f32) (harg4 : arg4.IsWhole)
     (arg5 : Memref sig .tc .vmem S1x1024 .f32) (harg5 : arg5.IsWhole) (arg6 : Memref sig .tc .vmem S1024x1024 .f32) (harg6 : arg6.IsWhole)
     (arg7 : Memref sig .tc .vmem S1x1024 .f32) (harg7 : arg7.IsWhole)
    (h0 : ¬cond0_0 i) (h1 : cond0_1 i) (x0 x1 : Vec Ideal S1024x2560 .bf16) (x2 x3 : Vec Ideal S1024x1024 .f32) (x4 : Vec Ideal S1x1024 .f32) (xo : Vec Ideal S1x1024 .f32) :
    out0_B_6 c i arg1 harg1 arg2 harg2 arg3 harg3 arg4 harg4 arg5 harg5 arg6 harg6 arg7 harg7 h0 h1 x0 x1 x2 x3 x4 xo = k0_pay1 (k0_pay6 x0 x1 x2) xo := by
  unfold out0_B_6
  rw [View.read_writes_eq_canon _ _ _ (cover0_B_6 c i arg1 harg1 arg2 harg2 arg3 harg3 arg4 harg4 arg5 harg5 arg6 harg6 arg7 harg7 h0 h1 x0 x1 x2 x3 x4 xo)]
  unfold kernelRun0_B
  dsimp only
  try sl_unfold_words
  rw [View.canon_unit_zero hz2]
  simp only [View.readAt_eq_ld, harg1.read_unread, harg2.read_unread, harg3.read_unread, harg4.read_unread, harg5.read_unread, harg6.read_unread, harg7.read_unread, View.ld_unit_zero (S := S1024x2560) hz2, View.ld_unit_zero (S := S1024x1024) hz2, View.ld_unit_zero (S := S1x1024) hz2]
  try rfl

/-- The gradient of the normed rows in a block. -/
theorem du_blk (t : Fin 8) (r k : Fin 1024) :
    k0_pay2 (iblk m c 0 ⟨t.val, pt_lt t⟩) (iblk m c 1 ⟨t.val, pt_lt t⟩) (ix2 r k) = du m c (at_ t r) k :=
  (pay2 _ _ r k).trans (Finset.sum_congr rfl fun j _ => congrArg₂ (· * ·) (blk0 m c t r j) (blk1 m c t k j))

theorem gx_blk (t : Fin 8) (r k : Fin 1024) :
    k0_pay5 (iblk m c 0 ⟨t.val, pt_lt t⟩) (iblk m c 1 ⟨t.val, pt_lt t⟩) (iblk m c 2 ⟨t.val, pt_lt t⟩) (iblk m c 4 ⟨t.val, pt_lt t⟩)
      (iblk m c 3 ⟨t.val, pt_lt t⟩) (ix2 r k) = gx m c (at_ t r) k := by
  refine (pay5 _ _ _ _ _ r k).trans (congrArg₂ (· + ·) (blk3 m c t r k) ?_)
  have ev := funext fun j => blk2 m c t r j
  have eg := funext fun j => blk4 m c t j
  have ed := funext fun j => du_blk m c t r j
  rw [ev, eg, ed]

/-- The rows' terms, by their number. -/
def term (k : Fin 1024) (i : ℕ) : EReal := if h : i < 8192 then dg m c k ⟨i, h⟩ else 0

theorem dg_blk (t : Fin 8) (k : Fin 1024) :
    k0_pay6 (iblk m c 0 ⟨t.val, pt_lt t⟩) (iblk m c 1 ⟨t.val, pt_lt t⟩) (iblk m c 2 ⟨t.val, pt_lt t⟩) (ix2 0 k)
      = ∑ r : Fin 1024, term m c k (1024 * t.val + r.val) := by
  refine (pay6 _ _ _ k).trans (Finset.sum_congr rfl fun r _ => ?_)
  refine Eq.trans ?_ (dif_pos (show 1024 * t.val + r.val < 8192 by omega)).symm
  have ev := funext fun j => blk2 m c t r j
  rw [ev]
  exact congrArg₂ (· * ·) (du_blk m c t r k) (congrArg (· * _) (blk2 m c t r k))

/-- What the first point leaves. -/
theorem outs_first (t : Fin 8) (h : t.val = 0) : outsAt0 m c t.val (pt_lt t)
    = (k0_pay5 (iblk m c 0 ⟨t.val, pt_lt t⟩) (iblk m c 1 ⟨t.val, pt_lt t⟩) (iblk m c 2 ⟨t.val, pt_lt t⟩) (iblk m c 4 ⟨t.val, pt_lt t⟩) (iblk m c 3 ⟨t.val, pt_lt t⟩),
      k0_pay6 (iblk m c 0 ⟨t.val, pt_lt t⟩) (iblk m c 1 ⟨t.val, pt_lt t⟩) (iblk m c 2 ⟨t.val, pt_lt t⟩)) :=
  (outsAt0_A m c ⟨t.val, pt_lt t⟩ (by dsimp only; omega) (by dsimp only; omega)).trans (congrArg₂ Prod.mk (left_A_5 ..) (left_A_6 ..))

/-- What a later point leaves. -/
theorem outs_later (t : Fin 8) (h : t.val ≠ 0) : outsAt0 m c t.val (pt_lt t)
    = (k0_pay5 (iblk m c 0 ⟨t.val, pt_lt t⟩) (iblk m c 1 ⟨t.val, pt_lt t⟩) (iblk m c 2 ⟨t.val, pt_lt t⟩) (iblk m c 4 ⟨t.val, pt_lt t⟩) (iblk m c 3 ⟨t.val, pt_lt t⟩),
      k0_pay1 (k0_pay6 (iblk m c 0 ⟨t.val, pt_lt t⟩) (iblk m c 1 ⟨t.val, pt_lt t⟩) (iblk m c 2 ⟨t.val, pt_lt t⟩))
        (outsAt0 m c (t.val - 1) (Nat.lt_of_le_of_lt (Nat.sub_le _ _) (pt_lt t))).2) :=
  (outsAt0_B m c ⟨t.val, pt_lt t⟩ (by dsimp only; omega) (by dsimp only; omega)).trans (congrArg₂ Prod.mk (left_B_5 ..) (left_B_6 ..))

/-- The residual stream's gradient after point `t`. -/
theorem out5 (t : Fin 8) (r k : Fin 1024) : (outsAt0 m c t.val (pt_lt t)).1 (ix2 r k) = gx m c (at_ t r) k := by
  by_cases h : t.val = 0
  · rw [outs_first m c t h]
    exact gx_blk m c t r k
  · rw [outs_later m c t h]
    exact gx_blk m c t r k

/-- The gains' gradient after point `n`: the sum of the blocks so far. -/
theorem out6 (k : Fin 1024) : ∀ (n : ℕ) (hn : n < 8),
    (outsAt0 m c n (pt_lt ⟨n, hn⟩)).2 (ix2 0 k) = ∑ b ∈ Finset.range (n + 1), ∑ r : Fin 1024, term m c k (1024 * b + r.val)
  | 0, hn => by
    have e := congrArg Prod.snd (outs_first m c ⟨0, hn⟩ rfl)
    refine (congrFun e (ix2 0 k)).trans ((dg_blk m c ⟨0, hn⟩ k).trans ?_)
    exact (Finset.sum_range_one (fun b => ∑ r : Fin 1024, term m c k (1024 * b + r.val))).symm
  | n + 1, hn => by
    have e := congrArg Prod.snd (outs_later m c ⟨n + 1, hn⟩ (Nat.succ_ne_zero n))
    refine (congrFun e (ix2 0 k)).trans ((pay1 _ _ k).trans ?_)
    rw [Finset.sum_range_succ (fun b => ∑ r : Fin 1024, term m c k (1024 * b + r.val)) (n + 1)]
    exact congrArg₂ (· + ·) (out6 k n (by omega)) (dg_blk m c ⟨n + 1, hn⟩ k)

/-- The eight blocks' sums are the sum over all rows. -/
theorem sum_eight (f : ℕ → EReal) : ∑ b ∈ Finset.range 8, ∑ r : Fin 1024, f (1024 * b + r.val) = ∑ i : Fin 8192, f i.val := by
  rw [Finset.sum_range, ← Fintype.sum_prod_type' (fun (b : Fin 8) (r : Fin 1024) => f (1024 * b.val + r.val))]
  exact Fintype.sum_equiv (finProdFinEquiv (m := 8) (n := 1024)) _ (fun i : Fin (8 * 1024) => f i.val)
    fun p => congrArg f (by show 1024 * p.1.val + p.2.val = p.2.val + 1024 * p.1.val; omega)

theorem last (k : Fin 1024) : (outsAt0 m c 7 (pt_lt 7)).2 (ix2 0 k) = ∑ r, dg m c k r :=
  (out6 m c k 7 (by omega)).trans ((sum_eight _).trans (Finset.sum_congr rfl fun i _ => dif_pos i.isLt))

/-- Every element of the arguments that the norm's gradient reads is a real. -/
structure Finite : Prop where
  d : ∀ r j, ∃ x : ℝ, a0 m c (ix2 r j) = (x : EReal)
  w : ∀ k j, ∃ x : ℝ, a1 m c (ix2 k j) = (x : EReal)
  v : ∀ r k, ∃ x : ℝ, a2 m c (ix2 r k) = (x : EReal)
  g : ∀ k, ∃ x : ℝ, a4 m c (ix2 0 k) = (x : EReal)

variable {m c} in
theorem Finite.du (h : Finite m c) (r : Fin 8192) (k : Fin 1024) : ∃ x : ℝ, du m c r k = (x : EReal) := by
  choose d hd using h.d r
  choose w hw using h.w k
  refine ⟨∑ j, d j * w j, (Finset.sum_congr rfl fun j _ => ?_).trans (coe_sum fun j => d j * w j)⟩
  rw [hd, hw, EReal.coe_mul]

/-- The reference's two arrays. -/
abbrev R0 : Vec Ideal S8192x1024 .f32 := Cert.BwdInReferenceIdeal.Read.val_main_v41 (F := Ideal) (a0 m c) (a1 m c) (a2 m c) (a3 m c) (a4 m c)
abbrev R1 : Vec Ideal S1x1024 .f32 := Cert.BwdInReferenceIdeal.Read.val_main_v42 (F := Ideal) (a0 m c) (a1 m c) (a2 m c)

variable {m c} in
theorem R0_apply (hF : Finite m c) (r : Fin 8192) (k : Fin 1024) : R0 m c (ix2 r k) = gx m c r k := by
  refine (ref_gx _ _ _ _ _ r k).trans ?_
  have ed : (fun j => Cert.BwdInReferenceIdeal.Read.val_main_v20 (F := Ideal) (a0 m c) (a1 m c) (ix2 r j)) = du m c r :=
    funext fun j => ref_du _ _ r j
  rw [ed, ref_du]
  exact slope_fin (fun j => a2 m c (ix2 r j)) (fun j => a4 m c (ix2 0 j)) (du m c r) _ k (hF.v r) hF.g (hF.du r)

theorem R1_apply (k : Fin 1024) : R1 m c (ix2 0 k) = ∑ r, dg m c k r := by
  refine (ref_dg _ _ _ k).trans (Finset.sum_congr rfl fun r _ => ?_)
  rw [ref_du]

variable {m c} in
theorem final5 (hF : Finite m c) : (dats m 0 c).arrAt 5 cfg0.N = R0 m c := by
  refine (dats m 0 c).arrAt_eq_of_covers 5 _ (by decide +kernel) fun t hf y => ?_
  have hN : t.val < 8 := lt_of_lt_of_eq t.isLt (show cfg0.N = 8 from N_0)
  obtain ⟨s, rfl⟩ : ∃ s : Fin 8, t = ⟨s.val, pt_lt s⟩ := ⟨⟨t.val, hN⟩, rfl⟩
  blk_simp
  rw [after0_5]
  obtain ⟨r, k, rfl⟩ : ∃ (r k : Fin 1024), y = ix2 r k := ⟨_, _, eq_ix2 y⟩
  refine (out5 m c s r k).trans ((R0_apply hF (at_ s r) k).symm.trans (congrArg (R0 m c) ?_))
  blk_ext [e5]

theorem final6 : (dats m 0 c).arrAt 6 cfg0.N = R1 m c := by
  refine (dats m 0 c).arrAt_eq_of_covers 6 _ (by decide +kernel) fun t hf y => ?_
  have ht : t.val % 8 = 7 := (flush0_6 t).mp hf
  have hN : t.val < 8 := lt_of_lt_of_eq t.isLt (show cfg0.N = 8 from N_0)
  have hs : t = ⟨7, pt_lt 7⟩ := Fin.ext (by dsimp only; omega)
  blk_simp
  rw [after0_6]
  obtain ⟨z, k, rfl⟩ : ∃ (z : Fin 1) (k : Fin 1024), y = ix2 z k := ⟨_, _, eq_ix2 y⟩
  obtain rfl : z = 0 := Subsingleton.elim _ _
  have hl : (outsAt0 m c t.val t.isLt).2 (ix2 0 k) = ∑ r, dg m c k r := by
    subst hs
    exact last m c k
  refine hl.trans ((R1_apply m c k).symm.trans (congrArg (R1 m c) ?_))
  blk_ext [e6]

instance preFacts : Cert.Pre_finite_bwd_in.Facts where
  bitsLt_bf16_f32 := by decide
  bcast_S_S8192x2560 := by decide
  bcast_S_S1024x2560 := by decide
  bcast_S_S8192x1024 := by decide
  bcast_S_S1x1024 := by decide

theorem word_inf : Ideal.ofBits .f32 0x7F800000#32 = (⊤ : EReal) := by simp [Ideal.ofBits, Ideal.ieee]

/-- An extended real whose absolute value is below infinity is a real. -/
theorem real_of_lt (x : EReal) (h : BitVec.ofBool (decide (FloatOps.absf (F := Ideal) (φ := .f32) x < Ideal.ofBits .f32 0x7F800000#32)) = 1#1) :
    ∃ r : ℝ, x = (r : EReal) := by
  rw [word_inf] at h
  have h' : FloatOps.absf (F := Ideal) (φ := .f32) x < (⊤ : EReal) := by
    by_contra k
    rw [decide_eq_false k] at h
    exact absurd h (by decide)
  change max x (-x) < ⊤ at h'
  induction x using EReal.rec with
  | bot => simp at h'
  | coe r => exact ⟨r, rfl⟩
  | top => simp at h'

variable {m} in
/-- Under the precondition these arguments are finite. -/
theorem finite_of (c : Dev nD) (h : Cert.Pre_BwdInIdeal_finite_bwd_in m) : Finite m c := by
  obtain ⟨h0, h1, h2, h3⟩ := h c
  unfold Cert.Pre_finite_bwd_in.fn at h0 h1 h2 h3
  dsimp only at h0 h1 h2 h3
  constructor
  · intro i k
    have e := congrFun h0 (ix2 i k)
    clear h0 h1 h2 h3
    pointwise at e
    exact real_of_lt _ e
  · intro i k
    have e := congrFun h1 (ix2 i k)
    clear h0 h1 h2 h3
    pointwise at e
    exact real_of_lt _ e
  · intro i k
    have e := congrFun h2 (ix2 i k)
    clear h0 h1 h2 h3
    pointwise at e
    exact real_of_lt _ e
  · intro k
    have e := congrFun h3 (ix2 0 k)
    clear h0 h1 h2 h3
    pointwise at e
    exact real_of_lt _ e

/-- The run, with the reference's arrays in the call's results. -/
theorem run (hF : ∀ c, Finite m c) (ρ : Dev nD → PrngReg) :
    θ_run defs (onTc (τ := τ) (main (F := Ideal))) ⟨m, fun _ => 0, ρ⟩ fun r => ∀ c : Dev nD,
      r.2.mem ((c : Thread nD τ).loc main_v0_0) = R0 m c
      ∧ r.2.mem ((c : Thread nD τ).loc main_v0_1) = R1 m c
      ∧ r.2.mem ((c : Thread nD τ).loc main_arg0) = a0 m c
      ∧ r.2.mem ((c : Thread nD τ).loc main_arg1) = a1 m c
      ∧ r.2.mem ((c : Thread nD τ).loc main_arg2) = a2 m c
      ∧ r.2.mem ((c : Thread nD τ).loc main_arg3) = a3 m c
      ∧ r.2.mem ((c : Thread nD τ).loc main_arg4) = a4 m c :=
  (θ_run defs _ _).mono (fun r h c => ⟨(h c).1.trans (final5 (hF c)), (h c).2.1.trans (final6 m c), (h c).2.2⟩)
    (run_blocks m ρ)

end Cert.BwdInIdeal.Sum

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal.Run
public import proofs.«01_k».proof.Proof.Gen.ReferenceIdeal.Read
public import proofs.«01_k».proof.Proof.Gen.ReferenceIdeal
public import proofs.«01_k».proof.Proof.Gen.Reference
public import proofs.«01_k».proof.Proof.KernelFrame
public import proofs.«01_k».proof.Proof.Value
public import proofs.«01_k».proof.Proof.Gen.Up
public import proofs.«01_k».proof.Proof.Gen.Up.Frame
public import proofs.«01_k».proof.Proof.Gen.UpIdeal
public import proofs.«01_k».proof.Proof.Gen.UpIdeal.Frame
public import proofs.«01_k».proof.Proof.Gen.UpIdeal.Value
public import proofs.«01_k».proof.Proof.Gen.UpReferenceIdeal
public import proofs.«01_k».proof.Proof.Gen.UpReferenceIdeal.Run
public import proofs.«01_k».proof.Proof.Gen.UpReferenceIdeal.Read
public import proofs.«01_k».proof.Proof.Up
public import proofs.«01_k».proof.Proof.Gen.Down
public import proofs.«01_k».proof.Proof.Gen.Down.Frame
public import proofs.«01_k».proof.Proof.Gen.DownIdeal
public import proofs.«01_k».proof.Proof.Gen.DownIdeal.Frame
public import proofs.«01_k».proof.Proof.Gen.DownIdeal.Value
public import proofs.«01_k».proof.Proof.Gen.DownReferenceIdeal
public import proofs.«01_k».proof.Proof.Gen.DownReferenceIdeal.Run
public import proofs.«01_k».proof.Proof.Gen.DownReferenceIdeal.Read
public import proofs.«01_k».proof.Proof.Down
public import proofs.«01_k».proof.Proof.Gen.In
public import proofs.«01_k».proof.Proof.Gen.In.Frame
public import proofs.«01_k».proof.Proof.Gen.InIdeal
public import proofs.«01_k».proof.Proof.Gen.InIdeal.Frame
public import proofs.«01_k».proof.Proof.Gen.InIdeal.Value
public import proofs.«01_k».proof.Proof.Gen.InReferenceIdeal
public import proofs.«01_k».proof.Proof.Gen.InReferenceIdeal.Run
public import proofs.«01_k».proof.Proof.Gen.InReferenceIdeal.Read
public import proofs.«01_k».proof.Proof.In
public import proofs.«01_k».proof.Proof.Gen.Out
public import proofs.«01_k».proof.Proof.Gen.Out.Frame
public import proofs.«01_k».proof.Proof.Gen.OutIdeal
public import proofs.«01_k».proof.Proof.Gen.OutIdeal.Frame
public import proofs.«01_k».proof.Proof.Gen.OutIdeal.Value
public import proofs.«01_k».proof.Proof.Gen.OutReferenceIdeal
public import proofs.«01_k».proof.Proof.Gen.OutReferenceIdeal.Run
public import proofs.«01_k».proof.Proof.Gen.OutReferenceIdeal.Read
public import proofs.«01_k».proof.Proof.Out
public import proofs.«01_k».proof.Proof.Gen.FwdIn
public import proofs.«01_k».proof.Proof.Gen.FwdIn.Frame
public import proofs.«01_k».proof.Proof.Gen.FwdInIdeal
public import proofs.«01_k».proof.Proof.Gen.FwdInIdeal.Frame
public import proofs.«01_k».proof.Proof.Gen.FwdInIdeal.Skeleton
public import proofs.«01_k».proof.Proof.Gen.FwdInIdeal.Value
public import proofs.«01_k».proof.Proof.Gen.FwdInReferenceIdeal
public import proofs.«01_k».proof.Proof.Gen.FwdInReferenceIdeal.Run
public import proofs.«01_k».proof.Proof.Gen.FwdInReferenceIdeal.Read
public import proofs.«01_k».proof.Proof.FwdIn
public import proofs.«01_k».proof.Proof.Gen.FwdOut
public import proofs.«01_k».proof.Proof.Gen.FwdOut.Frame
public import proofs.«01_k».proof.Proof.Gen.FwdOutIdeal
public import proofs.«01_k».proof.Proof.Gen.FwdOutIdeal.Frame
public import proofs.«01_k».proof.Proof.Gen.FwdOutIdeal.Skeleton
public import proofs.«01_k».proof.Proof.Gen.FwdOutIdeal.Value
public import proofs.«01_k».proof.Proof.Gen.FwdOutReferenceIdeal
public import proofs.«01_k».proof.Proof.Gen.FwdOutReferenceIdeal.Run
public import proofs.«01_k».proof.Proof.Gen.FwdOutReferenceIdeal.Read
public import proofs.«01_k».proof.Proof.FwdOut
public import proofs.«01_k».proof.Proof.Gen.BwdIn
public import proofs.«01_k».proof.Proof.Gen.BwdIn.Frame
public import proofs.«01_k».proof.Proof.Gen.BwdInIdeal
public import proofs.«01_k».proof.Proof.Gen.BwdInIdeal.Frame
public import proofs.«01_k».proof.Proof.Gen.BwdInIdeal.Skeleton
public import proofs.«01_k».proof.Proof.Gen.BwdInIdeal.Value
public import proofs.«01_k».proof.Proof.Gen.BwdInReferenceIdeal
public import proofs.«01_k».proof.Proof.Gen.BwdInReferenceIdeal.Run
public import proofs.«01_k».proof.Proof.Gen.BwdInReferenceIdeal.Read
public import proofs.«01_k».proof.Proof.BwdIn
public import Idealize.ShloMosaic.Adequacy
public import Idealize.ShloMosaic.Init

@[expose] public section

noncomputable section

namespace Cert.Proof

open Idealize.ShloMosaic Idealize.SL.Sem Cert.Kernel

/-- The reference ends with its arguments unchanged; it declares no semaphore. -/
theorem frame_reference : Cert.quiescent_Reference := by
  intro m g _
  hlo_run
  · exact fun _ => ⟨trivial, trivial, trivial, trivial, trivial, trivial⟩
  · exact sem_eq_zero_of_no_sems (sig := Cert.Reference.sig) (by decide) _

/-- The same at the ideal numbers, where the reference's run is at hand. -/
theorem frame_reference_ideal : Cert.quiescent_ReferenceIdeal := by
  intro m g _
  exact (θ_run _ _ _).mono (fun r h => ⟨fun c => (h c).2.2.2.2, sem_eq_zero_of_no_sems (by decide) r.2⟩) (Cert.ReferenceIdeal.Value.run m g)

theorem frame_reference_ideal_finite : Cert.quiescent_ReferenceIdeal_pre_finite := by
  intro m g _
  exact (θ_run _ _ _).mono (fun r h => ⟨fun c => (h c).2.2.2.2, sem_eq_zero_of_no_sems (by decide) r.2⟩) (Cert.ReferenceIdeal.Value.run m g)

theorem congr6 {X0 X1 X2 X3 X4 X5 Y : Type} (f : X0 → X1 → X2 → X3 → X4 → X5 → Y) {x0 y0 : X0} {x1 y1 : X1} {x2 y2 : X2} {x3 y3 : X3}
    {x4 y4 : X4} {x5 y5 : X5} (e0 : x0 = y0) (e1 : x1 = y1) (e2 : x2 = y2) (e3 : x3 = y3) (e4 : x4 = y4) (e5 : x5 = y5) :
    f x0 x1 x2 x3 x4 x5 = f y0 y1 y2 y3 y4 y5 := by
  subst e0 e1 e2 e3 e4 e5
  rfl

/-- On finite arguments the kernel and the reference return the same four arrays. -/
theorem value : Cert.algebraic_KernelIdeal_ReferenceIdeal_pre_finite := by
  intro m g m' g' hpre hagree
  refine ⟨fun c => Cert.KernelIdeal.Body.G6 m c, fun c => Cert.KernelIdeal.Body.G7 m c, fun c => Cert.KernelIdeal.Body.G8 m c 0,
    fun c => Cert.KernelIdeal.Body.G8 m c 1, Cert.KernelIdeal.Body.value_run m g, ?_⟩
  refine (θ_run _ _ _).mono (fun r h c => ?_) (Cert.ReferenceIdeal.Value.run m' g')
  have hf := Cert.KernelIdeal.Body.finite_of c hpre
  obtain ⟨e0, e1, e2, e3, e4, e5⟩ := hagree c
  obtain ⟨r0, r1, r2, r3, hargs⟩ := h c
  refine ⟨?_, ?_, ?_, ?_, hargs⟩
  · exact r0.trans ((Cert.ReferenceIdeal.Read.val_main_v116_eq (StableHlo.launchContents m' c)).trans
      ((congr6 (Cert.ReferenceIdeal.Read.val_main_v116 (F := Ideal)) e0 e1 e2 e3 e4 e5).trans (Cert.KernelIdeal.Body.ref_du c hf)))
  · exact r1.trans ((Cert.ReferenceIdeal.Read.val_main_v122_eq (StableHlo.launchContents m' c)).trans
      ((congr6 (Cert.ReferenceIdeal.Read.val_main_v122 (F := Ideal)) e0 e1 e2 e3 e4 e5).trans (Cert.KernelIdeal.Body.ref_dh c hf)))
  · exact r2.trans ((Cert.ReferenceIdeal.Read.val_main_v124_eq (StableHlo.launchContents m' c)).trans
      ((congr6 (Cert.ReferenceIdeal.Read.val_main_v124 (F := Ideal)) e0 e1 e2 e3 e4 e5).trans (Cert.KernelIdeal.Body.ref_first c hf)))
  · exact r3.trans ((Cert.ReferenceIdeal.Read.val_main_v126_eq (StableHlo.launchContents m' c)).trans
      ((congr6 (Cert.ReferenceIdeal.Read.val_main_v126 (F := Ideal)) e0 e1 e2 e3 e4 e5).trans (Cert.KernelIdeal.Body.ref_second c hf)))

theorem congr2 {X0 X1 Y : Type} (f : X0 → X1 → Y) {x0 y0 : X0} {x1 y1 : X1} (e0 : x0 = y0) (e1 : x1 = y1) : f x0 x1 = f y0 y1 := by
  subst e0 e1
  rfl

theorem congr3 {X0 X1 X2 Y : Type} (f : X0 → X1 → X2 → Y) {x0 y0 : X0} {x1 y1 : X1} {x2 y2 : X2} (e0 : x0 = y0) (e1 : x1 = y1)
    (e2 : x2 = y2) : f x0 x1 x2 = f y0 y1 y2 := by
  subst e0 e1 e2
  rfl

theorem frame_reference_up : Cert.quiescent_UpReferenceIdeal := by
  intro m g _
  exact (θ_run _ _ _).mono (fun r h => ⟨fun c => (h c).2, sem_eq_zero_of_no_sems (by decide) r.2⟩) (Cert.UpReferenceIdeal.Value.run m g)

/-- The call wgrad_up returns the reference's array. -/
theorem value_up : Cert.algebraic_UpIdeal_UpReferenceIdeal := by
  intro m g m' g' _ hagree
  refine ⟨fun c => Cert.UpIdeal.Value.G2 m c, Cert.UpIdeal.Value.run m g, ?_⟩
  refine (θ_run _ _ _).mono (fun r h c => ?_) (Cert.UpReferenceIdeal.Value.run m' g')
  obtain ⟨e0, e1⟩ := hagree c
  obtain ⟨r0, hargs⟩ := h c
  exact ⟨r0.trans ((Cert.UpReferenceIdeal.Read.val_main_v14_eq _ _).trans ((congr2 (Cert.UpReferenceIdeal.Read.val_main_v14 (F := Ideal)) e0 e1).trans (Cert.UpIdeal.Sum.agrees m c))), hargs⟩

theorem frame_reference_down : Cert.quiescent_DownReferenceIdeal := by
  intro m g _
  exact (θ_run _ _ _).mono (fun r h => ⟨fun c => (h c).2, sem_eq_zero_of_no_sems (by decide) r.2⟩) (Cert.DownReferenceIdeal.Value.run m g)

/-- The call wgrad_down returns the reference's array. -/
theorem value_down : Cert.algebraic_DownIdeal_DownReferenceIdeal := by
  intro m g m' g' _ hagree
  refine ⟨fun c => Cert.DownIdeal.Value.G2 m c, Cert.DownIdeal.Value.run m g, ?_⟩
  refine (θ_run _ _ _).mono (fun r h c => ?_) (Cert.DownReferenceIdeal.Value.run m' g')
  obtain ⟨e0, e1⟩ := hagree c
  obtain ⟨r0, hargs⟩ := h c
  exact ⟨r0.trans ((Cert.DownReferenceIdeal.Read.val_main_v5_eq _ _).trans ((congr2 (Cert.DownReferenceIdeal.Read.val_main_v5 (F := Ideal)) e0 e1).trans (Cert.DownIdeal.Sum.agrees m c))), hargs⟩

theorem frame_reference_in : Cert.quiescent_InReferenceIdeal := by
  intro m g _
  exact (θ_run _ _ _).mono (fun r h => ⟨fun c => (h c).2, sem_eq_zero_of_no_sems (by decide) r.2⟩) (Cert.InReferenceIdeal.Value.run m g)

/-- The call wgrad_in returns the reference's array. -/
theorem value_in : Cert.algebraic_InIdeal_InReferenceIdeal := by
  intro m g m' g' _ hagree
  refine ⟨fun c => Cert.InIdeal.Value.G2 m c, Cert.InIdeal.Value.run m g, ?_⟩
  refine (θ_run _ _ _).mono (fun r h c => ?_) (Cert.InReferenceIdeal.Value.run m' g')
  obtain ⟨e0, e1⟩ := hagree c
  obtain ⟨r0, hargs⟩ := h c
  exact ⟨r0.trans ((Cert.InReferenceIdeal.Read.val_main_v8_eq _ _).trans ((congr2 (Cert.InReferenceIdeal.Read.val_main_v8 (F := Ideal)) e0 e1).trans (Cert.InIdeal.Sum.agrees m c))), hargs⟩

theorem frame_reference_out : Cert.quiescent_OutReferenceIdeal := by
  intro m g _
  exact (θ_run _ _ _).mono (fun r h => ⟨fun c => (h c).2, sem_eq_zero_of_no_sems (by decide) r.2⟩) (Cert.OutReferenceIdeal.Value.run m g)

/-- The call wgrad_out returns the reference's array. -/
theorem value_out : Cert.algebraic_OutIdeal_OutReferenceIdeal := by
  intro m g m' g' _ hagree
  refine ⟨fun c => Cert.OutIdeal.Sum.R m c, Cert.OutIdeal.Sum.run m g, ?_⟩
  refine (θ_run _ _ _).mono (fun r h c => ?_) (Cert.OutReferenceIdeal.Value.run m' g')
  obtain ⟨e0, e1, e2⟩ := hagree c
  obtain ⟨r0, hargs⟩ := h c
  exact ⟨r0.trans ((Cert.OutReferenceIdeal.Read.val_main_v7_eq _ _ _).trans ((congr3 (Cert.OutReferenceIdeal.Read.val_main_v7 (F := Ideal)) e0 e1 e2))), hargs⟩

theorem congr5 {X0 X1 X2 X3 X4 Y : Type} (f : X0 → X1 → X2 → X3 → X4 → Y) {x0 y0 : X0} {x1 y1 : X1} {x2 y2 : X2} {x3 y3 : X3}
    {x4 y4 : X4} (e0 : x0 = y0) (e1 : x1 = y1) (e2 : x2 = y2) (e3 : x3 = y3) (e4 : x4 = y4) :
    f x0 x1 x2 x3 x4 = f y0 y1 y2 y3 y4 := by
  subst e0 e1 e2 e3 e4
  rfl

theorem frame_reference_fwd_in : Cert.quiescent_FwdInReferenceIdeal := by
  intro m g _
  exact (θ_run _ _ _).mono (fun r h => ⟨fun c => (h c).2.2.2, sem_eq_zero_of_no_sems (by decide) r.2⟩) (Cert.FwdInReferenceIdeal.Value.run m g)

/-- The call fwd_in_proj returns the reference's three arrays. -/
theorem value_fwd_in : Cert.algebraic_FwdInIdeal_FwdInReferenceIdeal := by
  intro m g m' g' _ hagree
  refine ⟨fun c => Cert.FwdInIdeal.Sum.R0 m c, fun c => Cert.FwdInIdeal.Sum.R1 m c, fun c => Cert.FwdInIdeal.Sum.R2 m c, Cert.FwdInIdeal.Sum.run m g, ?_⟩
  refine (θ_run _ _ _).mono (fun r h c => ?_) (Cert.FwdInReferenceIdeal.Value.run m' g')
  obtain ⟨e0, e1, e2⟩ := hagree c
  obtain ⟨r0, r1, r2, hargs⟩ := h c
  refine ⟨?_, ?_, ?_, hargs⟩
  · exact r0.trans ((Cert.FwdInReferenceIdeal.Read.val_main_v16_eq _ _).trans (congr2 (Cert.FwdInReferenceIdeal.Read.val_main_v16 (F := Ideal)) e0 e1))
  · exact r1.trans ((Cert.FwdInReferenceIdeal.Read.val_main_v17_eq _ _ _).trans (congr3 (Cert.FwdInReferenceIdeal.Read.val_main_v17 (F := Ideal)) e0 e1 e2))
  · exact r2.trans ((Cert.FwdInReferenceIdeal.Read.val_main_v19_eq _ _ _).trans (congr3 (Cert.FwdInReferenceIdeal.Read.val_main_v19 (F := Ideal)) e0 e1 e2))

theorem frame_reference_fwd_out : Cert.quiescent_FwdOutReferenceIdeal := by
  intro m g _
  exact (θ_run _ _ _).mono (fun r h => ⟨fun c => (h c).2.2.2, sem_eq_zero_of_no_sems (by decide) r.2⟩) (Cert.FwdOutReferenceIdeal.Value.run m g)

/-- The call fwd_out_proj returns the reference's three arrays. -/
theorem value_fwd_out : Cert.algebraic_FwdOutIdeal_FwdOutReferenceIdeal := by
  intro m g m' g' _ hagree
  refine ⟨fun c => Cert.FwdOutIdeal.Sum.R0 m c, fun c => Cert.FwdOutIdeal.Sum.R1 m c, fun c => Cert.FwdOutIdeal.Sum.R2 m c, Cert.FwdOutIdeal.Sum.run m g, ?_⟩
  refine (θ_run _ _ _).mono (fun r h c => ?_) (Cert.FwdOutReferenceIdeal.Value.run m' g')
  obtain ⟨e0, e1, e2, e3, e4, e5⟩ := hagree c
  obtain ⟨r0, r1, r2, hargs⟩ := h c
  refine ⟨?_, ?_, ?_, hargs⟩
  · exact r0.trans ((Cert.FwdOutReferenceIdeal.Read.val_main_v20_eq _ _ _).trans (congr3 (Cert.FwdOutReferenceIdeal.Read.val_main_v20 (F := Ideal)) e0 e1 e2))
  · exact r1.trans ((Cert.FwdOutReferenceIdeal.Read.val_main_v19_eq _ _ _ _ _).trans (congr5 (Cert.FwdOutReferenceIdeal.Read.val_main_v19 (F := Ideal)) e0 e1 e2 e3 e4))
  · exact r2.trans ((Cert.FwdOutReferenceIdeal.Read.val_main_v35_eq _ _).trans (congr6 (Cert.FwdOutReferenceIdeal.Read.val_main_v35 (F := Ideal)) e0 e1 e2 e3 e4 e5))

theorem frame_reference_bwd_in : Cert.quiescent_BwdInReferenceIdeal := by
  intro m g _
  exact (θ_run _ _ _).mono (fun r h => ⟨fun c => (h c).2.2, sem_eq_zero_of_no_sems (by decide) r.2⟩) (Cert.BwdInReferenceIdeal.Value.run m g)

theorem frame_reference_bwd_in_finite : Cert.quiescent_BwdInReferenceIdeal_pre_finite_bwd_in (hPre_finite_bwd_in := Cert.BwdInIdeal.Sum.preFacts) := by
  intro m g _
  exact (θ_run _ _ _).mono (fun r h => ⟨fun c => (h c).2.2, sem_eq_zero_of_no_sems (by decide) r.2⟩) (Cert.BwdInReferenceIdeal.Value.run m g)

/-- The call bwd_in_proj returns the reference's two arrays. -/
theorem value_bwd_in : Cert.algebraic_BwdInIdeal_BwdInReferenceIdeal_pre_finite_bwd_in (hPre_finite_bwd_in := Cert.BwdInIdeal.Sum.preFacts) := by
  intro m g m' g' hf hagree
  refine ⟨fun c => Cert.BwdInIdeal.Sum.R0 m c, fun c => Cert.BwdInIdeal.Sum.R1 m c, Cert.BwdInIdeal.Sum.run m (fun c => Cert.BwdInIdeal.Sum.finite_of c hf) g, ?_⟩
  refine (θ_run _ _ _).mono (fun r h c => ?_) (Cert.BwdInReferenceIdeal.Value.run m' g')
  obtain ⟨e0, e1, e2, e3, e4⟩ := hagree c
  obtain ⟨r0, r1, hargs⟩ := h c
  refine ⟨?_, ?_, hargs⟩
  · exact r0.trans ((Cert.BwdInReferenceIdeal.Read.val_main_v41_eq m' c).trans (congr5 (Cert.BwdInReferenceIdeal.Read.val_main_v41 (F := Ideal)) e0 e1 e2 e3 e4))
  · exact r1.trans ((Cert.BwdInReferenceIdeal.Read.val_main_v42_eq _ _ _).trans (congr3 (Cert.BwdInReferenceIdeal.Read.val_main_v42 (F := Ideal)) e0 e1 e2))

theorem claim : Cert.Claim :=
  ⟨Cert.Kernel.Gen.facts, Cert.KernelIdeal.Gen.facts, Cert.ReferenceIdeal.Gen.facts, Cert.Reference.Gen.facts,
    Cert.Up.Gen.facts, Cert.UpIdeal.Gen.facts, Cert.UpReferenceIdeal.Gen.facts,
    Cert.Down.Gen.facts, Cert.DownIdeal.Gen.facts, Cert.DownReferenceIdeal.Gen.facts,
    Cert.In.Gen.facts, Cert.InIdeal.Gen.facts, Cert.InReferenceIdeal.Gen.facts,
    Cert.Out.Gen.facts, Cert.OutIdeal.Gen.facts, Cert.OutReferenceIdeal.Gen.facts,
    Cert.FwdIn.Gen.facts, Cert.FwdInIdeal.Gen.facts, Cert.FwdInReferenceIdeal.Gen.facts,
    Cert.FwdOut.Gen.facts, Cert.FwdOutIdeal.Gen.facts, Cert.FwdOutReferenceIdeal.Gen.facts,
    Cert.BwdIn.Gen.facts, Cert.BwdInIdeal.Gen.facts, Cert.BwdInReferenceIdeal.Gen.facts,
    Cert.KernelIdeal.Body.preFacts, Cert.BwdInIdeal.Sum.preFacts,
    fun m g _ => Cert.Kernel.Body.frame m g, fun m g _ => Cert.KernelIdeal.Body.framed m g, fun m g _ => Cert.KernelIdeal.Body.framed m g,
    frame_reference_ideal, frame_reference_ideal_finite, frame_reference,
    fun m g _ => Cert.Up.Gen.frame m g, fun m g _ => Cert.UpIdeal.Gen.frame m g, frame_reference_up,
    fun m g _ => Cert.Down.Gen.frame m g, fun m g _ => Cert.DownIdeal.Gen.frame m g, frame_reference_down,
    fun m g _ => Cert.In.Gen.frame m g, fun m g _ => Cert.InIdeal.Gen.frame m g, frame_reference_in,
    fun m g _ => Cert.Out.Gen.frame m g, fun m g _ => Cert.OutIdeal.Gen.frame m g, frame_reference_out,
    fun m g _ => Cert.FwdIn.Gen.frame m g, fun m g _ => Cert.FwdInIdeal.Gen.frame m g, frame_reference_fwd_in,
    fun m g _ => Cert.FwdOut.Gen.frame m g, fun m g _ => Cert.FwdOutIdeal.Gen.frame m g, frame_reference_fwd_out,
    fun m g _ => Cert.BwdIn.Gen.frame m g, fun m g _ => Cert.BwdInIdeal.Gen.frame m g, fun m g _ => Cert.BwdInIdeal.Gen.frame m g,
    frame_reference_bwd_in, frame_reference_bwd_in_finite,
    ⟨IdealRules.named_const.statement _ _ _ _ _ rfl, IdealRules.named_const.statement _ _ _ _ _ rfl⟩, trivial, value,
    trivial, value_up, trivial, value_down, trivial, value_in, trivial, value_out, trivial, value_fwd_in, trivial, value_fwd_out, trivial, value_bwd_in⟩

end Cert.Proof

end
